-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_up [hPre_finite_up : Cert.Pre_finite_up.Facts] (m : (ℓ : Loc Cert.FfnIdeal.nD Cert.FfnIdeal.τ Cert.FfnIdeal.sig) → Buf (Elt Ideal) ℓ) : Prop :=
  ∀ c : Dev Cert.FfnIdeal.nD,
    (Cert.Pre_finite_up.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).1 = (fun _ => 1#1)
    ∧ (Cert.Pre_finite_up.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.1 = (fun _ => 1#1)
    ∧ (Cert.Pre_finite_up.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.1 = (fun _ => 1#1)
    ∧ (Cert.Pre_finite_up.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_up [hPre_finite_up : Cert.Pre_finite_up.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_up.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).1 = (fun _ => 1#1)
    ∧ (Cert.Pre_finite_up.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.1 = (fun _ => 1#1)
    ∧ (Cert.Pre_finite_up.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.1 = (fun _ => 1#1)
    ∧ (Cert.Pre_finite_up.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_gates [hPre_finite_gates : Cert.Pre_finite_gates.Facts] (m : (ℓ : Loc Cert.MergeIdeal.nD Cert.MergeIdeal.τ Cert.MergeIdeal.sig) → Buf (Elt Ideal) ℓ) : Prop :=
  ∀ c : Dev Cert.MergeIdeal.nD,
    (Cert.Pre_finite_gates.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).1 = (fun _ => 1#1)
    ∧ (Cert.Pre_finite_gates.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_gates [hPre_finite_gates : Cert.Pre_finite_gates.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_gates.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).1 = (fun _ => 1#1)
    ∧ (Cert.Pre_finite_gates.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))).2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Seqdft (m : (ℓ : Loc Cert.Seqdft.nD Cert.Seqdft.τ Cert.Seqdft.sig) → Buf (Elt Bits) ℓ) : Prop :=
  True

def Pre_SeqdftIdeal (m : (ℓ : Loc Cert.SeqdftIdeal.nD Cert.SeqdftIdeal.τ Cert.SeqdftIdeal.sig) → Buf (Elt Ideal) ℓ) : Prop :=
  True

def Pre_SeqdftIdeal_finite_pq [hPre_finite_pq : Cert.Pre_finite_pq.Facts] (m : (ℓ : Loc Cert.SeqdftIdeal.nD Cert.SeqdftIdeal.τ Cert.SeqdftIdeal.sig) → Buf (Elt Ideal) ℓ) : Prop :=
  ∀ c : Dev Cert.SeqdftIdeal.nD,
    (Cert.Pre_finite_pq.fn (F := Ideal) (m ((c.tc : Thread Cert.SeqdftIdeal.nD Cert.SeqdftIdeal.τ).loc Cert.SeqdftIdeal.main_arg0))) = (fun _ => 1#1)

def Pre_SeqdftRefIdeal (m : (ℓ : Loc Cert.SeqdftRefIdeal.nD Cert.SeqdftRefIdeal.τ Cert.SeqdftRefIdeal.sig) → Buf (Elt Ideal) ℓ) : Prop :=
  True

def Pre_SeqdftRefIdeal_finite_pq [hPre_finite_pq : Cert.Pre_finite_pq.Facts] (m : (ℓ : Loc Cert.SeqdftRefIdeal.nD Cert.SeqdftRefIdeal.τ Cert.SeqdftRefIdeal.sig) → Buf (Elt Ideal) ℓ) : Prop :=
  ∀ c : Dev Cert.SeqdftRefIdeal.nD,
    (Cert.Pre_finite_pq.fn (F := Ideal) (m ((c.tc : Thread Cert.SeqdftRefIdeal.nD Cert.SeqdftRefIdeal.τ).loc Cert.SeqdftRefIdeal.main_arg0))) = (fun _ => 1#1)

def Pre_FfnSecond (m : (ℓ : Loc Cert.FfnSecond.nD Cert.FfnSecond.τ Cert.FfnSecond.sig) → Buf (Elt Bits) ℓ) : Prop :=
  True

def Pre_FfnSecondIdeal (m : (ℓ : Loc Cert.FfnSecondIdeal.nD Cert.FfnSecondIdeal.τ Cert.FfnSecondIdeal.sig) → Buf (Elt Ideal) ℓ) : Prop :=
  True

def Pre_FfnSecondIdeal_finite_up_second [hPre_finite_up_second : Cert.Pre_finite_up_second.Facts] (m : (ℓ : Loc Cert.FfnSecondIdeal.nD Cert.FfnSecondIdeal.τ Cert.FfnSecondIdeal.sig) → Buf (Elt Ideal) ℓ) : Prop :=
  ∀ c : Dev Cert.FfnSecondIdeal.nD,
    (Cert.Pre_finite_up_second.fn (F := Ideal) (m ((c.tc : Thread Cert.FfnSecondIdeal.nD Cert.FfnSecondIdeal.τ).loc Cert.FfnSecondIdeal.main_arg0)) (m ((c.tc : Thread Cert.FfnSecondIdeal.nD Cert.FfnSecondIdeal.τ).loc Cert.FfnSecondIdeal.main_arg1)) (m ((c.tc : Thread Cert.FfnSecondIdeal.nD Cert.FfnSecondIdeal.τ).loc Cert.FfnSecondIdeal.main_arg2)) (m ((c.tc : Thread Cert.FfnSecondIdeal.nD Cert.FfnSecondIdeal.τ).loc Cert.FfnSecondIdeal.main_arg3)) (m ((c.tc : Thread Cert.FfnSecondIdeal.nD Cert.FfnSecondIdeal.τ).loc Cert.FfnSecondIdeal.main_arg4)) (m ((c.tc : Thread Cert.FfnSecondIdeal.nD Cert.FfnSecondIdeal.τ).loc Cert.FfnSecondIdeal.main_arg5)) (m ((c.tc : Thread Cert.FfnSecondIdeal.nD Cert.FfnSecondIdeal.τ).loc Cert.FfnSecondIdeal.main_arg6)) (m ((c.tc : Thread Cert.FfnSecondIdeal.nD Cert.FfnSecondIdeal.τ).loc Cert.FfnSecondIdeal.main_arg7))).1 = (fun _ => 1#1)
    ∧ (Cert.Pre_finite_up_second.fn (F := Ideal) (m ((c.tc : Thread Cert.FfnSecondIdeal.nD Cert.FfnSecondIdeal.τ).loc Cert.FfnSecondIdeal.main_arg0)) (m ((c.tc : Thread Cert.FfnSecondIdeal.nD Cert.FfnSecondIdeal.τ).loc Cert.FfnSecondIdeal.main_arg1)) (m ((c.tc : Thread Cert.FfnSecondIdeal.nD Cert.FfnSecondIdeal.τ).loc Cert.FfnSecondIdeal.main_arg2)) (m ((c.tc : Thread Cert.FfnSecondIdeal.nD Cert.FfnSecondIdeal.τ).loc Cert.FfnSecondIdeal.main_arg3)) (m ((c.tc : Thread Cert.FfnSecondIdeal.nD Cert.FfnSecondIdeal.τ).loc Cert.FfnSecondIdeal.main_arg4)) (m ((c.tc : Thread Cert.FfnSecondIdeal.nD Cert.FfnSecondIdeal.τ).loc Cert.FfnSecondIdeal.main_arg5)) (m ((c.tc : Thread Cert.FfnSecondIdeal.nD Cert.FfnSecondIdeal.τ).loc Cert.FfnSecondIdeal.main_arg6)) (m ((c.tc : Thread Cert.FfnSecondIdeal.nD Cert.FfnSecondIdeal.τ).loc Cert.FfnSecondIdeal.main_arg7))).2.1 = (fun _ => 1#1)
    ∧ (Cert.Pre_finite_up_second.fn (F := Ideal) (m ((c.tc : Thread Cert.FfnSecondIdeal.nD Cert.FfnSecondIdeal.τ).loc Cert.FfnSecondIdeal.main_arg0)) (m ((c.tc : Thread Cert.FfnSecondIdeal.nD Cert.FfnSecondIdeal.τ).loc Cert.FfnSecondIdeal.main_arg1)) (m ((c.tc : Thread Cert.FfnSecondIdeal.nD Cert.FfnSecondIdeal.τ).loc Cert.FfnSecondIdeal.main_arg2)) (m ((c.tc : Thread Cert.FfnSecondIdeal.nD Cert.FfnSecondIdeal.τ).loc Cert.FfnSecondIdeal.main_arg3)) (m ((c.tc : Thread Cert.FfnSecondIdeal.nD Cert.FfnSecondIdeal.τ).loc Cert.FfnSecondIdeal.main_arg4)) (m ((c.tc : Thread Cert.FfnSecondIdeal.nD Cert.FfnSecondIdeal.τ).loc Cert.FfnSecondIdeal.main_arg5)) (m ((c.tc : Thread Cert.FfnSecondIdeal.nD Cert.FfnSecondIdeal.τ).loc Cert.FfnSecondIdeal.main_arg6)) (m ((c.tc : Thread Cert.FfnSecondIdeal.nD Cert.FfnSecondIdeal.τ).loc Cert.FfnSecondIdeal.main_arg7))).2.2.1 = (fun _ => 1#1)
    ∧ (Cert.Pre_finite_up_second.fn (F := Ideal) (m ((c.tc : Thread Cert.FfnSecondIdeal.nD Cert.FfnSecondIdeal.τ).loc Cert.FfnSecondIdeal.main_arg0)) (m ((c.tc : Thread Cert.FfnSecondIdeal.nD Cert.FfnSecondIdeal.τ).loc Cert.FfnSecondIdeal.main_arg1)) (m ((c.tc : Thread Cert.FfnSecondIdeal.nD Cert.FfnSecondIdeal.τ).loc Cert.FfnSecondIdeal.main_arg2)) (m ((c.tc : Thread Cert.FfnSecondIdeal.nD Cert.FfnSecondIdeal.τ).loc Cert.FfnSecondIdeal.main_arg3)) (m ((c.tc : Thread Cert.FfnSecondIdeal.nD Cert.FfnSecondIdeal.τ).loc Cert.FfnSecondIdeal.main_arg4)) (m ((c.tc : Thread Cert.FfnSecondIdeal.nD Cert.FfnSecondIdeal.τ).loc Cert.FfnSecondIdeal.main_arg5)) (m ((c.tc : Thread Cert.FfnSecondIdeal.nD Cert.FfnSecondIdeal.τ).loc Cert.FfnSecondIdeal.main_arg6)) (m ((c.tc : Thread Cert.FfnSecondIdeal.nD Cert.FfnSecondIdeal.τ).loc Cert.FfnSecondIdeal.main_arg7))).2.2.2 = (fun _ => 1#1)

def Pre_FfnSecondRefIdeal (m : (ℓ : Loc Cert.FfnSecondRefIdeal.nD Cert.FfnSecondRefIdeal.τ Cert.FfnSecondRefIdeal.sig) → Buf (Elt Ideal) ℓ) : Prop :=
  True

def Pre_FfnSecondRefIdeal_finite_up_second [hPre_finite_up_second : Cert.Pre_finite_up_second.Facts] (m : (ℓ : Loc Cert.FfnSecondRefIdeal.nD Cert.FfnSecondRefIdeal.τ Cert.FfnSecondRefIdeal.sig) → Buf (Elt Ideal) ℓ) : Prop :=
  ∀ c : Dev Cert.FfnSecondRefIdeal.nD,
    (Cert.Pre_finite_up_second.fn (F := Ideal) (m ((c.tc : Thread Cert.FfnSecondRefIdeal.nD Cert.FfnSecondRefIdeal.τ).loc Cert.FfnSecondRefIdeal.main_arg0)) (m ((c.tc : Thread Cert.FfnSecondRefIdeal.nD Cert.FfnSecondRefIdeal.τ).loc Cert.FfnSecondRefIdeal.main_arg1)) (m ((c.tc : Thread Cert.FfnSecondRefIdeal.nD Cert.FfnSecondRefIdeal.τ).loc Cert.FfnSecondRefIdeal.main_arg2)) (m ((c.tc : Thread Cert.FfnSecondRefIdeal.nD Cert.FfnSecondRefIdeal.τ).loc Cert.FfnSecondRefIdeal.main_arg3)) (m ((c.tc : Thread Cert.FfnSecondRefIdeal.nD Cert.FfnSecondRefIdeal.τ).loc Cert.FfnSecondRefIdeal.main_arg4)) (m ((c.tc : Thread Cert.FfnSecondRefIdeal.nD Cert.FfnSecondRefIdeal.τ).loc Cert.FfnSecondRefIdeal.main_arg5)) (m ((c.tc : Thread Cert.FfnSecondRefIdeal.nD Cert.FfnSecondRefIdeal.τ).loc Cert.FfnSecondRefIdeal.main_arg6)) (m ((c.tc : Thread Cert.FfnSecondRefIdeal.nD Cert.FfnSecondRefIdeal.τ).loc Cert.FfnSecondRefIdeal.main_arg7))).1 = (fun _ => 1#1)
    ∧ (Cert.Pre_finite_up_second.fn (F := Ideal) (m ((c.tc : Thread Cert.FfnSecondRefIdeal.nD Cert.FfnSecondRefIdeal.τ).loc Cert.FfnSecondRefIdeal.main_arg0)) (m ((c.tc : Thread Cert.FfnSecondRefIdeal.nD Cert.FfnSecondRefIdeal.τ).loc Cert.FfnSecondRefIdeal.main_arg1)) (m ((c.tc : Thread Cert.FfnSecondRefIdeal.nD Cert.FfnSecondRefIdeal.τ).loc Cert.FfnSecondRefIdeal.main_arg2)) (m ((c.tc : Thread Cert.FfnSecondRefIdeal.nD Cert.FfnSecondRefIdeal.τ).loc Cert.FfnSecondRefIdeal.main_arg3)) (m ((c.tc : Thread Cert.FfnSecondRefIdeal.nD Cert.FfnSecondRefIdeal.τ).loc Cert.FfnSecondRefIdeal.main_arg4)) (m ((c.tc : Thread Cert.FfnSecondRefIdeal.nD Cert.FfnSecondRefIdeal.τ).loc Cert.FfnSecondRefIdeal.main_arg5)) (m ((c.tc : Thread Cert.FfnSecondRefIdeal.nD Cert.FfnSecondRefIdeal.τ).loc Cert.FfnSecondRefIdeal.main_arg6)) (m ((c.tc : Thread Cert.FfnSecondRefIdeal.nD Cert.FfnSecondRefIdeal.τ).loc Cert.FfnSecondRefIdeal.main_arg7))).2.1 = (fun _ => 1#1)
    ∧ (Cert.Pre_finite_up_second.fn (F := Ideal) (m ((c.tc : Thread Cert.FfnSecondRefIdeal.nD Cert.FfnSecondRefIdeal.τ).loc Cert.FfnSecondRefIdeal.main_arg0)) (m ((c.tc : Thread Cert.FfnSecondRefIdeal.nD Cert.FfnSecondRefIdeal.τ).loc Cert.FfnSecondRefIdeal.main_arg1)) (m ((c.tc : Thread Cert.FfnSecondRefIdeal.nD Cert.FfnSecondRefIdeal.τ).loc Cert.FfnSecondRefIdeal.main_arg2)) (m ((c.tc : Thread Cert.FfnSecondRefIdeal.nD Cert.FfnSecondRefIdeal.τ).loc Cert.FfnSecondRefIdeal.main_arg3)) (m ((c.tc : Thread Cert.FfnSecondRefIdeal.nD Cert.FfnSecondRefIdeal.τ).loc Cert.FfnSecondRefIdeal.main_arg4)) (m ((c.tc : Thread Cert.FfnSecondRefIdeal.nD Cert.FfnSecondRefIdeal.τ).loc Cert.FfnSecondRefIdeal.main_arg5)) (m ((c.tc : Thread Cert.FfnSecondRefIdeal.nD Cert.FfnSecondRefIdeal.τ).loc Cert.FfnSecondRefIdeal.main_arg6)) (m ((c.tc : Thread Cert.FfnSecondRefIdeal.nD Cert.FfnSecondRefIdeal.τ).loc Cert.FfnSecondRefIdeal.main_arg7))).2.2.1 = (fun _ => 1#1)
    ∧ (Cert.Pre_finite_up_second.fn (F := Ideal) (m ((c.tc : Thread Cert.FfnSecondRefIdeal.nD Cert.FfnSecondRefIdeal.τ).loc Cert.FfnSecondRefIdeal.main_arg0)) (m ((c.tc : Thread Cert.FfnSecondRefIdeal.nD Cert.FfnSecondRefIdeal.τ).loc Cert.FfnSecondRefIdeal.main_arg1)) (m ((c.tc : Thread Cert.FfnSecondRefIdeal.nD Cert.FfnSecondRefIdeal.τ).loc Cert.FfnSecondRefIdeal.main_arg2)) (m ((c.tc : Thread Cert.FfnSecondRefIdeal.nD Cert.FfnSecondRefIdeal.τ).loc Cert.FfnSecondRefIdeal.main_arg3)) (m ((c.tc : Thread Cert.FfnSecondRefIdeal.nD Cert.FfnSecondRefIdeal.τ).loc Cert.FfnSecondRefIdeal.main_arg4)) (m ((c.tc : Thread Cert.FfnSecondRefIdeal.nD Cert.FfnSecondRefIdeal.τ).loc Cert.FfnSecondRefIdeal.main_arg5)) (m ((c.tc : Thread Cert.FfnSecondRefIdeal.nD Cert.FfnSecondRefIdeal.τ).loc Cert.FfnSecondRefIdeal.main_arg6)) (m ((c.tc : Thread Cert.FfnSecondRefIdeal.nD Cert.FfnSecondRefIdeal.τ).loc Cert.FfnSecondRefIdeal.main_arg7))).2.2.2 = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnIdeal_pre_finite_up [hFfnIdeal : Cert.FfnIdeal.Facts] [hPre_finite_up : Cert.Pre_finite_up.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_up m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_finite_up [hFfnRefIdeal : Cert.FfnRefIdeal.Facts] [hPre_finite_up : Cert.Pre_finite_up.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_up m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeIdeal_pre_finite_gates [hMergeIdeal : Cert.MergeIdeal.Facts] [hPre_finite_gates : Cert.Pre_finite_gates.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_gates m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_MergeRefIdeal_pre_finite_gates [hMergeRefIdeal : Cert.MergeRefIdeal.Facts] [hPre_finite_gates : Cert.Pre_finite_gates.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_gates m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Seqdft [hSeqdft : Cert.Seqdft.Facts] : Prop :=
  ∀ (m : (ℓ : Loc Cert.Seqdft.nD Cert.Seqdft.τ Cert.Seqdft.sig) → Buf (Elt Bits) ℓ) (g : Dev Cert.Seqdft.nD → PrngReg), Pre_Seqdft m →
    θ_run (Cert.Seqdft.defs (F := Bits)) (onTc (τ := Cert.Seqdft.τ) (Cert.Seqdft.main (F := Bits))) ⟨m, fun _ => 0, g⟩ (fun r => (∀ c : Dev Cert.Seqdft.nD,
      r.2.mem ((c.tc : Thread Cert.Seqdft.nD Cert.Seqdft.τ).loc Cert.Seqdft.main_arg0) = m ((c.tc : Thread Cert.Seqdft.nD Cert.Seqdft.τ).loc Cert.Seqdft.main_arg0))
      ∧ r.2.sem = fun _ => 0)

def quiescent_SeqdftIdeal [hSeqdftIdeal : Cert.SeqdftIdeal.Facts] : Prop :=
  ∀ (m : (ℓ : Loc Cert.SeqdftIdeal.nD Cert.SeqdftIdeal.τ Cert.SeqdftIdeal.sig) → Buf (Elt Ideal) ℓ) (g : Dev Cert.SeqdftIdeal.nD → PrngReg), Pre_SeqdftIdeal m →
    θ_run (Cert.SeqdftIdeal.defs (F := Ideal)) (onTc (τ := Cert.SeqdftIdeal.τ) (Cert.SeqdftIdeal.main (F := Ideal))) ⟨m, fun _ => 0, g⟩ (fun r => (∀ c : Dev Cert.SeqdftIdeal.nD,
      r.2.mem ((c.tc : Thread Cert.SeqdftIdeal.nD Cert.SeqdftIdeal.τ).loc Cert.SeqdftIdeal.main_arg0) = m ((c.tc : Thread Cert.SeqdftIdeal.nD Cert.SeqdftIdeal.τ).loc Cert.SeqdftIdeal.main_arg0))
      ∧ r.2.sem = fun _ => 0)

def quiescent_SeqdftIdeal_pre_finite_pq [hSeqdftIdeal : Cert.SeqdftIdeal.Facts] [hPre_finite_pq : Cert.Pre_finite_pq.Facts] : Prop :=
  ∀ (m : (ℓ : Loc Cert.SeqdftIdeal.nD Cert.SeqdftIdeal.τ Cert.SeqdftIdeal.sig) → Buf (Elt Ideal) ℓ) (g : Dev Cert.SeqdftIdeal.nD → PrngReg), Pre_SeqdftIdeal_finite_pq m →
    θ_run (Cert.SeqdftIdeal.defs (F := Ideal)) (onTc (τ := Cert.SeqdftIdeal.τ) (Cert.SeqdftIdeal.main (F := Ideal))) ⟨m, fun _ => 0, g⟩ (fun r => (∀ c : Dev Cert.SeqdftIdeal.nD,
      r.2.mem ((c.tc : Thread Cert.SeqdftIdeal.nD Cert.SeqdftIdeal.τ).loc Cert.SeqdftIdeal.main_arg0) = m ((c.tc : Thread Cert.SeqdftIdeal.nD Cert.SeqdftIdeal.τ).loc Cert.SeqdftIdeal.main_arg0))
      ∧ r.2.sem = fun _ => 0)

def quiescent_SeqdftRefIdeal [hSeqdftRefIdeal : Cert.SeqdftRefIdeal.Facts] : Prop :=
  ∀ (m : (ℓ : Loc Cert.SeqdftRefIdeal.nD Cert.SeqdftRefIdeal.τ Cert.SeqdftRefIdeal.sig) → Buf (Elt Ideal) ℓ) (g : Dev Cert.SeqdftRefIdeal.nD → PrngReg), Pre_SeqdftRefIdeal m →
    θ_run (Cert.SeqdftRefIdeal.defs (F := Ideal)) (onTc (τ := Cert.SeqdftRefIdeal.τ) (Cert.SeqdftRefIdeal.main (F := Ideal))) ⟨m, fun _ => 0, g⟩ (fun r => (∀ c : Dev Cert.SeqdftRefIdeal.nD,
      r.2.mem ((c.tc : Thread Cert.SeqdftRefIdeal.nD Cert.SeqdftRefIdeal.τ).loc Cert.SeqdftRefIdeal.main_arg0) = m ((c.tc : Thread Cert.SeqdftRefIdeal.nD Cert.SeqdftRefIdeal.τ).loc Cert.SeqdftRefIdeal.main_arg0))
      ∧ r.2.sem = fun _ => 0)

def quiescent_SeqdftRefIdeal_pre_finite_pq [hSeqdftRefIdeal : Cert.SeqdftRefIdeal.Facts] [hPre_finite_pq : Cert.Pre_finite_pq.Facts] : Prop :=
  ∀ (m : (ℓ : Loc Cert.SeqdftRefIdeal.nD Cert.SeqdftRefIdeal.τ Cert.SeqdftRefIdeal.sig) → Buf (Elt Ideal) ℓ) (g : Dev Cert.SeqdftRefIdeal.nD → PrngReg), Pre_SeqdftRefIdeal_finite_pq m →
    θ_run (Cert.SeqdftRefIdeal.defs (F := Ideal)) (onTc (τ := Cert.SeqdftRefIdeal.τ) (Cert.SeqdftRefIdeal.main (F := Ideal))) ⟨m, fun _ => 0, g⟩ (fun r => (∀ c : Dev Cert.SeqdftRefIdeal.nD,
      r.2.mem ((c.tc : Thread Cert.SeqdftRefIdeal.nD Cert.SeqdftRefIdeal.τ).loc Cert.SeqdftRefIdeal.main_arg0) = m ((c.tc : Thread Cert.SeqdftRefIdeal.nD Cert.SeqdftRefIdeal.τ).loc Cert.SeqdftRefIdeal.main_arg0))
      ∧ r.2.sem = fun _ => 0)

def quiescent_FfnSecond [hFfnSecond : Cert.FfnSecond.Facts] : Prop :=
  ∀ (m : (ℓ : Loc Cert.FfnSecond.nD Cert.FfnSecond.τ Cert.FfnSecond.sig) → Buf (Elt Bits) ℓ) (g : Dev Cert.FfnSecond.nD → PrngReg), Pre_FfnSecond m →
    θ_run (Cert.FfnSecond.defs (F := Bits)) (onTc (τ := Cert.FfnSecond.τ) (Cert.FfnSecond.main (F := Bits))) ⟨m, fun _ => 0, g⟩ (fun r => (∀ c : Dev Cert.FfnSecond.nD,
      r.2.mem ((c.tc : Thread Cert.FfnSecond.nD Cert.FfnSecond.τ).loc Cert.FfnSecond.main_arg0) = m ((c.tc : Thread Cert.FfnSecond.nD Cert.FfnSecond.τ).loc Cert.FfnSecond.main_arg0)
      ∧ r.2.mem ((c.tc : Thread Cert.FfnSecond.nD Cert.FfnSecond.τ).loc Cert.FfnSecond.main_arg1) = m ((c.tc : Thread Cert.FfnSecond.nD Cert.FfnSecond.τ).loc Cert.FfnSecond.main_arg1)
      ∧ r.2.mem ((c.tc : Thread Cert.FfnSecond.nD Cert.FfnSecond.τ).loc Cert.FfnSecond.main_arg2) = m ((c.tc : Thread Cert.FfnSecond.nD Cert.FfnSecond.τ).loc Cert.FfnSecond.main_arg2)
      ∧ r.2.mem ((c.tc : Thread Cert.FfnSecond.nD Cert.FfnSecond.τ).loc Cert.FfnSecond.main_arg3) = m ((c.tc : Thread Cert.FfnSecond.nD Cert.FfnSecond.τ).loc Cert.FfnSecond.main_arg3)
      ∧ r.2.mem ((c.tc : Thread Cert.FfnSecond.nD Cert.FfnSecond.τ).loc Cert.FfnSecond.main_arg4) = m ((c.tc : Thread Cert.FfnSecond.nD Cert.FfnSecond.τ).loc Cert.FfnSecond.main_arg4)
      ∧ r.2.mem ((c.tc : Thread Cert.FfnSecond.nD Cert.FfnSecond.τ).loc Cert.FfnSecond.main_arg5) = m ((c.tc : Thread Cert.FfnSecond.nD Cert.FfnSecond.τ).loc Cert.FfnSecond.main_arg5)
      ∧ r.2.mem ((c.tc : Thread Cert.FfnSecond.nD Cert.FfnSecond.τ).loc Cert.FfnSecond.main_arg6) = m ((c.tc : Thread Cert.FfnSecond.nD Cert.FfnSecond.τ).loc Cert.FfnSecond.main_arg6)
      ∧ r.2.mem ((c.tc : Thread Cert.FfnSecond.nD Cert.FfnSecond.τ).loc Cert.FfnSecond.main_arg7) = m ((c.tc : Thread Cert.FfnSecond.nD Cert.FfnSecond.τ).loc Cert.FfnSecond.main_arg7))
      ∧ r.2.sem = fun _ => 0)

def quiescent_FfnSecondIdeal [hFfnSecondIdeal : Cert.FfnSecondIdeal.Facts] : Prop :=
  ∀ (m : (ℓ : Loc Cert.FfnSecondIdeal.nD Cert.FfnSecondIdeal.τ Cert.FfnSecondIdeal.sig) → Buf (Elt Ideal) ℓ) (g : Dev Cert.FfnSecondIdeal.nD → PrngReg), Pre_FfnSecondIdeal m →
    θ_run (Cert.FfnSecondIdeal.defs (F := Ideal)) (onTc (τ := Cert.FfnSecondIdeal.τ) (Cert.FfnSecondIdeal.main (F := Ideal))) ⟨m, fun _ => 0, g⟩ (fun r => (∀ c : Dev Cert.FfnSecondIdeal.nD,
      r.2.mem ((c.tc : Thread Cert.FfnSecondIdeal.nD Cert.FfnSecondIdeal.τ).loc Cert.FfnSecondIdeal.main_arg0) = m ((c.tc : Thread Cert.FfnSecondIdeal.nD Cert.FfnSecondIdeal.τ).loc Cert.FfnSecondIdeal.main_arg0)
      ∧ r.2.mem ((c.tc : Thread Cert.FfnSecondIdeal.nD Cert.FfnSecondIdeal.τ).loc Cert.FfnSecondIdeal.main_arg1) = m ((c.tc : Thread Cert.FfnSecondIdeal.nD Cert.FfnSecondIdeal.τ).loc Cert.FfnSecondIdeal.main_arg1)
      ∧ r.2.mem ((c.tc : Thread Cert.FfnSecondIdeal.nD Cert.FfnSecondIdeal.τ).loc Cert.FfnSecondIdeal.main_arg2) = m ((c.tc : Thread Cert.FfnSecondIdeal.nD Cert.FfnSecondIdeal.τ).loc Cert.FfnSecondIdeal.main_arg2)
      ∧ r.2.mem ((c.tc : Thread Cert.FfnSecondIdeal.nD Cert.FfnSecondIdeal.τ).loc Cert.FfnSecondIdeal.main_arg3) = m ((c.tc : Thread Cert.FfnSecondIdeal.nD Cert.FfnSecondIdeal.τ).loc Cert.FfnSecondIdeal.main_arg3)
      ∧ r.2.mem ((c.tc : Thread Cert.FfnSecondIdeal.nD Cert.FfnSecondIdeal.τ).loc Cert.FfnSecondIdeal.main_arg4) = m ((c.tc : Thread Cert.FfnSecondIdeal.nD Cert.FfnSecondIdeal.τ).loc Cert.FfnSecondIdeal.main_arg4)
      ∧ r.2.mem ((c.tc : Thread Cert.FfnSecondIdeal.nD Cert.FfnSecondIdeal.τ).loc Cert.FfnSecondIdeal.main_arg5) = m ((c.tc : Thread Cert.FfnSecondIdeal.nD Cert.FfnSecondIdeal.τ).loc Cert.FfnSecondIdeal.main_arg5)
      ∧ r.2.mem ((c.tc : Thread Cert.FfnSecondIdeal.nD Cert.FfnSecondIdeal.τ).loc Cert.FfnSecondIdeal.main_arg6) = m ((c.tc : Thread Cert.FfnSecondIdeal.nD Cert.FfnSecondIdeal.τ).loc Cert.FfnSecondIdeal.main_arg6)
      ∧ r.2.mem ((c.tc : Thread Cert.FfnSecondIdeal.nD Cert.FfnSecondIdeal.τ).loc Cert.FfnSecondIdeal.main_arg7) = m ((c.tc : Thread Cert.FfnSecondIdeal.nD Cert.FfnSecondIdeal.τ).loc Cert.FfnSecondIdeal.main_arg7))
      ∧ r.2.sem = fun _ => 0)

def quiescent_FfnSecondIdeal_pre_finite_up_second [hFfnSecondIdeal : Cert.FfnSecondIdeal.Facts] [hPre_finite_up_second : Cert.Pre_finite_up_second.Facts] : Prop :=
  ∀ (m : (ℓ : Loc Cert.FfnSecondIdeal.nD Cert.FfnSecondIdeal.τ Cert.FfnSecondIdeal.sig) → Buf (Elt Ideal) ℓ) (g : Dev Cert.FfnSecondIdeal.nD → PrngReg), Pre_FfnSecondIdeal_finite_up_second m →
    θ_run (Cert.FfnSecondIdeal.defs (F := Ideal)) (onTc (τ := Cert.FfnSecondIdeal.τ) (Cert.FfnSecondIdeal.main (F := Ideal))) ⟨m, fun _ => 0, g⟩ (fun r => (∀ c : Dev Cert.FfnSecondIdeal.nD,
      r.2.mem ((c.tc : Thread Cert.FfnSecondIdeal.nD Cert.FfnSecondIdeal.τ).loc Cert.FfnSecondIdeal.main_arg0) = m ((c.tc : Thread Cert.FfnSecondIdeal.nD Cert.FfnSecondIdeal.τ).loc Cert.FfnSecondIdeal.main_arg0)
      ∧ r.2.mem ((c.tc : Thread Cert.FfnSecondIdeal.nD Cert.FfnSecondIdeal.τ).loc Cert.FfnSecondIdeal.main_arg1) = m ((c.tc : Thread Cert.FfnSecondIdeal.nD Cert.FfnSecondIdeal.τ).loc Cert.FfnSecondIdeal.main_arg1)
      ∧ r.2.mem ((c.tc : Thread Cert.FfnSecondIdeal.nD Cert.FfnSecondIdeal.τ).loc Cert.FfnSecondIdeal.main_arg2) = m ((c.tc : Thread Cert.FfnSecondIdeal.nD Cert.FfnSecondIdeal.τ).loc Cert.FfnSecondIdeal.main_arg2)
      ∧ r.2.mem ((c.tc : Thread Cert.FfnSecondIdeal.nD Cert.FfnSecondIdeal.τ).loc Cert.FfnSecondIdeal.main_arg3) = m ((c.tc : Thread Cert.FfnSecondIdeal.nD Cert.FfnSecondIdeal.τ).loc Cert.FfnSecondIdeal.main_arg3)
      ∧ r.2.mem ((c.tc : Thread Cert.FfnSecondIdeal.nD Cert.FfnSecondIdeal.τ).loc Cert.FfnSecondIdeal.main_arg4) = m ((c.tc : Thread Cert.FfnSecondIdeal.nD Cert.FfnSecondIdeal.τ).loc Cert.FfnSecondIdeal.main_arg4)
      ∧ r.2.mem ((c.tc : Thread Cert.FfnSecondIdeal.nD Cert.FfnSecondIdeal.τ).loc Cert.FfnSecondIdeal.main_arg5) = m ((c.tc : Thread Cert.FfnSecondIdeal.nD Cert.FfnSecondIdeal.τ).loc Cert.FfnSecondIdeal.main_arg5)
      ∧ r.2.mem ((c.tc : Thread Cert.FfnSecondIdeal.nD Cert.FfnSecondIdeal.τ).loc Cert.FfnSecondIdeal.main_arg6) = m ((c.tc : Thread Cert.FfnSecondIdeal.nD Cert.FfnSecondIdeal.τ).loc Cert.FfnSecondIdeal.main_arg6)
      ∧ r.2.mem ((c.tc : Thread Cert.FfnSecondIdeal.nD Cert.FfnSecondIdeal.τ).loc Cert.FfnSecondIdeal.main_arg7) = m ((c.tc : Thread Cert.FfnSecondIdeal.nD Cert.FfnSecondIdeal.τ).loc Cert.FfnSecondIdeal.main_arg7))
      ∧ r.2.sem = fun _ => 0)

def quiescent_FfnSecondRefIdeal [hFfnSecondRefIdeal : Cert.FfnSecondRefIdeal.Facts] : Prop :=
  ∀ (m : (ℓ : Loc Cert.FfnSecondRefIdeal.nD Cert.FfnSecondRefIdeal.τ Cert.FfnSecondRefIdeal.sig) → Buf (Elt Ideal) ℓ) (g : Dev Cert.FfnSecondRefIdeal.nD → PrngReg), Pre_FfnSecondRefIdeal m →
    θ_run (Cert.FfnSecondRefIdeal.defs (F := Ideal)) (onTc (τ := Cert.FfnSecondRefIdeal.τ) (Cert.FfnSecondRefIdeal.main (F := Ideal))) ⟨m, fun _ => 0, g⟩ (fun r => (∀ c : Dev Cert.FfnSecondRefIdeal.nD,
      r.2.mem ((c.tc : Thread Cert.FfnSecondRefIdeal.nD Cert.FfnSecondRefIdeal.τ).loc Cert.FfnSecondRefIdeal.main_arg0) = m ((c.tc : Thread Cert.FfnSecondRefIdeal.nD Cert.FfnSecondRefIdeal.τ).loc Cert.FfnSecondRefIdeal.main_arg0)
      ∧ r.2.mem ((c.tc : Thread Cert.FfnSecondRefIdeal.nD Cert.FfnSecondRefIdeal.τ).loc Cert.FfnSecondRefIdeal.main_arg1) = m ((c.tc : Thread Cert.FfnSecondRefIdeal.nD Cert.FfnSecondRefIdeal.τ).loc Cert.FfnSecondRefIdeal.main_arg1)
      ∧ r.2.mem ((c.tc : Thread Cert.FfnSecondRefIdeal.nD Cert.FfnSecondRefIdeal.τ).loc Cert.FfnSecondRefIdeal.main_arg2) = m ((c.tc : Thread Cert.FfnSecondRefIdeal.nD Cert.FfnSecondRefIdeal.τ).loc Cert.FfnSecondRefIdeal.main_arg2)
      ∧ r.2.mem ((c.tc : Thread Cert.FfnSecondRefIdeal.nD Cert.FfnSecondRefIdeal.τ).loc Cert.FfnSecondRefIdeal.main_arg3) = m ((c.tc : Thread Cert.FfnSecondRefIdeal.nD Cert.FfnSecondRefIdeal.τ).loc Cert.FfnSecondRefIdeal.main_arg3)
      ∧ r.2.mem ((c.tc : Thread Cert.FfnSecondRefIdeal.nD Cert.FfnSecondRefIdeal.τ).loc Cert.FfnSecondRefIdeal.main_arg4) = m ((c.tc : Thread Cert.FfnSecondRefIdeal.nD Cert.FfnSecondRefIdeal.τ).loc Cert.FfnSecondRefIdeal.main_arg4)
      ∧ r.2.mem ((c.tc : Thread Cert.FfnSecondRefIdeal.nD Cert.FfnSecondRefIdeal.τ).loc Cert.FfnSecondRefIdeal.main_arg5) = m ((c.tc : Thread Cert.FfnSecondRefIdeal.nD Cert.FfnSecondRefIdeal.τ).loc Cert.FfnSecondRefIdeal.main_arg5)
      ∧ r.2.mem ((c.tc : Thread Cert.FfnSecondRefIdeal.nD Cert.FfnSecondRefIdeal.τ).loc Cert.FfnSecondRefIdeal.main_arg6) = m ((c.tc : Thread Cert.FfnSecondRefIdeal.nD Cert.FfnSecondRefIdeal.τ).loc Cert.FfnSecondRefIdeal.main_arg6)
      ∧ r.2.mem ((c.tc : Thread Cert.FfnSecondRefIdeal.nD Cert.FfnSecondRefIdeal.τ).loc Cert.FfnSecondRefIdeal.main_arg7) = m ((c.tc : Thread Cert.FfnSecondRefIdeal.nD Cert.FfnSecondRefIdeal.τ).loc Cert.FfnSecondRefIdeal.main_arg7))
      ∧ r.2.sem = fun _ => 0)

def quiescent_FfnSecondRefIdeal_pre_finite_up_second [hFfnSecondRefIdeal : Cert.FfnSecondRefIdeal.Facts] [hPre_finite_up_second : Cert.Pre_finite_up_second.Facts] : Prop :=
  ∀ (m : (ℓ : Loc Cert.FfnSecondRefIdeal.nD Cert.FfnSecondRefIdeal.τ Cert.FfnSecondRefIdeal.sig) → Buf (Elt Ideal) ℓ) (g : Dev Cert.FfnSecondRefIdeal.nD → PrngReg), Pre_FfnSecondRefIdeal_finite_up_second m →
    θ_run (Cert.FfnSecondRefIdeal.defs (F := Ideal)) (onTc (τ := Cert.FfnSecondRefIdeal.τ) (Cert.FfnSecondRefIdeal.main (F := Ideal))) ⟨m, fun _ => 0, g⟩ (fun r => (∀ c : Dev Cert.FfnSecondRefIdeal.nD,
      r.2.mem ((c.tc : Thread Cert.FfnSecondRefIdeal.nD Cert.FfnSecondRefIdeal.τ).loc Cert.FfnSecondRefIdeal.main_arg0) = m ((c.tc : Thread Cert.FfnSecondRefIdeal.nD Cert.FfnSecondRefIdeal.τ).loc Cert.FfnSecondRefIdeal.main_arg0)
      ∧ r.2.mem ((c.tc : Thread Cert.FfnSecondRefIdeal.nD Cert.FfnSecondRefIdeal.τ).loc Cert.FfnSecondRefIdeal.main_arg1) = m ((c.tc : Thread Cert.FfnSecondRefIdeal.nD Cert.FfnSecondRefIdeal.τ).loc Cert.FfnSecondRefIdeal.main_arg1)
      ∧ r.2.mem ((c.tc : Thread Cert.FfnSecondRefIdeal.nD Cert.FfnSecondRefIdeal.τ).loc Cert.FfnSecondRefIdeal.main_arg2) = m ((c.tc : Thread Cert.FfnSecondRefIdeal.nD Cert.FfnSecondRefIdeal.τ).loc Cert.FfnSecondRefIdeal.main_arg2)
      ∧ r.2.mem ((c.tc : Thread Cert.FfnSecondRefIdeal.nD Cert.FfnSecondRefIdeal.τ).loc Cert.FfnSecondRefIdeal.main_arg3) = m ((c.tc : Thread Cert.FfnSecondRefIdeal.nD Cert.FfnSecondRefIdeal.τ).loc Cert.FfnSecondRefIdeal.main_arg3)
      ∧ r.2.mem ((c.tc : Thread Cert.FfnSecondRefIdeal.nD Cert.FfnSecondRefIdeal.τ).loc Cert.FfnSecondRefIdeal.main_arg4) = m ((c.tc : Thread Cert.FfnSecondRefIdeal.nD Cert.FfnSecondRefIdeal.τ).loc Cert.FfnSecondRefIdeal.main_arg4)
      ∧ r.2.mem ((c.tc : Thread Cert.FfnSecondRefIdeal.nD Cert.FfnSecondRefIdeal.τ).loc Cert.FfnSecondRefIdeal.main_arg5) = m ((c.tc : Thread Cert.FfnSecondRefIdeal.nD Cert.FfnSecondRefIdeal.τ).loc Cert.FfnSecondRefIdeal.main_arg5)
      ∧ r.2.mem ((c.tc : Thread Cert.FfnSecondRefIdeal.nD Cert.FfnSecondRefIdeal.τ).loc Cert.FfnSecondRefIdeal.main_arg6) = m ((c.tc : Thread Cert.FfnSecondRefIdeal.nD Cert.FfnSecondRefIdeal.τ).loc Cert.FfnSecondRefIdeal.main_arg6)
      ∧ r.2.mem ((c.tc : Thread Cert.FfnSecondRefIdeal.nD Cert.FfnSecondRefIdeal.τ).loc Cert.FfnSecondRefIdeal.main_arg7) = m ((c.tc : Thread Cert.FfnSecondRefIdeal.nD Cert.FfnSecondRefIdeal.τ).loc Cert.FfnSecondRefIdeal.main_arg7))
      ∧ r.2.sem = fun _ => 0)

def preserves_Ffn_FfnIdeal : Prop :=
  IdealRules.named_const.Statement Cert.FfnIdeal.κ "gelu_kc" .f32 0x3D122279#32 ((80338380498831 / 2251799813685248 : ℝ) : EReal)

def algebraic_FfnIdeal_FfnRefIdeal_pre_finite_up [hFfnIdeal : Cert.FfnIdeal.Facts] [hFfnRefIdeal : Cert.FfnRefIdeal.Facts] [hPre_finite_up : Cert.Pre_finite_up.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_up m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v18)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v18) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v65) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Merge_MergeIdeal : Prop :=
  IdealRules.named_const.Statement Cert.MergeIdeal.κ "gelu_kc" .f32 0x3D122279#32 ((80338380498831 / 2251799813685248 : ℝ) : EReal)

def algebraic_MergeIdeal_MergeRefIdeal_pre_finite_gates [hMergeIdeal : Cert.MergeIdeal.Facts] [hMergeRefIdeal : Cert.MergeRefIdeal.Facts] [hPre_finite_gates : Cert.Pre_finite_gates.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_gates m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v10_0)) (v1 : (c : Dev Cert.MergeIdeal.nD) → Buf (Elt Ideal) ((c.tc : Thread Cert.MergeIdeal.nD Cert.MergeIdeal.τ).loc Cert.MergeIdeal.main_v10_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10_0) = v0 c
          ∧ r.2.mem ((c.tc : Thread Cert.MergeIdeal.nD Cert.MergeIdeal.τ).loc Cert.MergeIdeal.main_v10_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v70) = v0 c
          ∧ r.2.mem ((c.tc : Thread Cert.MergeRefIdeal.nD Cert.MergeRefIdeal.τ).loc Cert.MergeRefIdeal.main_v90) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v29_0)) (v1 : (c : Dev Cert.InprojIdeal.nD) → Buf (Elt Ideal) ((c.tc : Thread Cert.InprojIdeal.nD Cert.InprojIdeal.τ).loc Cert.InprojIdeal.main_v29_1)) (v2 : (c : Dev Cert.InprojIdeal.nD) → Buf (Elt Ideal) ((c.tc : Thread Cert.InprojIdeal.nD Cert.InprojIdeal.τ).loc Cert.InprojIdeal.main_v29_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v29_0) = v0 c
          ∧ r.2.mem ((c.tc : Thread Cert.InprojIdeal.nD Cert.InprojIdeal.τ).loc Cert.InprojIdeal.main_v29_1) = v1 c
          ∧ r.2.mem ((c.tc : Thread Cert.InprojIdeal.nD Cert.InprojIdeal.τ).loc Cert.InprojIdeal.main_v29_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v71) = v0 c
          ∧ r.2.mem ((c.tc : Thread Cert.InprojRefIdeal.nD Cert.InprojRefIdeal.τ).loc Cert.InprojRefIdeal.main_v77) = v1 c
          ∧ r.2.mem ((c.tc : Thread Cert.InprojRefIdeal.nD Cert.InprojRefIdeal.τ).loc Cert.InprojRefIdeal.main_v95) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v4) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Seqdft_SeqdftIdeal : Prop :=
  IdealRules.named_const.Statement Cert.SeqdftIdeal.κ "root_half" .f32 0x3F3504F3#32 (((Real.sqrt 2)⁻¹ : ℝ) : EReal)
  ∧ IdealRules.named_const.Statement Cert.SeqdftIdeal.κ "minus_root_half" .f32 0xBF3504F3#32 ((-((Real.sqrt 2)⁻¹) : ℝ) : EReal)
  ∧ IdealRules.named_const.Statement Cert.SeqdftIdeal.κ "ortho" .f32 0x3AB504F3#32 (((Real.sqrt 524288)⁻¹ : ℝ) : EReal)

def algebraic_SeqdftIdeal_SeqdftRefIdeal_pre_finite_pq [hSeqdftIdeal : Cert.SeqdftIdeal.Facts] [hSeqdftRefIdeal : Cert.SeqdftRefIdeal.Facts] [hPre_finite_pq : Cert.Pre_finite_pq.Facts] : Prop :=
  ∀ (m : (ℓ : Loc Cert.SeqdftIdeal.nD Cert.SeqdftIdeal.τ Cert.SeqdftIdeal.sig) → Buf (Elt Ideal) ℓ) (g : Dev Cert.SeqdftIdeal.nD → PrngReg)
    (m' : (ℓ : Loc Cert.SeqdftRefIdeal.nD Cert.SeqdftRefIdeal.τ Cert.SeqdftRefIdeal.sig) → Buf (Elt Ideal) ℓ) (g' : Dev Cert.SeqdftRefIdeal.nD → PrngReg), Pre_SeqdftIdeal_finite_pq m →
    (∀ c : Dev Cert.SeqdftIdeal.nD,
      m' ((c.tc : Thread Cert.SeqdftRefIdeal.nD Cert.SeqdftRefIdeal.τ).loc Cert.SeqdftRefIdeal.main_arg0) = m ((c.tc : Thread Cert.SeqdftIdeal.nD Cert.SeqdftIdeal.τ).loc Cert.SeqdftIdeal.main_arg0)) →
    ∃ (v0 : (c : Dev Cert.SeqdftIdeal.nD) → Buf (Elt Ideal) ((c.tc : Thread Cert.SeqdftIdeal.nD Cert.SeqdftIdeal.τ).loc Cert.SeqdftIdeal.main_v71)),
      θ_run (Cert.SeqdftIdeal.defs (F := Ideal)) (onTc (τ := Cert.SeqdftIdeal.τ) (Cert.SeqdftIdeal.main (F := Ideal))) ⟨m, fun _ => 0, g⟩ (fun r => ∀ c : Dev Cert.SeqdftIdeal.nD,
          r.2.mem ((c.tc : Thread Cert.SeqdftIdeal.nD Cert.SeqdftIdeal.τ).loc Cert.SeqdftIdeal.main_v71) = v0 c
          ∧ r.2.mem ((c.tc : Thread Cert.SeqdftIdeal.nD Cert.SeqdftIdeal.τ).loc Cert.SeqdftIdeal.main_arg0) = m ((c.tc : Thread Cert.SeqdftIdeal.nD Cert.SeqdftIdeal.τ).loc Cert.SeqdftIdeal.main_arg0))
      ∧ θ_run (Cert.SeqdftRefIdeal.defs (F := Ideal)) (onTc (τ := Cert.SeqdftRefIdeal.τ) (Cert.SeqdftRefIdeal.main (F := Ideal))) ⟨m', fun _ => 0, g'⟩ (fun r => ∀ c : Dev Cert.SeqdftRefIdeal.nD,
          r.2.mem ((c.tc : Thread Cert.SeqdftRefIdeal.nD Cert.SeqdftRefIdeal.τ).loc Cert.SeqdftRefIdeal.main_v26) = v0 c
          ∧ r.2.mem ((c.tc : Thread Cert.SeqdftRefIdeal.nD Cert.SeqdftRefIdeal.τ).loc Cert.SeqdftRefIdeal.main_arg0) = m' ((c.tc : Thread Cert.SeqdftRefIdeal.nD Cert.SeqdftRefIdeal.τ).loc Cert.SeqdftRefIdeal.main_arg0))

def preserves_FfnSecond_FfnSecondIdeal : Prop :=
  IdealRules.named_const.Statement Cert.FfnSecondIdeal.κ "gelu_kc" .f32 0x3D122279#32 ((80338380498831 / 2251799813685248 : ℝ) : EReal)

def algebraic_FfnSecondIdeal_FfnSecondRefIdeal_pre_finite_up_second [hFfnSecondIdeal : Cert.FfnSecondIdeal.Facts] [hFfnSecondRefIdeal : Cert.FfnSecondRefIdeal.Facts] [hPre_finite_up_second : Cert.Pre_finite_up_second.Facts] : Prop :=
  ∀ (m : (ℓ : Loc Cert.FfnSecondIdeal.nD Cert.FfnSecondIdeal.τ Cert.FfnSecondIdeal.sig) → Buf (Elt Ideal) ℓ) (g : Dev Cert.FfnSecondIdeal.nD → PrngReg)
    (m' : (ℓ : Loc Cert.FfnSecondRefIdeal.nD Cert.FfnSecondRefIdeal.τ Cert.FfnSecondRefIdeal.sig) → Buf (Elt Ideal) ℓ) (g' : Dev Cert.FfnSecondRefIdeal.nD → PrngReg), Pre_FfnSecondIdeal_finite_up_second m →
    (∀ c : Dev Cert.FfnSecondIdeal.nD,
      m' ((c.tc : Thread Cert.FfnSecondRefIdeal.nD Cert.FfnSecondRefIdeal.τ).loc Cert.FfnSecondRefIdeal.main_arg0) = m ((c.tc : Thread Cert.FfnSecondIdeal.nD Cert.FfnSecondIdeal.τ).loc Cert.FfnSecondIdeal.main_arg0)
      ∧ m' ((c.tc : Thread Cert.FfnSecondRefIdeal.nD Cert.FfnSecondRefIdeal.τ).loc Cert.FfnSecondRefIdeal.main_arg1) = m ((c.tc : Thread Cert.FfnSecondIdeal.nD Cert.FfnSecondIdeal.τ).loc Cert.FfnSecondIdeal.main_arg1)
      ∧ m' ((c.tc : Thread Cert.FfnSecondRefIdeal.nD Cert.FfnSecondRefIdeal.τ).loc Cert.FfnSecondRefIdeal.main_arg2) = m ((c.tc : Thread Cert.FfnSecondIdeal.nD Cert.FfnSecondIdeal.τ).loc Cert.FfnSecondIdeal.main_arg2)
      ∧ m' ((c.tc : Thread Cert.FfnSecondRefIdeal.nD Cert.FfnSecondRefIdeal.τ).loc Cert.FfnSecondRefIdeal.main_arg3) = m ((c.tc : Thread Cert.FfnSecondIdeal.nD Cert.FfnSecondIdeal.τ).loc Cert.FfnSecondIdeal.main_arg3)
      ∧ m' ((c.tc : Thread Cert.FfnSecondRefIdeal.nD Cert.FfnSecondRefIdeal.τ).loc Cert.FfnSecondRefIdeal.main_arg4) = m ((c.tc : Thread Cert.FfnSecondIdeal.nD Cert.FfnSecondIdeal.τ).loc Cert.FfnSecondIdeal.main_arg4)
      ∧ m' ((c.tc : Thread Cert.FfnSecondRefIdeal.nD Cert.FfnSecondRefIdeal.τ).loc Cert.FfnSecondRefIdeal.main_arg5) = m ((c.tc : Thread Cert.FfnSecondIdeal.nD Cert.FfnSecondIdeal.τ).loc Cert.FfnSecondIdeal.main_arg5)
      ∧ m' ((c.tc : Thread Cert.FfnSecondRefIdeal.nD Cert.FfnSecondRefIdeal.τ).loc Cert.FfnSecondRefIdeal.main_arg6) = m ((c.tc : Thread Cert.FfnSecondIdeal.nD Cert.FfnSecondIdeal.τ).loc Cert.FfnSecondIdeal.main_arg6)
      ∧ m' ((c.tc : Thread Cert.FfnSecondRefIdeal.nD Cert.FfnSecondRefIdeal.τ).loc Cert.FfnSecondRefIdeal.main_arg7) = m ((c.tc : Thread Cert.FfnSecondIdeal.nD Cert.FfnSecondIdeal.τ).loc Cert.FfnSecondIdeal.main_arg7)) →
    ∃ (v0 : (c : Dev Cert.FfnSecondIdeal.nD) → Buf (Elt Ideal) ((c.tc : Thread Cert.FfnSecondIdeal.nD Cert.FfnSecondIdeal.τ).loc Cert.FfnSecondIdeal.main_v18)),
      θ_run (Cert.FfnSecondIdeal.defs (F := Ideal)) (onTc (τ := Cert.FfnSecondIdeal.τ) (Cert.FfnSecondIdeal.main (F := Ideal))) ⟨m, fun _ => 0, g⟩ (fun r => ∀ c : Dev Cert.FfnSecondIdeal.nD,
          r.2.mem ((c.tc : Thread Cert.FfnSecondIdeal.nD Cert.FfnSecondIdeal.τ).loc Cert.FfnSecondIdeal.main_v18) = v0 c
          ∧ r.2.mem ((c.tc : Thread Cert.FfnSecondIdeal.nD Cert.FfnSecondIdeal.τ).loc Cert.FfnSecondIdeal.main_arg0) = m ((c.tc : Thread Cert.FfnSecondIdeal.nD Cert.FfnSecondIdeal.τ).loc Cert.FfnSecondIdeal.main_arg0)
          ∧ r.2.mem ((c.tc : Thread Cert.FfnSecondIdeal.nD Cert.FfnSecondIdeal.τ).loc Cert.FfnSecondIdeal.main_arg1) = m ((c.tc : Thread Cert.FfnSecondIdeal.nD Cert.FfnSecondIdeal.τ).loc Cert.FfnSecondIdeal.main_arg1)
          ∧ r.2.mem ((c.tc : Thread Cert.FfnSecondIdeal.nD Cert.FfnSecondIdeal.τ).loc Cert.FfnSecondIdeal.main_arg2) = m ((c.tc : Thread Cert.FfnSecondIdeal.nD Cert.FfnSecondIdeal.τ).loc Cert.FfnSecondIdeal.main_arg2)
          ∧ r.2.mem ((c.tc : Thread Cert.FfnSecondIdeal.nD Cert.FfnSecondIdeal.τ).loc Cert.FfnSecondIdeal.main_arg3) = m ((c.tc : Thread Cert.FfnSecondIdeal.nD Cert.FfnSecondIdeal.τ).loc Cert.FfnSecondIdeal.main_arg3)
          ∧ r.2.mem ((c.tc : Thread Cert.FfnSecondIdeal.nD Cert.FfnSecondIdeal.τ).loc Cert.FfnSecondIdeal.main_arg4) = m ((c.tc : Thread Cert.FfnSecondIdeal.nD Cert.FfnSecondIdeal.τ).loc Cert.FfnSecondIdeal.main_arg4)
          ∧ r.2.mem ((c.tc : Thread Cert.FfnSecondIdeal.nD Cert.FfnSecondIdeal.τ).loc Cert.FfnSecondIdeal.main_arg5) = m ((c.tc : Thread Cert.FfnSecondIdeal.nD Cert.FfnSecondIdeal.τ).loc Cert.FfnSecondIdeal.main_arg5)
          ∧ r.2.mem ((c.tc : Thread Cert.FfnSecondIdeal.nD Cert.FfnSecondIdeal.τ).loc Cert.FfnSecondIdeal.main_arg6) = m ((c.tc : Thread Cert.FfnSecondIdeal.nD Cert.FfnSecondIdeal.τ).loc Cert.FfnSecondIdeal.main_arg6)
          ∧ r.2.mem ((c.tc : Thread Cert.FfnSecondIdeal.nD Cert.FfnSecondIdeal.τ).loc Cert.FfnSecondIdeal.main_arg7) = m ((c.tc : Thread Cert.FfnSecondIdeal.nD Cert.FfnSecondIdeal.τ).loc Cert.FfnSecondIdeal.main_arg7))
      ∧ θ_run (Cert.FfnSecondRefIdeal.defs (F := Ideal)) (onTc (τ := Cert.FfnSecondRefIdeal.τ) (Cert.FfnSecondRefIdeal.main (F := Ideal))) ⟨m', fun _ => 0, g'⟩ (fun r => ∀ c : Dev Cert.FfnSecondRefIdeal.nD,
          r.2.mem ((c.tc : Thread Cert.FfnSecondRefIdeal.nD Cert.FfnSecondRefIdeal.τ).loc Cert.FfnSecondRefIdeal.main_v65) = v0 c
          ∧ r.2.mem ((c.tc : Thread Cert.FfnSecondRefIdeal.nD Cert.FfnSecondRefIdeal.τ).loc Cert.FfnSecondRefIdeal.main_arg0) = m' ((c.tc : Thread Cert.FfnSecondRefIdeal.nD Cert.FfnSecondRefIdeal.τ).loc Cert.FfnSecondRefIdeal.main_arg0)
          ∧ r.2.mem ((c.tc : Thread Cert.FfnSecondRefIdeal.nD Cert.FfnSecondRefIdeal.τ).loc Cert.FfnSecondRefIdeal.main_arg1) = m' ((c.tc : Thread Cert.FfnSecondRefIdeal.nD Cert.FfnSecondRefIdeal.τ).loc Cert.FfnSecondRefIdeal.main_arg1)
          ∧ r.2.mem ((c.tc : Thread Cert.FfnSecondRefIdeal.nD Cert.FfnSecondRefIdeal.τ).loc Cert.FfnSecondRefIdeal.main_arg2) = m' ((c.tc : Thread Cert.FfnSecondRefIdeal.nD Cert.FfnSecondRefIdeal.τ).loc Cert.FfnSecondRefIdeal.main_arg2)
          ∧ r.2.mem ((c.tc : Thread Cert.FfnSecondRefIdeal.nD Cert.FfnSecondRefIdeal.τ).loc Cert.FfnSecondRefIdeal.main_arg3) = m' ((c.tc : Thread Cert.FfnSecondRefIdeal.nD Cert.FfnSecondRefIdeal.τ).loc Cert.FfnSecondRefIdeal.main_arg3)
          ∧ r.2.mem ((c.tc : Thread Cert.FfnSecondRefIdeal.nD Cert.FfnSecondRefIdeal.τ).loc Cert.FfnSecondRefIdeal.main_arg4) = m' ((c.tc : Thread Cert.FfnSecondRefIdeal.nD Cert.FfnSecondRefIdeal.τ).loc Cert.FfnSecondRefIdeal.main_arg4)
          ∧ r.2.mem ((c.tc : Thread Cert.FfnSecondRefIdeal.nD Cert.FfnSecondRefIdeal.τ).loc Cert.FfnSecondRefIdeal.main_arg5) = m' ((c.tc : Thread Cert.FfnSecondRefIdeal.nD Cert.FfnSecondRefIdeal.τ).loc Cert.FfnSecondRefIdeal.main_arg5)
          ∧ r.2.mem ((c.tc : Thread Cert.FfnSecondRefIdeal.nD Cert.FfnSecondRefIdeal.τ).loc Cert.FfnSecondRefIdeal.main_arg6) = m' ((c.tc : Thread Cert.FfnSecondRefIdeal.nD Cert.FfnSecondRefIdeal.τ).loc Cert.FfnSecondRefIdeal.main_arg6)
          ∧ r.2.mem ((c.tc : Thread Cert.FfnSecondRefIdeal.nD Cert.FfnSecondRefIdeal.τ).loc Cert.FfnSecondRefIdeal.main_arg7) = m' ((c.tc : Thread Cert.FfnSecondRefIdeal.nD Cert.FfnSecondRefIdeal.τ).loc Cert.FfnSecondRefIdeal.main_arg7))

def Claim : Prop :=
  ∃ (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hMod : Cert.Mod.Facts) (hModIdeal : Cert.ModIdeal.Facts) (hModRefIdeal : Cert.ModRefIdeal.Facts) (hSeqdft : Cert.Seqdft.Facts) (hSeqdftIdeal : Cert.SeqdftIdeal.Facts) (hSeqdftRefIdeal : Cert.SeqdftRefIdeal.Facts) (hFfnSecond : Cert.FfnSecond.Facts) (hFfnSecondIdeal : Cert.FfnSecondIdeal.Facts) (hFfnSecondRefIdeal : Cert.FfnSecondRefIdeal.Facts) (hPre_finite_up : Cert.Pre_finite_up.Facts) (hPre_finite_gates : Cert.Pre_finite_gates.Facts) (hPre_finite_pq : Cert.Pre_finite_pq.Facts) (hPre_finite_up_second : Cert.Pre_finite_up_second.Facts),
    quiescent_Ffn (hFfn := hFfn)
    ∧ quiescent_FfnIdeal (hFfnIdeal := hFfnIdeal)
    ∧ quiescent_FfnIdeal_pre_finite_up (hFfnIdeal := hFfnIdeal) (hPre_finite_up := hPre_finite_up)
    ∧ quiescent_FfnRefIdeal (hFfnRefIdeal := hFfnRefIdeal)
    ∧ quiescent_FfnRefIdeal_pre_finite_up (hFfnRefIdeal := hFfnRefIdeal) (hPre_finite_up := hPre_finite_up)
    ∧ quiescent_Merge (hMerge := hMerge)
    ∧ quiescent_MergeIdeal (hMergeIdeal := hMergeIdeal)
    ∧ quiescent_MergeIdeal_pre_finite_gates (hMergeIdeal := hMergeIdeal) (hPre_finite_gates := hPre_finite_gates)
    ∧ quiescent_MergeRefIdeal (hMergeRefIdeal := hMergeRefIdeal)
    ∧ quiescent_MergeRefIdeal_pre_finite_gates (hMergeRefIdeal := hMergeRefIdeal) (hPre_finite_gates := hPre_finite_gates)
    ∧ quiescent_Inproj (hInproj := hInproj)
    ∧ quiescent_InprojIdeal (hInprojIdeal := hInprojIdeal)
    ∧ quiescent_InprojRefIdeal (hInprojRefIdeal := hInprojRefIdeal)
    ∧ quiescent_Mod (hMod := hMod)
    ∧ quiescent_ModIdeal (hModIdeal := hModIdeal)
    ∧ quiescent_ModRefIdeal (hModRefIdeal := hModRefIdeal)
    ∧ quiescent_Seqdft (hSeqdft := hSeqdft)
    ∧ quiescent_SeqdftIdeal (hSeqdftIdeal := hSeqdftIdeal)
    ∧ quiescent_SeqdftIdeal_pre_finite_pq (hSeqdftIdeal := hSeqdftIdeal) (hPre_finite_pq := hPre_finite_pq)
    ∧ quiescent_SeqdftRefIdeal (hSeqdftRefIdeal := hSeqdftRefIdeal)
    ∧ quiescent_SeqdftRefIdeal_pre_finite_pq (hSeqdftRefIdeal := hSeqdftRefIdeal) (hPre_finite_pq := hPre_finite_pq)
    ∧ quiescent_FfnSecond (hFfnSecond := hFfnSecond)
    ∧ quiescent_FfnSecondIdeal (hFfnSecondIdeal := hFfnSecondIdeal)
    ∧ quiescent_FfnSecondIdeal_pre_finite_up_second (hFfnSecondIdeal := hFfnSecondIdeal) (hPre_finite_up_second := hPre_finite_up_second)
    ∧ quiescent_FfnSecondRefIdeal (hFfnSecondRefIdeal := hFfnSecondRefIdeal)
    ∧ quiescent_FfnSecondRefIdeal_pre_finite_up_second (hFfnSecondRefIdeal := hFfnSecondRefIdeal) (hPre_finite_up_second := hPre_finite_up_second)
    ∧ preserves_Ffn_FfnIdeal
    ∧ algebraic_FfnIdeal_FfnRefIdeal_pre_finite_up (hFfnIdeal := hFfnIdeal) (hFfnRefIdeal := hFfnRefIdeal) (hPre_finite_up := hPre_finite_up)
    ∧ preserves_Merge_MergeIdeal
    ∧ algebraic_MergeIdeal_MergeRefIdeal_pre_finite_gates (hMergeIdeal := hMergeIdeal) (hMergeRefIdeal := hMergeRefIdeal) (hPre_finite_gates := hPre_finite_gates)
    ∧ preserves_Inproj_InprojIdeal
    ∧ algebraic_InprojIdeal_InprojRefIdeal (hInprojIdeal := hInprojIdeal) (hInprojRefIdeal := hInprojRefIdeal)
    ∧ preserves_Mod_ModIdeal
    ∧ algebraic_ModIdeal_ModRefIdeal (hModIdeal := hModIdeal) (hModRefIdeal := hModRefIdeal)
    ∧ preserves_Seqdft_SeqdftIdeal
    ∧ algebraic_SeqdftIdeal_SeqdftRefIdeal_pre_finite_pq (hSeqdftIdeal := hSeqdftIdeal) (hSeqdftRefIdeal := hSeqdftRefIdeal) (hPre_finite_pq := hPre_finite_pq)
    ∧ preserves_FfnSecond_FfnSecondIdeal
    ∧ algebraic_FfnSecondIdeal_FfnSecondRefIdeal_pre_finite_up_second (hFfnSecondIdeal := hFfnSecondIdeal) (hFfnSecondRefIdeal := hFfnSecondRefIdeal) (hPre_finite_up_second := hPre_finite_up_second)
-- ==== Pre_finite_gates.lean ====
abbrev S16x8x4096x128 : Shape := ⟨4, ![16, 8, 4096, 128]⟩
abbrev S16x4096x3072 : Shape := ⟨3, ![16, 4096, 3072]⟩
abbrev S16x4096x512 : Shape := ⟨3, ![16, 4096, 512]⟩
abbrev S16x4096x1024 : Shape := ⟨3, ![16, 4096, 1024]⟩
abbrev S16x6144 : Shape := ⟨2, ![16, 6144]⟩
abbrev S1024 : Shape := ⟨1, ![1024]⟩
abbrev S1024x1024 : Shape := ⟨2, ![1024, 1024]⟩
abbrev S512x1024 : Shape := ⟨2, ![512, 1024]⟩
abbrev S_ : Shape := ⟨0, ![]⟩

class Facts : Prop where
  bcast_S_S16x8x4096x128 : S_.BroadcastsInDim S16x8x4096x128 (![] : Fin 0 → Fin S16x8x4096x128.rank)
  slices_S16x4096x3072_S16x4096x1024_0_0_0 : S16x4096x3072.Slices ![0, 0, 0] S16x4096x1024
  bitsLt_bf16_f32 : FTy.bits .bf16 < FTy.bits .f32
  bcast_S_S16x4096x1024 : S_.BroadcastsInDim S16x4096x1024 (![] : Fin 0 → Fin S16x4096x1024.rank)

variable [Facts]

def fn {F : FTy → Type} [FloatOps F] (main_arg0 : FVec F S16x8x4096x128 .f32) (main_arg1 : FVec F S16x4096x3072 .bf16) (main_arg2 : FVec F S16x4096x512 .bf16) (main_arg3 : FVec F S16x4096x1024 .f32) (main_arg4 : FVec F S16x6144 .f32) (main_arg5 : FVec F S1024 .f32) (main_arg6 : FVec F S1024 .f32) (main_arg7 : FVec F S1024x1024 .f32) (main_arg8 : FVec F S512x1024 .f32) (main_arg9 : FVec F S1024x1024 .f32) : IVec S16x8x4096x128 1 × IVec S16x4096x1024 1 :=
  let main_v0 : FVec F S16x8x4096x128 .f32 := Host.absf main_arg0
  let main_cst : FVec F S_ .f32 := constant S_ .f32 0x7F800000#32
  let main_v1 : FVec F S16x8x4096x128 .f32 := broadcastInDim S16x8x4096x128 ![] bcast_S_S16x8x4096x128 main_cst
  let main_v2 : IVec S16x8x4096x128 1 := cmpf .olt main_v0 main_v1
  let main_v3 : FVec F S16x4096x1024 .bf16 := (extractStridedSlice S16x4096x1024 ![0, 0, 0] · slices_S16x4096x3072_S16x4096x1024_0_0_0) main_arg1
  let main_v4 : FVec F S16x4096x1024 .f32 := (extf .f32 · bitsLt_bf16_f32) main_v3
  let main_v5 : FVec F S16x4096x1024 .f32 := Host.absf main_v4
  let main_cst_0 : FVec F S_ .f32 := constant S_ .f32 0x7F800000#32
  let main_v6 : FVec F S16x4096x1024 .f32 := broadcastInDim S16x4096x1024 ![] bcast_S_S16x4096x1024 main_cst_0
  let main_v7 : IVec S16x4096x1024 1 := cmpf .olt main_v5 main_v6
  (main_v2, main_v7)
-- ==== Pre_finite_pq.lean ====
abbrev S16x8x4096x128 : Shape := ⟨4, ![16, 8, 4096, 128]⟩
abbrev S_ : Shape := ⟨0, ![]⟩

class Facts : Prop where
  bcast_S_S16x8x4096x128 : S_.BroadcastsInDim S16x8x4096x128 (![] : Fin 0 → Fin S16x8x4096x128.rank)

variable [Facts]

def fn {F : FTy → Type} [FloatOps F] (main_arg0 : FVec F S16x8x4096x128 .f32) : IVec S16x8x4096x128 1 :=
  let main_v0 : FVec F S16x8x4096x128 .f32 := Host.absf main_arg0
  let main_cst : FVec F S_ .f32 := constant S_ .f32 0x7F800000#32
  let main_v1 : FVec F S16x8x4096x128 .f32 := broadcastInDim S16x8x4096x128 ![] bcast_S_S16x8x4096x128 main_cst
  let main_v2 : IVec S16x8x4096x128 1 := cmpf .olt main_v0 main_v1
  main_v2
-- ==== Pre_finite_up.lean ====
abbrev S16x4096x1024 : Shape := ⟨3, ![16, 4096, 1024]⟩
abbrev S16x6144 : Shape := ⟨2, ![16, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bitsLt_bf16_f32 : FTy.bits .bf16 < FTy.bits .f32
  bcast_S_S16x4096x1024 : S_.BroadcastsInDim S16x4096x1024 (![] : Fin 0 → Fin S16x4096x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S5632 : S_.BroadcastsInDim S5632 (![] : Fin 0 → Fin S5632.rank)

variable [Facts]

def fn {F : FTy → Type} [FloatOps F] (main_arg0 : FVec F S16x4096x1024 .bf16) (main_arg1 : FVec F S16x4096x1024 .f32) (main_arg2 : FVec F S16x6144 .f32) (main_arg3 : FVec F S1024 .f32) (main_arg4 : FVec F S1024x5632 .f32) (main_arg5 : FVec F S3x5632 .f32) (main_arg6 : FVec F S5632 .f32) (main_arg7 : FVec F S2816x1024 .f32) : IVec S16x4096x1024 1 × IVec S1024x5632 1 × IVec S3x5632 1 × IVec S5632 1 :=
  let main_v0 : FVec F S16x4096x1024 .f32 := (extf .f32 · bitsLt_bf16_f32) main_arg0
  let main_v1 : FVec F S16x4096x1024 .f32 := Host.absf main_v0
  let main_cst : FVec F S_ .f32 := constant S_ .f32 0x7F800000#32
  let main_v2 : FVec F S16x4096x1024 .f32 := broadcastInDim S16x4096x1024 ![] bcast_S_S16x4096x1024 main_cst
  let main_v3 : IVec S16x4096x1024 1 := cmpf .olt main_v1 main_v2
  let main_v4 : FVec F S1024x5632 .f32 := Host.absf main_arg4
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_v7 : FVec F S3x5632 .f32 := Host.absf main_arg5
  let main_cst_1 : FVec F S_ .f32 := constant S_ .f32 0x7F800000#32
  let main_v8 : FVec F S3x5632 .f32 := broadcastInDim S3x5632 ![] bcast_S_S3x5632 main_cst_1
  let main_v9 : IVec S3x5632 1 := cmpf .olt main_v7 main_v8
  let main_v10 : FVec F S5632 .f32 := Host.absf main_arg6
  let main_cst_2 : FVec F S_ .f32 := constant S_ .f32 0x7F800000#32
  let main_v11 : FVec F S5632 .f32 := broadcastInDim S5632 ![] bcast_S_S5632 main_cst_2
  let main_v12 : IVec S5632 1 := cmpf .olt main_v10 main_v11
  (main_v3, main_v6, main_v9, main_v12)
-- ==== Pre_finite_up_second.lean ====
abbrev S2x8192x1024 : Shape := ⟨3, ![2, 8192, 1024]⟩
abbrev S2x6144 : Shape := ⟨2, ![2, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bitsLt_bf16_f32 : FTy.bits .bf16 < FTy.bits .f32
  bcast_S_S2x8192x1024 : S_.BroadcastsInDim S2x8192x1024 (![] : Fin 0 → Fin S2x8192x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S5632 : S_.BroadcastsInDim S5632 (![] : Fin 0 → Fin S5632.rank)

variable [Facts]

def fn {F : FTy → Type} [FloatOps F] (main_arg0 : FVec F S2x8192x1024 .bf16) (main_arg1 : FVec F S2x8192x1024 .f32) (main_arg2 : FVec F S2x6144 .f32) (main_arg3 : FVec F S1024 .f32) (main_arg4 : FVec F S1024x5632 .f32) (main_arg5 : FVec F S3x5632 .f32) (main_arg6 : FVec F S5632 .f32) (main_arg7 : FVec F S2816x1024 .f32) : IVec S2x8192x1024 1 × IVec S1024x5632 1 × IVec S3x5632 1 × IVec S5632 1 :=
  let main_v0 : FVec F S2x8192x1024 .f32 := (extf .f32 · bitsLt_bf16_f32) main_arg0
  let main_v1 : FVec F S2x8192x1024 .f32 := Host.absf main_v0
  let main_cst : FVec F S_ .f32 := constant S_ .f32 0x7F800000#32
  let main_v2 : FVec F S2x8192x1024 .f32 := broadcastInDim S2x8192x1024 ![] bcast_S_S2x8192x1024 main_cst
  let main_v3 : IVec S2x8192x1024 1 := cmpf .olt main_v1 main_v2
  let main_v4 : FVec F S1024x5632 .f32 := Host.absf main_arg4
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_v7 : FVec F S3x5632 .f32 := Host.absf main_arg5
  let main_cst_1 : FVec F S_ .f32 := constant S_ .f32 0x7F800000#32
  let main_v8 : FVec F S3x5632 .f32 := broadcastInDim S3x5632 ![] bcast_S_S3x5632 main_cst_1
  let main_v9 : IVec S3x5632 1 := cmpf .olt main_v7 main_v8
  let main_v10 : FVec F S5632 .f32 := Host.absf main_arg6
  let main_cst_2 : FVec F S_ .f32 := constant S_ .f32 0x7F800000#32
  let main_v11 : FVec F S5632 .f32 := broadcastInDim S5632 ![] bcast_S_S5632 main_cst_2
  let main_v12 : IVec S5632 1 := cmpf .olt main_v10 main_v11
  (main_v3, main_v6, main_v9, main_v12)
-- ==== Ffn.lean ====
abbrev S16x4096x1024 : Shape := ⟨3, ![16, 4096, 1024]⟩
abbrev S16x6144 : Shape := ⟨2, ![16, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S3x2816 : Shape := ⟨2, ![3, 2816]⟩
abbrev S3x11x256 : Shape := ⟨3, ![3, 11, 256]⟩
abbrev S3x11x512 : Shape := ⟨3, ![3, 11, 512]⟩
abbrev S11x3x512 : Shape := ⟨3, ![11, 3, 512]⟩
abbrev S2816 : Shape := ⟨1, ![2816]⟩
abbrev S11x1x256 : Shape := ⟨3, ![11, 1, 256]⟩
abbrev S11x1x512 : Shape := ⟨3, ![11, 1, 512]⟩
abbrev S_ : Shape := ⟨0, ![]⟩
abbrev S11x256x1024 : Shape := ⟨3, ![11, 256, 1024]⟩
abbrev S16x6x1024 : Shape := ⟨3, ![16, 6, 1024]⟩
abbrev S1x1024 : Shape := ⟨2, ![1, 1024]⟩
abbrev S1x1024x1024 : Shape := ⟨3, ![1, 1024, 1024]⟩
abbrev S1x16x1024 : Shape := ⟨3, ![1, 16, 1024]⟩
abbrev S1x6x1024 : Shape := ⟨3, ![1, 6, 1024]⟩
abbrev S1056x1024 : Shape := ⟨2, ![1056, 1024]⟩
abbrev S4x1056x128 : Shape := ⟨3, ![4, 1056, 128]⟩
abbrev S1024x1024 : Shape := ⟨2, ![1024, 1024]⟩
abbrev S16x1024 : Shape := ⟨2, ![16, 1024]⟩
abbrev S1024x256 : Shape := ⟨2, ![1024, 256]⟩
abbrev S1056x256 : Shape := ⟨2, ![1056, 256]⟩
abbrev S1056x128 : Shape := ⟨2, ![1056, 128]⟩
abbrev S1x1056x128 : Shape := ⟨3, ![1, 1056, 128]⟩
abbrev S1x3x512 : Shape := ⟨3, ![1, 3, 512]⟩
abbrev S3x512 : Shape := ⟨2, ![3, 512]⟩
abbrev S1x1x512 : Shape := ⟨3, ![1, 1, 512]⟩
abbrev S1x512 : Shape := ⟨2, ![1, 512]⟩
abbrev S1x1024x128 : Shape := ⟨3, ![1, 1024, 128]⟩
abbrev S1024x128 : Shape := ⟨2, ![1024, 128]⟩
abbrev S1x128 : Shape := ⟨2, ![1, 128]⟩
abbrev S1x256x1024 : Shape := ⟨3, ![1, 256, 1024]⟩
abbrev S256x1024 : Shape := ⟨2, ![256, 1024]⟩
abbrev S6x1024 : Shape := ⟨2, ![6, 1024]⟩
abbrev S1024x1 : Shape := ⟨2, ![1024, 1]⟩

abbrev nBuf : Space → Nat
  | .hbm => 28
  | .vmem => 21
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1024, .f32⟩
  | .hbm, ⟨2, _⟩ => ⟨S16x6144, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024x5632, .bf16⟩
  | .hbm, ⟨9, _⟩ => ⟨S3x2816, .f32⟩
  | .hbm, ⟨10, _⟩ => ⟨S3x11x256, .f32⟩
  | .hbm, ⟨11, _⟩ => ⟨S3x2816, .f32⟩
  | .hbm, ⟨12, _⟩ => ⟨S3x11x256, .f32⟩
  | .hbm, ⟨13, _⟩ => ⟨S3x11x512, .f32⟩
  | .hbm, ⟨14, _⟩ => ⟨S11x3x512, .f32⟩
  | .hbm, ⟨15, _⟩ => ⟨S2816, .f32⟩
  | .hbm, ⟨16, _⟩ => ⟨S11x1x256, .f32⟩
  | .hbm, ⟨17, _⟩ => ⟨S2816, .f32⟩
  | .hbm, ⟨18, _⟩ => ⟨S11x1x256, .f32⟩
  | .hbm, ⟨19, _⟩ => ⟨S11x1x512, .f32⟩
  | .hbm, ⟨20, _⟩ => ⟨S_, .f32⟩
  | .hbm, ⟨21, _⟩ => ⟨S2816x1024, .f32⟩
  | .hbm, ⟨22, _⟩ => ⟨S2816x1024, .f32⟩
  | .hbm, ⟨23, _⟩ => ⟨S11x256x1024, .f32⟩
  | .hbm, ⟨24, _⟩ => ⟨S11x256x1024, .bf16⟩
  | .hbm, ⟨25, _⟩ => ⟨S16x6x1024, .f32⟩
  | .hbm, ⟨26, _⟩ => ⟨S1x1024, .f32⟩
  | .hbm, ⟨27, _⟩ => ⟨S16x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1024x5632, .bf16⟩
  | .local _ .vmem, ⟨12, _⟩ => ⟨S11x3x512, .f32⟩
  | .local _ .vmem, ⟨13, _⟩ => ⟨S11x1x512, .f32⟩
  | .local _ .vmem, ⟨14, _⟩ => ⟨S11x256x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S1056x1024, .bf16⟩
  | .local _ .vmem, ⟨18, _⟩ => ⟨S4x1056x128, .f32⟩
  | .local _ .vmem, ⟨19, _⟩ => ⟨S4x1056x128, .f32⟩
  | .local _ .vmem, ⟨20, _⟩ => ⟨S1024x1024, .f32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S11x3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S11x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S11x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnIdeal.lean ====
abbrev S16x4096x1024 : Shape := ⟨3, ![16, 4096, 1024]⟩
abbrev S16x6144 : Shape := ⟨2, ![16, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S3x2816 : Shape := ⟨2, ![3, 2816]⟩
abbrev S3x11x256 : Shape := ⟨3, ![3, 11, 256]⟩
abbrev S3x11x512 : Shape := ⟨3, ![3, 11, 512]⟩
abbrev S11x3x512 : Shape := ⟨3, ![11, 3, 512]⟩
abbrev S2816 : Shape := ⟨1, ![2816]⟩
abbrev S11x1x256 : Shape := ⟨3, ![11, 1, 256]⟩
abbrev S11x1x512 : Shape := ⟨3, ![11, 1, 512]⟩
abbrev S_ : Shape := ⟨0, ![]⟩
abbrev S11x256x1024 : Shape := ⟨3, ![11, 256, 1024]⟩
abbrev S16x6x1024 : Shape := ⟨3, ![16, 6, 1024]⟩
abbrev S1x1024 : Shape := ⟨2, ![1, 1024]⟩
abbrev S1x1024x1024 : Shape := ⟨3, ![1, 1024, 1024]⟩
abbrev S1x16x1024 : Shape := ⟨3, ![1, 16, 1024]⟩
abbrev S1x6x1024 : Shape := ⟨3, ![1, 6, 1024]⟩
abbrev S1056x1024 : Shape := ⟨2, ![1056, 1024]⟩
abbrev S4x1056x128 : Shape := ⟨3, ![4, 1056, 128]⟩
abbrev S1024x1024 : Shape := ⟨2, ![1024, 1024]⟩
abbrev S16x1024 : Shape := ⟨2, ![16, 1024]⟩
abbrev S1024x256 : Shape := ⟨2, ![1024, 256]⟩
abbrev S1056x256 : Shape := ⟨2, ![1056, 256]⟩
abbrev S1056x128 : Shape := ⟨2, ![1056, 128]⟩
abbrev S1x1056x128 : Shape := ⟨3, ![1, 1056, 128]⟩
abbrev S1x3x512 : Shape := ⟨3, ![1, 3, 512]⟩
abbrev S3x512 : Shape := ⟨2, ![3, 512]⟩
abbrev S1x1x512 : Shape := ⟨3, ![1, 1, 512]⟩
abbrev S1x512 : Shape := ⟨2, ![1, 512]⟩
abbrev S1x1024x128 : Shape := ⟨3, ![1, 1024, 128]⟩
abbrev S1024x128 : Shape := ⟨2, ![1024, 128]⟩
abbrev S1x128 : Shape := ⟨2, ![1, 128]⟩
abbrev S1x256x1024 : Shape := ⟨3, ![1, 256, 1024]⟩
abbrev S256x1024 : Shape := ⟨2, ![256, 1024]⟩
abbrev S6x1024 : Shape := ⟨2, ![6, 1024]⟩
abbrev S1024x1 : Shape := ⟨2, ![1024, 1]⟩

abbrev nBuf : Space → Nat
  | .hbm => 28
  | .vmem => 21
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1024, .f32⟩
  | .hbm, ⟨2, _⟩ => ⟨S16x6144, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024x5632, .bf16⟩
  | .hbm, ⟨9, _⟩ => ⟨S3x2816, .f32⟩
  | .hbm, ⟨10, _⟩ => ⟨S3x11x256, .f32⟩
  | .hbm, ⟨11, _⟩ => ⟨S3x2816, .f32⟩
  | .hbm, ⟨12, _⟩ => ⟨S3x11x256, .f32⟩
  | .hbm, ⟨13, _⟩ => ⟨S3x11x512, .f32⟩
  | .hbm, ⟨14, _⟩ => ⟨S11x3x512, .f32⟩
  | .hbm, ⟨15, _⟩ => ⟨S2816, .f32⟩
  | .hbm, ⟨16, _⟩ => ⟨S11x1x256, .f32⟩
  | .hbm, ⟨17, _⟩ => ⟨S2816, .f32⟩
  | .hbm, ⟨18, _⟩ => ⟨S11x1x256, .f32⟩
  | .hbm, ⟨19, _⟩ => ⟨S11x1x512, .f32⟩
  | .hbm, ⟨20, _⟩ => ⟨S_, .f32⟩
  | .hbm, ⟨21, _⟩ => ⟨S2816x1024, .f32⟩
  | .hbm, ⟨22, _⟩ => ⟨S2816x1024, .f32⟩
  | .hbm, ⟨23, _⟩ => ⟨S11x256x1024, .f32⟩
  | .hbm, ⟨24, _⟩ => ⟨S11x256x1024, .bf16⟩
  | .hbm, ⟨25, _⟩ => ⟨S16x6x1024, .f32⟩
  | .hbm, ⟨26, _⟩ => ⟨S1x1024, .f32⟩
  | .hbm, ⟨27, _⟩ => ⟨S16x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1024x5632, .bf16⟩
  | .local _ .vmem, ⟨12, _⟩ => ⟨S11x3x512, .f32⟩
  | .local _ .vmem, ⟨13, _⟩ => ⟨S11x1x512, .f32⟩
  | .local _ .vmem, ⟨14, _⟩ => ⟨S11x256x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S1056x1024, .bf16⟩
  | .local _ .vmem, ⟨18, _⟩ => ⟨S4x1056x128, .f32⟩
  | .local _ .vmem, ⟨19, _⟩ => ⟨S4x1056x128, .f32⟩
  | .local _ .vmem, ⟨20, _⟩ => ⟨S1024x1024, .f32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F] [Named F]

def κ : String → Option EReal := fun
  | "gelu_kc" => some ((80338380498831 / 2251799813685248 : ℝ) : EReal)
  | _ => none

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S11x3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S11x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S11x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnRefIdeal.lean ====
abbrev S16x4096x1024 : Shape := ⟨3, ![16, 4096, 1024]⟩
abbrev S16x6144 : Shape := ⟨2, ![16, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x1024 : Shape := ⟨2, ![16, 1024]⟩
abbrev S16x1x1024 : Shape := ⟨3, ![16, 1, 1024]⟩
abbrev S16x4096x5632 : Shape := ⟨3, ![16, 4096, 5632]⟩
abbrev S_ : Shape := ⟨0, ![]⟩
abbrev S16x4098x5632 : Shape := ⟨3, ![16, 4098, 5632]⟩
abbrev S1x5632 : Shape := ⟨2, ![1, 5632]⟩
abbrev S1x1x5632 : Shape := ⟨3, ![1, 1, 5632]⟩
abbrev S16x4096x2816 : Shape := ⟨3, ![16, 4096, 2816]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1024, .f32⟩
  | .hbm, ⟨2, _⟩ => ⟨S16x6144, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x1x1024, .f32⟩
  | .hbm, ⟨15, _⟩ => ⟨S16x4096x1024, .f32⟩
  | .hbm, ⟨16, _⟩ => ⟨S16x4096x5632, .f32⟩
  | .hbm, ⟨17, _⟩ => ⟨S_, .i32⟩
  | .hbm, ⟨18, _⟩ => ⟨S_, .f32⟩
  | .hbm, ⟨19, _⟩ => ⟨S16x4098x5632, .f32⟩
  | .hbm, ⟨20, _⟩ => ⟨S16x4096x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S16x4096x5632, .f32⟩
  | .hbm, ⟨25, _⟩ => ⟨S16x4096x5632, .f32⟩
  | .hbm, ⟨26, _⟩ => ⟨S1x1x5632, .f32⟩
  | .hbm, ⟨27, _⟩ => ⟨S16x4096x5632, .f32⟩
  | .hbm, ⟨28, _⟩ => ⟨S16x4096x5632, .f32⟩
  | .hbm, ⟨29, _⟩ => ⟨S16x4096x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S16x4096x5632, .f32⟩
  | .hbm, ⟨34, _⟩ => ⟨S16x4096x5632, .f32⟩
  | .hbm, ⟨35, _⟩ => ⟨S16x4096x5632, .f32⟩
  | .hbm, ⟨36, _⟩ => ⟨S16x4096x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S16x4096x5632, .f32⟩
  | .hbm, ⟨41, _⟩ => ⟨S16x4096x5632, .f32⟩
  | .hbm, ⟨42, _⟩ => ⟨S16x4096x5632, .f32⟩
  | .hbm, ⟨43, _⟩ => ⟨S16x4096x2816, .f32⟩
  | .hbm, ⟨44, _⟩ => ⟨S16x4096x2816, .f32⟩
  | .hbm, ⟨45, _⟩ => ⟨S16x4096x2816, .f32⟩
  | .hbm, ⟨46, _⟩ => ⟨S16x4096x2816, .f32⟩
  | .hbm, ⟨47, _⟩ => ⟨S_, .f32⟩
  | .hbm, ⟨48, _⟩ => ⟨S16x4096x2816, .f32⟩
  | .hbm, ⟨49, _⟩ => ⟨S16x4096x2816, .f32⟩
  | .hbm, ⟨50, _⟩ => ⟨S16x4096x2816, .f32⟩
  | .hbm, ⟨51, _⟩ => ⟨S_, .f32⟩
  | .hbm, ⟨52, _⟩ => ⟨S16x4096x2816, .f32⟩
  | .hbm, ⟨53, _⟩ => ⟨S16x4096x2816, .f32⟩
  | .hbm, ⟨54, _⟩ => ⟨S16x4096x2816, .f32⟩
  | .hbm, ⟨55, _⟩ => ⟨S_, .f32⟩
  | .hbm, ⟨56, _⟩ => ⟨S16x4096x2816, .f32⟩
  | .hbm, ⟨57, _⟩ => ⟨S16x4096x2816, .f32⟩
  | .hbm, ⟨58, _⟩ => ⟨S_, .f32⟩
  | .hbm, ⟨59, _⟩ => ⟨S16x4096x2816, .f32⟩
  | .hbm, ⟨60, _⟩ => ⟨S16x4096x2816, .f32⟩
  | .hbm, ⟨61, _⟩ => ⟨S16x4096x2816, .f32⟩
  | .hbm, ⟨62, _⟩ => ⟨S16x4096x2816, .f32⟩
  | .hbm, ⟨63, _⟩ => ⟨S16x4096x1024, .f32⟩
  | .hbm, ⟨64, _⟩ => ⟨S16x4096x1024, .f32⟩
  | .hbm, ⟨65, _⟩ => ⟨S_, .f32⟩
  | .hbm, ⟨66, _⟩ => ⟨S16x4096, .f32⟩
  | .hbm, ⟨67, _⟩ => ⟨S16x4096x1, .f32⟩
  | .hbm, ⟨68, _⟩ => ⟨S_, .f32⟩
  | .hbm, ⟨69, _⟩ => ⟨S16x4096x1, .f32⟩
  | .hbm, ⟨70, _⟩ => ⟨S16x4096x1, .f32⟩
  | .hbm, ⟨71, _⟩ => ⟨S_, .f32⟩
  | .hbm, ⟨72, _⟩ => ⟨S16x4096x1, .f32⟩
  | .hbm, ⟨73, _⟩ => ⟨S16x4096x1, .f32⟩
  | .hbm, ⟨74, _⟩ => ⟨S16x4096x1, .f32⟩
  | .hbm, ⟨75, _⟩ => ⟨S16x4096x1024, .f32⟩
  | .hbm, ⟨76, _⟩ => ⟨S16x4096x1024, .f32⟩
  | .hbm, ⟨77, _⟩ => ⟨S1x1x1024, .f32⟩
  | .hbm, ⟨78, _⟩ => ⟨S16x4096x1024, .f32⟩
  | .hbm, ⟨79, _⟩ => ⟨S16x4096x1024, .f32⟩
  | .hbm, ⟨80, _⟩ => ⟨S16x4096x1024, .f32⟩
  | .hbm, ⟨81, _⟩ => ⟨S16x4096x1024, .f32⟩
  | .hbm, ⟨82, _⟩ => ⟨S16x4096x1024, .f32⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_0 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_1 : Ref sig .tc := ⟨.hbm, 55, rfl⟩
abbrev main_v43 : Ref sig .tc := ⟨.hbm, 56, rfl⟩
abbrev main_v44 : Ref sig .tc := ⟨.hbm, 57, rfl⟩
abbrev main_cst_2 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_3 : Ref sig .tc := ⟨.hbm, 65, rfl⟩
abbrev main_v51 : Ref sig .tc := ⟨.hbm, 66, rfl⟩
abbrev main_v52 : Ref sig .tc := ⟨.hbm, 67, rfl⟩
abbrev main_cst_4 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== Merge.lean ====
abbrev S16x8x4096x128 : Shape := ⟨4, ![16, 8, 4096, 128]⟩
abbrev S16x4096x3072 : Shape := ⟨3, ![16, 4096, 3072]⟩
abbrev S16x4096x512 : Shape := ⟨3, ![16, 4096, 512]⟩
abbrev S16x4096x1024 : Shape := ⟨3, ![16, 4096, 1024]⟩
abbrev S16x6144 : Shape := ⟨2, ![16, 6144]⟩
abbrev S1024 : Shape := ⟨1, ![1024]⟩
abbrev S1024x1024 : Shape := ⟨2, ![1024, 1024]⟩
abbrev S512x1024 : Shape := ⟨2, ![512, 1024]⟩
abbrev S16x6x1024 : Shape := ⟨3, ![16, 6, 1024]⟩
abbrev S1x1024 : Shape := ⟨2, ![1, 1024]⟩
abbrev S_ : Shape := ⟨0, ![]⟩
abbrev S1x8x1024x128 : Shape := ⟨4, ![1, 8, 1024, 128]⟩
abbrev S1x1024x3072 : Shape := ⟨3, ![1, 1024, 3072]⟩
abbrev S1x1024x512 : Shape := ⟨3, ![1, 1024, 512]⟩
abbrev S1x1024x1024 : Shape := ⟨3, ![1, 1024, 1024]⟩
abbrev S1x6x1024 : Shape := ⟨3, ![1, 6, 1024]⟩
abbrev S6x1024 : Shape := ⟨2, ![6, 1024]⟩
abbrev S1x1x1024x128 : Shape := ⟨4, ![1, 1, 1024, 128]⟩
abbrev S1024x128 : Shape := ⟨2, ![1024, 128]⟩
abbrev S1024x512 : Shape := ⟨2, ![1024, 512]⟩
abbrev S1024x1 : Shape := ⟨2, ![1024, 1]⟩

abbrev nBuf : Space → Nat
  | .hbm => 24
  | .vmem => 19
  | .smem => 0
  | _ => 0

abbrev bufTy : (tb : Table) → Fin (tcTables nBuf tb) → BufTy
  | .hbm, ⟨0, _⟩ => ⟨S16x8x4096x128, .f32⟩
  | .hbm, ⟨1, _⟩ => ⟨S16x4096x3072, .bf16⟩
  | .hbm, ⟨2, _⟩ => ⟨S16x4096x512, .bf16⟩
  | .hbm, ⟨3, _⟩ => ⟨S16x4096x1024, .f32⟩
  | .hbm, ⟨4, _⟩ => ⟨S16x6144, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S512x1024, .f32⟩
  | .hbm, ⟨9, _⟩ => ⟨S1024x1024, .f32⟩
  | .hbm, ⟨10, _⟩ => ⟨S16x6x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .bf16⟩
  | .hbm, ⟨17, _⟩ => ⟨S512x1024, .bf16⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .bf16⟩
  | .hbm, ⟨22, _⟩ => ⟨S16x4096x1024, .f32⟩
  | .hbm, ⟨23, _⟩ => ⟨S16x4096x1024, .bf16⟩
  | .local _ .vmem, ⟨0, _⟩ => ⟨S1x8x1024x128, .f32⟩
  | .local _ .vmem, ⟨1, _⟩ => ⟨S1x8x1024x128, .f32⟩
  | .local _ .vmem, ⟨2, _⟩ => ⟨S1x1024x3072, .bf16⟩
  | .local _ .vmem, ⟨3, _⟩ => ⟨S1x1024x3072, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S1x1024x1024, .bf16⟩
  | .local _ .vmem, ⟨18, _⟩ => ⟨S1x1024x1024, .bf16⟩
  | _, _ => ⟨S16x8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeIdeal.lean ====
variable {F : FTy → Type} [FloatOps F] [Named F]
def κ : String → Option EReal := fun
  | "gelu_kc" => some ((80338380498831 / 2251799813685248 : ℝ) : EReal)
  | _ => none
-- ==== MergeRefIdeal.lean ====
abbrev S16x8x4096x128 : Shape := ⟨4, ![16, 8, 4096, 128]⟩
abbrev S16x4096x3072 : Shape := ⟨3, ![16, 4096, 3072]⟩
abbrev S16x4096x512 : Shape := ⟨3, ![16, 4096, 512]⟩
abbrev S16x4096x1024 : Shape := ⟨3, ![16, 4096, 1024]⟩
abbrev S16x6144 : Shape := ⟨2, ![16, 6144]⟩
abbrev S1024 : Shape := ⟨1, ![1024]⟩
abbrev S1024x1024 : Shape := ⟨2, ![1024, 1024]⟩
abbrev S512x1024 : Shape := ⟨2, ![512, 1024]⟩
abbrev S16x1024 : Shape := ⟨2, ![16, 1024]⟩
abbrev S16x1x1024 : Shape := ⟨3, ![16, 1, 1024]⟩
abbrev S16x4096x8x128 : Shape := ⟨4, ![16, 4096, 8, 128]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 118
  | .vmem => 0
  | .smem => 0
  | _ => 0

abbrev bufTy : (tb : Table) → Fin (tcTables nBuf tb) → BufTy
  | .hbm, ⟨0, _⟩ => ⟨S16x8x4096x128, .f32⟩
  | .hbm, ⟨1, _⟩ => ⟨S16x4096x3072, .bf16⟩
  | .hbm, ⟨2, _⟩ => ⟨S16x4096x512, .bf16⟩
  | .hbm, ⟨3, _⟩ => ⟨S16x4096x1024, .f32⟩
  | .hbm, ⟨4, _⟩ => ⟨S16x6144, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S512x1024, .f32⟩
  | .hbm, ⟨9, _⟩ => ⟨S1024x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S16x1x1024, .f32⟩
  | .hbm, ⟨21, _⟩ => ⟨S16x1x1024, .f32⟩
  | .hbm, ⟨22, _⟩ => ⟨S16x4096x8x128, .f32⟩
  | .hbm, ⟨23, _⟩ => ⟨S16x4096x1024, .f32⟩
  | .hbm, ⟨24, _⟩ => ⟨S16x4096x3072, .f32⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S16x4096x1024, .f32⟩
  | .hbm, ⟨29, _⟩ => ⟨S16x4096x1024, .f32⟩
  | .hbm, ⟨30, _⟩ => ⟨S_, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S_, .f32⟩
  | .hbm, ⟨35, _⟩ => ⟨S16x4096x1024, .f32⟩
  | .hbm, ⟨36, _⟩ => ⟨S16x4096x1024, .f32⟩
  | .hbm, ⟨37, _⟩ => ⟨S16x4096x1024, .f32⟩
  | .hbm, ⟨38, _⟩ => ⟨S_, .f32⟩
  | .hbm, ⟨39, _⟩ => ⟨S16x4096x1024, .f32⟩
  | .hbm, ⟨40, _⟩ => ⟨S16x4096x1024, .f32⟩
  | .hbm, ⟨41, _⟩ => ⟨S_, .f32⟩
  | .hbm, ⟨42, _⟩ => ⟨S16x4096x1024, .f32⟩
  | .hbm, ⟨43, _⟩ => ⟨S16x4096x1024, .f32⟩
  | .hbm, ⟨44, _⟩ => ⟨S16x4096x1024, .f32⟩
  | .hbm, ⟨45, _⟩ => ⟨S16x4096x1024, .f32⟩
  | .hbm, ⟨46, _⟩ => ⟨S16x4096x1024, .f32⟩
  | .hbm, ⟨47, _⟩ => ⟨S16x4096x512, .f32⟩
  | .hbm, ⟨48, _⟩ => ⟨S16x4096x1024, .f32⟩
  | .hbm, ⟨49, _⟩ => ⟨S_, .f32⟩
  | .hbm, ⟨50, _⟩ => ⟨S16x4096x1024, .f32⟩
  | .hbm, ⟨51, _⟩ => ⟨S16x4096x1024, .f32⟩
  | .hbm, ⟨52, _⟩ => ⟨S16x4096x1024, .f32⟩
  | .hbm, ⟨53, _⟩ => ⟨S16x4096x1024, .f32⟩
  | .hbm, ⟨54, _⟩ => ⟨S_, .f32⟩
  | .hbm, ⟨55, _⟩ => ⟨S16x4096x1024, .f32⟩
  | .hbm, ⟨56, _⟩ => ⟨S16x4096x1024, .f32⟩
  | .hbm, ⟨57, _⟩ => ⟨S_, .f32⟩
  | .hbm, ⟨58, _⟩ => ⟨S16x4096x1024, .f32⟩
  | .hbm, ⟨59, _⟩ => ⟨S16x4096x1024, .f32⟩
  | .hbm, ⟨60, _⟩ => ⟨S16x4096x1024, .f32⟩
  | .hbm, ⟨61, _⟩ => ⟨S_, .f32⟩
  | .hbm, ⟨62, _⟩ => ⟨S16x4096x1024, .f32⟩
  | .hbm, ⟨63, _⟩ => ⟨S16x4096x1024, .f32⟩
  | .hbm, ⟨64, _⟩ => ⟨S16x4096x1024, .f32⟩
  | .hbm, ⟨65, _⟩ => ⟨S16x4096x1024, .f32⟩
  | .hbm, ⟨66, _⟩ => ⟨S_, .f32⟩
  | .hbm, ⟨67, _⟩ => ⟨S16x4096x1024, .f32⟩
  | .hbm, ⟨68, _⟩ => ⟨S16x4096x1024, .f32⟩
  | .hbm, ⟨69, _⟩ => ⟨S_, .f32⟩
  | .hbm, ⟨70, _⟩ => ⟨S16x4096x1024, .f32⟩
  | .hbm, ⟨71, _⟩ => ⟨S16x4096x1024, .f32⟩
  | .hbm, ⟨72, _⟩ => ⟨S16x4096x1024, .f32⟩
  | .hbm, ⟨73, _⟩ => ⟨S16x4096x1024, .f32⟩
  | .hbm, ⟨74, _⟩ => ⟨S16x4096x1024, .f32⟩
  | .hbm, ⟨75, _⟩ => ⟨S16x4096x1024, .f32⟩
  | .hbm, ⟨76, _⟩ => ⟨S_, .f32⟩
  | .hbm, ⟨77, _⟩ => ⟨S16x4096, .f32⟩
  | .hbm, ⟨78, _⟩ => ⟨S16x4096x1, .f32⟩
  | .hbm, ⟨79, _⟩ => ⟨S_, .f32⟩
  | .hbm, ⟨80, _⟩ => ⟨S16x4096x1, .f32⟩
  | .hbm, ⟨81, _⟩ => ⟨S16x4096x1, .f32⟩
  | .hbm, ⟨82, _⟩ => ⟨S_, .f32⟩
  | .hbm, ⟨83, _⟩ => ⟨S16x4096x1, .f32⟩
  | .hbm, ⟨84, _⟩ => ⟨S16x4096x1, .f32⟩
  | .hbm, ⟨85, _⟩ => ⟨S16x4096x1, .f32⟩
  | .hbm, ⟨86, _⟩ => ⟨S16x4096x1024, .f32⟩
  | .hbm, ⟨87, _⟩ => ⟨S16x4096x1024, .f32⟩
  | .hbm, ⟨88, _⟩ => ⟨S1x1x1024, .f32⟩
  | .hbm, ⟨89, _⟩ => ⟨S16x4096x1024, .f32⟩
  | .hbm, ⟨90, _⟩ => ⟨S16x4096x1024, .f32⟩
  | .hbm, ⟨91, _⟩ => ⟨S16x4096x1024, .f32⟩
  | .hbm, ⟨92, _⟩ => ⟨S16x4096x1024, .f32⟩
  | .hbm, ⟨93, _⟩ => ⟨S16x4096x1024, .f32⟩
  | .hbm, ⟨94, _⟩ => ⟨S16x4096x1024, .f32⟩
  | .hbm, ⟨95, _⟩ => ⟨S_, .f32⟩
  | .hbm, ⟨96, _⟩ => ⟨S16x4096, .f32⟩
  | .hbm, ⟨97, _⟩ => ⟨S16x4096x1, .f32⟩
  | .hbm, ⟨98, _⟩ => ⟨S_, .f32⟩
  | .hbm, ⟨99, _⟩ => ⟨S16x4096x1, .f32⟩
  | .hbm, ⟨100, _⟩ => ⟨S16x4096x1, .f32⟩
  | .hbm, ⟨101, _⟩ => ⟨S_, .f32⟩
  | .hbm, ⟨102, _⟩ => ⟨S16x4096x1, .f32⟩
  | .hbm, ⟨103, _⟩ => ⟨S16x4096x1, .f32⟩
  | .hbm, ⟨104, _⟩ => ⟨S16x4096x1, .f32⟩
  | .hbm, ⟨105, _⟩ => ⟨S16x4096x1024, .f32⟩
  | .hbm, ⟨106, _⟩ => ⟨S16x4096x1024, .f32⟩
  | .hbm, ⟨107, _⟩ => ⟨S1x1x1024, .f32⟩
  | .hbm, ⟨108, _⟩ => ⟨S16x4096x1024, .f32⟩
  | .hbm, ⟨109, _⟩ => ⟨S16x4096x1024, .f32⟩
  | .hbm, ⟨110, _⟩ => ⟨S_, .f32⟩
  | .hbm, ⟨111, _⟩ => ⟨S16x1x1024, .f32⟩
  | .hbm, ⟨112, _⟩ => ⟨S16x1x1024, .f32⟩
  | .hbm, ⟨113, _⟩ => ⟨S16x4096x1024, .f32⟩
  | .hbm, ⟨114, _⟩ => ⟨S16x4096x1024, .f32⟩
  | .hbm, ⟨115, _⟩ => ⟨S16x4096x1024, .f32⟩
  | .hbm, ⟨116, _⟩ => ⟨S16x4096x1024, .f32⟩
  | .hbm, ⟨117, _⟩ => ⟨S16x4096x1024, .bf16⟩
  | _, _ => ⟨S16x8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_12 : Ref sig .tc := ⟨.hbm, 95, rfl⟩
abbrev main_v72 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_v75 : Ref sig .tc := ⟨.hbm, 100, rfl⟩
abbrev main_cst_14 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_15 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩

abbrev nD : Nat := 1
abbrev τ : Topo := Topo.v7x

variable {F : FTy → Type} [FloatOps F]
-- ==== Inproj.lean ====
abbrev S16x4096x1024 : Shape := ⟨3, ![16, 4096, 1024]⟩
abbrev S16x6144 : Shape := ⟨2, ![16, 6144]⟩
abbrev S1024 : Shape := ⟨1, ![1024]⟩
abbrev S1024x4608 : Shape := ⟨2, ![1024, 4608]⟩
abbrev S4x1024 : Shape := ⟨2, ![4, 1024]⟩
abbrev S1024x2048 : Shape := ⟨2, ![1024, 2048]⟩
abbrev S_ : Shape := ⟨0, ![]⟩
abbrev S1024x512 : Shape := ⟨2, ![1024, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S16x6x1024 : Shape := ⟨3, ![16, 6, 1024]⟩
abbrev S1x1024 : Shape := ⟨2, ![1, 1024]⟩
abbrev S16x8x4096x128 : Shape := ⟨4, ![16, 8, 4096, 128]⟩
abbrev S16x4096x3072 : Shape := ⟨3, ![16, 4096, 3072]⟩
abbrev S1x1024x1024 : Shape := ⟨3, ![1, 1024, 1024]⟩
abbrev S1x16x1024 : Shape := ⟨3, ![1, 16, 1024]⟩
abbrev S1x6x1024 : Shape := ⟨3, ![1, 6, 1024]⟩
abbrev S1x8x1024x128 : Shape := ⟨4, ![1, 8, 1024, 128]⟩
abbrev S1x1024x3072 : Shape := ⟨3, ![1, 1024, 3072]⟩
abbrev S1056x1024 : Shape := ⟨2, ![1056, 1024]⟩
abbrev S8x1056x128 : Shape := ⟨3, ![8, 1056, 128]⟩
abbrev S6x1024 : Shape := ⟨2, ![6, 1024]⟩
abbrev S16x1024 : Shape := ⟨2, ![16, 1024]⟩
abbrev S16 : Shape := ⟨1, ![16]⟩
abbrev S16x1 : Shape := ⟨2, ![16, 1]⟩
abbrev S1024x1024 : Shape := ⟨2, ![1024, 1024]⟩
abbrev S1024x1 : Shape := ⟨2, ![1024, 1]⟩
abbrev S1056x128 : Shape := ⟨2, ![1056, 128]⟩
abbrev S1x1056x128 : Shape := ⟨3, ![1, 1056, 128]⟩
abbrev S1x1024x128 : Shape := ⟨3, ![1, 1024, 128]⟩
abbrev S1024x128 : Shape := ⟨2, ![1024, 128]⟩
abbrev S1x1x1024x128 : Shape := ⟨4, ![1, 1, 1024, 128]⟩
abbrev S1024x3072 : Shape := ⟨2, ![1024, 3072]⟩
abbrev S1024x256 : Shape := ⟨2, ![1024, 256]⟩

abbrev nBuf : Space → Nat
  | .hbm => 63
  | .vmem => 21
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S1024, .f32⟩
  | .hbm, ⟨3, _⟩ => ⟨S1024x4608, .f32⟩
  | .hbm, ⟨4, _⟩ => ⟨S4x1024, .f32⟩
  | .hbm, ⟨5, _⟩ => ⟨S1024, .f32⟩
  | .hbm, ⟨6, _⟩ => ⟨S1024x2048, .f32⟩
  | .hbm, ⟨7, _⟩ => ⟨S1024x2048, .f32⟩
  | .hbm, ⟨8, _⟩ => ⟨S_, .f32⟩
  | .hbm, ⟨9, _⟩ => ⟨S1024x2048, .f32⟩
  | .hbm, ⟨10, _⟩ => ⟨S1024x2048, .f32⟩
  | .hbm, ⟨11, _⟩ => ⟨S1024x512, .f32⟩
  | .hbm, ⟨12, _⟩ => ⟨S1024x4608, .f32⟩
  | .hbm, ⟨13, _⟩ => ⟨S1024x4608, .bf16⟩
  | .hbm, ⟨14, _⟩ => ⟨S128, .i32⟩
  | .hbm, ⟨15, _⟩ => ⟨S128x1, .i32⟩
  | .hbm, ⟨16, _⟩ => ⟨S128, .i32⟩
  | .hbm, ⟨17, _⟩ => ⟨S1x128, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S128x128, .i32⟩
  | .hbm, ⟨28, _⟩ => ⟨S128x128, .i32⟩
  | .hbm, ⟨29, _⟩ => ⟨S_, .i32⟩
  | .hbm, ⟨30, _⟩ => ⟨S128x128, .i32⟩
  | .hbm, ⟨31, _⟩ => ⟨S128x128, .i1⟩
  | .hbm, ⟨32, _⟩ => ⟨S_, .i32⟩
  | .hbm, ⟨33, _⟩ => ⟨S128x128, .i32⟩
  | .hbm, ⟨34, _⟩ => ⟨S128x128, .i1⟩
  | .hbm, ⟨35, _⟩ => ⟨S_, .i32⟩
  | .hbm, ⟨36, _⟩ => ⟨S_, .i1⟩
  | .hbm, ⟨37, _⟩ => ⟨S128x128, .i1⟩
  | .hbm, ⟨38, _⟩ => ⟨S128x128, .i1⟩
  | .hbm, ⟨39, _⟩ => ⟨S128x128, .i1⟩
  | .hbm, ⟨40, _⟩ => ⟨S128x128, .i32⟩
  | .hbm, ⟨41, _⟩ => ⟨S128x128, .i32⟩
  | .hbm, ⟨42, _⟩ => ⟨S128x128, .i32⟩
  | .hbm, ⟨43, _⟩ => ⟨S128x128, .f32⟩
  | .hbm, ⟨44, _⟩ => ⟨S_, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S128x256, .f32⟩
  | .hbm, ⟨50, _⟩ => ⟨S128x256, .bf16⟩
  | .hbm, ⟨51, _⟩ => ⟨S16x6x1024, .f32⟩
  | .hbm, ⟨52, _⟩ => ⟨S1x1024, .f32⟩
  | .hbm, ⟨53, _⟩ => ⟨S_, .f32⟩
  | .hbm, ⟨54, _⟩ => ⟨S4x1024, .f32⟩
  | .hbm, ⟨55, _⟩ => ⟨S4x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S16x8x4096x128, .f32⟩
  | .hbm, ⟨61, _⟩ => ⟨S16x4096x3072, .bf16⟩
  | .hbm, ⟨62, _⟩ => ⟨S16x8x4096x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x4608, .bf16⟩
  | .local _ .vmem, ⟨10, _⟩ => ⟨S128x256, .bf16⟩
  | .local _ .vmem, ⟨11, _⟩ => ⟨S4x1024, .f32⟩
  | .local _ .vmem, ⟨12, _⟩ => ⟨S1x1024, .f32⟩
  | .local _ .vmem, ⟨13, _⟩ => ⟨S1x8x1024x128, .f32⟩
  | .local _ .vmem, ⟨14, _⟩ => ⟨S1x8x1024x128, .f32⟩
  | .local _ .vmem, ⟨15, _⟩ => ⟨S1x1024x3072, .bf16⟩
  | .local _ .vmem, ⟨16, _⟩ => ⟨S1x1024x3072, .bf16⟩
  | .local _ .vmem, ⟨17, _⟩ => ⟨S1x8x1024x128, .f32⟩
  | .local _ .vmem, ⟨18, _⟩ => ⟨S1x8x1024x128, .f32⟩
  | .local _ .vmem, ⟨19, _⟩ => ⟨S1056x1024, .bf16⟩
  | .local _ .vmem, ⟨20, _⟩ => ⟨S8x1056x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_v5 : Ref sig .tc := ⟨.hbm, 30, rfl⟩
abbrev main_call0_v6 : Ref sig .tc := ⟨.hbm, 31, rfl⟩
abbrev main_call0_c_2 : Ref sig .tc := ⟨.hbm, 32, rfl⟩
abbrev main_call0_v7 : Ref sig .tc := ⟨.hbm, 33, rfl⟩
abbrev main_call0_v8 : Ref sig .tc := ⟨.hbm, 34, rfl⟩
abbrev main_call0_c_3 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_v14 : Ref sig .tc := ⟨.hbm, 42, rfl⟩
abbrev main_v15 : Ref sig .tc := ⟨.hbm, 43, rfl⟩
abbrev main_cst_0 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_1 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_2 : Ref sig .tc := ⟨.hbm, 57, rfl⟩
abbrev main_v27 : Ref sig .tc := ⟨.hbm, 58, rfl⟩
abbrev main_v28 : Ref sig .tc := ⟨.hbm, 59, rfl⟩
abbrev main_v29_0 : Ref sig .tc := ⟨.hbm, 60, rfl⟩
abbrev main_v29_1 : Ref sig .tc := ⟨.hbm, 61, rfl⟩
abbrev main_v29_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4608 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InprojRefIdeal.lean ====
abbrev S16x4096x1024 : Shape := ⟨3, ![16, 4096, 1024]⟩
abbrev S16x6144 : Shape := ⟨2, ![16, 6144]⟩
abbrev S1024 : Shape := ⟨1, ![1024]⟩
abbrev S1024x4608 : Shape := ⟨2, ![1024, 4608]⟩
abbrev S4x1024 : Shape := ⟨2, ![4, 1024]⟩
abbrev S16x1024 : Shape := ⟨2, ![16, 1024]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4608 : Shape := ⟨3, ![16, 4096, 4608]⟩
abbrev S16x4096x512 : Shape := ⟨3, ![16, 4096, 512]⟩
abbrev S16x4099x1024 : Shape := ⟨3, ![16, 4099, 1024]⟩
abbrev S1x1024 : Shape := ⟨2, ![1, 1024]⟩
abbrev S16x4096x8x128 : Shape := ⟨4, ![16, 4096, 8, 128]⟩
abbrev S16x8x4096x128 : Shape := ⟨4, ![16, 8, 4096, 128]⟩
abbrev S16x4096x3072 : Shape := ⟨3, ![16, 4096, 3072]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S16x4096x4x128 : Shape := ⟨4, ![16, 4096, 4, 128]⟩
abbrev S16x4x4096x128 : Shape := ⟨4, ![16, 4, 4096, 128]⟩

abbrev nBuf : Space → Nat
  | .hbm => 133
  | .vmem => 0
  | .smem => 0
  | _ => 0

abbrev hbmTy0_0 (i : Nat) : BufTy := match i % 128 with
  | 0 => ⟨S16x4096x1024, .f32⟩
  | 1 => ⟨S16x6144, .f32⟩
  | 2 => ⟨S1024, .f32⟩
  | 3 => ⟨S1024x4608, .f32⟩
  | 4 => ⟨S4x1024, .f32⟩
  | 5 => ⟨S1024, .f32⟩
  | 6 => ⟨S16x1024, .f32⟩
  | 7 => ⟨S16x1024, .f32⟩
  | 8 => ⟨S16x1024, .f32⟩
  | 9 => ⟨S16x1024, .f32⟩
  | 10 => ⟨S16x1024, .f32⟩
  | 11 => ⟨S16x1024, .f32⟩
  | 12 => ⟨S16x1x1024, .f32⟩
  | 13 => ⟨S16x1x1024, .f32⟩
  | 14 => ⟨S16x1x1024, .f32⟩
  | 15 => ⟨S16x1x1024, .f32⟩
  | 16 => ⟨S16x1x1024, .f32⟩
  | 17 => ⟨S16x1x1024, .f32⟩
  | 18 => ⟨S16x4096x1024, .f32⟩
  | 19 => ⟨S_, .f32⟩
  | 20 => ⟨S16x4096, .f32⟩
  | 21 => ⟨S16x4096x1, .f32⟩
  | 22 => ⟨S_, .f32⟩
  | 23 => ⟨S16x4096x1, .f32⟩
  | 24 => ⟨S16x4096x1, .f32⟩
  | 25 => ⟨S_, .f32⟩
  | 26 => ⟨S16x4096x1, .f32⟩
  | 27 => ⟨S16x4096x1, .f32⟩
  | 28 => ⟨S16x4096x1, .f32⟩
  | 29 => ⟨S16x4096x1024, .f32⟩
  | 30 => ⟨S16x4096x1024, .f32⟩
  | 31 => ⟨S1x1x1024, .f32⟩
  | 32 => ⟨S16x4096x1024, .f32⟩
  | 33 => ⟨S16x4096x1024, .f32⟩
  | 34 => ⟨S_, .f32⟩
  | 35 => ⟨S16x1x1024, .f32⟩
  | 36 => ⟨S16x1x1024, .f32⟩
  | 37 => ⟨S16x4096x1024, .f32⟩
  | 38 => ⟨S16x4096x1024, .f32⟩
  | 39 => ⟨S16x4096x1024, .f32⟩
  | 40 => ⟨S16x4096x1024, .f32⟩
  | 41 => ⟨S16x4096x4608, .f32⟩
  | 42 => ⟨S16x4096x1024, .f32⟩
  | 43 => ⟨S16x4096x1024, .f32⟩
  | 44 => ⟨S16x4096x512, .f32⟩
  | 45 => ⟨S16x4096x1024, .f32⟩
  | 46 => ⟨S16x4096x1024, .f32⟩
  | 47 => ⟨S_, .i32⟩
  | 48 => ⟨S_, .f32⟩
  | 49 => ⟨S16x4099x1024, .f32⟩
  | 50 => ⟨S16x4096x1024, .f32⟩
  | 51 => ⟨S1x1024, .f32⟩
  | 52 => ⟨S1024, .f32⟩
  | 53 => ⟨S1x1x1024, .f32⟩
  | 54 => ⟨S16x4096x1024, .f32⟩
  | 55 => ⟨S16x4096x1024, .f32⟩
  | 56 => ⟨S1x1x1024, .f32⟩
  | 57 => ⟨S16x4096x1024, .f32⟩
  | 58 => ⟨S16x4096x1024, .f32⟩
  | 59 => ⟨S16x4096x1024, .f32⟩
  | 60 => ⟨S1x1024, .f32⟩
  | 61 => ⟨S1024, .f32⟩
  | 62 => ⟨S1x1x1024, .f32⟩
  | 63 => ⟨S16x4096x1024, .f32⟩
  | 64 => ⟨S16x4096x1024, .f32⟩
  | 65 => ⟨S16x4096x1024, .f32⟩
  | 66 => ⟨S16x4096x1024, .f32⟩
  | 67 => ⟨S1x1024, .f32⟩
  | 68 => ⟨S1024, .f32⟩
  | 69 => ⟨S1x1x1024, .f32⟩
  | 70 => ⟨S16x4096x1024, .f32⟩
  | 71 => ⟨S16x4096x1024, .f32⟩
  | 72 => ⟨S16x4096x1024, .f32⟩
  | 73 => ⟨S16x4096x1024, .f32⟩
  | 74 => ⟨S1x1024, .f32⟩
  | 75 => ⟨S1024, .f32⟩
  | 76 => ⟨S1x1x1024, .f32⟩
  | 77 => ⟨S16x4096x1024, .f32⟩
  | 78 => ⟨S16x4096x1024, .f32⟩
  | 79 => ⟨S16x4096x1024, .f32⟩
  | 80 => ⟨S_, .f32⟩
  | 81 => ⟨S16x4096x1024, .f32⟩
  | 82 => ⟨S16x4096x1024, .f32⟩
  | 83 => ⟨S16x4096x8x128, .f32⟩
  | 84 => ⟨S16x8x4096x128, .f32⟩
  | 85 => ⟨S_, .f32⟩
  | 86 => ⟨S16x4096x1024, .f32⟩
  | 87 => ⟨S16x4096x1024, .f32⟩
  | 88 => ⟨S_, .f32⟩
  | 89 => ⟨S16x4096x1024, .f32⟩
  | 90 => ⟨S16x4096x1024, .f32⟩
  | 91 => ⟨S16x4096x3072, .f32⟩
  | 92 => ⟨S16x4096x3072, .bf16⟩
  | 93 => ⟨S128, .i32⟩
  | 94 => ⟨S128x1, .i32⟩
  | 95 => ⟨S1x128, .i32⟩
  | 96 => ⟨S128x128, .i32⟩
  | 97 => ⟨S128x128, .i32⟩
  | 98 => ⟨S128x128, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S128x128, .i32⟩
  | 106 => ⟨S128x128, .i32⟩
  | 107 => ⟨S_, .i32⟩
  | 108 => ⟨S128x128, .i32⟩
  | 109 => ⟨S128x128, .i1⟩
  | 110 => ⟨S_, .i32⟩
  | 111 => ⟨S128x128, .i32⟩
  | 112 => ⟨S128x128, .i1⟩
  | 113 => ⟨S_, .i32⟩
  | 114 => ⟨S_, .i1⟩
  | 115 => ⟨S128x128, .i1⟩
  | 116 => ⟨S128x128, .i1⟩
  | 117 => ⟨S128x128, .i1⟩
  | 118 => ⟨S128x128, .i32⟩
  | 119 => ⟨S128x128, .i32⟩
  | 120 => ⟨S128x128, .i32⟩
  | 121 => ⟨S128x128, .f32⟩
  | 122 => ⟨S_, .f32⟩
  | 123 => ⟨S128x128, .f32⟩
  | 124 => ⟨S128x128, .f32⟩
  | 125 => ⟨S16x4096x4x128, .f32⟩
  | 126 => ⟨S128x128, .f32⟩
  | 127 => ⟨S16x4096x4x128, .f32⟩
  | _ => ⟨S16x4096x1024, .f32⟩

abbrev hbmTy0_1 (i : Nat) : BufTy := match i % 128 with
  | 0 => ⟨S16x4x4096x128, .f32⟩
  | 1 => ⟨S128x128, .f32⟩
  | 2 => ⟨S16x4096x4x128, .f32⟩
  | 3 => ⟨S16x4x4096x128, .f32⟩
  | 4 => ⟨S16x8x4096x128, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c : Ref sig .tc := ⟨.hbm, 47, rfl⟩
abbrev main_call0_v0 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_3 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_4 : Ref sig .tc := ⟨.hbm, 85, rfl⟩
abbrev main_v72 : Ref sig .tc := ⟨.hbm, 86, rfl⟩
abbrev main_v73 : Ref sig .tc := ⟨.hbm, 87, rfl⟩
abbrev main_cst_5 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_c_6 : Ref sig .tc := ⟨.hbm, 99, rfl⟩
abbrev main_call1_v0 : Ref sig .tc := ⟨.hbm, 100, rfl⟩
abbrev main_call1_c : Ref sig .tc := ⟨.hbm, 101, rfl⟩
abbrev main_call1_v1 : Ref sig .tc := ⟨.hbm, 102, rfl⟩
abbrev main_call1_c_0 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_c_1 : Ref sig .tc := ⟨.hbm, 107, rfl⟩
abbrev main_call1_v5 : Ref sig .tc := ⟨.hbm, 108, rfl⟩
abbrev main_call1_v6 : Ref sig .tc := ⟨.hbm, 109, rfl⟩
abbrev main_call1_c_2 : Ref sig .tc := ⟨.hbm, 110, rfl⟩
abbrev main_call1_v7 : Ref sig .tc := ⟨.hbm, 111, rfl⟩
abbrev main_call1_v8 : Ref sig .tc := ⟨.hbm, 112, rfl⟩
abbrev main_call1_c_3 : Ref sig .tc := ⟨.hbm, 113, rfl⟩
abbrev main_call1_v9 : Ref sig .tc := ⟨.hbm, 114, rfl⟩
abbrev main_call1_v10 : Ref sig .tc := ⟨.hbm, 115, rfl⟩
abbrev main_call1_v11 : Ref sig .tc := ⟨.hbm, 116, rfl⟩
abbrev main_call1_v12 : Ref sig .tc := ⟨.hbm, 117, rfl⟩
abbrev main_call1_v13 : Ref sig .tc := ⟨.hbm, 118, rfl⟩
abbrev main_call1_v14 : Ref sig .tc := ⟨.hbm, 119, rfl⟩
abbrev main_v84 : Ref sig .tc := ⟨.hbm, 120, rfl⟩
abbrev main_v85 : Ref sig .tc := ⟨.hbm, 121, rfl⟩
abbrev main_cst_7 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩

abbrev nD : Nat := 1
abbrev τ : Topo := Topo.v7x

variable {F : FTy → Type} [FloatOps F]
-- ==== Mod.lean ====
abbrev S18x1024 : Shape := ⟨2, ![18, 1024]⟩
abbrev S1024x6144 : Shape := ⟨2, ![1024, 6144]⟩
abbrev S6144 : Shape := ⟨1, ![6144]⟩
abbrev S1x6144 : Shape := ⟨2, ![1, 6144]⟩
abbrev S18x6144 : Shape := ⟨2, ![18, 6144]⟩
abbrev S1024x512 : Shape := ⟨2, ![1024, 512]⟩
abbrev S1x512 : Shape := ⟨2, ![1, 512]⟩
abbrev S18x512 : Shape := ⟨2, ![18, 512]⟩

abbrev nBuf : Space → Nat
  | .hbm => 5
  | .vmem => 7
  | .smem => 0
  | _ => 0

abbrev bufTy : (tb : Table) → Fin (tcTables nBuf tb) → BufTy
  | .hbm, ⟨0, _⟩ => ⟨S18x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S18x6144, .f32⟩
  | .local _ .vmem, ⟨0, _⟩ => ⟨S18x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S18x512, .f32⟩
  | .local _ .vmem, ⟨6, _⟩ => ⟨S18x512, .f32⟩
  | _, _ => ⟨S18x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S18x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S18x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S18x1024 : Shape := ⟨2, ![18, 1024]⟩
abbrev S1024x6144 : Shape := ⟨2, ![1024, 6144]⟩
abbrev S6144 : Shape := ⟨1, ![6144]⟩
abbrev S_ : Shape := ⟨0, ![]⟩
abbrev S18x6144 : Shape := ⟨2, ![18, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S18x1024, .f32⟩
  | .hbm, ⟨1, _⟩ => ⟨S1024x6144, .f32⟩
  | .hbm, ⟨2, _⟩ => ⟨S6144, .f32⟩
  | .hbm, ⟨3, _⟩ => ⟨S18x1024, .f32⟩
  | .hbm, ⟨4, _⟩ => ⟨S18x1024, .f32⟩
  | .hbm, ⟨5, _⟩ => ⟨S_, .f32⟩
  | .hbm, ⟨6, _⟩ => ⟨S18x1024, .f32⟩
  | .hbm, ⟨7, _⟩ => ⟨S18x1024, .f32⟩
  | .hbm, ⟨8, _⟩ => ⟨S_, .f32⟩
  | .hbm, ⟨9, _⟩ => ⟨S18x1024, .f32⟩
  | .hbm, ⟨10, _⟩ => ⟨S18x1024, .f32⟩
  | .hbm, ⟨11, _⟩ => ⟨S18x1024, .f32⟩
  | .hbm, ⟨12, _⟩ => ⟨S18x6144, .f32⟩
  | .hbm, ⟨13, _⟩ => ⟨S1x6144, .f32⟩
  | .hbm, ⟨14, _⟩ => ⟨S18x6144, .f32⟩
  | .hbm, ⟨15, _⟩ => ⟨S18x6144, .f32⟩
  | _, _ => ⟨S18x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Seqdft.lean ====
abbrev S16x8x4096x128 : Shape := ⟨4, ![16, 8, 4096, 128]⟩
abbrev S512 : Shape := ⟨1, ![512]⟩
abbrev S4 : Shape := ⟨1, ![4]⟩
abbrev S_ : Shape := ⟨0, ![]⟩
abbrev S128 : Shape := ⟨1, ![128]⟩
abbrev S512x1 : Shape := ⟨2, ![512, 1]⟩
abbrev S1x4 : Shape := ⟨2, ![1, 4]⟩
abbrev S512x4 : Shape := ⟨2, ![512, 4]⟩
abbrev S1x128 : Shape := ⟨2, ![1, 128]⟩
abbrev S512x128 : Shape := ⟨2, ![512, 128]⟩
abbrev S512x4x1 : Shape := ⟨3, ![512, 4, 1]⟩
abbrev S512x1x128 : Shape := ⟨3, ![512, 1, 128]⟩
abbrev S512x4x128 : Shape := ⟨3, ![512, 4, 128]⟩
abbrev S512x512 : Shape := ⟨2, ![512, 512]⟩
abbrev S8 : Shape := ⟨1, ![8]⟩
abbrev S8x1 : Shape := ⟨2, ![8, 1]⟩
abbrev S1x512 : Shape := ⟨2, ![1, 512]⟩
abbrev S8x512 : Shape := ⟨2, ![8, 512]⟩
abbrev S8x512x1 : Shape := ⟨3, ![8, 512, 1]⟩
abbrev S8x512x128 : Shape := ⟨3, ![8, 512, 128]⟩
abbrev S16x4096x512 : Shape := ⟨3, ![16, 4096, 512]⟩
abbrev S1x1x4096x128 : Shape := ⟨4, ![1, 1, 4096, 128]⟩
abbrev S1x4096x128 : Shape := ⟨3, ![1, 4096, 128]⟩
abbrev S8x2x512x128 : Shape := ⟨4, ![8, 2, 512, 128]⟩
abbrev S1x1x512x128 : Shape := ⟨4, ![1, 1, 512, 128]⟩
abbrev S512x256 : Shape := ⟨2, ![512, 256]⟩
abbrev S1x512x128 : Shape := ⟨3, ![1, 512, 128]⟩

abbrev nBuf : Space → Nat
  | .hbm => 143
  | .vmem => 11
  | .smem => 0
  | _ => 0

abbrev hbmTy0_0 (i : Nat) : BufTy := match i % 128 with
  | 0 => ⟨S16x8x4096x128, .f32⟩
  | 1 => ⟨S512, .i32⟩
  | 2 => ⟨S4, .i32⟩
  | 3 => ⟨S_, .i32⟩
  | 4 => ⟨S4, .i32⟩
  | 5 => ⟨S4, .i32⟩
  | 6 => ⟨S128, .i32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S512x1, .i32⟩
  | 14 => ⟨S1x4, .i32⟩
  | 15 => ⟨S512x4, .i32⟩
  | 16 => ⟨S512x4, .i32⟩
  | 17 => ⟨S512x4, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S512x4, .i32⟩
  | 25 => ⟨S512x4, .i32⟩
  | 26 => ⟨S_, .i32⟩
  | 27 => ⟨S512x4, .i32⟩
  | 28 => ⟨S512x4, .i1⟩
  | 29 => ⟨S_, .i32⟩
  | 30 => ⟨S512x4, .i32⟩
  | 31 => ⟨S512x4, .i1⟩
  | 32 => ⟨S_, .i32⟩
  | 33 => ⟨S_, .i1⟩
  | 34 => ⟨S512x4, .i1⟩
  | 35 => ⟨S512x4, .i1⟩
  | 36 => ⟨S512x4, .i1⟩
  | 37 => ⟨S512x4, .i32⟩
  | 38 => ⟨S512x4, .i32⟩
  | 39 => ⟨S512x4, .i32⟩
  | 40 => ⟨S512x4, .f32⟩
  | 41 => ⟨S512x4, .f32⟩
  | 42 => ⟨S512x4, .f32⟩
  | 43 => ⟨S512x1, .i32⟩
  | 44 => ⟨S1x128, .i32⟩
  | 45 => ⟨S512x128, .i32⟩
  | 46 => ⟨S512x128, .i32⟩
  | 47 => ⟨S512x128, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S512x128, .i32⟩
  | 55 => ⟨S512x128, .i32⟩
  | 56 => ⟨S_, .i32⟩
  | 57 => ⟨S512x128, .i32⟩
  | 58 => ⟨S512x128, .i1⟩
  | 59 => ⟨S_, .i32⟩
  | 60 => ⟨S512x128, .i32⟩
  | 61 => ⟨S512x128, .i1⟩
  | 62 => ⟨S_, .i32⟩
  | 63 => ⟨S_, .i1⟩
  | 64 => ⟨S512x128, .i1⟩
  | 65 => ⟨S512x128, .i1⟩
  | 66 => ⟨S512x128, .i1⟩
  | 67 => ⟨S512x128, .i32⟩
  | 68 => ⟨S512x128, .i32⟩
  | 69 => ⟨S512x128, .i32⟩
  | 70 => ⟨S512x128, .f32⟩
  | 71 => ⟨S512x128, .f32⟩
  | 72 => ⟨S512x128, .f32⟩
  | 73 => ⟨S512x4, .f32⟩
  | 74 => ⟨S512x4x1, .f32⟩
  | 75 => ⟨S512x4, .f32⟩
  | 76 => ⟨S512x4x1, .f32⟩
  | 77 => ⟨S512x128, .f32⟩
  | 78 => ⟨S512x1x128, .f32⟩
  | 79 => ⟨S512x128, .f32⟩
  | 80 => ⟨S512x1x128, .f32⟩
  | 81 => ⟨S512x4x128, .f32⟩
  | 82 => ⟨S512x4x128, .f32⟩
  | 83 => ⟨S512x4x128, .f32⟩
  | 84 => ⟨S512x4x128, .f32⟩
  | 85 => ⟨S512x4x128, .f32⟩
  | 86 => ⟨S512x4x128, .f32⟩
  | 87 => ⟨S512x4x128, .f32⟩
  | 88 => ⟨S512x512, .f32⟩
  | 89 => ⟨S512x512, .bf16⟩
  | 90 => ⟨S512x4x128, .f32⟩
  | 91 => ⟨S512x4x128, .f32⟩
  | 92 => ⟨S512x4x128, .f32⟩
  | 93 => ⟨S512x4x128, .f32⟩
  | 94 => ⟨S512x4x128, .f32⟩
  | 95 => ⟨S512x4x128, .f32⟩
  | 96 => ⟨S512x4x128, .f32⟩
  | 97 => ⟨S512x512, .f32⟩
  | 98 => ⟨S512x512, .bf16⟩
  | 99 => ⟨S8, .i32⟩
  | 100 => ⟨S8x1, .i32⟩
  | 101 => ⟨S1x512, .i32⟩
  | 102 => ⟨S8x512, .i32⟩
  | 103 => ⟨S8x512, .i32⟩
  | 104 => ⟨S8x512, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S8x512, .i32⟩
  | 112 => ⟨S8x512, .i32⟩
  | 113 => ⟨S_, .i32⟩
  | 114 => ⟨S8x512, .i32⟩
  | 115 => ⟨S8x512, .i1⟩
  | 116 => ⟨S_, .i32⟩
  | 117 => ⟨S8x512, .i32⟩
  | 118 => ⟨S8x512, .i1⟩
  | 119 => ⟨S_, .i32⟩
  | 120 => ⟨S_, .i1⟩
  | 121 => ⟨S8x512, .i1⟩
  | 122 => ⟨S8x512, .i1⟩
  | 123 => ⟨S8x512, .i1⟩
  | 124 => ⟨S8x512, .i32⟩
  | 125 => ⟨S8x512, .i32⟩
  | 126 => ⟨S8x512, .i32⟩
  | 127 => ⟨S8x512, .f32⟩
  | _ => ⟨S16x8x4096x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S8x512, .f32⟩
  | 7 => ⟨S8x512, .f32⟩
  | 8 => ⟨S8x512, .f32⟩
  | 9 => ⟨S8x512x1, .f32⟩
  | 10 => ⟨S8x512x128, .f32⟩
  | 11 => ⟨S8x512, .f32⟩
  | 12 => ⟨S8x512x1, .f32⟩
  | 13 => ⟨S8x512x128, .f32⟩
  | 14 => ⟨S16x4096x512, .bf16⟩
  | _ => ⟨S16x8x4096x128, .f32⟩

abbrev hbmTy (i : Nat) : BufTy := match i / 128 with
  | 0 => hbmTy0_0 i
  | 1 => hbmTy0_1 i
  | _ => ⟨S16x8x4096x128, .f32⟩

abbrev bufTy : (tb : Table) → Fin (tcTables nBuf tb) → BufTy
  | .hbm, ⟨i, _⟩ => hbmTy i
  | .local _ .vmem, ⟨0, _⟩ => ⟨S1x1x4096x128, .f32⟩
  | .local _ .vmem, ⟨1, _⟩ => ⟨S1x1x4096x128, .f32⟩
  | .local _ .vmem, ⟨2, _⟩ => ⟨S1x1x4096x128, .f32⟩
  | .local _ .vmem, ⟨3, _⟩ => ⟨S1x1x4096x128, .f32⟩
  | .local _ .vmem, ⟨4, _⟩ => ⟨S512x512, .bf16⟩
  | .local _ .vmem, ⟨5, _⟩ => ⟨S512x512, .bf16⟩
  | .local _ .vmem, ⟨6, _⟩ => ⟨S8x512x128, .f32⟩
  | .local _ .vmem, ⟨7, _⟩ => ⟨S8x512x128, .f32⟩
  | .local _ .vmem, ⟨8, _⟩ => ⟨S1x4096x128, .bf16⟩
  | .local _ .vmem, ⟨9, _⟩ => ⟨S1x4096x128, .bf16⟩
  | .local _ .vmem, ⟨10, _⟩ => ⟨S8x2x512x128, .f32⟩
  | _, _ => ⟨S16x8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_3 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_v5 : Ref sig .tc := ⟨.hbm, 57, rfl⟩
abbrev main_call1_v6 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_c_3 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_c_4 : Ref sig .tc := ⟨.hbm, 105, rfl⟩
abbrev main_call2_v0 : Ref sig .tc := ⟨.hbm, 106, rfl⟩
abbrev main_call2_c : Ref sig .tc := ⟨.hbm, 107, rfl⟩
abbrev main_call2_v1 : Ref sig .tc := ⟨.hbm, 108, rfl⟩
abbrev main_call2_c_0 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_c_1 : Ref sig .tc := ⟨.hbm, 113, rfl⟩
abbrev main_call2_v5 : Ref sig .tc := ⟨.hbm, 114, rfl⟩
abbrev main_call2_v6 : Ref sig .tc := ⟨.hbm, 115, rfl⟩
abbrev main_call2_c_2 : Ref sig .tc := ⟨.hbm, 116, rfl⟩
abbrev main_call2_v7 : Ref sig .tc := ⟨.hbm, 117, rfl⟩
abbrev main_call2_v8 : Ref sig .tc := ⟨.hbm, 118, rfl⟩
abbrev main_call2_c_3 : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_call2_v12 : Ref sig .tc := ⟨.hbm, 123, rfl⟩
abbrev main_call2_v13 : Ref sig .tc := ⟨.hbm, 124, rfl⟩
abbrev main_call2_v14 : Ref sig .tc := ⟨.hbm, 125, rfl⟩
abbrev main_v58 : Ref sig .tc := ⟨.hbm, 126, rfl⟩
abbrev main_v59 : Ref sig .tc := ⟨.hbm, 127, rfl⟩
abbrev main_cst_5 : Ref sig .tc := ⟨.hbm, 128, rfl⟩
abbrev main_v60 : Ref sig .tc := ⟨.hbm, 129, rfl⟩
abbrev main_cst_6 : Ref sig .tc := ⟨.hbm, 130, rfl⟩
abbrev main_v61 : Ref sig .tc := ⟨.hbm, 131, rfl⟩
abbrev main_cst_7 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SeqdftIdeal.lean ====
variable {F : FTy → Type} [FloatOps F] [Named F]
def κ : String → Option EReal := fun
  | "minus_root_half" => some ((-((Real.sqrt 2)⁻¹) : ℝ) : EReal)
  | "ortho" => some (((Real.sqrt 524288)⁻¹ : ℝ) : EReal)
  | "root_half" => some (((Real.sqrt 2)⁻¹ : ℝ) : EReal)
  | _ => none
-- ==== SeqdftRefIdeal.lean ====
abbrev S16x8x4096x128 : Shape := ⟨4, ![16, 8, 4096, 128]⟩
abbrev S16x4x4096x128 : Shape := ⟨4, ![16, 4, 4096, 128]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S16x4x128x4096 : Shape := ⟨4, ![16, 4, 128, 4096]⟩
abbrev S16x4096x4x128 : Shape := ⟨4, ![16, 4096, 4, 128]⟩
abbrev S16x4096x512 : Shape := ⟨3, ![16, 4096, 512]⟩

abbrev nBuf : Space → Nat
  | .hbm => 32
  | .vmem => 0
  | .smem => 0
  | _ => 0

abbrev bufTy : (tb : Table) → Fin (tcTables nBuf tb) → BufTy
  | .hbm, ⟨0, _⟩ => ⟨S16x8x4096x128, .f32⟩
  | .hbm, ⟨1, _⟩ => ⟨S16x4x4096x128, .f32⟩
  | .hbm, ⟨2, _⟩ => ⟨S16x4x4096x128, .f32⟩
  | .hbm, ⟨3, _⟩ => ⟨S4096, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x1, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S16x4x128x4096, .f32⟩
  | .hbm, ⟨20, _⟩ => ⟨S16x4x4096x128, .f32⟩
  | .hbm, ⟨21, _⟩ => ⟨S4096x4096, .f32⟩
  | .hbm, ⟨22, _⟩ => ⟨S16x4x128x4096, .f32⟩
  | .hbm, ⟨23, _⟩ => ⟨S16x4x4096x128, .f32⟩
  | .hbm, ⟨24, _⟩ => ⟨S16x4x4096x128, .f32⟩
  | .hbm, ⟨25, _⟩ => ⟨S_, .f32⟩
  | .hbm, ⟨26, _⟩ => ⟨S_, .f32⟩
  | .hbm, ⟨27, _⟩ => ⟨S16x4x4096x128, .f32⟩
  | .hbm, ⟨28, _⟩ => ⟨S16x4x4096x128, .f32⟩
  | .hbm, ⟨29, _⟩ => ⟨S16x4096x4x128, .f32⟩
  | .hbm, ⟨30, _⟩ => ⟨S16x4096x512, .f32⟩
  | .hbm, ⟨31, _⟩ => ⟨S16x4096x512, .bf16⟩
  | _, _ => ⟨S16x8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_2 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== FfnSecond.lean ====
abbrev S2x8192x1024 : Shape := ⟨3, ![2, 8192, 1024]⟩
abbrev S2x6144 : Shape := ⟨2, ![2, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S3x2816 : Shape := ⟨2, ![3, 2816]⟩
abbrev S3x11x256 : Shape := ⟨3, ![3, 11, 256]⟩
abbrev S3x11x512 : Shape := ⟨3, ![3, 11, 512]⟩
abbrev S11x3x512 : Shape := ⟨3, ![11, 3, 512]⟩
abbrev S2816 : Shape := ⟨1, ![2816]⟩
abbrev S11x1x256 : Shape := ⟨3, ![11, 1, 256]⟩
abbrev S11x1x512 : Shape := ⟨3, ![11, 1, 512]⟩
abbrev S_ : Shape := ⟨0, ![]⟩
abbrev S11x256x1024 : Shape := ⟨3, ![11, 256, 1024]⟩
abbrev S2x6x1024 : Shape := ⟨3, ![2, 6, 1024]⟩
abbrev S1x1024 : Shape := ⟨2, ![1, 1024]⟩
abbrev S1x1024x1024 : Shape := ⟨3, ![1, 1024, 1024]⟩
abbrev S1x16x1024 : Shape := ⟨3, ![1, 16, 1024]⟩
abbrev S1x6x1024 : Shape := ⟨3, ![1, 6, 1024]⟩
abbrev S1056x1024 : Shape := ⟨2, ![1056, 1024]⟩
abbrev S4x1056x128 : Shape := ⟨3, ![4, 1056, 128]⟩
abbrev S1024x1024 : Shape := ⟨2, ![1024, 1024]⟩
abbrev S16x1024 : Shape := ⟨2, ![16, 1024]⟩
abbrev S1024x256 : Shape := ⟨2, ![1024, 256]⟩
abbrev S1056x256 : Shape := ⟨2, ![1056, 256]⟩
abbrev S1056x128 : Shape := ⟨2, ![1056, 128]⟩
abbrev S1x1056x128 : Shape := ⟨3, ![1, 1056, 128]⟩
abbrev S1x3x512 : Shape := ⟨3, ![1, 3, 512]⟩
abbrev S3x512 : Shape := ⟨2, ![3, 512]⟩
abbrev S1x1x512 : Shape := ⟨3, ![1, 1, 512]⟩
abbrev S1x512 : Shape := ⟨2, ![1, 512]⟩
abbrev S1x1024x128 : Shape := ⟨3, ![1, 1024, 128]⟩
abbrev S1024x128 : Shape := ⟨2, ![1024, 128]⟩
abbrev S1x128 : Shape := ⟨2, ![1, 128]⟩
abbrev S1x256x1024 : Shape := ⟨3, ![1, 256, 1024]⟩
abbrev S256x1024 : Shape := ⟨2, ![256, 1024]⟩
abbrev S6x1024 : Shape := ⟨2, ![6, 1024]⟩
abbrev S1024x1 : Shape := ⟨2, ![1024, 1]⟩

abbrev nBuf : Space → Nat
  | .hbm => 28
  | .vmem => 21
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S2x6144, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024x5632, .bf16⟩
  | .hbm, ⟨9, _⟩ => ⟨S3x2816, .f32⟩
  | .hbm, ⟨10, _⟩ => ⟨S3x11x256, .f32⟩
  | .hbm, ⟨11, _⟩ => ⟨S3x2816, .f32⟩
  | .hbm, ⟨12, _⟩ => ⟨S3x11x256, .f32⟩
  | .hbm, ⟨13, _⟩ => ⟨S3x11x512, .f32⟩
  | .hbm, ⟨14, _⟩ => ⟨S11x3x512, .f32⟩
  | .hbm, ⟨15, _⟩ => ⟨S2816, .f32⟩
  | .hbm, ⟨16, _⟩ => ⟨S11x1x256, .f32⟩
  | .hbm, ⟨17, _⟩ => ⟨S2816, .f32⟩
  | .hbm, ⟨18, _⟩ => ⟨S11x1x256, .f32⟩
  | .hbm, ⟨19, _⟩ => ⟨S11x1x512, .f32⟩
  | .hbm, ⟨20, _⟩ => ⟨S_, .f32⟩
  | .hbm, ⟨21, _⟩ => ⟨S2816x1024, .f32⟩
  | .hbm, ⟨22, _⟩ => ⟨S2816x1024, .f32⟩
  | .hbm, ⟨23, _⟩ => ⟨S11x256x1024, .f32⟩
  | .hbm, ⟨24, _⟩ => ⟨S11x256x1024, .bf16⟩
  | .hbm, ⟨25, _⟩ => ⟨S2x6x1024, .f32⟩
  | .hbm, ⟨26, _⟩ => ⟨S1x1024, .f32⟩
  | .hbm, ⟨27, _⟩ => ⟨S2x8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1024x5632, .bf16⟩
  | .local _ .vmem, ⟨12, _⟩ => ⟨S11x3x512, .f32⟩
  | .local _ .vmem, ⟨13, _⟩ => ⟨S11x1x512, .f32⟩
  | .local _ .vmem, ⟨14, _⟩ => ⟨S11x256x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S1056x1024, .bf16⟩
  | .local _ .vmem, ⟨18, _⟩ => ⟨S4x1056x128, .f32⟩
  | .local _ .vmem, ⟨19, _⟩ => ⟨S4x1056x128, .f32⟩
  | .local _ .vmem, ⟨20, _⟩ => ⟨S1024x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S11x3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S11x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S11x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnSecondIdeal.lean ====
variable {F : FTy → Type} [FloatOps F] [Named F]
def κ : String → Option EReal := fun
  | "gelu_kc" => some ((80338380498831 / 2251799813685248 : ℝ) : EReal)
  | _ => none
-- ==== FfnSecondRefIdeal.lean ====
abbrev S2x8192x1024 : Shape := ⟨3, ![2, 8192, 1024]⟩
abbrev S2x6144 : Shape := ⟨2, ![2, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x1024 : Shape := ⟨2, ![2, 1024]⟩
abbrev S2x1x1024 : Shape := ⟨3, ![2, 1, 1024]⟩
abbrev S2x8192x5632 : Shape := ⟨3, ![2, 8192, 5632]⟩
abbrev S_ : Shape := ⟨0, ![]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S2x6144, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1x1024, .f32⟩
  | .hbm, ⟨15, _⟩ => ⟨S2x8192x1024, .f32⟩
  | .hbm, ⟨16, _⟩ => ⟨S2x8192x5632, .f32⟩
  | .hbm, ⟨17, _⟩ => ⟨S_, .i32⟩
  | .hbm, ⟨18, _⟩ => ⟨S_, .f32⟩
  | .hbm, ⟨19, _⟩ => ⟨S2x8194x5632, .f32⟩
  | .hbm, ⟨20, _⟩ => ⟨S2x8192x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S2x8192x5632, .f32⟩
  | .hbm, ⟨25, _⟩ => ⟨S2x8192x5632, .f32⟩
  | .hbm, ⟨26, _⟩ => ⟨S1x1x5632, .f32⟩
  | .hbm, ⟨27, _⟩ => ⟨S2x8192x5632, .f32⟩
  | .hbm, ⟨28, _⟩ => ⟨S2x8192x5632, .f32⟩
  | .hbm, ⟨29, _⟩ => ⟨S2x8192x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S2x8192x5632, .f32⟩
  | .hbm, ⟨34, _⟩ => ⟨S2x8192x5632, .f32⟩
  | .hbm, ⟨35, _⟩ => ⟨S2x8192x5632, .f32⟩
  | .hbm, ⟨36, _⟩ => ⟨S2x8192x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S2x8192x5632, .f32⟩
  | .hbm, ⟨41, _⟩ => ⟨S2x8192x5632, .f32⟩
  | .hbm, ⟨42, _⟩ => ⟨S2x8192x5632, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S2x8192x2816, .f32⟩
  | .hbm, ⟨47, _⟩ => ⟨S_, .f32⟩
  | .hbm, ⟨48, _⟩ => ⟨S2x8192x2816, .f32⟩
  | .hbm, ⟨49, _⟩ => ⟨S2x8192x2816, .f32⟩
  | .hbm, ⟨50, _⟩ => ⟨S2x8192x2816, .f32⟩
  | .hbm, ⟨51, _⟩ => ⟨S_, .f32⟩
  | .hbm, ⟨52, _⟩ => ⟨S2x8192x2816, .f32⟩
  | .hbm, ⟨53, _⟩ => ⟨S2x8192x2816, .f32⟩
  | .hbm, ⟨54, _⟩ => ⟨S2x8192x2816, .f32⟩
  | .hbm, ⟨55, _⟩ => ⟨S_, .f32⟩
  | .hbm, ⟨56, _⟩ => ⟨S2x8192x2816, .f32⟩
  | .hbm, ⟨57, _⟩ => ⟨S2x8192x2816, .f32⟩
  | .hbm, ⟨58, _⟩ => ⟨S_, .f32⟩
  | .hbm, ⟨59, _⟩ => ⟨S2x8192x2816, .f32⟩
  | .hbm, ⟨60, _⟩ => ⟨S2x8192x2816, .f32⟩
  | .hbm, ⟨61, _⟩ => ⟨S2x8192x2816, .f32⟩
  | .hbm, ⟨62, _⟩ => ⟨S2x8192x2816, .f32⟩
  | .hbm, ⟨63, _⟩ => ⟨S2x8192x1024, .f32⟩
  | .hbm, ⟨64, _⟩ => ⟨S2x8192x1024, .f32⟩
  | .hbm, ⟨65, _⟩ => ⟨S_, .f32⟩
  | .hbm, ⟨66, _⟩ => ⟨S2x8192, .f32⟩
  | .hbm, ⟨67, _⟩ => ⟨S2x8192x1, .f32⟩
  | .hbm, ⟨68, _⟩ => ⟨S_, .f32⟩
  | .hbm, ⟨69, _⟩ => ⟨S2x8192x1, .f32⟩
  | .hbm, ⟨70, _⟩ => ⟨S2x8192x1, .f32⟩
  | .hbm, ⟨71, _⟩ => ⟨S_, .f32⟩
  | .hbm, ⟨72, _⟩ => ⟨S2x8192x1, .f32⟩
  | .hbm, ⟨73, _⟩ => ⟨S2x8192x1, .f32⟩
  | .hbm, ⟨74, _⟩ => ⟨S2x8192x1, .f32⟩
  | .hbm, ⟨75, _⟩ => ⟨S2x8192x1024, .f32⟩
  | .hbm, ⟨76, _⟩ => ⟨S2x8192x1024, .f32⟩
  | .hbm, ⟨77, _⟩ => ⟨S1x1x1024, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S2x8192x1024, .f32⟩
  | .hbm, ⟨82, _⟩ => ⟨S2x8192x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_0 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_1 : Ref sig .tc := ⟨.hbm, 55, rfl⟩
abbrev main_v43 : Ref sig .tc := ⟨.hbm, 56, rfl⟩
abbrev main_v44 : Ref sig .tc := ⟨.hbm, 57, rfl⟩
abbrev main_cst_2 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_3 : Ref sig .tc := ⟨.hbm, 65, rfl⟩
abbrev main_v51 : Ref sig .tc := ⟨.hbm, 66, rfl⟩
abbrev main_v52 : Ref sig .tc := ⟨.hbm, 67, rfl⟩
abbrev main_cst_4 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== Proof.FfnBlock.lean ====
/- One block of the feed-forward kernel, written once over the vector operations: the up projection of a chunk of
   the hidden axis, its depthwise convolution, the gated activation, the down projection, and the last
   normalisation; and that the body's run leaves exactly this in its output block. The operations do not name the
   program's memory, so they serve for every program whose blocks have these shapes. -/
module

public import proofs.«01_k».proof.Proof.Gen.FfnIdeal.Value

@[expose] public section

set_option maxRecDepth 65536
set_option maxHeartbeats 20000000

noncomputable section

namespace Cert.FfnIdeal.Block

open Idealize.ShloMosaic Idealize.ShloMosaic.TcCoe Idealize.SL.Sem Cert.FfnIdeal Cert.FfnIdeal.Gen

variable {F : FTy → Type} [FloatOps F] [Named F] {σ : RefSig}

/-- The halo rows before the block: the previous rows, or zero at the first block of the sequence. -/
def above (i : grid0.Coords) (x1 : Vec F S1x16x1024 .bf16) : FVec F S16x1024 .bf16 := k0_pay2 i x1

/-- The halo rows after the block: the next rows, or zero at the last block. -/
def below (i : grid0.Coords) (x2 : Vec F S1x16x1024 .bf16) : FVec F S16x1024 .bf16 := k0_pay4 i x2

/-- The three stores that assemble the block with its halo. -/
def rowsL (top : FVec F S16x1024 .bf16) (x0 : Vec F S1x1024x1024 .bf16) (bot : FVec F S16x1024 .bf16) :
    List (View.Piece (Elt F) S1056x1024 .bf16) :=
  [⟨Rect.unit ![1040, 0] S16x1024.size inb_S1056x1024_S16x1024_1040_0, bot⟩,
   ⟨Rect.unit ![16, 0] S1024x1024.size inb_S1056x1024_S1024x1024_16_0, k0_pay3 x0⟩,
   ⟨Rect.unit ![0, 0] S16x1024.size inb_S1056x1024_S16x1024_0_0, top⟩]

/-- The up projection of the block with its halo onto 256 columns. -/
def up (hc : Vec F S1056x1024 .bf16) (w : Vec F S1024x256 .bf16) : FVec F S1056x256 .f32 :=
  matmul dot_S1056x1024_S1024x256_S1056x256_1_0_0_1_n_n none hc (shapeCast S1024x256 w shapeCasts_S1024x256_S1024x256)
    (constant S1056x256 .f32 0x00000000#32)

/-- Its first 128 columns as one slab. -/
def slabLo (u : FVec F S1056x256 .f32) : FVec F S1x1056x128 .f32 :=
  shapeCast S1x1056x128 (extractStridedSlice S1056x128 ![0, 0] u slices_S1056x256_o0_0_S1056x128) shapeCasts_S1056x128_S1x1056x128

/-- Its last 128 columns as one slab. -/
def slabHi (u : FVec F S1056x256 .f32) : FVec F S1x1056x128 .f32 :=
  shapeCast S1x1056x128 (extractStridedSlice S1056x128 ![0, 128] u slices_S1056x256_o0_128_S1056x128) shapeCasts_S1056x128_S1x1056x128

/-- The four stores of a chunk: two slabs of the value half, two of the gate half. -/
def slabsL (uv ug : FVec F S1056x256 .f32) (L : List (View.Piece (Elt F) S4x1056x128 .f32)) :
    List (View.Piece (Elt F) S4x1056x128 .f32) :=
  ⟨Rect.unit ![3, 0, 0] S1x1056x128.size inb_S4x1056x128_S1x1056x128_3_0_0, slabHi ug⟩ ::
  ⟨Rect.unit ![2, 0, 0] S1x1056x128.size inb_S4x1056x128_S1x1056x128_2_0_0, slabLo ug⟩ ::
  ⟨Rect.unit ![1, 0, 0] S1x1056x128.size inb_S4x1056x128_S1x1056x128_1_0_0, slabHi uv⟩ ::
  ⟨Rect.unit ![0, 0, 0] S1x1056x128.size inb_S4x1056x128_S1x1056x128_0_0_0, slabLo uv⟩ :: L

/-- The three-tap convolution of one slab of 128 columns, whose weights begin at column `o` of the chunk's. -/
def conv (w : FVec F S3x512 .f32) (cb : FVec F S1x512 .f32) (o : ℕ) (hb : S1x512.Slices ![0, o] S1x128)
    (h0 : S3x512.Slices ![0, o] S1x128) (h1 : S3x512.Slices ![1, o] S1x128) (h2 : S3x512.Slices ![2, o] S1x128)
    (p q r : Vec F S1x1024x128 .f32) : FVec F S1024x128 .f32 :=
  addf (addf (addf (broadcastTo S1024x128 (extractStridedSlice S1x128 ![0, o] cb hb) broadcasts_S1x128_S1024x128)
      (mulf (broadcastTo S1024x128 (extractStridedSlice S1x128 ![0, o] w h0) broadcasts_S1x128_S1024x128)
        (shapeCast S1024x128 p shapeCasts_S1x1024x128_S1024x128)))
      (mulf (broadcastTo S1024x128 (extractStridedSlice S1x128 ![1, o] w h1) broadcasts_S1x128_S1024x128)
        (shapeCast S1024x128 q shapeCasts_S1x1024x128_S1024x128)))
      (mulf (broadcastTo S1024x128 (extractStridedSlice S1x128 ![2, o] w h2) broadcasts_S1x128_S1024x128)
        (shapeCast S1024x128 r shapeCasts_S1x1024x128_S1024x128))

/-- The gated activation of one slab (twice the layer's: the half is in the down projection's weights). -/
def gated (g v : FVec F S1024x128 .f32) : FVec F S1024x128 .f32 :=
  addf (mulf g v) (mulf (mulf g v) (tanh (mulf g (addf (broadcast S1024x128 (Scalar.ofBits .f32 0x3F4C422A#32))
    (mulf (broadcast S1024x128 (Named.named κ "gelu_kc" 0x3D122279#32)) (mulf g g))))))

/-- The 256 activations of a chunk, from the four convolved slabs. -/
def acts (v0 v1 g0 g1 : FVec F S1024x128 .f32) : FVec F S1024x256 .bf16 :=
  truncf .bf16 (concatenate S1024x256 1 [⟨S1024x128, gated g0 v0⟩, ⟨S1024x128, gated g1 v1⟩]
    concatenates_S1024x128_S1024x128_S1024x256_d1) bitsLt_bf16_f32

/-- What a chunk adds to the block's sum: its activations times its rows of the down projection. The slabs are
    loaded three times each, one row apart, from the stores `L`. -/
def part (v : View σ .tc .vmem S4x1056x128 .f32) (L : List (View.Piece (Elt F) S4x1056x128 .f32))
    (w : Vec F S1x3x512 .f32) (cb : Vec F S1x1x512 .f32) (wd : Vec F S1x256x1024 .bf16) : FVec F S1024x1024 .f32 :=
  matmul dot_S1024x256_S256x1024_S1024x1024_1_0_0_1_n_n none
    (acts
      (conv (shapeCast S3x512 w shapeCasts_S1x3x512_S3x512) (shapeCast S1x512 cb shapeCasts_S1x1x512_S1x512) 0
        slices_S1x512_o0_0_S1x128 slices_S3x512_o0_0_S1x128 slices_S3x512_o1_0_S1x128 slices_S3x512_o2_0_S1x128
        (v.readCov L (Rect.unit (s := S4x1056x128) ![0, 15, 0] S1x1024x128.size inb_S4x1056x128_S1x1024x128_0_15_0).toLoadRect)
        (v.readCov L (Rect.unit (s := S4x1056x128) ![0, 16, 0] S1x1024x128.size inb_S4x1056x128_S1x1024x128_0_16_0).toLoadRect)
        (v.readCov L (Rect.unit (s := S4x1056x128) ![0, 17, 0] S1x1024x128.size inb_S4x1056x128_S1x1024x128_0_17_0).toLoadRect))
      (conv (shapeCast S3x512 w shapeCasts_S1x3x512_S3x512) (shapeCast S1x512 cb shapeCasts_S1x1x512_S1x512) 128
        slices_S1x512_o0_128_S1x128 slices_S3x512_o0_128_S1x128 slices_S3x512_o1_128_S1x128 slices_S3x512_o2_128_S1x128
        (v.readCov L (Rect.unit (s := S4x1056x128) ![1, 15, 0] S1x1024x128.size inb_S4x1056x128_S1x1024x128_1_15_0).toLoadRect)
        (v.readCov L (Rect.unit (s := S4x1056x128) ![1, 16, 0] S1x1024x128.size inb_S4x1056x128_S1x1024x128_1_16_0).toLoadRect)
        (v.readCov L (Rect.unit (s := S4x1056x128) ![1, 17, 0] S1x1024x128.size inb_S4x1056x128_S1x1024x128_1_17_0).toLoadRect))
      (conv (shapeCast S3x512 w shapeCasts_S1x3x512_S3x512) (shapeCast S1x512 cb shapeCasts_S1x1x512_S1x512) 256
        slices_S1x512_o0_256_S1x128 slices_S3x512_o0_256_S1x128 slices_S3x512_o1_256_S1x128 slices_S3x512_o2_256_S1x128
        (v.readCov L (Rect.unit (s := S4x1056x128) ![2, 15, 0] S1x1024x128.size inb_S4x1056x128_S1x1024x128_2_15_0).toLoadRect)
        (v.readCov L (Rect.unit (s := S4x1056x128) ![2, 16, 0] S1x1024x128.size inb_S4x1056x128_S1x1024x128_2_16_0).toLoadRect)
        (v.readCov L (Rect.unit (s := S4x1056x128) ![2, 17, 0] S1x1024x128.size inb_S4x1056x128_S1x1024x128_2_17_0).toLoadRect))
      (conv (shapeCast S3x512 w shapeCasts_S1x3x512_S3x512) (shapeCast S1x512 cb shapeCasts_S1x1x512_S1x512) 384
        slices_S1x512_o0_384_S1x128 slices_S3x512_o0_384_S1x128 slices_S3x512_o1_384_S1x128 slices_S3x512_o2_384_S1x128
        (v.readCov L (Rect.unit (s := S4x1056x128) ![3, 15, 0] S1x1024x128.size inb_S4x1056x128_S1x1024x128_3_15_0).toLoadRect)
        (v.readCov L (Rect.unit (s := S4x1056x128) ![3, 16, 0] S1x1024x128.size inb_S4x1056x128_S1x1024x128_3_16_0).toLoadRect)
        (v.readCov L (Rect.unit (s := S4x1056x128) ![3, 17, 0] S1x1024x128.size inb_S4x1056x128_S1x1024x128_3_17_0).toLoadRect)))
    (shapeCast S256x1024 wd shapeCasts_S1x256x1024_S256x1024) (constant S1024x1024 .f32 0x00000000#32)

/-- The stores of the running sum after the first chunk. -/
def sumL0 (p : FVec F S1024x1024 .f32) : List (View.Piece (Elt F) S1024x1024 .f32) :=
  [⟨Rect.unit ![0, 0] S1024x1024.size inb_S1024x1024_S1024x1024_0_0, shapeCast S1024x1024 p shapeCasts_S1024x1024_S1024x1024⟩]

/-- The running sum as a chunk reads it back. -/
def sumOf (v : View σ .tc .vmem S1024x1024 .f32) (L : List (View.Piece (Elt F) S1024x1024 .f32)) : Vec F S1024x1024 .f32 :=
  v.readCov L (Rect.unit (s := S1024x1024) ![0, 0] S1024x1024.size inb_S1024x1024_S1024x1024_0_0).toLoadRect

/-- The stores of the running sum after one more chunk. -/
def sumL (v : View σ .tc .vmem S1024x1024 .f32) (p : FVec F S1024x1024 .f32) (L : List (View.Piece (Elt F) S1024x1024 .f32)) :
    List (View.Piece (Elt F) S1024x1024 .f32) :=
  ⟨Rect.unit ![0, 0] S1024x1024.size inb_S1024x1024_S1024x1024_0_0,
    shapeCast S1024x1024 (addf (sumOf v L) p) shapeCasts_S1024x1024_S1024x1024⟩ :: L

/-- The block's result: the input plus the scaled normalisation of the sum. -/
def finish (x3 : Vec F S1x1024x1024 .f32) (x4 : Vec F S1x6x1024 .f32) (x5 : Vec F S1x1024 .f32) (a : Vec F S1024x1024 .f32) :
    FVec F S1x1024x1024 .f32 :=
  k0_pay1 (k0_pay210 x3) a (k0_pay211 (k0_pay209 x4) x5) (k0_pay212 a)

section
variable (v13 : View σ .tc .vmem S1056x1024 .bf16) (v14 v15 : View σ .tc .vmem S4x1056x128 .f32)
  (v16 : View σ .tc .vmem S1024x1024 .f32)
  (rows : List (View.Piece (Elt F) S1056x1024 .bf16))
  (wup : (o : ℕ) → (∀ a, ![0, o] a + S1024x256.size a ≤ S1024x5632.size a) → Vec F S1024x256 .bf16)
  (w : (o : ℕ) → (∀ a, ![o, 0, 0] a + S1x3x512.size a ≤ S11x3x512.size a) → Vec F S1x3x512 .f32)
  (cb : (o : ℕ) → (∀ a, ![o, 0, 0] a + S1x1x512.size a ≤ S11x1x512.size a) → Vec F S1x1x512 .f32)
  (wd : (o : ℕ) → (∀ a, ![o, 0, 0] a + S1x256x1024.size a ≤ S11x256x1024.size a) → Vec F S1x256x1024 .bf16)

/-- The block with its halo, read back from its three stores. -/
def hcat : Vec F S1056x1024 .bf16 :=
  v13.readCov rows (Rect.unit (s := S1056x1024) ![0, 0] S1056x1024.size inb_S1056x1024_S1056x1024_0_0).toLoadRect

/-- The stores of the two up-projection buffers when chunk `c` is convolved: even chunks in the one, odd in the other. -/
def upsL : (c : ℕ) → c < 11 → List (View.Piece (Elt F) S4x1056x128 .f32)
  | 0, _ => slabsL (up (hcat v13 rows) (wup 0 (by decide))) (up (hcat v13 rows) (wup 2816 (by decide))) []
  | 1, _ => slabsL (up (hcat v13 rows) (wup 256 (by decide))) (up (hcat v13 rows) (wup 3072 (by decide))) []
  | c + 2, h => slabsL
      (up (hcat v13 rows) (wup ((c + 2) * 256) (by intro a; fin_cases a <;> simp [S1024x256, S1024x5632] <;> omega)))
      (up (hcat v13 rows) (wup (2816 + (c + 2) * 256) (by intro a; fin_cases a <;> simp [S1024x256, S1024x5632] <;> omega)))
      (upsL c (by omega))

/-- What chunk `c` adds. -/
def chunk (c : ℕ) (h : c < 11) : FVec F S1024x1024 .f32 :=
  part (if c % 2 = 0 then v14 else v15) (upsL v13 rows wup c h)
    (w c (by intro a; fin_cases a <;> simp [S1x3x512, S11x3x512] <;> omega))
    (cb c (by intro a; fin_cases a <;> simp [S1x1x512, S11x1x512] <;> omega))
    (wd c (by intro a; fin_cases a <;> simp [S1x256x1024, S11x256x1024] <;> omega))

/-- The stores of the running sum after chunk `c`. -/
def accL : (c : ℕ) → c < 11 → List (View.Piece (Elt F) S1024x1024 .f32)
  | 0, h => sumL0 (chunk v13 v14 v15 rows wup w cb wd 0 h)
  | c + 1, h => sumL v16 (chunk v13 v14 v15 rows wup w cb wd (c + 1) h) (accL c (by omega))
end

/-- What the body leaves in its output block: `finish` of the sum over the eleven chunks. The halo's rows come from their
    blocks through `top` and `bot`. -/
def bodyOut (top bot : Vec F S1x16x1024 .bf16 → FVec F S16x1024 .bf16)
    (arg2 : Memref σ .tc .vmem S1x1024x1024 .bf16) (harg2 : arg2.IsWhole)
    (arg3 : Memref σ .tc .vmem S1x16x1024 .bf16) (harg3 : arg3.IsWhole)
    (arg4 : Memref σ .tc .vmem S1x16x1024 .bf16) (harg4 : arg4.IsWhole)
    (arg5 : Memref σ .tc .vmem S1x1024x1024 .f32) (harg5 : arg5.IsWhole)
    (arg6 : Memref σ .tc .vmem S1x6x1024 .f32) (harg6 : arg6.IsWhole)
    (arg7 : Memref σ .tc .vmem S1x1024 .f32) (harg7 : arg7.IsWhole)
    (arg8 : Memref σ .tc .vmem S1024x5632 .bf16) (harg8 : arg8.IsWhole)
    (arg9 : Memref σ .tc .vmem S11x3x512 .f32) (harg9 : arg9.IsWhole)
    (arg10 : Memref σ .tc .vmem S11x1x512 .f32) (harg10 : arg10.IsWhole)
    (arg11 : Memref σ .tc .vmem S11x256x1024 .bf16) (harg11 : arg11.IsWhole)
    (arg13 : Memref σ .tc .vmem S1056x1024 .bf16)
    (arg14 : Memref σ .tc .vmem S4x1056x128 .f32)
    (arg15 : Memref σ .tc .vmem S4x1056x128 .f32)
    (arg16 : Memref σ .tc .vmem S1024x1024 .f32)
    (x0 : Vec F S1x1024x1024 .bf16) (x1 : Vec F S1x16x1024 .bf16) (x2 : Vec F S1x16x1024 .bf16)
    (x3 : Vec F S1x1024x1024 .f32) (x4 : Vec F S1x6x1024 .f32) (x5 : Vec F S1x1024 .f32)
    (x6 : Vec F S1024x5632 .bf16) (x7 : Vec F S11x3x512 .f32) (x8 : Vec F S11x1x512 .f32) (x9 : Vec F S11x256x1024 .bf16) : FVec F S1x1024x1024 .f32 :=
    finish (View.readAt (Elt F) arg5.view (Rect.unit ![0, 0, 0] S1x1024x1024.size inb_S1x1024x1024_S1x1024x1024_0_0_0).toLoadRect (harg5.unread x3))
      (View.readAt (Elt F) arg6.view (Rect.unit ![0, 0, 0] S1x6x1024.size inb_S1x6x1024_S1x6x1024_0_0_0).toLoadRect (harg6.unread x4))
      (View.readAt (Elt F) arg7.view (Rect.unit ![0, 0] S1x1024.size inb_S1x1024_S1x1024_0_0).toLoadRect (harg7.unread x5))
      (sumOf arg16.view (accL arg13.view arg14.view arg15.view arg16.view
        (rowsL (top (View.readAt (Elt F) arg3.view (Rect.unit ![0, 0, 0] S1x16x1024.size inb_S1x16x1024_S1x16x1024_0_0_0).toLoadRect (harg3.unread x1)))
          (View.readAt (Elt F) arg2.view (Rect.unit ![0, 0, 0] S1x1024x1024.size inb_S1x1024x1024_S1x1024x1024_0_0_0).toLoadRect (harg2.unread x0))
          (bot (View.readAt (Elt F) arg4.view (Rect.unit ![0, 0, 0] S1x16x1024.size inb_S1x16x1024_S1x16x1024_0_0_0).toLoadRect (harg4.unread x2))))
        (fun o h => View.readAt (Elt F) arg8.view (Rect.unit (s := S1024x5632) ![0, o] S1024x256.size h).toLoadRect (harg8.unread x6))
        (fun o h => View.readAt (Elt F) arg9.view (Rect.unit (s := S11x3x512) ![o, 0, 0] S1x3x512.size h).toLoadRect (harg9.unread x7))
        (fun o h => View.readAt (Elt F) arg10.view (Rect.unit (s := S11x1x512) ![o, 0, 0] S1x1x512.size h).toLoadRect (harg10.unread x8))
        (fun o h => View.readAt (Elt F) arg11.view (Rect.unit (s := S11x256x1024) ![o, 0, 0] S1x256x1024.size h).toLoadRect (harg11.unread x9))
        10 (by decide)))

/-- The body's run leaves this. -/
theorem out_eq (c : Dev nD) (i : grid0.Coords)
    (arg2 : Memref sig .tc .vmem S1x1024x1024 .bf16) (harg2 : arg2.IsWhole)
    (arg3 : Memref sig .tc .vmem S1x16x1024 .bf16) (harg3 : arg3.IsWhole)
    (arg4 : Memref sig .tc .vmem S1x16x1024 .bf16) (harg4 : arg4.IsWhole)
    (arg5 : Memref sig .tc .vmem S1x1024x1024 .f32) (harg5 : arg5.IsWhole)
    (arg6 : Memref sig .tc .vmem S1x6x1024 .f32) (harg6 : arg6.IsWhole)
    (arg7 : Memref sig .tc .vmem S1x1024 .f32) (harg7 : arg7.IsWhole)
    (arg8 : Memref sig .tc .vmem S1024x5632 .bf16) (harg8 : arg8.IsWhole)
    (arg9 : Memref sig .tc .vmem S11x3x512 .f32) (harg9 : arg9.IsWhole)
    (arg10 : Memref sig .tc .vmem S11x1x512 .f32) (harg10 : arg10.IsWhole)
    (arg11 : Memref sig .tc .vmem S11x256x1024 .bf16) (harg11 : arg11.IsWhole)
    (arg12 : Memref sig .tc .vmem S1x1024x1024 .f32) (harg12 : arg12.IsWhole)
    (arg13 : Memref sig .tc .vmem S1056x1024 .bf16) (harg13 : arg13.IsWhole)
    (arg14 : Memref sig .tc .vmem S4x1056x128 .f32) (harg14 : arg14.IsWhole)
    (arg15 : Memref sig .tc .vmem S4x1056x128 .f32) (harg15 : arg15.IsWhole)
    (arg16 : Memref sig .tc .vmem S1024x1024 .f32) (harg16 : arg16.IsWhole)
    (x0 : Vec F S1x1024x1024 .bf16) (x1 : Vec F S1x16x1024 .bf16) (x2 : Vec F S1x16x1024 .bf16)
    (x3 : Vec F S1x1024x1024 .f32) (x4 : Vec F S1x6x1024 .f32) (x5 : Vec F S1x1024 .f32)
    (x6 : Vec F S1024x5632 .bf16) (x7 : Vec F S11x3x512 .f32) (x8 : Vec F S11x1x512 .f32) (x9 : Vec F S11x256x1024 .bf16) :
    out0_A_10 c i arg2 harg2 arg3 harg3 arg4 harg4 arg5 harg5 arg6 harg6 arg7 harg7 arg8 harg8 arg9 harg9 arg10 harg10
      arg11 harg11 arg12 harg12 arg13 harg13 arg14 harg14 arg15 harg15 arg16 harg16 x0 x1 x2 x3 x4 x5 x6 x7 x8 x9 =
    bodyOut (above i) (below i) arg2 harg2 arg3 harg3 arg4 harg4 arg5 harg5 arg6 harg6 arg7 harg7 arg8 harg8 arg9 harg9 arg10 harg10
      arg11 harg11
      arg13 arg14 arg15 arg16 x0 x1 x2 x3 x4 x5 x6 x7 x8 x9 := by
  unfold out0_A_10
  rw [View.read_writes_junk_eq_canon]
  refine (View.canon_unit_zero (S := S1x1024x1024) (by decide) inb_S1x1024x1024_S1x1024x1024_0_0_0 _).trans ?_
  rfl

end Cert.FfnIdeal.Block
end
end
-- ==== Proof.FfnBlockAt.lean ====
/- One block of the feed-forward kernel read at an index, over the extended reals: the block's result at row `r` and
   column `d` as sums over the model axis and over the eleven chunks of the hidden axis. -/
module

public import proofs.«01_k».proof.Proof.FfnBlock
public import Idealize.ShloMosaic.Lib.Pointwise

@[expose] public section

set_option maxRecDepth 16384

noncomputable section

namespace Cert.FfnIdeal.Block

open Idealize.ShloMosaic Idealize.ShloMosaic.TcCoe Idealize.SL.Sem Cert.FfnIdeal Cert.FfnIdeal.Gen

variable {σ : RefSig}

/-! ## Stores read back at an index -/

/-- An index inside the newest store reads its payload. -/
theorem canon_hit {S : Shape} {e : EltTy} {off size : Fin S.rank → ℕ} (inb : ∀ a, off a + size a ≤ S.size a)
    (w : (Rect.unit off size inb).shape.Idx → Elt Ideal e) (L : List (View.Piece (Elt Ideal) S e)) (y : S.Idx)
    (x : (Rect.unit off size inb).shape.Idx) (h : ∀ a, (y a).val = off a + (x a).val) :
    View.canon ((⟨Rect.unit off size inb, w⟩ : View.Piece (Elt Ideal) S e) :: L) y = w x := by
  have : y = (Rect.unit off size inb).emb x := by
    funext a; apply Fin.ext; rw [h a]; simp [Rect.emb, Rect.unit]
  rw [this]; exact View.canon_cons_emb _ w L x

/-- An index outside it reads the older stores. -/
theorem canon_miss {S : Shape} {e : EltTy} {off size : Fin S.rank → ℕ} (inb : ∀ a, off a + size a ≤ S.size a)
    (w : (Rect.unit off size inb).shape.Idx → Elt Ideal e) (L : List (View.Piece (Elt Ideal) S e)) (y : S.Idx)
    (a : Fin S.rank) (h : (y a).val < off a ∨ off a + size a ≤ (y a).val) :
    View.canon ((⟨Rect.unit off size inb, w⟩ : View.Piece (Elt Ideal) S e) :: L) y = View.canon L y := by
  refine View.canon_cons_of_not_mem _ L ?_
  rw [Rect.mem_set_unit]; intro hm; have := hm a; omega

/-- A load at an index is the stores' contents at its place. -/
theorem readCov_at {S : Shape} {e : EltTy} (v : View σ .tc .vmem S e) (L : List (View.Piece (Elt Ideal) S e))
    {off size : Fin S.rank → ℕ} (inb : ∀ a, off a + size a ≤ S.size a) (x : (Rect.unit off size inb).shape.Idx) (y : S.Idx)
    (h : ∀ a, (y a).val = off a + (x a).val) :
    v.readCov L (Rect.unit off size inb).toLoadRect x = View.canon L y := by
  rw [View.readCov_eq_canon']
  have : (Rect.unit off size inb).toLoadRect.idx x = y := by
    funext a; apply Fin.ext; rw [h a]; simp [Rect.unit, LoadRect.idx, Rect.toLoadRect]
  exact congrArg _ this

/-- The block with its halo at row `r`. -/
def rowAt (top : FVec Ideal S16x1024 .bf16) (x0 : Vec Ideal S1x1024x1024 .bf16) (bot : FVec Ideal S16x1024 .bf16) (r : Fin 1056) (j : Fin 1024) : EReal :=
  if h : r.val < 16 then top (ix2 ⟨r.val, h⟩ j)
  else if h2 : r.val < 1040 then x0 (ix3 0 ⟨r.val - 16, by omega⟩ j)
  else bot (ix2 ⟨r.val - 1040, by omega⟩ j)

theorem hcat_at (v : View σ .tc .vmem S1056x1024 .bf16) (top : FVec Ideal S16x1024 .bf16)
    (x0 : Vec Ideal S1x1024x1024 .bf16) (bot : FVec Ideal S16x1024 .bf16) (r : Fin 1056) (j : Fin 1024) :
    hcat v (rowsL top x0 bot) (ix2 r j) = rowAt top x0 bot r j := by
  unfold hcat rowsL rowAt
  refine (readCov_at v _ _ (ix2 r j) (ix2 r j) (by intro a; fin_cases a <;> simp [ix2])).trans ?_
  by_cases h : r.val < 16
  · rw [dif_pos h]
    refine (canon_miss _ _ _ _ 0 (by left; simp [ix2]; omega)).trans ?_
    refine (canon_miss _ _ _ _ 0 (by left; simp [ix2]; omega)).trans ?_
    refine (canon_hit (S := S1056x1024) (e := .bf16) (off := ![0, 0]) (size := S16x1024.size) inb_S1056x1024_S16x1024_0_0 top [] (ix2 r j) (ix2 ⟨r.val, h⟩ j) (by intro a; fin_cases a <;> simp [ix2])).trans ?_
    rfl
  · rw [dif_neg h]
    by_cases h2 : r.val < 1040
    · rw [dif_pos h2]
      refine (canon_miss _ _ _ _ 0 (by left; simp [ix2]; omega)).trans ?_
      refine (canon_hit _ _ _ _ (ix2 ⟨r.val - 16, by omega⟩ j) (by intro a; fin_cases a <;> simp [ix2]; omega)).trans ?_
      pointwise [k0_pay3]
    · rw [dif_neg h2]
      refine (canon_hit (S := S1056x1024) (e := .bf16) (off := ![1040, 0]) (size := S16x1024.size) inb_S1056x1024_S16x1024_1040_0 bot _ (ix2 r j) (ix2 ⟨r.val - 1040, by omega⟩ j) (by intro a; fin_cases a <;> simp [ix2]; omega)).trans ?_
      rfl

/-- A slab's load from its chunk's stores, `o` rows down: the up projection at row `o + r`. -/
theorem load_at (v : View σ .tc .vmem S4x1056x128 .f32) (uv ug : FVec Ideal S1056x256 .f32)
    (L : List (View.Piece (Elt Ideal) S4x1056x128 .f32)) (o : ℕ) (ho : o ≤ 32) (r : Fin 1024) (l : Fin 128) :
    (∀ inb, v.readCov (slabsL uv ug L) (Rect.unit (s := S4x1056x128) ![0, o, 0] S1x1024x128.size inb).toLoadRect (ix3 0 r l)
      = uv (ix2 ⟨o + r.val, by omega⟩ ⟨l.val, by omega⟩)) ∧
    (∀ inb, v.readCov (slabsL uv ug L) (Rect.unit (s := S4x1056x128) ![1, o, 0] S1x1024x128.size inb).toLoadRect (ix3 0 r l)
      = uv (ix2 ⟨o + r.val, by omega⟩ ⟨128 + l.val, by omega⟩)) ∧
    (∀ inb, v.readCov (slabsL uv ug L) (Rect.unit (s := S4x1056x128) ![2, o, 0] S1x1024x128.size inb).toLoadRect (ix3 0 r l)
      = ug (ix2 ⟨o + r.val, by omega⟩ ⟨l.val, by omega⟩)) ∧
    (∀ inb, v.readCov (slabsL uv ug L) (Rect.unit (s := S4x1056x128) ![3, o, 0] S1x1024x128.size inb).toLoadRect (ix3 0 r l)
      = ug (ix2 ⟨o + r.val, by omega⟩ ⟨128 + l.val, by omega⟩)) := by
  refine ⟨fun inb => ?_, fun inb => ?_, fun inb => ?_, fun inb => ?_⟩ <;> unfold slabsL
  · refine (readCov_at v _ _ (ix3 0 r l) (ix3 0 ⟨o + r.val, by omega⟩ l) (by intro a; fin_cases a <;> simp [ix3])).trans ?_
    refine (canon_miss _ _ _ _ 0 (by left; simp [ix3])).trans ?_
    refine (canon_miss _ _ _ _ 0 (by left; simp [ix3])).trans ?_
    refine (canon_miss _ _ _ _ 0 (by left; simp [ix3])).trans ?_
    refine (canon_hit _ _ _ _ (ix3 0 ⟨o + r.val, by omega⟩ l) (by intro a; fin_cases a <;> simp [ix3])).trans ?_
    pointwise [slabLo]
  · refine (readCov_at v _ _ (ix3 0 r l) (ix3 1 ⟨o + r.val, by omega⟩ l) (by intro a; fin_cases a <;> simp [ix3])).trans ?_
    refine (canon_miss _ _ _ _ 0 (by left; simp [ix3])).trans ?_
    refine (canon_miss _ _ _ _ 0 (by left; simp [ix3])).trans ?_
    refine (canon_hit _ _ _ _ (ix3 0 ⟨o + r.val, by omega⟩ l) (by intro a; fin_cases a <;> simp [ix3])).trans ?_
    pointwise [slabHi]
  · refine (readCov_at v _ _ (ix3 0 r l) (ix3 2 ⟨o + r.val, by omega⟩ l) (by intro a; fin_cases a <;> simp [ix3])).trans ?_
    refine (canon_miss _ _ _ _ 0 (by left; simp [ix3])).trans ?_
    refine (canon_hit _ _ _ _ (ix3 0 ⟨o + r.val, by omega⟩ l) (by intro a; fin_cases a <;> simp [ix3])).trans ?_
    pointwise [slabLo]
  · refine (readCov_at v _ _ (ix3 0 r l) (ix3 3 ⟨o + r.val, by omega⟩ l) (by intro a; fin_cases a <;> simp [ix3])).trans ?_
    refine (canon_hit _ _ _ _ (ix3 0 ⟨o + r.val, by omega⟩ l) (by intro a; fin_cases a <;> simp [ix3])).trans ?_
    pointwise [slabHi]

/-! ## The operations at an index -/

theorem up_at (hc : Vec Ideal S1056x1024 .bf16) (w : Vec Ideal S1024x256 .bf16) (r : Fin 1056) (k : Fin 256) :
    up hc w (ix2 r k) = ∑ j : Fin 1024, hc (ix2 r j) * w (ix2 j k) := by
  pointwise [up]

theorem conv_at (w : FVec Ideal S3x512 .f32) (cb : FVec Ideal S1x512 .f32) (o : ℕ) (hb h0 h1 h2) (ho : o + 128 ≤ 512)
    (p q s : Vec Ideal S1x1024x128 .f32) (r : Fin 1024) (l : Fin 128) :
    conv w cb o hb h0 h1 h2 p q s (ix2 r l) =
      cb (ix2 0 ⟨o + l.val, by omega⟩) + w (ix2 0 ⟨o + l.val, by omega⟩) * p (ix3 0 r l)
        + w (ix2 1 ⟨o + l.val, by omega⟩) * q (ix3 0 r l) + w (ix2 2 ⟨o + l.val, by omega⟩) * s (ix3 0 r l) := by
  pointwise [conv]

/-- The gated activation of a gate and a value. -/
def gate (g v : EReal) : EReal :=
  g * v + g * v * Ideal.tanh (g * (Ideal.ofBits .f32 0x3F4C422A#32
    + Named.named (F := Ideal) (φ := .f32) κ "gelu_kc" 0x3D122279#32 * (g * g)))

theorem gated_at (g v : FVec Ideal S1024x128 .f32) (r : Fin 1024) (l : Fin 128) :
    gated g v (ix2 r l) = gate (g (ix2 r l)) (v (ix2 r l)) := by
  pointwise [gated, gate]

theorem acts_at (v0 v1 g0 g1 : FVec Ideal S1024x128 .f32) (r : Fin 1024) (k : Fin 256) :
    acts v0 v1 g0 g1 (ix2 r k) = if h : k.val < 128 then gate (g0 (ix2 r ⟨k.val, h⟩)) (v0 (ix2 r ⟨k.val, h⟩))
      else gate (g1 (ix2 r ⟨k.val - 128, by omega⟩)) (v1 (ix2 r ⟨k.val - 128, by omega⟩)) := by
  pointwise [acts]
  simp only [gated_at]

theorem finish_at (x3 : Vec Ideal S1x1024x1024 .f32) (x4 : Vec Ideal S1x6x1024 .f32) (x5 : Vec Ideal S1x1024 .f32)
    (a : Vec Ideal S1024x1024 .f32) (r d : Fin 1024) :
    finish x3 x4 x5 a (ix3 0 r d) = x3 (ix3 0 r d) + a (ix2 r d)
      * Ideal.rsqrt (Ideal.div (∑ k : Fin 1024, a (ix2 r k) * a (ix2 r k)) (Ideal.ofBits .f32 0x44800000#32) + Ideal.ofBits .f32 0x358637BD#32)
      * (x5 (ix2 0 d) * x4 (ix3 0 5 d)) := by
  pointwise [finish, k0_pay1, k0_pay210, k0_pay211, k0_pay209, k0_pay212]

end Cert.FfnIdeal.Block
end
end
-- ==== Proof.FfnSum.lean ====
/- The eleven chunks of one block of the feed-forward kernel, summed: what the block's output holds at an index as one
   double sum of the input blocks' elements. -/
module

public import proofs.«01_k».proof.Proof.FfnBlockAt

@[expose] public section

set_option maxRecDepth 16384

noncomputable section

namespace Cert.FfnIdeal.Block

open Idealize.ShloMosaic Idealize.ShloMosaic.TcCoe Idealize.SL.Sem Cert.FfnIdeal Cert.FfnIdeal.Gen

/-! ## The sums, over the blocks' elements -/

/-- The up projection of row `r` onto column `k`. -/
def upAt (H : Fin 1056 → Fin 1024 → EReal) (x6 : Vec Ideal S1024x5632 .bf16) (r : Fin 1056) (k : Fin 5632) : EReal :=
  ∑ j : Fin 1024, H r j * x6 (ix2 j k)

/-- The convolution of column `k`, whose weights are column `q` of chunk `c`, at the block's row `r`. -/
def cvAt (H : Fin 1056 → Fin 1024 → EReal) (x6 : Vec Ideal S1024x5632 .bf16) (x7 : Vec Ideal S11x3x512 .f32)
    (x8 : Vec Ideal S11x1x512 .f32) (c : Fin 11) (q : Fin 512) (k : Fin 5632) (r : Fin 1024) : EReal :=
  x8 (ix3 c 0 q) + x7 (ix3 c 0 q) * upAt H x6 ⟨15 + r.val, by omega⟩ k + x7 (ix3 c 1 q) * upAt H x6 ⟨16 + r.val, by omega⟩ k
    + x7 (ix3 c 2 q) * upAt H x6 ⟨17 + r.val, by omega⟩ k

/-- What chunk `c` adds at row `r` and column `d`. -/
def partAt (H : Fin 1056 → Fin 1024 → EReal) (x6 : Vec Ideal S1024x5632 .bf16) (x7 : Vec Ideal S11x3x512 .f32)
    (x8 : Vec Ideal S11x1x512 .f32) (x9 : Vec Ideal S11x256x1024 .bf16) (c : Fin 11) (r d : Fin 1024) : EReal :=
  ∑ k : Fin 256, gate (cvAt H x6 x7 x8 c ⟨256 + k.val, by omega⟩ ⟨2816 + c.val * 256 + k.val, by omega⟩ r)
    (cvAt H x6 x7 x8 c ⟨k.val, by omega⟩ ⟨c.val * 256 + k.val, by omega⟩ r) * x9 (ix3 c k d)

/-- The block's sum over its chunks. -/
def sumAt (H : Fin 1056 → Fin 1024 → EReal) (x6 : Vec Ideal S1024x5632 .bf16) (x7 : Vec Ideal S11x3x512 .f32)
    (x8 : Vec Ideal S11x1x512 .f32) (x9 : Vec Ideal S11x256x1024 .bf16) (r d : Fin 1024) : EReal :=
  ∑ c : Fin 11, partAt H x6 x7 x8 x9 c r d

section
variable {σ : RefSig} (v13 : View σ .tc .vmem S1056x1024 .bf16) (v14 v15 : View σ .tc .vmem S4x1056x128 .f32)
  (v16 : View σ .tc .vmem S1024x1024 .f32)
  (rows : List (View.Piece (Elt Ideal) S1056x1024 .bf16))
  (wup : (o : ℕ) → (∀ a, ![0, o] a + S1024x256.size a ≤ S1024x5632.size a) → Vec Ideal S1024x256 .bf16)
  (w : (o : ℕ) → (∀ a, ![o, 0, 0] a + S1x3x512.size a ≤ S11x3x512.size a) → Vec Ideal S1x3x512 .f32)
  (cb : (o : ℕ) → (∀ a, ![o, 0, 0] a + S1x1x512.size a ≤ S11x1x512.size a) → Vec Ideal S1x1x512 .f32)
  (wd : (o : ℕ) → (∀ a, ![o, 0, 0] a + S1x256x1024.size a ≤ S11x256x1024.size a) → Vec Ideal S1x256x1024 .bf16)

/-- The newest four stores of the buffer a chunk reads are that chunk's slabs. -/
theorem upsL_eq : ∀ (c : ℕ) (h : c < 11), ∃ (L : List (View.Piece (Elt Ideal) S4x1056x128 .f32)) (ha hb : _),
    upsL v13 rows wup c h = slabsL (up (hcat v13 rows) (wup (c * 256) ha)) (up (hcat v13 rows) (wup (2816 + c * 256) hb)) L
  | 0, _ => ⟨[], _, _, rfl⟩
  | 1, _ => ⟨[], _, _, rfl⟩
  | c + 2, h => ⟨upsL v13 rows wup c (by omega), _, _, rfl⟩

variable (H : Fin 1056 → Fin 1024 → EReal) (x6 : Vec Ideal S1024x5632 .bf16) (x7 : Vec Ideal S11x3x512 .f32)
  (x8 : Vec Ideal S11x1x512 .f32) (x9 : Vec Ideal S11x256x1024 .bf16)
  (hH : ∀ r j, hcat v13 rows (ix2 r j) = H r j)
  (h6 : ∀ o h (j : Fin 1024) (l : Fin 256) (ho : o + l.val < 5632), wup o h (ix2 j l) = x6 (ix2 j ⟨o + l.val, ho⟩))
  (h7 : ∀ o h (a : Fin 3) (q : Fin 512) (ho : o < 11), w o h (ix3 0 a q) = x7 (ix3 ⟨o, ho⟩ a q))
  (h8 : ∀ o h (q : Fin 512) (ho : o < 11), cb o h (ix3 0 0 q) = x8 (ix3 ⟨o, ho⟩ 0 q))
  (h9 : ∀ o h (k : Fin 256) (d : Fin 1024) (ho : o < 11), wd o h (ix3 0 k d) = x9 (ix3 ⟨o, ho⟩ k d))

include hH h6 in
theorem up_hcat (o : ℕ) (h) (r : Fin 1056) (l : Fin 256) (ho : o + l.val < 5632) :
    up (hcat v13 rows) (wup o h) (ix2 r l) = upAt H x6 r ⟨o + l.val, ho⟩ := by
  rw [up_at]; unfold upAt
  exact Finset.sum_congr rfl fun j _ => by rw [hH, h6 o h j l ho]

include hH h6 in
/-- The four slabs of a chunk, loaded from row `o`, at an index. -/
theorem slab_up (c : Fin 11) (v : View σ .tc .vmem S4x1056x128 .f32) (L : List (View.Piece (Elt Ideal) S4x1056x128 .f32))
    (ha hb) (o : ℕ) (ho : o ≤ 32) (r : Fin 1024) (l : Fin 128) :
    (∀ inb, v.readCov (slabsL (up (hcat v13 rows) (wup (c.val * 256) ha)) (up (hcat v13 rows) (wup (2816 + c.val * 256) hb)) L)
        (Rect.unit (s := S4x1056x128) ![0, o, 0] S1x1024x128.size inb).toLoadRect (ix3 0 r l)
        = upAt H x6 ⟨o + r.val, by omega⟩ ⟨c.val * 256 + l.val, by omega⟩)
    ∧ (∀ inb, v.readCov (slabsL (up (hcat v13 rows) (wup (c.val * 256) ha)) (up (hcat v13 rows) (wup (2816 + c.val * 256) hb)) L)
        (Rect.unit (s := S4x1056x128) ![1, o, 0] S1x1024x128.size inb).toLoadRect (ix3 0 r l)
        = upAt H x6 ⟨o + r.val, by omega⟩ ⟨c.val * 256 + (128 + l.val), by omega⟩)
    ∧ (∀ inb, v.readCov (slabsL (up (hcat v13 rows) (wup (c.val * 256) ha)) (up (hcat v13 rows) (wup (2816 + c.val * 256) hb)) L)
        (Rect.unit (s := S4x1056x128) ![2, o, 0] S1x1024x128.size inb).toLoadRect (ix3 0 r l)
        = upAt H x6 ⟨o + r.val, by omega⟩ ⟨2816 + c.val * 256 + l.val, by omega⟩)
    ∧ (∀ inb, v.readCov (slabsL (up (hcat v13 rows) (wup (c.val * 256) ha)) (up (hcat v13 rows) (wup (2816 + c.val * 256) hb)) L)
        (Rect.unit (s := S4x1056x128) ![3, o, 0] S1x1024x128.size inb).toLoadRect (ix3 0 r l)
        = upAt H x6 ⟨o + r.val, by omega⟩ ⟨2816 + c.val * 256 + (128 + l.val), by omega⟩) := by
  obtain ⟨e0, e1, e2, e3⟩ := load_at v (up (hcat v13 rows) (wup (c.val * 256) ha))
    (up (hcat v13 rows) (wup (2816 + c.val * 256) hb)) L o ho r l
  refine ⟨fun i => (e0 i).trans ?_, fun i => (e1 i).trans ?_, fun i => (e2 i).trans ?_, fun i => (e3 i).trans ?_⟩ <;>
    exact up_hcat v13 rows wup H x6 hH h6 _ _ _ _ (by have := c.isLt; simp only; omega)

include hH h6 h7 h8 h9 in
/-- A chunk's contribution at an index. -/
theorem chunk_at (c : Fin 11) (r d : Fin 1024) :
    chunk v13 v14 v15 rows wup w cb wd c.val c.isLt (ix2 r d) = partAt H x6 x7 x8 x9 c r d := by
  obtain ⟨L, ha, hb, hL⟩ := upsL_eq v13 rows wup c.val c.isLt
  unfold chunk part partAt
  rw [hL]
  generalize (if c.val % 2 = 0 then v14 else v15) = v
  pointwise
  refine Finset.sum_congr rfl fun k _ => ?_
  have S := slab_up v13 rows wup H x6 hH h6 c v L ha hb
  rw [h9 _ _ _ _ c.isLt, acts_at]
  congr 1
  by_cases hk : k.val < 128
  · rw [dif_pos hk, conv_at _ _ _ _ _ _ _ (by omega), conv_at _ _ _ _ _ _ _ (by omega)]
    obtain ⟨a0, -, a2, -⟩ := S 15 (by omega) r ⟨k.val, hk⟩
    obtain ⟨b0, -, b2, -⟩ := S 16 (by omega) r ⟨k.val, hk⟩
    obtain ⟨c0, -, c2, -⟩ := S 17 (by omega) r ⟨k.val, hk⟩
    rw [a0, a2, b0, b2, c0, c2]
    unfold cvAt
    pointwise
    simp only [h7 _ _ _ _ c.isLt, h8 _ _ _ c.isLt, Fin.eta, Nat.zero_add]
  · rw [dif_neg hk, conv_at _ _ _ _ _ _ _ (by omega), conv_at _ _ _ _ _ _ _ (by omega)]
    obtain ⟨l, hl⟩ : ∃ l : Fin 128, k.val = 128 + l.val := ⟨⟨k.val - 128, by omega⟩, by simp only; omega⟩
    have hk' : k.val - 128 = l.val := by omega
    obtain ⟨-, a0, -, a2⟩ := S 15 (by omega) r l
    obtain ⟨-, b0, -, b2⟩ := S 16 (by omega) r l
    obtain ⟨-, c0, -, c2⟩ := S 17 (by omega) r l
    simp only [hk', Fin.eta]
    rw [a0, a2, b0, b2, c0, c2]
    unfold cvAt
    pointwise
    simp only [h7 _ _ _ _ c.isLt, h8 _ _ _ c.isLt, Fin.eta, hl, ← Nat.add_assoc]

include hH h6 h7 h8 h9 in
/-- The running sum after chunk `c`, at an index. -/
theorem acc_at : ∀ (c : ℕ) (h : c < 11) (r d : Fin 1024),
    sumOf v16 (accL v13 v14 v15 v16 rows wup w cb wd c h) (ix2 r d)
      = ∑ i : Fin (c + 1), partAt H x6 x7 x8 x9 ⟨i.val, by omega⟩ r d
  | 0, h, r, d => by
      rw [Fin.sum_univ_one]
      unfold accL sumL0 sumOf
      refine (readCov_at (S := S1024x1024) v16 _ _ (ix2 r d) (ix2 r d) ?_).trans ?_
      · simp
      refine (canon_hit (S := S1024x1024) _ _ [] (ix2 r d) (ix2 r d) ?_).trans ?_
      · simp
      pointwise
      exact chunk_at v13 v14 v15 rows wup w cb wd H x6 x7 x8 x9 hH h6 h7 h8 h9 ⟨0, h⟩ r d
  | c + 1, h, r, d => by
      rw [Fin.sum_univ_castSucc]
      unfold accL
      refine Eq.trans ?_ (congrArg₂ (· + ·) (acc_at c (by omega) r d)
        (chunk_at v13 v14 v15 rows wup w cb wd H x6 x7 x8 x9 hH h6 h7 h8 h9 ⟨c + 1, h⟩ r d))
      generalize accL v13 v14 v15 v16 rows wup w cb wd c _ = L
      unfold sumL
      refine (readCov_at (S := S1024x1024) v16 _ _ (ix2 r d) (ix2 r d) ?_).trans ?_
      · simp
      refine (canon_hit (S := S1024x1024) _ _ L (ix2 r d) (ix2 r d) ?_).trans ?_
      · simp
      pointwise

include hH h6 h7 h8 h9 in
/-- The sum over all chunks, at an index. -/
theorem sum_at (r d : Fin 1024) :
    sumOf v16 (accL v13 v14 v15 v16 rows wup w cb wd 10 (by decide)) (ix2 r d) = sumAt H x6 x7 x8 x9 r d :=
  acc_at v13 v14 v15 v16 rows wup w cb wd H x6 x7 x8 x9 hH h6 h7 h8 h9 10 (by decide) r d

end

end Cert.FfnIdeal.Block
end
end
-- ==== Proof.FfnArray.lean ====
/- The result array of the feed-forward kernel: one block's contents at an index over its input blocks. -/
module

public import proofs.«01_k».proof.Proof.FfnSum
public import Idealize.ShloMosaic.Lib.WholeRead

@[expose] public section

set_option maxRecDepth 16384

noncomputable section

namespace Cert.FfnIdeal.Block

open Idealize.ShloMosaic Idealize.ShloMosaic.TcCoe Idealize.SL.Sem Cert.FfnIdeal Cert.FfnIdeal.Gen

variable {σ : RefSig}

/-- A load of a whole buffer from its corner is what the buffer holds. -/
theorem read_whole {S : Shape} {e : EltTy} {m : Memref σ .tc .vmem S e} (h : m.IsWhole) (X : Vec Ideal S e)
    {off : Fin S.rank → ℕ} (h0 : ∀ a, off a = 0) (inb : ∀ a, off a + S.size a ≤ S.size a) :
    View.readAt (Elt Ideal) m.view (Rect.unit (s := S) off S.size inb).toLoadRect (h.unread X) = X := by
  funext x
  refine (h.readAt_unread X _ x).trans (congrArg X ?_)
  funext a; apply Fin.ext; simp [Rect.unit, LoadRect.idx, Rect.toLoadRect, h0 a]

/-- A load of a part of a buffer reads the buffer at the shifted index. -/
theorem read_part {S : Shape} {e : EltTy} {m : Memref σ .tc .vmem S e} (h : m.IsWhole) (X : Vec Ideal S e)
    {off size : Fin S.rank → ℕ} (inb : ∀ a, off a + size a ≤ S.size a) (x : (Rect.unit (s := S) off size inb).shape.Idx) (y : S.Idx)
    (hy : ∀ a, (y a).val = off a + (x a).val) :
    View.readAt (Elt Ideal) m.view (Rect.unit (s := S) off size inb).toLoadRect (h.unread X) x = X y := by
  refine (h.readAt_unread X _ x).trans (congrArg X ?_)
  funext a; apply Fin.ext; rw [hy a]; simp [Rect.unit, LoadRect.idx, Rect.toLoadRect]

/-- The value of one block at row `r` and column `d`, from the sum `f` of its row. -/
def finAt (x : EReal) (g t : EReal) (f : Fin 1024 → EReal) (d : Fin 1024) : EReal :=
  x + f d * Ideal.rsqrt (Ideal.div (∑ k : Fin 1024, f k * f k) (Ideal.ofBits .f32 0x44800000#32) + Ideal.ofBits .f32 0x358637BD#32) * (g * t)

/-- What the body leaves, at an index. -/
theorem bodyOut_at (top bot : Vec Ideal S1x16x1024 .bf16 → FVec Ideal S16x1024 .bf16)
    (arg2 : Memref σ .tc .vmem S1x1024x1024 .bf16) (harg2 : arg2.IsWhole)
    (arg3 : Memref σ .tc .vmem S1x16x1024 .bf16) (harg3 : arg3.IsWhole)
    (arg4 : Memref σ .tc .vmem S1x16x1024 .bf16) (harg4 : arg4.IsWhole)
    (arg5 : Memref σ .tc .vmem S1x1024x1024 .f32) (harg5 : arg5.IsWhole)
    (arg6 : Memref σ .tc .vmem S1x6x1024 .f32) (harg6 : arg6.IsWhole)
    (arg7 : Memref σ .tc .vmem S1x1024 .f32) (harg7 : arg7.IsWhole)
    (arg8 : Memref σ .tc .vmem S1024x5632 .bf16) (harg8 : arg8.IsWhole)
    (arg9 : Memref σ .tc .vmem S11x3x512 .f32) (harg9 : arg9.IsWhole)
    (arg10 : Memref σ .tc .vmem S11x1x512 .f32) (harg10 : arg10.IsWhole)
    (arg11 : Memref σ .tc .vmem S11x256x1024 .bf16) (harg11 : arg11.IsWhole)
    (arg13 : Memref σ .tc .vmem S1056x1024 .bf16)
    (arg14 : Memref σ .tc .vmem S4x1056x128 .f32)
    (arg15 : Memref σ .tc .vmem S4x1056x128 .f32)
    (arg16 : Memref σ .tc .vmem S1024x1024 .f32)
    (x0 : Vec Ideal S1x1024x1024 .bf16) (x1 : Vec Ideal S1x16x1024 .bf16) (x2 : Vec Ideal S1x16x1024 .bf16)
    (x3 : Vec Ideal S1x1024x1024 .f32) (x4 : Vec Ideal S1x6x1024 .f32) (x5 : Vec Ideal S1x1024 .f32)
    (x6 : Vec Ideal S1024x5632 .bf16) (x7 : Vec Ideal S11x3x512 .f32) (x8 : Vec Ideal S11x1x512 .f32)
    (x9 : Vec Ideal S11x256x1024 .bf16) (r d : Fin 1024) :
    bodyOut top bot arg2 harg2 arg3 harg3 arg4 harg4 arg5 harg5 arg6 harg6 arg7 harg7 arg8 harg8 arg9 harg9 arg10 harg10
      arg11 harg11
      arg13 arg14 arg15 arg16 x0 x1 x2 x3 x4 x5 x6 x7 x8 x9 (ix3 0 r d)
      = finAt (x3 (ix3 0 r d)) (x5 (ix2 0 d)) (x4 (ix3 0 5 d))
          (fun k => sumAt (rowAt (top x1) x0 (bot x2)) x6 x7 x8 x9 r k) d := by
  rw [bodyOut, finish_at]
  rw [read_whole harg5 x3 (by decide), read_whole harg6 x4 (by decide), read_whole harg7 x5 (by decide),
    read_whole harg2 x0 (by decide), read_whole harg3 x1 (by decide), read_whole harg4 x2 (by decide)]
  have S := sum_at arg13.view arg14.view arg15.view arg16.view (rowsL (top x1) x0 (bot x2))
    (fun o h => View.readAt (Elt Ideal) arg8.view (Rect.unit (s := S1024x5632) ![0, o] S1024x256.size h).toLoadRect (harg8.unread x6))
    (fun o h => View.readAt (Elt Ideal) arg9.view (Rect.unit (s := S11x3x512) ![o, 0, 0] S1x3x512.size h).toLoadRect (harg9.unread x7))
    (fun o h => View.readAt (Elt Ideal) arg10.view (Rect.unit (s := S11x1x512) ![o, 0, 0] S1x1x512.size h).toLoadRect (harg10.unread x8))
    (fun o h => View.readAt (Elt Ideal) arg11.view (Rect.unit (s := S11x256x1024) ![o, 0, 0] S1x256x1024.size h).toLoadRect (harg11.unread x9))
    (rowAt (top x1) x0 (bot x2)) x6 x7 x8 x9 (hcat_at arg13.view (top x1) x0 (bot x2))
    (fun o h j l ho => read_part harg8 x6 h (ix2 j l) _ (by intro a; fin_cases a <;> simp [ix2]))
    (fun o h a q ho => read_part harg9 x7 h (ix3 0 a q) _ (by intro a; fin_cases a <;> simp [ix3]))
    (fun o h q ho => read_part harg10 x8 h (ix3 0 0 q) _ (by intro a; fin_cases a <;> simp [ix3]))
    (fun o h k d ho => read_part harg11 x9 h (ix3 0 k d) _ (by intro a; fin_cases a <;> simp [ix3]))
  unfold finAt
  simp only [S]

end Cert.FfnIdeal.Block
end
end
-- ==== Proof.FfnPlain.lean ====
/- The feed-forward part of one sequence of any length, at an index, over the extended reals: the plain form, the form
   with the chunks and the halved weights, and that the two are equal. -/
module

public import proofs.«01_k».proof.Proof.FfnArray
public import Idealize.ShloMosaic.Lib.Pipeline.ValueKit

@[expose] public section

set_option maxRecDepth 16384

noncomputable section

namespace Cert.FfnEq

open Idealize.ShloMosaic Idealize.ShloMosaic.TcCoe Idealize.SL.Sem Cert.FfnIdeal Cert.FfnIdeal.Block

/-! ## The plain form -/

/-- The tanh form of the gated activation. -/
def gelu (g v : EReal) : EReal :=
  g * (Ideal.ofBits .f32 0x3F000000#32 * (1 + Ideal.tanh (Ideal.ofBits .f32 0x3F4C422A#32
    * (g + Ideal.ofBits .f32 0x3D372713#32 * (g * g * g))))) * v

section
variable {S : ℕ} (h : Fin S → Fin 1024 → EReal) (w : Vec Ideal S1024x5632 .f32) (cw : Vec Ideal S3x5632 .f32)
  (cb : Vec Ideal S5632 .f32) (wd : Vec Ideal S2816x1024 .f32)

/-- The up projection of a token. -/
def upP (s : Fin S) (k : Fin 5632) : EReal := ∑ j : Fin 1024, h s j * w (ix2 j k)

/-- The three-tap convolution of a sequence, with zeros before and after it. -/
def convP (u : Fin S → Fin 5632 → EReal) (s : Fin S) (k : Fin 5632) : EReal :=
  cb (ix1 k) + (if h : 1 ≤ s.val then u ⟨s.val - 1, by omega⟩ k else 0) * cw (ix2 0 k)
    + u s k * cw (ix2 1 k)
    + (if h : s.val + 1 < S then u ⟨s.val + 1, h⟩ k else 0) * cw (ix2 2 k)

/-- The down projection of the gated values. -/
def downP (s : Fin S) (d : Fin 1024) : EReal :=
  ∑ k : Fin 2816, gelu (convP cw cb (upP h w) s ⟨2816 + k.val, by omega⟩) (convP cw cb (upP h w) s ⟨k.val, by omega⟩) * wd (ix2 k d)

/-- The normalised, scaled and gated addition to the input `x`, with the gain `g` and the modulation `t`. -/
def outP (x g t : EReal) (s : Fin S) (d : Fin 1024) : EReal :=
  x + t * (downP h w cw cb wd s d
    * Ideal.rsqrt (Ideal.div (∑ k : Fin 1024, downP h w cw cb wd s k * downP h w cw cb wd s k) (Ideal.ofBits .f32 0x44800000#32)
      + Ideal.ofBits .f32 0x358637BD#32) * g)

/-! ## The kernel's form -/

/-- A row of the sequence shifted by one: row `n` is token `n - 1`, and zero before the first and after the last token. -/
def hz (n : ℕ) (j : Fin 1024) : EReal :=
  if hn : 1 ≤ n ∧ n ≤ S then h ⟨n - 1, by omega⟩ j else 0

/-- The up projection of shifted row `n`. -/
def upZ (n : ℕ) (k : Fin 5632) : EReal := ∑ j : Fin 1024, hz h n j * w (ix2 j k)

/-- The three-tap convolution of the up projection at token `s`. -/
def cvZ (s : ℕ) (k : Fin 5632) : EReal :=
  cb (ix1 k) + cw (ix2 0 k) * upZ h w s k + cw (ix2 1 k) * upZ h w (s + 1) k + cw (ix2 2 k) * upZ h w (s + 2) k

/-- The down projection of the gated values at token `s`, chunk by chunk, with the half folded into the weights. -/
def fZ (s : ℕ) (d : Fin 1024) : EReal :=
  ∑ c : Fin 11, ∑ k : Fin 256, gate (cvZ h w cw cb s ⟨2816 + c.val * 256 + k.val, by omega⟩)
    (cvZ h w cw cb s ⟨c.val * 256 + k.val, by omega⟩)
      * (Ideal.ofBits .f32 0x3F000000#32 * wd (ix2 ⟨c.val * 256 + k.val, by omega⟩ d))

/-- The result at token `s`, column `d`. -/
def outZ (x g t : EReal) (s : Fin S) (d : Fin 1024) : EReal := finAt x g t (fZ h w cw cb wd s.val) d
end

/-! ## Real elements -/

/-- An extended real that is a real. -/
def IsR (x : EReal) : Prop := ∃ r : ℝ, x = (r : EReal)

theorem IsR.add {x y : EReal} : IsR x → IsR y → IsR (x + y)
  | ⟨a, ha⟩, ⟨b, hb⟩ => ⟨a + b, by rw [ha, hb, EReal.coe_add]⟩

theorem IsR.mul {x y : EReal} : IsR x → IsR y → IsR (x * y)
  | ⟨a, ha⟩, ⟨b, hb⟩ => ⟨a * b, by rw [ha, hb, EReal.coe_mul]⟩

theorem IsR.zero : IsR 0 := ⟨0, rfl⟩

theorem IsR.sum {ι : Type} (s : Finset ι) (f : ι → EReal) (h : ∀ i ∈ s, IsR (f i)) : IsR (∑ i ∈ s, f i) := by
  classical
  induction s using Finset.induction_on with
  | empty => exact ⟨0, by simp⟩
  | insert a s ha ih =>
      rw [Finset.sum_insert ha]
      exact (h a (Finset.mem_insert_self _ _)).add (ih fun i hi => h i (Finset.mem_insert_of_mem hi))

theorem inf_word : Ideal.ofBits .f32 0x7F800000#32 = ⊤ := by
  simp [Ideal.ofBits, Ideal.ieee]

/-- The precondition's test, read as finiteness. -/
theorem isR_of_test (x : EReal) (h : max x (-x) < ⊤) : IsR x := by
  induction x using EReal.rec with
  | bot => simp at h
  | coe r => exact ⟨r, rfl⟩
  | top => simp at h

/-! ## The gated activation -/

theorem half_word : Ideal.ofBits .f32 0x3F000000#32 = ((1 / 2 : ℝ) : EReal) := by
  simp [Ideal.ofBits, Ideal.ieee, -EReal.coe_mul]; norm_num

theorem k_word : ∃ r : ℝ, Ideal.ofBits .f32 0x3F4C422A#32 = (r : EReal) ∧ r = 13386282 / 16777216 := by
  refine ⟨13386282 / 16777216, ?_, rfl⟩
  simp [Ideal.ofBits, Ideal.ieee, -EReal.coe_mul]; norm_num

theorem c_word : ∃ r : ℝ, Ideal.ofBits .f32 0x3D372713#32 = (r : EReal) ∧ r = 12003091 / 268435456 := by
  refine ⟨12003091 / 268435456, ?_, rfl⟩
  simp [Ideal.ofBits, Ideal.ieee, -EReal.coe_mul]; norm_num

theorem kc_name : Named.named (F := Ideal) (φ := .f32) Cert.FfnIdeal.κ "gelu_kc" 0x3D122279#32
    = ((13386282 / 16777216 * (12003091 / 268435456) : ℝ) : EReal) := by
  refine (IdealRules.named_const.ideal_named_scalar _ _ _ _ rfl).trans ?_
  norm_num

/-- The kernel's gated activation times the halved weight is the plain one times the weight. -/
theorem gate_eq (g v w : EReal) (hg : IsR g) (hv : IsR v) :
    gate g v * (Ideal.ofBits .f32 0x3F000000#32 * w) = gelu g v * w := by
  obtain ⟨a, rfl⟩ := hg
  obtain ⟨b, rfl⟩ := hv
  rw [← mul_assoc]
  congr 1
  unfold gate gelu
  obtain ⟨K, hK, eK⟩ := k_word
  obtain ⟨C, hC, eC⟩ := c_word
  rw [half_word, hK, hC, kc_name, ← eK, ← eC]
  have e1 : (a : EReal) * ((K : EReal) + ((K * C : ℝ) : EReal) * ((a : EReal) * a)) = ((a * (K + K * C * (a * a)) : ℝ) : EReal) := by
    push_cast; rfl
  have e2 : (K : EReal) * ((a : EReal) + (C : EReal) * ((a : EReal) * a * a)) = ((a * (K + K * C * (a * a)) : ℝ) : EReal) := by
    rw [show a * (K + K * C * (a * a)) = K * (a + C * (a * a * a)) by ring]; push_cast; rfl
  rw [e1, e2, Ideal.tanh_coe]
  generalize Real.tanh _ = t
  rw [← EReal.coe_one]
  norm_cast
  ring

/-! ## The convolution -/

section
variable {S : ℕ} (h : Fin S → Fin 1024 → EReal) (w : Vec Ideal S1024x5632 .f32) (cw : Vec Ideal S3x5632 .f32)
  (cb : Vec Ideal S5632 .f32) (wd : Vec Ideal S2816x1024 .f32)

theorem cv_eq (s : Fin S) (k : Fin 5632) : convP cw cb (upP h w) s k = cvZ h w cw cb s.val k := by
  unfold convP cvZ
  have u : ∀ (n : ℕ) (hn : 1 ≤ n ∧ n ≤ S), upP h w ⟨n - 1, by omega⟩ k = upZ h w n k := by
    intro n hn
    unfold upP upZ hz
    exact Finset.sum_congr rfl fun j _ => by rw [dif_pos hn]
  have z : ∀ n : ℕ, ¬ (1 ≤ n ∧ n ≤ S) → upZ h w n k = 0 := by
    intro n hn
    unfold upZ hz
    exact Finset.sum_eq_zero fun j _ => by rw [dif_neg hn, zero_mul]
  have m0 : (if h' : 1 ≤ s.val then upP h w ⟨s.val - 1, by omega⟩ k else 0) = upZ h w s.val k := by
    by_cases hs : 1 ≤ s.val
    · rw [dif_pos hs]; exact u s.val ⟨hs, by omega⟩
    · rw [dif_neg hs, z _ (by omega)]
  have m1 : upP h w s k = upZ h w (s.val + 1) k := u (s.val + 1) ⟨by omega, by omega⟩
  have m2 : (if h' : s.val + 1 < S then upP h w ⟨s.val + 1, h'⟩ k else 0) = upZ h w (s.val + 2) k := by
    by_cases hs : s.val + 1 < S
    · rw [dif_pos hs]; exact u (s.val + 2) ⟨by omega, by omega⟩
    · rw [dif_neg hs, z _ (by omega)]
  rw [m0, m1, m2, mul_comm (upZ h w s.val k), mul_comm (upZ h w (s.val + 1) k), mul_comm (upZ h w (s.val + 2) k)]

variable (hh : ∀ s j, IsR (h s j)) (hw : ∀ i, IsR (w i)) (hcw : ∀ i, IsR (cw i)) (hcb : ∀ i, IsR (cb i))

include hh hw hcw hcb in
theorem cv_isR (s : ℕ) (k : Fin 5632) : IsR (cvZ h w cw cb s k) := by
  have u : ∀ n, IsR (upZ h w n k) := by
    intro n
    unfold upZ hz
    refine IsR.sum _ _ fun j _ => IsR.mul ?_ (hw _)
    split
    · exact hh _ _
    · exact IsR.zero
  unfold cvZ
  exact (((hcb _).add ((hcw _).mul (u _))).add ((hcw _).mul (u _))).add ((hcw _).mul (u _))

/-! ## The down projection -/

include hh hw hcw hcb in
theorem f_eq (s : Fin S) (d : Fin 1024) : downP h w cw cb wd s d = fZ h w cw cb wd s.val d := by
  unfold downP fZ
  refine Eq.symm (Fin.sum_mul_add_congr (fun c k hl => ?_))
  rw [cv_eq, cv_eq, ← gate_eq _ _ _ (cv_isR h w cw cb hh hw hcw hcb _ _) (cv_isR h w cw cb hh hw hcw hcb _ _)]
  have e : (⟨2816 + c.val * 256 + k.val, by omega⟩ : Fin 5632) = ⟨2816 + (c.val * 256 + k.val), by omega⟩ :=
    Fin.ext (Nat.add_assoc _ _ _)
  rw [e]

include hh hw hcw hcb in
/-- The two forms of the result. -/
theorem out_eq (x g t : EReal) (s : Fin S) (d : Fin 1024) : outP h w cw cb wd x g t s d = outZ h w cw cb wd x g t s d := by
  unfold outP outZ finAt
  simp only [f_eq h w cw cb wd hh hw hcw hcb]
  congr 1
  rw [mul_comm, mul_assoc]
end

/-! ## The precondition -/

/-- An element that passes the test `|x| < ∞` is a real. -/
theorem isR_of_cmp {x : EReal} (h : Ideal.cmp .olt (max x (-x)) (Ideal.ofBits .f32 0x7F800000#32) = 1#1) : IsR x := by
  rw [inf_word] at h
  refine isR_of_test x ?_
  unfold Ideal.cmp at h
  by_contra hc
  simp [hc] at h

end Cert.FfnEq
end
end
-- ==== Proof.FfnResult.lean ====
/- What the feed-forward kernel's result array holds: at every index, the value over the argument arrays. -/
module

public import proofs.«01_k».proof.Proof.FfnPlain
public import Idealize.ShloMosaic.Lib.Pipeline.ValueKit

@[expose] public section

set_option maxRecDepth 16384

noncomputable section

namespace Cert.FfnIdeal.Result

open Idealize.ShloMosaic Idealize.ShloMosaic.TcCoe Idealize.SL.Sem Cert.FfnIdeal Cert.FfnIdeal.Gen Cert.FfnIdeal.Block
open Cert.FfnEq (hz upZ cvZ fZ outZ)

theorem idx : ∀ t : Fin cfg0.N, win0_0.index t = ![t.val / 4, t.val % 4, 0]
    ∧ win0_1.index t = ![t.val / 4, t.val % 4 * 64 - 1, 0]
    ∧ win0_2.index t = ![t.val / 4, min (t.val % 4 * 64 + 64) 255, 0]
    ∧ win0_3.index t = ![t.val / 4, t.val % 4, 0]
    ∧ win0_4.index t = ![t.val / 4, 0, 0]
    ∧ win0_5.index t = ![0, 0] ∧ win0_6.index t = ![0, 0] ∧ win0_7.index t = ![0, 0, 0]
    ∧ win0_8.index t = ![0, 0, 0] ∧ win0_9.index t = ![0, 0, 0]
    ∧ win0_10.index t = ![t.val / 4, t.val % 4, 0] :=
  (by decide +kernel : ∀ t : Fin grid0.N, _)

theorem crd : ∀ t : Fin cfg0.N, (grid0.coords t 1).val = t.val % 4 :=
  (by decide +kernel : ∀ t : Fin grid0.N, _)

variable (m : (ℓ : Loc nD τ sig) → Buf (Elt Ideal) ℓ)

/-- The sequence of a grid point. -/
def bOf (t : Fin cfg0.N) : Fin 16 := ⟨t.val / 4, by have h : t.val < 64 := t.isLt; omega⟩

theorem x0_at (c : Dev nD) (t : Fin cfg0.N) (r j : Fin 1024) :
    iblk m c 0 t (ix3 0 r j) = m ((c : Thread nD τ).loc main_arg0) (ix3 (bOf t) ⟨t.val % 4 * 1024 + r.val, by omega⟩ j) := by
  blk_ext [iblk, V, idx t, bOf]

theorem x3_at (c : Dev nD) (t : Fin cfg0.N) (r j : Fin 1024) :
    iblk m c 3 t (ix3 0 r j) = m ((c : Thread nD τ).loc main_arg1) (ix3 (bOf t) ⟨t.val % 4 * 1024 + r.val, by omega⟩ j) := by
  blk_ext [iblk, V, idx t, bOf]

theorem x4_at (c : Dev nD) (t : Fin cfg0.N) (d : Fin 1024) :
    iblk m c 4 t (ix3 0 5 d) = m ((c : Thread nD τ).loc main_arg2) (ix2 (bOf t) ⟨5120 + d.val, by omega⟩) := by
  blk_simp [iblk, idx t]
  entry_read
  pointwise
  blk_ext [idx t, bOf]

theorem x5_at (c : Dev nD) (t : Fin cfg0.N) (d : Fin 1024) :
    iblk m c 5 t (ix2 0 d) = m ((c : Thread nD τ).loc main_arg3) (ix1 d) := by
  blk_simp [iblk, idx t]
  entry_read
  pointwise
  blk_ext [idx t, bOf]

theorem x6_at (c : Dev nD) (t : Fin cfg0.N) (j : Fin 1024) (k : Fin 5632) :
    iblk m c 6 t (ix2 j k) = m ((c : Thread nD τ).loc main_arg4) (ix2 j k) := by
  blk_simp [iblk, idx t]
  entry_read
  pointwise
  blk_ext [idx t, bOf]

set_option maxHeartbeats 1600000 in
theorem x7_at (c : Dev nD) (t : Fin cfg0.N) (q : Fin 11) (a : Fin 3) (k : Fin 256) :
    iblk m c 7 t (ix3 q a ⟨k.val, by omega⟩) = m ((c : Thread nD τ).loc main_arg5) (ix2 a ⟨q.val * 256 + k.val, by omega⟩)
    ∧ iblk m c 7 t (ix3 q a ⟨256 + k.val, by omega⟩) = m ((c : Thread nD τ).loc main_arg5) (ix2 a ⟨2816 + q.val * 256 + k.val, by omega⟩) := by
  constructor
  · blk_simp [iblk, idx t]
    entry_read
    pointwise
    refine (dif_pos ?_).trans ?_
    · blk_simp [idx t]; show k.val < 256; omega
    · blk_ext [idx t]
  · blk_simp [iblk, idx t]
    entry_read
    pointwise
    refine (dif_neg ?_).trans ?_
    · blk_simp [idx t]; show ¬ 256 + k.val < 256; omega
    · blk_ext [idx t]

theorem x8_at (c : Dev nD) (t : Fin cfg0.N) (q : Fin 11) (k : Fin 256) :
    iblk m c 8 t (ix3 q 0 ⟨k.val, by omega⟩) = m ((c : Thread nD τ).loc main_arg6) (ix1 ⟨q.val * 256 + k.val, by omega⟩)
    ∧ iblk m c 8 t (ix3 q 0 ⟨256 + k.val, by omega⟩) = m ((c : Thread nD τ).loc main_arg6) (ix1 ⟨2816 + q.val * 256 + k.val, by omega⟩) := by
  constructor
  · blk_simp [iblk, idx t]
    entry_read
    pointwise
    refine (dif_pos ?_).trans ?_
    · blk_simp [idx t]; show k.val < 256; omega
    · blk_ext [idx t]
  · blk_simp [iblk, idx t]
    entry_read
    pointwise
    refine (dif_neg ?_).trans ?_
    · blk_simp [idx t]; show ¬ 256 + k.val < 256; omega
    · blk_ext [idx t]

theorem x9_at (c : Dev nD) (t : Fin cfg0.N) (q : Fin 11) (k : Fin 256) (d : Fin 1024) :
    iblk m c 9 t (ix3 q k d) = Ideal.ofBits .f32 0x3F000000#32 * m ((c : Thread nD τ).loc main_arg7) (ix2 ⟨q.val * 256 + k.val, by omega⟩ d) := by
  blk_simp [iblk, idx t]
  entry_read
  pointwise
  blk_point [idx t]

theorem sgt_of (n : ℕ) (h : n < 4) : Scalar.cmpi .sgt (BitVec.ofNat 32 n) 0#32 = if 0 < n then 1#1 else 0#1 := by
  interval_cases n <;> decide

theorem slt_of (n : ℕ) (h : n < 4) : Scalar.cmpi .slt (BitVec.ofNat 32 n) 3#32 = if n < 3 then 1#1 else 0#1 := by
  interval_cases n <;> decide

/-- A row of the block with its halo is the shifted row of the sequence. -/
theorem row_at (c : Dev nD) (t : Fin cfg0.N) (r : Fin 1056) (j : Fin 1024) (h1 : 15 ≤ r.val) (h2 : r.val ≤ 1040) :
    rowAt (above (grid0.coords t) (iblk m c 1 t)) (iblk m c 0 t) (below (grid0.coords t) (iblk m c 2 t)) r j
      = hz (fun s j => m ((c : Thread nD τ).loc main_arg0) (ix3 (bOf t) s j)) (t.val % 4 * 1024 + r.val - 15) j := by
  unfold rowAt hz
  have hc := crd t
  have h4 : t.val % 4 < 4 := Nat.mod_lt _ (by decide)
  by_cases h : r.val < 16
  · rw [dif_pos h]
    have hr : r.val = 15 := by omega
    unfold above
    pointwise [k0_pay2]
    rw [hc, sgt_of _ h4]
    by_cases hq : 0 < t.val % 4
    · rw [if_pos hq, dif_pos (by omega), Scalar.select, if_pos (show (1#1 : BitVec 1) = 1 by decide)]
      blk_ext [iblk, V, idx t, bOf]
    · rw [if_neg hq, dif_neg (by omega), Scalar.select, if_neg (by decide)]
  · rw [dif_neg h]
    by_cases h3 : r.val < 1040
    · rw [dif_pos h3, x0_at, dif_pos (by omega)]
      blk_ext [idx t]
    · rw [dif_neg h3]
      have hr : r.val = 1040 := by omega
      unfold below
      pointwise [k0_pay4]
      rw [hc, slt_of _ h4]
      by_cases hq : t.val % 4 < 3
      · rw [if_pos hq, dif_pos (by omega), Scalar.select, if_pos (show (1#1 : BitVec 1) = 1 by decide)]
        blk_ext [iblk, V, idx t, bOf]
      · rw [if_neg hq, dif_neg (by omega), Scalar.select, if_neg (by decide)]

/-- A row's up projection in the block is the shifted row's. -/
theorem up_of (c : Dev nD) (t : Fin cfg0.N) (r : Fin 1056) (k : Fin 5632) (h1 : 15 ≤ r.val) (h2 : r.val ≤ 1040) :
    upAt (rowAt (above (grid0.coords t) (iblk m c 1 t)) (iblk m c 0 t) (below (grid0.coords t) (iblk m c 2 t))) (iblk m c 6 t) r k
      = upZ (fun s j => m ((c : Thread nD τ).loc main_arg0) (ix3 (bOf t) s j)) (m ((c : Thread nD τ).loc main_arg4)) (t.val % 4 * 1024 + r.val - 15) k := by
  unfold upAt upZ
  refine Finset.sum_congr rfl fun j _ => ?_
  rw [row_at m c t r j h1 h2, x6_at]

/-- The block's sum at row `r` is the token's. -/
theorem sum_of (c : Dev nD) (t : Fin cfg0.N) (r d : Fin 1024) :
    sumAt (rowAt (above (grid0.coords t) (iblk m c 1 t)) (iblk m c 0 t) (below (grid0.coords t) (iblk m c 2 t))) (iblk m c 6 t) (iblk m c 7 t) (iblk m c 8 t)
        (iblk m c 9 t) r d
      = fZ (fun s j => m ((c : Thread nD τ).loc main_arg0) (ix3 (bOf t) s j)) (m ((c : Thread nD τ).loc main_arg4)) (m ((c : Thread nD τ).loc main_arg5))
          (m ((c : Thread nD τ).loc main_arg6)) (m ((c : Thread nD τ).loc main_arg7)) (t.val % 4 * 1024 + r.val) d := by
  unfold sumAt partAt fZ
  refine Finset.sum_congr rfl fun q _ => Finset.sum_congr rfl fun k _ => ?_
  unfold cvAt cvZ
  rw [x9_at, (x8_at m c t q k).1, (x8_at m c t q k).2, (x7_at m c t q 0 k).1, (x7_at m c t q 0 k).2,
    (x7_at m c t q 1 k).1, (x7_at m c t q 1 k).2, (x7_at m c t q 2 k).1, (x7_at m c t q 2 k).2]
  simp only [up_of m c t ⟨15 + r.val, by omega⟩ _ (by simp only; omega) (by simp only; omega),
    up_of m c t ⟨16 + r.val, by omega⟩ _ (by simp only; omega) (by simp only; omega),
    up_of m c t ⟨17 + r.val, by omega⟩ _ (by simp only; omega) (by simp only; omega)]
  rw [show t.val % 4 * 1024 + (15 + r.val) - 15 = t.val % 4 * 1024 + r.val by omega,
    show t.val % 4 * 1024 + (16 + r.val) - 15 = t.val % 4 * 1024 + r.val + 1 by omega,
    show t.val % 4 * 1024 + (17 + r.val) - 15 = t.val % 4 * 1024 + r.val + 2 by omega]

/-- The result at token `s` of sequence `b`, column `d`. -/
def resAt (c : Dev nD) (b : Fin 16) (s : Fin 4096) (d : Fin 1024) : EReal :=
  outZ (fun s j => m ((c : Thread nD τ).loc main_arg0) (ix3 b s j)) (m ((c : Thread nD τ).loc main_arg4))
    (m ((c : Thread nD τ).loc main_arg5)) (m ((c : Thread nD τ).loc main_arg6)) (m ((c : Thread nD τ).loc main_arg7))
    (m ((c : Thread nD τ).loc main_arg1) (ix3 b s d)) (m ((c : Thread nD τ).loc main_arg3) (ix1 d))
    (m ((c : Thread nD τ).loc main_arg2) (ix2 b ⟨5120 + d.val, by omega⟩)) s d

/-- The result array after the run. -/
theorem final (c : Dev nD) : (dats m 0 c).arrAt 10 (cfgs 0).N = fun i => resAt m c (i 0) (i 1) (i 2) := by
  refine (dats m 0 c).arrAt_eq_of_covers 10 _ (by decide +kernel) fun t _ y => ?_
  blk_simp
  rw [after0_10]
  unfold outsAt0
  idx_vars y
  obtain rfl : y0 = 0 := Subsingleton.elim _ _
  have e : ((View.whole main_v18).slice (win0_10.rect t)).emb (ix3 0 y1 y2)
      = ix3 (bOf t) ⟨t.val % 4 * 1024 + y1.val, by omega⟩ y2 := by blk_ext [idx t, bOf]
  rw [e]
  rw [out_eq]
  refine (bodyOut_at (above (grid0.coords t)) (below (grid0.coords t)) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) (ms0_8 t) (hs0_8 t)
    (ms0_9 t) (hs0_9 t) scM0_0 scM0_1 scM0_2 scM0_3
    (iblk m c 0 t) (iblk m c 1 t) (iblk m c 2 t) (iblk m c 3 t) (iblk m c 4 t) (iblk m c 5 t)
    (iblk m c 6 t) (iblk m c 7 t) (iblk m c 8 t) (iblk m c 9 t) y1 y2).trans ?_
  rw [x3_at, x5_at, x4_at]
  simp only [sum_of]
  rfl

end Cert.FfnIdeal.Result
end
end
-- ==== Proof.FfnReference.lean ====
/- What the plain feed-forward part computes at an index. -/
module

public import proofs.«01_k».proof.Proof.Gen.FfnRefIdeal.Run
public import Idealize.ShloMosaic.Lib.Pointwise
public import Idealize.ShloMosaic.Lib.Pipeline.ValueKit
public import proofs.«01_k».proof.Proof.FfnPlain

@[expose] public section

set_option maxRecDepth 16384
set_option maxHeartbeats 4000000

noncomputable section

namespace Cert.FfnRefIdeal.Reference

open Idealize.ShloMosaic Idealize.ShloMosaic.TcCoe Idealize.SL.Sem Cert.FfnRefIdeal Cert.FfnRefIdeal.Gen Cert.FfnRefIdeal.Value
open Cert.FfnEq (gelu upP convP downP outP)

/-- The up projection. -/
def upT (h : FVec Ideal S16x4096x1024 .bf16) (w : FVec Ideal S1024x5632 .f32) : FVec Ideal S16x4096x5632 .f32 :=
  Host.dotGeneral dot_S16x4096x1024_S1024x5632_S16x4096x5632_2_0_01_1_n_n none (extf .f32 h bitsLt_bf16_f32) w

/-- A vector of 5632 weights on every token. -/
def spread (v : FVec Ideal S5632 .f32) : FVec Ideal S16x4096x5632 .f32 :=
  broadcastInDim S16x4096x5632 ![0, 1, 2] bcast_S1x1x5632_S16x4096x5632_0_1_2 (broadcastInDim S1x1x5632 ![2] bcast_S5632_S1x1x5632_2 v)

/-- The up projection with a zero row before and after. -/
def padT (u : FVec Ideal S16x4096x5632 .f32) : FVec Ideal S16x4098x5632 .f32 :=
  pad S16x4098x5632 ![0, 1, 0] ![0, 1, 0] ![0, 0, 0] u (sitofp .f32 (constantI S_ 32 0#32)) pads_S16x4096x5632_S16x4098x5632_000_110_000

/-- The three-tap convolution along the sequence. -/
def convT (u : FVec Ideal S16x4096x5632 .f32) (cw : FVec Ideal S3x5632 .f32) (cb : FVec Ideal S5632 .f32) : FVec Ideal S16x4096x5632 .f32 :=
  addf (addf (addf (spread cb)
      (mulf (extractStridedSlice S16x4096x5632 ![0, 0, 0] (padT u) slices_S16x4098x5632_S16x4096x5632_0_0_0)
        (spread (shapeCast S5632 (extractStridedSlice S1x5632 ![0, 0] cw slices_S3x5632_S1x5632_0_0) shapeCasts_S1x5632_S5632))))
    (mulf (extractStridedSlice S16x4096x5632 ![0, 1, 0] (padT u) slices_S16x4098x5632_S16x4096x5632_0_1_0)
      (spread (shapeCast S5632 (extractStridedSlice S1x5632 ![1, 0] cw slices_S3x5632_S1x5632_1_0) shapeCasts_S1x5632_S5632))))
    (mulf (extractStridedSlice S16x4096x5632 ![0, 2, 0] (padT u) slices_S16x4098x5632_S16x4096x5632_0_2_0)
      (spread (shapeCast S5632 (extractStridedSlice S1x5632 ![2, 0] cw slices_S3x5632_S1x5632_2_0) shapeCasts_S1x5632_S5632)))

/-- A constant on every token and column. -/
def lit (b : BitVec 32) : FVec Ideal S16x4096x2816 .f32 :=
  broadcastInDim S16x4096x2816 ![] bcast_S_S16x4096x2816 (constant S_ .f32 b)

/-- The gated activation of a gate and a value. -/
def geluT (g v : FVec Ideal S16x4096x2816 .f32) : FVec Ideal S16x4096x2816 .f32 :=
  mulf (mulf g (mulf (lit 0x3F000000#32) (addf (lit 0x3F800000#32) (Host.tanh (mulf (lit 0x3F4C422A#32)
    (addf g (mulf (lit 0x3D372713#32) (mulf (mulf g g) g)))))))) v

/-- The gated columns. -/
def actT (u : FVec Ideal S16x4096x5632 .f32) : FVec Ideal S16x4096x2816 .f32 :=
  geluT (extractStridedSlice S16x4096x2816 ![0, 0, 2816] u slices_S16x4096x5632_S16x4096x2816_0_0_2816)
    (extractStridedSlice S16x4096x2816 ![0, 0, 0] u slices_S16x4096x5632_S16x4096x2816_0_0_0)

/-- The down projection. -/
def downT (a : FVec Ideal S16x4096x2816 .f32) (wd : FVec Ideal S2816x1024 .f32) : FVec Ideal S16x4096x1024 .f32 :=
  Host.dotGeneral dot_S16x4096x2816_S2816x1024_S16x4096x1024_2_0_01_1_n_n none a wd

/-- The normalised, scaled and gated addition to the input. -/
def finT (x : FVec Ideal S16x4096x1024 .f32) (md : FVec Ideal S16x6144 .f32) (g : FVec Ideal S1024 .f32)
    (f : FVec Ideal S16x4096x1024 .f32) : FVec Ideal S16x4096x1024 .f32 :=
  addf x (mulf (broadcastInDim S16x4096x1024 ![0, 1, 2] bcast_S16x1x1024_S16x4096x1024_0_1_2
      (broadcastInDim S16x1x1024 ![0, 2] bcast_S16x1024_S16x1x1024_0_2 (extractStridedSlice S16x1024 ![0, 5120] md slices_S16x6144_S16x1024_0_5120)))
    (mulf (mulf f (broadcastInDim S16x4096x1024 ![0, 1, 2] bcast_S16x4096x1_S16x4096x1024_0_1_2
        (Host.rsqrt (addf (Host.divf (broadcastInDim S16x4096x1 ![0, 1] bcast_S16x4096_S16x4096x1_0_1
            (Host.reduceAdd (mulf f f) (constant S_ .f32 0x00000000#32) reducesTo_S16x4096x1024_S16x4096_d2 h_S_))
          (broadcastInDim S16x4096x1 ![] bcast_S_S16x4096x1 (constant S_ .f32 0x44800000#32)))
          (broadcastInDim S16x4096x1 ![] bcast_S_S16x4096x1 (constant S_ .f32 0x358637BD#32))))))
      (broadcastInDim S16x4096x1024 ![0, 1, 2] bcast_S1x1x1024_S16x4096x1024_0_1_2 (broadcastInDim S1x1x1024 ![2] bcast_S1024_S1x1x1024_2 g))))

variable (m : (ℓ : Loc nD τ sig) → Buf (Elt Ideal) ℓ)

/-- The reference's result, stage by stage. -/
theorem result_eq (c : Dev nD) : res_main_v65 m c
    = finT (m ((c.tc : Thread nD τ).loc main_arg1)) (m ((c.tc : Thread nD τ).loc main_arg2)) (m ((c.tc : Thread nD τ).loc main_arg3))
        (downT (actT (convT (upT (m ((c.tc : Thread nD τ).loc main_arg0)) (m ((c.tc : Thread nD τ).loc main_arg4)))
          (m ((c.tc : Thread nD τ).loc main_arg5)) (m ((c.tc : Thread nD τ).loc main_arg6)))) (m ((c.tc : Thread nD τ).loc main_arg7))) := rfl

theorem fin_at (x : FVec Ideal S16x4096x1024 .f32) (md : FVec Ideal S16x6144 .f32) (g : FVec Ideal S1024 .f32)
    (f : FVec Ideal S16x4096x1024 .f32) (b : Fin 16) (s : Fin 4096) (d : Fin 1024) : finT x md g f (ix3 b s d)
      = x (ix3 b s d) + md (ix2 b ⟨5120 + d.val, by omega⟩) * (f (ix3 b s d)
        * Ideal.rsqrt (Ideal.div (∑ k : Fin 1024, f (ix3 b s k) * f (ix3 b s k)) (Ideal.ofBits .f32 0x44800000#32)
          + Ideal.ofBits .f32 0x358637BD#32) * g (ix1 d)) := by
  pointwise [finT]

theorem down_at (a : FVec Ideal S16x4096x2816 .f32) (wd : FVec Ideal S2816x1024 .f32) (b : Fin 16) (s : Fin 4096) (d : Fin 1024) :
    downT a wd (ix3 b s d) = ∑ k : Fin 2816, a (ix3 b s k) * wd (ix2 k d) := by
  pointwise [downT]

theorem act_at (u : FVec Ideal S16x4096x5632 .f32) (b : Fin 16) (s : Fin 4096) (k : Fin 2816) :
    actT u (ix3 b s k) = gelu (u (ix3 b s ⟨2816 + k.val, by omega⟩)) (u (ix3 b s ⟨k.val, by omega⟩)) := by
  pointwise [actT, geluT, lit, gelu]

theorem conv_at (u : FVec Ideal S16x4096x5632 .f32) (cw : FVec Ideal S3x5632 .f32) (cb : FVec Ideal S5632 .f32)
    (b : Fin 16) (s : Fin 4096) (k : Fin 5632) : convT u cw cb (ix3 b s k) = convP cw cb (fun s k => u (ix3 b s k)) s k := by
  unfold convP
  pointwise [convT, spread, padT]
  have z : (FloatOps.sitofp (F := Ideal) .f32 0#32 : EReal) = 0 := by
    show (((0#32 : BitVec 32).toInt : ℝ) : EReal) = 0
    simp
  rw [z]
  congr 2
  · congr 2
    by_cases h : 1 ≤ s.val
    · rw [dif_pos h, dif_pos ⟨h, by omega⟩]
    · rw [dif_neg h, dif_neg (by omega)]
  · by_cases h : s.val + 1 < 4096
    · rw [dif_pos h, dif_pos (by omega)]
      congr 2
      apply Fin.ext; simp only; omega
    · rw [dif_neg h, dif_neg (by omega)]

theorem up_at (h : FVec Ideal S16x4096x1024 .bf16) (w : FVec Ideal S1024x5632 .f32) (b : Fin 16) (s : Fin 4096) (k : Fin 5632) :
    upT h w (ix3 b s k) = ∑ j : Fin 1024, h (ix3 b s j) * w (ix2 j k) := by
  pointwise [upT]

/-- The reference's result at an index is the plain form. -/
theorem result_at (c : Dev nD) (b : Fin 16) (s : Fin 4096) (d : Fin 1024) : res_main_v65 m c (ix3 b s d)
    = outP (fun s j => m ((c.tc : Thread nD τ).loc main_arg0) (ix3 b s j)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg1) (ix3 b s d)) (m ((c.tc : Thread nD τ).loc main_arg3) (ix1 d))
        (m ((c.tc : Thread nD τ).loc main_arg2) (ix2 b ⟨5120 + d.val, by omega⟩)) s d := by
  rw [result_eq, fin_at]
  unfold outP downP upP
  simp only [down_at, act_at, conv_at, up_at]

end Cert.FfnRefIdeal.Reference
end
end
-- ==== Proof.FfnClaims.lean ====
/- The claims of the feed-forward call. -/
module

public import proofs.«01_k».proof.Defs
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.Ffn
public import proofs.«01_k».proof.Proof.Gen.FfnIdeal
public import proofs.«01_k».proof.Proof.Gen.FfnRefIdeal
public import proofs.«01_k».proof.Proof.FfnResult
public import proofs.«01_k».proof.Proof.FfnReference
public import proofs.«01_k».proof.Proof.Gen.Pre_finite_up
public import Idealize.ShloMosaic.Lib.Quiescent

@[expose] public section

noncomputable section

namespace Cert.FfnClaims

open Idealize.ShloMosaic Idealize.ShloMosaic.TcCoe Idealize.SL.Sem

theorem frame_p : Cert.quiescent_Ffn := fun m ρ _ => Cert.Ffn.Gen.frame m ρ

theorem frame_pi : Cert.quiescent_FfnIdeal := fun m ρ _ => Cert.FfnIdeal.Gen.frame m ρ

theorem frame_pi_pre : Cert.quiescent_FfnIdeal_pre_finite_up := fun m ρ _ => Cert.FfnIdeal.Gen.frame m ρ

theorem frame_ri : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run m ρ)

theorem frame_ri_pre : Cert.quiescent_FfnRefIdeal_pre_finite_up := fun m ρ _ =>
  (θ_run Cert.FfnRefIdeal.defs _ _).mono (fun r h => ⟨fun c => (h c).2, Idealize.ShloMosaic.sem_eq_zero_of_no_sems (by decide) r.2⟩)
    (Cert.FfnRefIdeal.Value.run m ρ)

theorem preserves : Cert.preserves_Ffn_FfnIdeal :=
  IdealRules.named_const.statement Cert.FfnIdeal.κ "gelu_kc" .f32 0x3D122279#32 _ rfl

/-- What the precondition says. -/
theorem finite_of_pre (a0 : FVec Ideal Cert.FfnIdeal.S16x4096x1024 .bf16) (a1 : FVec Ideal Cert.FfnIdeal.S16x4096x1024 .f32)
    (a2 : FVec Ideal Cert.FfnIdeal.S16x6144 .f32) (a3 : FVec Ideal Cert.FfnIdeal.S1024 .f32)
    (a4 : FVec Ideal Cert.FfnIdeal.S1024x5632 .f32) (a5 : FVec Ideal Cert.FfnIdeal.S3x5632 .f32)
    (a6 : FVec Ideal Cert.FfnIdeal.S5632 .f32) (a7 : FVec Ideal Cert.FfnIdeal.S2816x1024 .f32)
    (h0 : (Cert.Pre_finite_up.fn (F := Ideal) a0 a1 a2 a3 a4 a5 a6 a7).1 = fun _ => 1)
    (h4 : (Cert.Pre_finite_up.fn (F := Ideal) a0 a1 a2 a3 a4 a5 a6 a7).2.1 = fun _ => 1)
    (h5 : (Cert.Pre_finite_up.fn (F := Ideal) a0 a1 a2 a3 a4 a5 a6 a7).2.2.1 = fun _ => 1)
    (h6 : (Cert.Pre_finite_up.fn (F := Ideal) a0 a1 a2 a3 a4 a5 a6 a7).2.2.2 = fun _ => 1) :
    (∀ i, Cert.FfnEq.IsR (a0 i)) ∧ (∀ i, Cert.FfnEq.IsR (a4 i)) ∧ (∀ i, Cert.FfnEq.IsR (a5 i)) ∧ (∀ i, Cert.FfnEq.IsR (a6 i)) :=
  ⟨fun i => Cert.FfnEq.isR_of_cmp (congrFun h0 i), fun i => Cert.FfnEq.isR_of_cmp (congrFun h4 i), fun i => Cert.FfnEq.isR_of_cmp (congrFun h5 i),
    fun i => Cert.FfnEq.isR_of_cmp (congrFun h6 i)⟩

/-- Under the precondition the reference's array is the kernel's. -/
theorem result (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ)
    (hpre : Cert.Pre_FfnIdeal_finite_up m) (c : Dev Cert.FfnIdeal.nD)
    (h0 : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0))
    (h1 : m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1))
    (h2 : m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2))
    (h3 : m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3))
    (h4 : m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4))
    (h5 : m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5))
    (h6 : m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6))
    (h7 : m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) :
    Cert.FfnRefIdeal.Value.res_main_v65 m' c = (Cert.FfnIdeal.Gen.dats m 0 c).arrAt 10 (Cert.FfnIdeal.cfgs 0).N := by
  obtain ⟨p0, p4, p5, p6⟩ := hpre c
  obtain ⟨f0, f4, f5, f6⟩ := finite_of_pre _ _ _ _ _ _ _ _ p0 p4 p5 p6
  rw [Cert.FfnIdeal.Result.final]
  funext i
  rw [show i = ix3 (i 0) (i 1) (i 2) from by funext a; fin_cases a <;> rfl]
  refine (Cert.FfnRefIdeal.Reference.result_at m' c (i 0) (i 1) (i 2)).trans ?_
  rw [h0, h1, h2, h3, h4, h5, h6, h7]
  exact Cert.FfnEq.out_eq _ _ _ _ _ (fun s j => f0 _) f4 f5 f6 _ _ _ _ _

theorem algebraic : Cert.algebraic_FfnIdeal_FfnRefIdeal_pre_finite_up := by
  intro m ρ m' ρ' hpre hagree
  refine ⟨fun c => (Cert.FfnIdeal.Gen.dats m 0 c).arrAt 10 (Cert.FfnIdeal.cfgs 0).N, Cert.FfnIdeal.Value.run_blocks m ρ, ?_⟩
  refine (θ_run Cert.FfnRefIdeal.defs _ _).mono (fun _ h c => ⟨(h c).1.trans ?_, (h c).2⟩) (Cert.FfnRefIdeal.Value.run m' ρ')
  obtain ⟨h0, h1, h2, h3, h4, h5, h6, h7⟩ := hagree c
  exact result m m' hpre c h0 h1 h2 h3 h4 h5 h6 h7

end Cert.FfnClaims
end
end
-- ==== Proof.MergeBlock.lean ====
/- One block of the merge kernel: its two outputs at an index, over its input blocks. -/
module

public import proofs.«01_k».proof.Proof.Gen.MergeIdeal.Frame
public import Idealize.ShloMosaic.Lib.Pipeline.ValueKit
public import Idealize.ShloMosaic.Lib.Pointwise

@[expose] public section

set_option maxRecDepth 16384

noncomputable section

namespace Cert.MergeIdeal.Block

open Idealize.ShloMosaic Idealize.ShloMosaic.TcCoe Idealize.SL.Sem Cert.MergeIdeal Cert.MergeIdeal.Gen

/-- The recurrence's output times the activated gate, twice over: the weights carry the half. -/
def zAt (h y : EReal) : EReal :=
  h * y + h * y * Ideal.tanh (y * (Ideal.ofBits .f32 0x3F4C422A#32
    + Named.named (F := Ideal) (φ := .f32) κ "gelu_kc" 0x3D122279#32 * (y * y)))

/-- Column `d` of a row, normalised and scaled. -/
def rms (f : Fin 1024 → EReal) (s : EReal) (d : Fin 1024) : EReal :=
  f d * Ideal.rsqrt (Ideal.div (∑ k : Fin 1024, f k * f k) (Ideal.ofBits .f32 0x44800000#32) + Ideal.ofBits .f32 0x358637BD#32) * s

/-- The weighted sum of the two branches. -/
def mixAt (h y : Fin 1024 → EReal) (a b : EReal) (f : Fin 512 → EReal) (wa : Fin 1024 → EReal) (wb : Fin 512 → EReal) : EReal :=
  (Ideal.ofBits .f32 0x3F800000#32 + Ideal.tanh a) * (∑ j : Fin 1024, zAt (h j) (y j) * wa j)
    + (Ideal.ofBits .f32 0x3F800000#32 + Ideal.tanh b) * (∑ j : Fin 512, f j * wb j)

theorem mix_at (h : FVec Ideal S1024x1024 .f32) (y : Vec Ideal S1x1024x1024 .bf16) (wa : Vec Ideal S1024x1024 .bf16)
    (f : Vec Ideal S1x1024x512 .bf16) (wb : Vec Ideal S512x1024 .bf16) (a b : Vec Ideal S1x1024x1024 .bf16) (r k : Fin 1024) :
    k0_pay4 h y wa f wb a b (ix2 r k) = mixAt (fun j => h (ix2 r j)) (fun j => y (ix3 0 r j)) (a (ix3 0 r k)) (b (ix3 0 r k))
      (fun j => f (ix3 0 r j)) (fun j => wa (ix2 j k)) (fun j => wb (ix2 j k)) := by
  unfold mixAt zAt
  pointwise [k0_pay4]

theorem x1_at (v1 : FVec Ideal S6x1024 .f32) (v56 v58 : FVec Ideal S1024x1024 .bf16) (x : Vec Ideal S1x1024x1024 .f32)
    (g : Vec Ideal S1x1024 .f32) (r d : Fin 1024) :
    k0_pay6 v1 v56 v58 x g (ix2 r d) = x (ix3 0 r d)
      + rms (fun k => ∑ j : Fin 1024, v56 (ix2 r j) * v58 (ix2 j k)) (g (ix2 0 d) * v1 (ix2 2 d)) d := by
  unfold rms
  pointwise [k0_pay6]

theorem h2_at (v1 : FVec Ideal S6x1024 .f32) (v56 v58 : FVec Ideal S1024x1024 .bf16) (x : Vec Ideal S1x1024x1024 .f32)
    (g g2 : Vec Ideal S1x1024 .f32) (r d : Fin 1024) :
    k0_pay1 v1 (k0_pay8 v1 v56 v58 x g g2) (ix3 0 r d)
      = rms (fun k => k0_pay6 v1 v56 v58 x g (ix2 r k)) (g2 (ix2 0 d) * (Ideal.ofBits .f32 0x3F800000#32 + v1 (ix2 4 d))) d
        + v1 (ix2 3 d) := by
  unfold rms
  pointwise [k0_pay1, k0_pay8]

theorem heads_at (x : Vec Ideal S1x8x1024x128 .f32) (r k : Fin 1024) :
    k0_pay3 (View.ld x r0_1) (View.ld x r0_2) (View.ld x r0_3) (View.ld x r0_4) (View.ld x r0_5) (View.ld x r0_6)
      (View.ld x r0_7) (View.ld x r0_8) (ix2 r k) = x (ix4 0 ⟨k.val / 128, by omega⟩ r ⟨k.val % 128, by omega⟩) := by
  have e : ∀ (p p' : Fin 8) (q q' : Fin 128), p.val = p'.val → q.val = q'.val → x (ix4 0 p r q) = x (ix4 0 p' r q') := by
    intro p p' q q' h h'
    rw [Fin.ext h, Fin.ext h']
  have hk : k.val < 1024 := k.isLt
  pointwise [k0_pay3]
  split_ifs <;> refine e _ _ _ _ ?_ ?_ <;> simp <;> omega

/-- A row of the block before the normalisation. -/
def moB (x0 : Vec Ideal S1x8x1024x128 .f32) (x1 : Vec Ideal S1x1024x3072 .bf16) (x2 : Vec Ideal S1x1024x512 .bf16)
    (x7 : Vec Ideal S1024x1024 .bf16) (x8 : Vec Ideal S512x1024 .bf16) (x9 : Vec Ideal S1024x1024 .bf16) (r k : Fin 1024) : EReal :=
  ∑ l : Fin 1024, mixAt (fun j => x0 (ix4 0 ⟨j.val / 128, by omega⟩ r ⟨j.val % 128, by omega⟩))
    (fun j => x1 (ix3 0 r ⟨j.val, by omega⟩)) (x1 (ix3 0 r ⟨1024 + l.val, by omega⟩)) (x1 (ix3 0 r ⟨2048 + l.val, by omega⟩))
    (fun j => x2 (ix3 0 r j)) (fun j => x7 (ix2 j l)) (fun j => x8 (ix2 j l)) * x9 (ix2 l k)

section
variable (x0 : Vec Ideal S1x8x1024x128 .f32) (x1 : Vec Ideal S1x1024x3072 .bf16) (x2 : Vec Ideal S1x1024x512 .bf16)
    (x3 : Vec Ideal S1x1024x1024 .f32) (x4 : Vec Ideal S1x6x1024 .f32) (x5 : Vec Ideal S1x1024 .f32) (x6 : Vec Ideal S1x1024 .f32)
    (x7 : Vec Ideal S1024x1024 .bf16) (x8 : Vec Ideal S512x1024 .bf16) (x9 : Vec Ideal S1024x1024 .bf16)

theorem pay9_at (n : Fin 6) (d : Fin 1024) : k0_pay9 x0 x1 x2 x3 x4 x5 x6 x7 x8 x9 (ix2 n d) = x4 (ix3 0 n d) := by
  pointwise [k0_pay9, k0_pay2]

theorem pay11_at (l k : Fin 1024) : k0_pay11 x0 x1 x2 x3 x4 x5 x6 x7 x8 x9 (ix2 l k) = x9 (ix2 l k) := by
  pointwise [k0_pay11, k0_pay5]

theorem pay10_at (r l : Fin 1024) : k0_pay10 x0 x1 x2 x3 x4 x5 x6 x7 x8 x9 (ix2 r l)
    = mixAt (fun j => x0 (ix4 0 ⟨j.val / 128, by omega⟩ r ⟨j.val % 128, by omega⟩))
    (fun j => x1 (ix3 0 r ⟨j.val, by omega⟩)) (x1 (ix3 0 r ⟨1024 + l.val, by omega⟩)) (x1 (ix3 0 r ⟨2048 + l.val, by omega⟩))
    (fun j => x2 (ix3 0 r j)) (fun j => x7 (ix2 j l)) (fun j => x8 (ix2 j l)) := by
  unfold k0_pay10
  rw [mix_at]
  simp only [heads_at]
  pointwise

/-- The residual stream of the block at an index. -/
def x1B (r d : Fin 1024) : EReal := x3 (ix3 0 r d) + rms (moB x0 x1 x2 x7 x8 x9 r) (x5 (ix2 0 d) * x4 (ix3 0 2 d)) d

theorem pay6_at (r d : Fin 1024) : k0_pay6 (k0_pay9 x0 x1 x2 x3 x4 x5 x6 x7 x8 x9) (k0_pay10 x0 x1 x2 x3 x4 x5 x6 x7 x8 x9)
      (k0_pay11 x0 x1 x2 x3 x4 x5 x6 x7 x8 x9) x3 x5 (ix2 r d)
      = x1B x0 x1 x2 x3 x4 x5 x7 x8 x9 r d := by
  rw [x1_at]
  simp only [pay10_at, pay11_at, pay9_at]
  unfold x1B moB
  pointwise

theorem out10_at (r d : Fin 1024) : out0_10 x0 x1 x2 x3 x4 x5 x6 x7 x8 x9 (ix3 0 r d)
      = x1B x0 x1 x2 x3 x4 x5 x7 x8 x9 r d := by
  frame_out
  pointwise [k0_pay7]
  exact pay6_at x0 x1 x2 x3 x4 x5 x6 x7 x8 x9 r d

theorem out11_at (r d : Fin 1024) : out0_11 x0 x1 x2 x3 x4 x5 x6 x7 x8 x9 (ix3 0 r d)
      = rms (x1B x0 x1 x2 x3 x4 x5 x7 x8 x9 r) (x6 (ix2 0 d) * (Ideal.ofBits .f32 0x3F800000#32 + x4 (ix3 0 4 d))) d
        + x4 (ix3 0 3 d) := by
  frame_out
  refine (h2_at _ _ _ _ _ _ r d).trans ?_
  pointwise [pay6_at, pay9_at]

end

end Cert.MergeIdeal.Block
end
end
-- ==== Proof.MergeResult.lean ====
/- What the merge kernel's two result arrays hold: at every index, the value over the argument arrays. -/
module

public import proofs.«01_k».proof.Proof.MergeBlock

@[expose] public section

set_option maxRecDepth 16384

noncomputable section

namespace Cert.MergeIdeal.Result

open Idealize.ShloMosaic Idealize.ShloMosaic.TcCoe Idealize.SL.Sem Cert.MergeIdeal Cert.MergeIdeal.Gen Cert.MergeIdeal.Block

section
variable (hs : Vec Ideal S16x8x4096x128 .f32) (yag : Vec Ideal S16x4096x3072 .bf16) (fo : Vec Ideal S16x4096x512 .bf16)
  (x : Vec Ideal S16x4096x1024 .f32) (md : Vec Ideal S16x6144 .f32) (gp gn : Vec Ideal S1024 .f32)
  (wa : Vec Ideal S1024x1024 .f32) (wb : Vec Ideal S512x1024 .f32) (wo : Vec Ideal S1024x1024 .f32)

/-- The output projection of the merged branches at token `s`, with both halves folded into the weights. -/
def moZ (b : Fin 16) (s : Fin 4096) (k : Fin 1024) : EReal :=
  ∑ l : Fin 1024, mixAt (fun j => hs (ix4 b ⟨j.val / 128, by omega⟩ s ⟨j.val % 128, by omega⟩))
    (fun j => yag (ix3 b s ⟨j.val, by omega⟩)) (yag (ix3 b s ⟨1024 + l.val, by omega⟩)) (yag (ix3 b s ⟨2048 + l.val, by omega⟩))
    (fun j => fo (ix3 b s j)) (fun j => Ideal.ofBits .f32 0x3F000000#32 * wa (ix2 j l)) (fun j => wb (ix2 j l))
    * (Ideal.ofBits .f32 0x3F000000#32 * wo (ix2 l k))

/-- The residual stream at an index. -/
def x1Z (b : Fin 16) (s : Fin 4096) (d : Fin 1024) : EReal :=
  x (ix3 b s d) + rms (moZ hs yag fo wa wb wo b s) (gp (ix1 d) * md (ix2 b ⟨2048 + d.val, by omega⟩)) d

/-- The normalised and modulated activations at an index. -/
def h2Z (b : Fin 16) (s : Fin 4096) (d : Fin 1024) : EReal :=
  rms (x1Z hs yag fo x md gp wa wb wo b s) (gn (ix1 d) * (Ideal.ofBits .f32 0x3F800000#32 + md (ix2 b ⟨4096 + d.val, by omega⟩))) d
    + md (ix2 b ⟨3072 + d.val, by omega⟩)
end

theorem idx : ∀ t : Fin cfg0.N, win0_0.index t = ![t.val / 4, 0, t.val % 4, 0]
    ∧ win0_1.index t = ![t.val / 4, t.val % 4, 0]
    ∧ win0_2.index t = ![t.val / 4, t.val % 4, 0]
    ∧ win0_3.index t = ![t.val / 4, t.val % 4, 0]
    ∧ win0_4.index t = ![t.val / 4, 0, 0]
    ∧ win0_5.index t = ![0, 0] ∧ win0_6.index t = ![0, 0] ∧ win0_7.index t = ![0, 0]
    ∧ win0_8.index t = ![0, 0] ∧ win0_9.index t = ![0, 0]
    ∧ win0_10.index t = ![t.val / 4, t.val % 4, 0] ∧ win0_11.index t = ![t.val / 4, t.val % 4, 0] :=
  (by decide +kernel : ∀ t : Fin grid0.N, _)

variable (m : (ℓ : Loc nD τ sig) → Buf (Elt Ideal) ℓ)

/-- The sequence of a grid point. -/
def bOf (t : Fin cfg0.N) : Fin 16 := ⟨t.val / 4, by have h : t.val < 64 := t.isLt; omega⟩

theorem y0_at (c : Dev nD) (t : Fin cfg0.N) (p : Fin 8) (r : Fin 1024) (q : Fin 128) :
    iblk m c 0 t (ix4 0 p r q) = m ((c : Thread nD τ).loc main_arg0) (ix4 (bOf t) p ⟨t.val % 4 * 1024 + r.val, by omega⟩ q) := by
  blk_ext [iblk, V, idx t, bOf]

theorem y1_at (c : Dev nD) (t : Fin cfg0.N) (r : Fin 1024) (j : Fin 3072) :
    iblk m c 1 t (ix3 0 r j) = m ((c : Thread nD τ).loc main_arg1) (ix3 (bOf t) ⟨t.val % 4 * 1024 + r.val, by omega⟩ j) := by
  blk_ext [iblk, V, idx t, bOf]

theorem y2_at (c : Dev nD) (t : Fin cfg0.N) (r : Fin 1024) (j : Fin 512) :
    iblk m c 2 t (ix3 0 r j) = m ((c : Thread nD τ).loc main_arg2) (ix3 (bOf t) ⟨t.val % 4 * 1024 + r.val, by omega⟩ j) := by
  blk_ext [iblk, V, idx t, bOf]

theorem y3_at (c : Dev nD) (t : Fin cfg0.N) (r j : Fin 1024) :
    iblk m c 3 t (ix3 0 r j) = m ((c : Thread nD τ).loc main_arg3) (ix3 (bOf t) ⟨t.val % 4 * 1024 + r.val, by omega⟩ j) := by
  blk_ext [iblk, V, idx t, bOf]

theorem y4_at (c : Dev nD) (t : Fin cfg0.N) (n : Fin 6) (d : Fin 1024) :
    iblk m c 4 t (ix3 0 n d) = m ((c : Thread nD τ).loc main_arg4) (ix2 (bOf t) ⟨n.val * 1024 + d.val, by omega⟩) := by
  blk_simp [iblk, idx t]
  entry_read
  pointwise
  blk_ext [idx t, bOf]

theorem y5_at (c : Dev nD) (t : Fin cfg0.N) (d : Fin 1024) :
    iblk m c 5 t (ix2 0 d) = m ((c : Thread nD τ).loc main_arg5) (ix1 d) := by
  blk_simp [iblk, idx t]
  entry_read
  pointwise
  blk_ext [idx t, bOf]

theorem y6_at (c : Dev nD) (t : Fin cfg0.N) (d : Fin 1024) :
    iblk m c 6 t (ix2 0 d) = m ((c : Thread nD τ).loc main_arg6) (ix1 d) := by
  blk_simp [iblk, idx t]
  entry_read
  pointwise
  blk_ext [idx t, bOf]

theorem y7_at (c : Dev nD) (t : Fin cfg0.N) (j k : Fin 1024) :
    iblk m c 7 t (ix2 j k) = Ideal.ofBits .f32 0x3F000000#32 * m ((c : Thread nD τ).loc main_arg7) (ix2 j k) := by
  blk_simp [iblk, idx t]
  entry_read
  pointwise
  blk_point [idx t]

theorem y8_at (c : Dev nD) (t : Fin cfg0.N) (j : Fin 512) (k : Fin 1024) :
    iblk m c 8 t (ix2 j k) = m ((c : Thread nD τ).loc main_arg8) (ix2 j k) := by
  blk_simp [iblk, idx t]
  entry_read
  pointwise
  blk_ext [idx t, bOf]

theorem y9_at (c : Dev nD) (t : Fin cfg0.N) (j k : Fin 1024) :
    iblk m c 9 t (ix2 j k) = Ideal.ofBits .f32 0x3F000000#32 * m ((c : Thread nD τ).loc main_arg9) (ix2 j k) := by
  blk_simp [iblk, idx t]
  entry_read
  pointwise
  blk_point [idx t]

/-- A block's residual stream is the array's at the block's place. -/
theorem x1_of (c : Dev nD) (t : Fin cfg0.N) (r d : Fin 1024) :
    x1B (iblk m c 0 t) (iblk m c 1 t) (iblk m c 2 t) (iblk m c 3 t) (iblk m c 4 t) (iblk m c 5 t) (iblk m c 7 t) (iblk m c 8 t)
        (iblk m c 9 t) r d
      = x1Z (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg7)) (m ((c : Thread nD τ).loc main_arg8)) (m ((c : Thread nD τ).loc main_arg9))
          (bOf t) ⟨t.val % 4 * 1024 + r.val, by omega⟩ d := by
  have e : moB (iblk m c 0 t) (iblk m c 1 t) (iblk m c 2 t) (iblk m c 7 t) (iblk m c 8 t) (iblk m c 9 t) r
      = moZ (m ((c : Thread nD τ).loc main_arg0)) (m ((c : Thread nD τ).loc main_arg1)) (m ((c : Thread nD τ).loc main_arg2))
          (m ((c : Thread nD τ).loc main_arg7)) (m ((c : Thread nD τ).loc main_arg8)) (m ((c : Thread nD τ).loc main_arg9))
          (bOf t) ⟨t.val % 4 * 1024 + r.val, by omega⟩ := by
    funext k
    unfold moB moZ
    simp only [y0_at, y1_at, y2_at, y7_at, y8_at, y9_at]
  unfold x1B x1Z
  rw [e, y3_at, y4_at, y5_at]
  rfl

/-- The first result array after the run. -/
theorem final10 (c : Dev nD) : (dats m 0 c).arrAt 10 (cfgs 0).N = fun i => x1Z (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg7))
    (m ((c : Thread nD τ).loc main_arg8)) (m ((c : Thread nD τ).loc main_arg9)) (i 0) (i 1) (i 2) := by
  refine (dats m 0 c).arrAt_eq_of_covers 10 _ (by decide +kernel) fun t _ y => ?_
  blk_simp
  rw [after0_10]
  idx_vars y
  obtain rfl : y0 = 0 := Subsingleton.elim _ _
  have e : ((View.whole main_v10_0).slice (win0_10.rect t)).emb (ix3 0 y1 y2)
      = ix3 (bOf t) ⟨t.val % 4 * 1024 + y1.val, by omega⟩ y2 := by blk_ext [idx t, bOf]
  rw [e]
  refine (out10_at (iblk m c 0 t) (iblk m c 1 t) (iblk m c 2 t) (iblk m c 3 t) (iblk m c 4 t) (iblk m c 5 t)
    (iblk m c 6 t) (iblk m c 7 t) (iblk m c 8 t) (iblk m c 9 t) y1 y2).trans ?_
  exact x1_of m c t y1 y2

/-- The second result array after the run. -/
theorem final11 (c : Dev nD) : (dats m 0 c).arrAt 11 (cfgs 0).N = fun i => h2Z (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (i 0) (i 1) (i 2) := by
  refine (dats m 0 c).arrAt_eq_of_covers 11 _ (by decide +kernel) fun t _ y => ?_
  blk_simp
  rw [after0_11]
  idx_vars y
  obtain rfl : y0 = 0 := Subsingleton.elim _ _
  have e : ((View.whole main_v10_1).slice (win0_11.rect t)).emb (ix3 0 y1 y2)
      = ix3 (bOf t) ⟨t.val % 4 * 1024 + y1.val, by omega⟩ y2 := by blk_ext [idx t, bOf]
  rw [e]
  refine (out11_at (iblk m c 0 t) (iblk m c 1 t) (iblk m c 2 t) (iblk m c 3 t) (iblk m c 4 t) (iblk m c 5 t)
    (iblk m c 6 t) (iblk m c 7 t) (iblk m c 8 t) (iblk m c 9 t) y1 y2).trans ?_
  rw [y6_at, y4_at, y4_at]
  simp only [funext (x1_of m c t y1)]
  rfl

end Cert.MergeIdeal.Result
end
end
-- ==== Proof.MergeReference.lean ====
/- What the plain merge of the branches computes at an index. -/
module

public import proofs.«01_k».proof.Proof.Gen.MergeRefIdeal.Run
public import Idealize.ShloMosaic.Lib.Pointwise
public import Idealize.ShloMosaic.Lib.Pipeline.ValueKit

@[expose] public section

set_option maxRecDepth 16384
set_option maxHeartbeats 4000000

noncomputable section

namespace Cert.MergeRefIdeal.Reference

open Idealize.ShloMosaic Idealize.ShloMosaic.TcCoe Idealize.SL.Sem Cert.MergeRefIdeal Cert.MergeRefIdeal.Gen Cert.MergeRefIdeal.Value

/-- A constant on every token and column. -/
def lit (b : BitVec 32) : FVec Ideal S16x4096x1024 .f32 :=
  broadcastInDim S16x4096x1024 ![] bcast_S_S16x4096x1024 (constant S_ .f32 b)

/-- The tanh form of the activation. -/
def geluT (y : FVec Ideal S16x4096x1024 .f32) : FVec Ideal S16x4096x1024 .f32 :=
  mulf y (mulf (lit 0x3F000000#32) (addf (lit 0x3F800000#32) (Host.tanh (mulf (lit 0x3F4C422A#32)
    (addf y (mulf (lit 0x3D372713#32) (mulf (mulf y y) y)))))))

/-- The logistic function of twice the values. -/
def sigT (g : FVec Ideal S16x4096x1024 .f32) : FVec Ideal S16x4096x1024 .f32 :=
  Host.divf (lit 0x3F800000#32) (addf (lit 0x3F800000#32) (Host.exp (Host.negf (mulf (lit 0x40000000#32) g))))

/-- The output of the recurrence's branch. -/
def yaT (hs : FVec Ideal S16x8x4096x128 .f32) (yag : FVec Ideal S16x4096x3072 .bf16) (wa : FVec Ideal S1024x1024 .f32) :
    FVec Ideal S16x4096x1024 .f32 :=
  Host.dotGeneral dot_S16x4096x1024_S1024x1024_S16x4096x1024_2_0_01_1_n_n none
    (mulf (shapeCast _ (transpose S16x4096x8x128 [0, 2, 1, 3] hs transposes_S16x8x4096x128_S16x4096x8x128_0_2_1_3) shapeCasts_S16x4096x8x128_S16x4096x1024)
      (geluT (extractStridedSlice S16x4096x1024 ![0, 0, 0] (extf .f32 yag bitsLt_bf16_f32) slices_S16x4096x3072_S16x4096x1024_0_0_0))) wa

/-- The output of the Fourier branch. -/
def ybT (fo : FVec Ideal S16x4096x512 .bf16) (wb : FVec Ideal S512x1024 .f32) : FVec Ideal S16x4096x1024 .f32 :=
  Host.dotGeneral dot_S16x4096x512_S512x1024_S16x4096x1024_2_0_01_1_n_n none (extf .f32 fo bitsLt_bf16_f32) wb

/-- The merged branches, projected. -/
def moT (yag : FVec Ideal S16x4096x3072 .bf16) (ya yb : FVec Ideal S16x4096x1024 .f32) (wo : FVec Ideal S1024x1024 .f32) :
    FVec Ideal S16x4096x1024 .f32 :=
  Host.dotGeneral dot_S16x4096x1024_S1024x1024_S16x4096x1024_2_0_01_1_n_n none
    (addf (mulf (sigT (extractStridedSlice S16x4096x1024 ![0, 0, 1024] (extf .f32 yag bitsLt_bf16_f32) slices_S16x4096x3072_S16x4096x1024_0_0_1024)) ya)
      (mulf (sigT (extractStridedSlice S16x4096x1024 ![0, 0, 2048] (extf .f32 yag bitsLt_bf16_f32) slices_S16x4096x3072_S16x4096x1024_0_0_2048)) yb)) wo

/-- The normalisation. -/
def rmsT (f : FVec Ideal S16x4096x1024 .f32) (g : FVec Ideal S1024 .f32) : FVec Ideal S16x4096x1024 .f32 :=
  mulf (mulf f (broadcastInDim S16x4096x1024 ![0, 1, 2] bcast_S16x4096x1_S16x4096x1024_0_1_2
        (Host.rsqrt (addf (Host.divf (broadcastInDim S16x4096x1 ![0, 1] bcast_S16x4096_S16x4096x1_0_1
            (Host.reduceAdd (mulf f f) (constant S_ .f32 0x00000000#32) reducesTo_S16x4096x1024_S16x4096_d2 h_S_))
          (broadcastInDim S16x4096x1 ![] bcast_S_S16x4096x1 (constant S_ .f32 0x44800000#32)))
          (broadcastInDim S16x4096x1 ![] bcast_S_S16x4096x1 (constant S_ .f32 0x358637BD#32))))))
      (broadcastInDim S16x4096x1024 ![0, 1, 2] bcast_S1x1x1024_S16x4096x1024_0_1_2 (broadcastInDim S1x1x1024 ![2] bcast_S1024_S1x1x1024_2 g))

/-- The residual stream. -/
def x1T (x : FVec Ideal S16x4096x1024 .f32) (md : FVec Ideal S16x6144 .f32) (g : FVec Ideal S1024 .f32)
    (f : FVec Ideal S16x4096x1024 .f32) : FVec Ideal S16x4096x1024 .f32 :=
  addf x (mulf (broadcastInDim S16x4096x1024 ![0, 1, 2] bcast_S16x1x1024_S16x4096x1024_0_1_2
      (broadcastInDim S16x1x1024 ![0, 2] bcast_S16x1024_S16x1x1024_0_2 (extractStridedSlice S16x1024 ![0, 2048] md slices_S16x6144_S16x1024_0_2048)))
    (rmsT f g))

/-- The normalised and modulated activations. -/
def h2T (x1 : FVec Ideal S16x4096x1024 .f32) (md : FVec Ideal S16x6144 .f32) (g : FVec Ideal S1024 .f32) : FVec Ideal S16x4096x1024 .bf16 :=
  truncf .bf16 (addf (mulf (rmsT x1 g) (broadcastInDim S16x4096x1024 ![0, 1, 2] bcast_S16x1x1024_S16x4096x1024_0_1_2
      (addf (broadcastInDim S16x1x1024 ![] bcast_S_S16x1x1024 (constant S_ .f32 0x3F800000#32))
        (broadcastInDim S16x1x1024 ![0, 2] bcast_S16x1024_S16x1x1024_0_2 (extractStridedSlice S16x1024 ![0, 4096] md slices_S16x6144_S16x1024_0_4096)))))
    (broadcastInDim S16x4096x1024 ![0, 1, 2] bcast_S16x1x1024_S16x4096x1024_0_1_2
      (broadcastInDim S16x1x1024 ![0, 2] bcast_S16x1024_S16x1x1024_0_2 (extractStridedSlice S16x1024 ![0, 3072] md slices_S16x6144_S16x1024_0_3072)))) bitsLt_bf16_f32

variable (m : (ℓ : Loc nD τ sig) → Buf (Elt Ideal) ℓ)

/-- The first result, stage by stage. -/
theorem result0_eq (c : Dev nD) : res_main_v70 m c
    = x1T (m ((c.tc : Thread nD τ).loc main_arg3)) (m ((c.tc : Thread nD τ).loc main_arg4)) (m ((c.tc : Thread nD τ).loc main_arg5))
        (moT (m ((c.tc : Thread nD τ).loc main_arg1)) (yaT (m ((c.tc : Thread nD τ).loc main_arg0)) (m ((c.tc : Thread nD τ).loc main_arg1))
          (m ((c.tc : Thread nD τ).loc main_arg7))) (ybT (m ((c.tc : Thread nD τ).loc main_arg2)) (m ((c.tc : Thread nD τ).loc main_arg8)))
          (m ((c.tc : Thread nD τ).loc main_arg9))) := rfl

/-- The second result, stage by stage. -/
theorem result1_eq (c : Dev nD) : res_main_v90 m c
    = h2T (res_main_v70 m c) (m ((c.tc : Thread nD τ).loc main_arg4)) (m ((c.tc : Thread nD τ).loc main_arg6)) := rfl

/-- The logistic function of twice a value. -/
def sig2 (g : EReal) : EReal := Ideal.div 1 (1 + Ideal.exp (-(Ideal.ofBits .f32 0x40000000#32 * g)))

/-- The tanh form of the activation. -/
def gelu (g : EReal) : EReal :=
  g * (Ideal.ofBits .f32 0x3F000000#32 * (1 + Ideal.tanh (Ideal.ofBits .f32 0x3F4C422A#32
    * (g + Ideal.ofBits .f32 0x3D372713#32 * (g * g * g)))))

/-- A row normalised and scaled. -/
def rmsR (f : Fin 1024 → EReal) (g : EReal) (d : Fin 1024) : EReal :=
  f d * Ideal.rsqrt (Ideal.div (∑ k : Fin 1024, f k * f k) (Ideal.ofBits .f32 0x44800000#32) + Ideal.ofBits .f32 0x358637BD#32) * g

theorem ya_at (hs : FVec Ideal S16x8x4096x128 .f32) (yag : FVec Ideal S16x4096x3072 .bf16) (wa : FVec Ideal S1024x1024 .f32)
    (b : Fin 16) (s : Fin 4096) (k : Fin 1024) : yaT hs yag wa (ix3 b s k)
      = ∑ j : Fin 1024, hs (ix4 b ⟨j.val / 128, by omega⟩ s ⟨j.val % 128, by omega⟩) * gelu (yag (ix3 b s ⟨j.val, by omega⟩)) * wa (ix2 j k) := by
  pointwise [yaT, geluT, lit, gelu]

theorem yb_at (fo : FVec Ideal S16x4096x512 .bf16) (wb : FVec Ideal S512x1024 .f32) (b : Fin 16) (s : Fin 4096) (k : Fin 1024) :
    ybT fo wb (ix3 b s k) = ∑ j : Fin 512, fo (ix3 b s j) * wb (ix2 j k) := by
  pointwise [ybT]

theorem mo_at (yag : FVec Ideal S16x4096x3072 .bf16) (ya yb : FVec Ideal S16x4096x1024 .f32) (wo : FVec Ideal S1024x1024 .f32)
    (b : Fin 16) (s : Fin 4096) (k : Fin 1024) : moT yag ya yb wo (ix3 b s k)
      = ∑ l : Fin 1024, (sig2 (yag (ix3 b s ⟨1024 + l.val, by omega⟩)) * ya (ix3 b s l)
          + sig2 (yag (ix3 b s ⟨2048 + l.val, by omega⟩)) * yb (ix3 b s l)) * wo (ix2 l k) := by
  pointwise [moT, sigT, lit, sig2]

theorem x1_at (x : FVec Ideal S16x4096x1024 .f32) (md : FVec Ideal S16x6144 .f32) (g : FVec Ideal S1024 .f32)
    (f : FVec Ideal S16x4096x1024 .f32) (b : Fin 16) (s : Fin 4096) (d : Fin 1024) : x1T x md g f (ix3 b s d)
      = x (ix3 b s d) + md (ix2 b ⟨2048 + d.val, by omega⟩) * rmsR (fun k => f (ix3 b s k)) (g (ix1 d)) d := by
  pointwise [x1T, rmsT, rmsR]

theorem h2_at (x1 : FVec Ideal S16x4096x1024 .f32) (md : FVec Ideal S16x6144 .f32) (g : FVec Ideal S1024 .f32)
    (b : Fin 16) (s : Fin 4096) (d : Fin 1024) : h2T x1 md g (ix3 b s d)
      = rmsR (fun k => x1 (ix3 b s k)) (g (ix1 d)) d * (1 + md (ix2 b ⟨4096 + d.val, by omega⟩)) + md (ix2 b ⟨3072 + d.val, by omega⟩) := by
  pointwise [h2T, rmsT, rmsR]

end Cert.MergeRefIdeal.Reference
end
end
-- ==== Proof.MergeEquation.lean ====
/- The merge kernel's values equal the plain ones: the gates as `1 + tanh` with the halves folded into the weights, against
   the logistic function and the plain weights. -/
module

public import proofs.«01_k».proof.Proof.MergeResult
public import proofs.«01_k».proof.Proof.MergeReference
public import proofs.«01_k».proof.Proof.FfnPlain
public import proofs.«01_k».proof.Proof.Gen.Pre_finite_gates

@[expose] public section

set_option maxRecDepth 16384

noncomputable section

namespace Cert.MergeEq

open Idealize.ShloMosaic Idealize.ShloMosaic.TcCoe Idealize.SL.Sem Cert.MergeIdeal.Result Cert.MergeIdeal.Block
open Cert.FfnEq hiding gelu
open Cert.MergeRefIdeal.Reference (sig2 gelu rmsR yaT ybT moT x1T h2T)

theorem two_word : Ideal.ofBits .f32 0x40000000#32 = ((2 : ℝ) : EReal) := by
  simp [Ideal.ofBits, Ideal.ieee, -EReal.coe_mul]; norm_num

theorem one_word : Ideal.ofBits .f32 0x3F800000#32 = ((1 : ℝ) : EReal) := by
  simp [Ideal.ofBits, Ideal.ieee, -EReal.coe_mul]; norm_num

theorem kc_name : Named.named (F := Ideal) (φ := .f32) Cert.MergeIdeal.κ "gelu_kc" 0x3D122279#32
    = ((13386282 / 16777216 * (12003091 / 268435456) : ℝ) : EReal) := by
  refine (IdealRules.named_const.ideal_named_scalar _ _ _ _ rfl).trans ?_
  norm_num

/-- The recurrence branch's gate columns, the first 1024 of the 3072, hold real numbers. -/
def BranchReal (yag : FVec Ideal Cert.MergeIdeal.S16x4096x3072 .bf16) : Prop :=
  ∀ (b : Fin 16) (s : Fin 4096) (j : Fin 1024), IsR (yag (ix3 b s ⟨j.val, Nat.lt_of_lt_of_le j.isLt (by decide)⟩))

/-- The kernel's gated recurrence times the halved weight is the plain one times the weight. -/
theorem z_eq (h y w : EReal) (hh : IsR h) (hy : IsR y) :
    zAt h y * (Ideal.ofBits .f32 0x3F000000#32 * w) = h * gelu y * w := by
  obtain ⟨a, rfl⟩ := hy
  obtain ⟨b, rfl⟩ := hh
  rw [← mul_assoc]
  congr 1
  unfold zAt gelu
  obtain ⟨K, hK, eK⟩ := k_word
  obtain ⟨C, hC, eC⟩ := c_word
  rw [half_word, hK, hC, kc_name, ← eK, ← eC]
  have e1 : (a : EReal) * ((K : EReal) + ((K * C : ℝ) : EReal) * ((a : EReal) * a)) = ((a * (K + K * C * (a * a)) : ℝ) : EReal) := by
    push_cast; rfl
  have e2 : (K : EReal) * ((a : EReal) + (C : EReal) * ((a : EReal) * a * a)) = ((a * (K + K * C * (a * a)) : ℝ) : EReal) := by
    rw [show a * (K + K * C * (a * a)) = K * (a + C * (a * a * a)) by ring]; push_cast; rfl
  rw [e1, e2, Ideal.tanh_coe]
  generalize Real.tanh _ = t
  rw [← EReal.coe_one]
  norm_cast
  ring

/-- The gate: `1 + tanh g` is twice the logistic function of `2 g`, at infinite `g` too. -/
theorem gate_eq (g : EReal) : Ideal.ofBits .f32 0x3F800000#32 + Ideal.tanh g = ((2 : ℝ) : EReal) * sig2 g := by
  unfold sig2
  rw [one_word, two_word]
  induction g using EReal.rec with
  | bot =>
      rw [EReal.coe_mul_bot_of_pos (by norm_num), EReal.neg_bot, Ideal.exp_top, Ideal.tanh_bot]
      have h : Ideal.div 1 (1 + ⊤) = 0 := by
        rw [show (1 : EReal) + ⊤ = ⊤ from rfl]
        simp [Ideal.div]
      rw [h, mul_zero, EReal.coe_one, ← EReal.coe_one, ← EReal.coe_neg, ← EReal.coe_add, add_neg_cancel, EReal.coe_zero]
  | top =>
      rw [EReal.coe_mul_top_of_pos (by norm_num), EReal.neg_top, Ideal.exp_bot, Ideal.tanh_top, add_zero]
      have h : Ideal.div 1 1 = 1 := by simp [Ideal.div]
      rw [h, mul_one, EReal.coe_one]
      norm_cast
  | coe r =>
      rw [Ideal.tanh_coe]
      have e : (1 : EReal) + Ideal.exp (-(((2 : ℝ) : EReal) * (r : EReal))) = ((1 + Real.exp (-(2 * r)) : ℝ) : EReal) := by
        rw [← EReal.coe_mul, ← EReal.coe_neg, Ideal.exp_coe, ← EReal.coe_one, ← EReal.coe_add]
      have hp : (0 : ℝ) < 1 + Real.exp (-(2 * r)) := by positivity
      rw [e, Ideal.div_coe hp.ne', one_mul, ← EReal.coe_mul, ← EReal.coe_add]
      congr 1
      rw [Real.tanh_eq_sinh_div_cosh, Real.sinh_eq, Real.cosh_eq]
      have h1 : Real.exp (-(2 * r)) = Real.exp (-r) * Real.exp (-r) := by rw [← Real.exp_add]; congr 1; ring
      have h2 : Real.exp r * Real.exp (-r) = 1 := by rw [← Real.exp_add]; simp
      have p1 := Real.exp_pos r
      have p2 := Real.exp_pos (-r)
      rw [h1] at hp ⊢
      field_simp
      nlinarith

/-- The merged value times the halved weight. -/
theorem mix_eq (a b A B w : EReal) :
    ((Ideal.ofBits .f32 0x3F800000#32 + Ideal.tanh a) * A + (Ideal.ofBits .f32 0x3F800000#32 + Ideal.tanh b) * B)
        * (Ideal.ofBits .f32 0x3F000000#32 * w) = (sig2 a * A + sig2 b * B) * w := by
  rw [gate_eq, gate_eq, mul_assoc, mul_assoc, half_word,
    ← EReal.left_distrib_of_nonneg_of_ne_top (EReal.coe_nonneg.mpr (by norm_num)) (EReal.coe_ne_top _), ← mul_assoc,
    mul_comm ((2 : ℝ) : EReal), mul_assoc (sig2 a * A + sig2 b * B), ← EReal.coe_mul]
  norm_num

section
variable (hs : Vec Ideal Cert.MergeIdeal.S16x8x4096x128 .f32) (yag : Vec Ideal Cert.MergeIdeal.S16x4096x3072 .bf16)
  (fo : Vec Ideal Cert.MergeIdeal.S16x4096x512 .bf16)
  (x : Vec Ideal Cert.MergeIdeal.S16x4096x1024 .f32) (md : Vec Ideal Cert.MergeIdeal.S16x6144 .f32) (gp gn : Vec Ideal Cert.MergeIdeal.S1024 .f32)
  (wa : Vec Ideal Cert.MergeIdeal.S1024x1024 .f32) (wb : Vec Ideal Cert.MergeIdeal.S512x1024 .f32) (wo : Vec Ideal Cert.MergeIdeal.S1024x1024 .f32)
  (hh : ∀ i, IsR (hs i)) (hy : BranchReal yag)

include hh hy in
theorem mo_eq (b : Fin 16) (s : Fin 4096) (k : Fin 1024) :
    moT yag (yaT hs yag wa) (ybT fo wb) wo (ix3 b s k) = moZ hs yag fo wa wb wo b s k := by
  rw [Cert.MergeRefIdeal.Reference.mo_at]
  unfold moZ mixAt
  refine Finset.sum_congr rfl fun l _ => ?_
  rw [mix_eq, Cert.MergeRefIdeal.Reference.ya_at, Cert.MergeRefIdeal.Reference.yb_at]
  simp only [z_eq _ _ _ (hh _) (hy b s _)]

theorem rms_eq (f : Fin 1024 → EReal) (g s : EReal) (d : Fin 1024) : rmsR f g d * s = rms f (g * s) d := by
  unfold rmsR rms
  rw [mul_assoc]

include hh hy in
/-- The first results at an element. -/
theorem out0_eq (b : Fin 16) (s : Fin 4096) (d : Fin 1024) :
    x1T x md gp (moT yag (yaT hs yag wa) (ybT fo wb) wo) (ix3 b s d) = x1Z hs yag fo x md gp wa wb wo b s d := by
  rw [Cert.MergeRefIdeal.Reference.x1_at, mul_comm, rms_eq]
  unfold x1Z
  simp only [mo_eq hs yag fo wa wb wo hh hy]

include hh hy in
/-- The second results at an element. -/
theorem out1_eq (b : Fin 16) (s : Fin 4096) (d : Fin 1024) :
    h2T (x1T x md gp (moT yag (yaT hs yag wa) (ybT fo wb) wo)) md gn (ix3 b s d) = h2Z hs yag fo x md gp gn wa wb wo b s d := by
  rw [Cert.MergeRefIdeal.Reference.h2_at, rms_eq]
  unfold h2Z
  simp only [out0_eq hs yag fo x md gp wa wb wo hh hy, one_word, EReal.coe_one]
end

theorem finite_of_pre (a0 : FVec Ideal Cert.MergeIdeal.S16x8x4096x128 .f32) (a1 : FVec Ideal Cert.MergeIdeal.S16x4096x3072 .bf16)
    (a2 : FVec Ideal Cert.MergeIdeal.S16x4096x512 .bf16) (a3 : FVec Ideal Cert.MergeIdeal.S16x4096x1024 .f32)
    (a4 : FVec Ideal Cert.MergeIdeal.S16x6144 .f32) (a5 a6 : FVec Ideal Cert.MergeIdeal.S1024 .f32)
    (a7 : FVec Ideal Cert.MergeIdeal.S1024x1024 .f32) (a8 : FVec Ideal Cert.MergeIdeal.S512x1024 .f32)
    (a9 : FVec Ideal Cert.MergeIdeal.S1024x1024 .f32)
    (h0 : (Cert.Pre_finite_gates.fn (F := Ideal) a0 a1 a2 a3 a4 a5 a6 a7 a8 a9).1 = fun _ => 1)
    (h1 : (Cert.Pre_finite_gates.fn (F := Ideal) a0 a1 a2 a3 a4 a5 a6 a7 a8 a9).2 = fun _ => 1) :
    (∀ i, IsR (a0 i)) ∧ BranchReal a1 := by
  refine ⟨fun i => isR_of_cmp (congrFun h0 i), fun b s j => isR_of_cmp ?_⟩
  have e := congrFun h1 (ix3 b s j)
  refine Eq.trans (congrArg (fun i => Ideal.cmp .olt (max (a1 i) (-(a1 i))) (Ideal.ofBits .f32 0x7F800000#32)) ?_) e
  funext a; fin_cases a <;> apply Fin.ext <;> simp [ix3]

end Cert.MergeEq
end
end
-- ==== Proof.MergeClaims.lean ====
/- The claims of the merge call. -/
module

public import proofs.«01_k».proof.Defs
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.Merge
public import proofs.«01_k».proof.Proof.Gen.MergeIdeal
public import proofs.«01_k».proof.Proof.Gen.MergeRefIdeal
public import proofs.«01_k».proof.Proof.MergeEquation
public import Idealize.ShloMosaic.Lib.Quiescent

@[expose] public section

noncomputable section

namespace Cert.MergeClaims

open Idealize.ShloMosaic Idealize.ShloMosaic.TcCoe Idealize.SL.Sem

theorem frame_p : Cert.quiescent_Merge := fun m ρ _ => Cert.Merge.Gen.frame m ρ

theorem frame_pi : Cert.quiescent_MergeIdeal := fun m ρ _ => Cert.MergeIdeal.Gen.frame m ρ

theorem frame_pi_pre : Cert.quiescent_MergeIdeal_pre_finite_gates := fun m ρ _ => Cert.MergeIdeal.Gen.frame m ρ

theorem frame_ri : Cert.quiescent_MergeRefIdeal := fun m ρ _ =>
  (θ_run Cert.MergeRefIdeal.defs _ _).mono (fun r h => ⟨fun c => (h c).2.2, Idealize.ShloMosaic.sem_eq_zero_of_no_sems (by decide) r.2⟩)
    (Cert.MergeRefIdeal.Value.run m ρ)

theorem frame_ri_pre : Cert.quiescent_MergeRefIdeal_pre_finite_gates := fun m ρ _ =>
  (θ_run Cert.MergeRefIdeal.defs _ _).mono (fun r h => ⟨fun c => (h c).2.2, Idealize.ShloMosaic.sem_eq_zero_of_no_sems (by decide) r.2⟩)
    (Cert.MergeRefIdeal.Value.run m ρ)

theorem preserves : Cert.preserves_Merge_MergeIdeal :=
  IdealRules.named_const.statement Cert.MergeIdeal.κ "gelu_kc" .f32 0x3D122279#32 _ rfl

set_option maxHeartbeats 2000000 in
/-- Under the precondition the reference's arrays are the kernel's. -/
theorem result (m : (ℓ : Loc Cert.MergeIdeal.nD Cert.MergeIdeal.τ Cert.MergeIdeal.sig) → Buf (Elt Ideal) ℓ)
    (m' : (ℓ : Loc Cert.MergeRefIdeal.nD Cert.MergeRefIdeal.τ Cert.MergeRefIdeal.sig) → Buf (Elt Ideal) ℓ)
    (hpre : Cert.Pre_MergeIdeal_finite_gates m) (c : Dev Cert.MergeIdeal.nD)
    (h0 : m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0))
    (h1 : m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1))
    (h2 : m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2))
    (h3 : m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3))
    (h4 : m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4))
    (h5 : m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5))
    (h6 : m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6))
    (h7 : m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7))
    (h8 : m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8))
    (h9 : m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) :
    Cert.MergeRefIdeal.Value.res_main_v70 m' c = (Cert.MergeIdeal.Gen.dats m 0 c).arrAt 10 (Cert.MergeIdeal.cfgs 0).N
    ∧ Cert.MergeRefIdeal.Value.res_main_v90 m' c = (Cert.MergeIdeal.Gen.dats m 0 c).arrAt 11 (Cert.MergeIdeal.cfgs 0).N := by
  obtain ⟨p0, p1⟩ := hpre c
  have f := Cert.MergeEq.finite_of_pre _ _ _ _ _ _ _ _ _ _ p0 p1
  constructor
  · rw [Cert.MergeRefIdeal.Reference.result0_eq, Cert.MergeIdeal.Result.final10, h0, h1, h2, h3, h4, h5, h7, h8, h9]
    funext i
    rw [show i = ix3 (i 0) (i 1) (i 2) from by funext a; fin_cases a <;> rfl]
    exact Cert.MergeEq.out0_eq _ _ _ _ _ _ _ _ _ f.1 f.2 _ _ _
  · rw [Cert.MergeRefIdeal.Reference.result1_eq, Cert.MergeRefIdeal.Reference.result0_eq, Cert.MergeIdeal.Result.final11, h0, h1, h2, h3, h4, h5, h6, h7, h8, h9]
    funext i
    rw [show i = ix3 (i 0) (i 1) (i 2) from by funext a; fin_cases a <;> rfl]
    exact Cert.MergeEq.out1_eq _ _ _ _ _ _ _ _ _ _ f.1 f.2 _ _ _

theorem algebraic : Cert.algebraic_MergeIdeal_MergeRefIdeal_pre_finite_gates := by
  intro m ρ m' ρ' hpre hagree
  refine ⟨fun c => (Cert.MergeIdeal.Gen.dats m 0 c).arrAt 10 (Cert.MergeIdeal.cfgs 0).N, fun c => (Cert.MergeIdeal.Gen.dats m 0 c).arrAt 11 (Cert.MergeIdeal.cfgs 0).N,
    Cert.MergeIdeal.Value.run_blocks m ρ, ?_⟩
  refine (θ_run Cert.MergeRefIdeal.defs _ _).mono (fun _ h c => ?_) (Cert.MergeRefIdeal.Value.run m' ρ')
  obtain ⟨h0, h1, h2, h3, h4, h5, h6, h7, h8, h9⟩ := hagree c
  have e := result m m' hpre c h0 h1 h2 h3 h4 h5 h6 h7 h8 h9
  exact ⟨(h c).1.trans e.1, (h c).2.1.trans e.2, (h c).2.2⟩

end Cert.MergeClaims
end
end
-- ==== Proof.InprojBlock.lean ====
/- One block of the input-projection kernel, written once over the vector operations: the normalised rows with their
   halo, the three products with the input projection's columns, the four-tap convolution of each head, and the
   per-group cosine and sine products; and that the body's run leaves exactly these in its three output blocks. -/
module

public import proofs.«01_k».proof.Proof.Gen.InprojIdeal.Value

@[expose] public section

set_option maxRecDepth 65536
set_option maxHeartbeats 20000000

noncomputable section

namespace Cert.InprojIdeal.Block

open Idealize.ShloMosaic Idealize.ShloMosaic.TcCoe Idealize.SL.Sem Cert.InprojIdeal Cert.InprojIdeal.Gen

variable {F : FTy → Type} [FloatOps F]

/-- The normalised rows before the block, or zero at the first block of the sequence. -/
def above (i : grid0.Coords) (xp : Vec F S1x16x1024 .f32) (md : Vec F S1x6x1024 .f32) (g : Vec F S1x1024 .f32) : FVec F S16x1024 .bf16 :=
  k0_pay8 (BitVec.ofNat 32 (i 1).val) (k0_pay6 md g xp)

/-- The normalised rows of the block. -/
def inside (x : Vec F S1x1024x1024 .f32) (md : Vec F S1x6x1024 .f32) (g : Vec F S1x1024 .f32) : FVec F S1024x1024 .bf16 :=
  k0_pay9 (k0_pay4 md) (k0_pay5 md g) x

/-- The normalised rows after the block, or zero at the last block. -/
def below (i : grid0.Coords) (xn : Vec F S1x16x1024 .f32) (md : Vec F S1x6x1024 .f32) (g : Vec F S1x1024 .f32) : FVec F S16x1024 .bf16 :=
  k0_pay10 (BitVec.ofNat 32 (i 1).val) (k0_pay4 md) (k0_pay7 md g xn)

/-- The three stores that assemble the normalised block with its halo. -/
def rowsL (i : grid0.Coords) (x : Vec F S1x1024x1024 .f32) (xp xn : Vec F S1x16x1024 .f32) (md : Vec F S1x6x1024 .f32)
    (g : Vec F S1x1024 .f32) : List (View.Piece (Elt F) S1056x1024 .bf16) :=
  [⟨Rect.unit ![1040, 0] S16x1024.size inb_S1056x1024_S16x1024_1040_0, below i xn md g⟩,
   ⟨Rect.unit ![16, 0] S1024x1024.size inb_S1056x1024_S1024x1024_16_0, inside x md g⟩,
   ⟨Rect.unit ![0, 0] S16x1024.size inb_S1056x1024_S16x1024_0_0, above i xp md g⟩]

/-- The block with its halo, read back from its three stores. -/
def hcat (v : View sig .tc .vmem S1056x1024 .bf16) (rows : List (View.Piece (Elt F) S1056x1024 .bf16)) : Vec F S1056x1024 .bf16 :=
  v.readCov rows (Rect.unit (s := S1056x1024) ![0, 0] S1056x1024.size inb_S1056x1024_S1056x1024_0_0).toLoadRect

/-- The block without its halo, read back. -/
def hmid (v : View sig .tc .vmem S1056x1024 .bf16) (rows : List (View.Piece (Elt F) S1056x1024 .bf16)) : Vec F S1024x1024 .bf16 :=
  v.readCov rows (Rect.unit (s := S1056x1024) ![16, 0] S1024x1024.size inb_S1056x1024_S1024x1024_16_0).toLoadRect

/-- The 128 columns of the recurrence branch that begin at `o`, as one slab. -/
def slab (u : FVec F S1056x1024 .f32) (o : ℕ) (h : S1056x1024.Slices ![0, o] S1056x128) : FVec F S1x1056x128 .f32 :=
  shapeCast S1x1056x128 (extractStridedSlice S1056x128 ![0, o] u h) shapeCasts_S1056x128_S1x1056x128

/-- The eight stores of the recurrence branch, one slab per head. -/
def slabsL (u : FVec F S1056x1024 .f32) : List (View.Piece (Elt F) S8x1056x128 .f32) :=
  [⟨Rect.unit ![7, 0, 0] S1x1056x128.size inb_S8x1056x128_S1x1056x128_7_0_0, slab u 896 slices_S1056x1024_o0_896_S1056x128⟩,
   ⟨Rect.unit ![6, 0, 0] S1x1056x128.size inb_S8x1056x128_S1x1056x128_6_0_0, slab u 768 slices_S1056x1024_o0_768_S1056x128⟩,
   ⟨Rect.unit ![5, 0, 0] S1x1056x128.size inb_S8x1056x128_S1x1056x128_5_0_0, slab u 640 slices_S1056x1024_o0_640_S1056x128⟩,
   ⟨Rect.unit ![4, 0, 0] S1x1056x128.size inb_S8x1056x128_S1x1056x128_4_0_0, slab u 512 slices_S1056x1024_o0_512_S1056x128⟩,
   ⟨Rect.unit ![3, 0, 0] S1x1056x128.size inb_S8x1056x128_S1x1056x128_3_0_0, slab u 384 slices_S1056x1024_o0_384_S1056x128⟩,
   ⟨Rect.unit ![2, 0, 0] S1x1056x128.size inb_S8x1056x128_S1x1056x128_2_0_0, slab u 256 slices_S1056x1024_o0_256_S1056x128⟩,
   ⟨Rect.unit ![1, 0, 0] S1x1056x128.size inb_S8x1056x128_S1x1056x128_1_0_0, slab u 128 slices_S1056x1024_o0_128_S1056x128⟩,
   ⟨Rect.unit ![0, 0, 0] S1x1056x128.size inb_S8x1056x128_S1x1056x128_0_0_0, slab u 0 slices_S1056x1024_o0_0_S1056x128⟩]

/-- The four-tap convolution of one slab. -/
def conv (b w0 w1 w2 w3 : Vec F S1x128 .f32) (p q r s : Vec F S1x1024x128 .f32) : FVec F S1x1x1024x128 .f32 :=
  shapeCast S1x1x1024x128
    (addf (addf (addf (addf (broadcastTo S1024x128 (shapeCast S1x128 b shapeCasts_S1x128_S1x128) broadcasts_S1x128_S1024x128)
      (mulf (broadcastTo S1024x128 (shapeCast S1x128 w0 shapeCasts_S1x128_S1x128) broadcasts_S1x128_S1024x128)
        (shapeCast S1024x128 p shapeCasts_S1x1024x128_S1024x128)))
      (mulf (broadcastTo S1024x128 (shapeCast S1x128 w1 shapeCasts_S1x128_S1x128) broadcasts_S1x128_S1024x128)
        (shapeCast S1024x128 q shapeCasts_S1x1024x128_S1024x128)))
      (mulf (broadcastTo S1024x128 (shapeCast S1x128 w2 shapeCasts_S1x128_S1x128) broadcasts_S1x128_S1024x128)
        (shapeCast S1024x128 r shapeCasts_S1x1024x128_S1024x128)))
      (mulf (broadcastTo S1024x128 (shapeCast S1x128 w3 shapeCasts_S1x128_S1x128) broadcasts_S1x128_S1024x128)
        (shapeCast S1024x128 s shapeCasts_S1x1024x128_S1024x128)))
    shapeCasts_S1024x128_S1x1x1024x128

section
variable (v : View sig .tc .vmem S8x1056x128 .f32) (L : List (View.Piece (Elt F) S8x1056x128 .f32))
  (cb : (o : ℕ) → (∀ a, ![0, o] a + S1x128.size a ≤ S1x1024.size a) → Vec F S1x128 .f32)
  (cw : (k o : ℕ) → (∀ a, ![k, o] a + S1x128.size a ≤ S4x1024.size a) → Vec F S1x128 .f32)

/-- Tap `k` of head `n`: the head's slab from row `14 + k`. -/
def tap (n k : ℕ) (hn : n < 8) (hk : k < 4) : Vec F S1x1024x128 .f32 :=
  v.readCov L (Rect.unit (s := S8x1056x128) ![n, 14 + k, 0] S1x1024x128.size
    (by intro a; fin_cases a <;> simp [S1x1024x128, S8x1056x128] <;> omega)).toLoadRect

/-- The four-tap convolution of head `n`. -/
def head (n : ℕ) (hn : n < 8) : FVec F S1x1x1024x128 .f32 :=
  conv (cb (n * 128) (by intro a; fin_cases a <;> simp [S1x128, S1x1024] <;> omega))
    (cw 0 (n * 128) (by intro a; fin_cases a <;> simp [S1x128, S4x1024] <;> omega))
    (cw 1 (n * 128) (by intro a; fin_cases a <;> simp [S1x128, S4x1024] <;> omega))
    (cw 2 (n * 128) (by intro a; fin_cases a <;> simp [S1x128, S4x1024] <;> omega))
    (cw 3 (n * 128) (by intro a; fin_cases a <;> simp [S1x128, S4x1024] <;> omega))
    (tap v L n 0 hn (by decide)) (tap v L n 1 hn (by decide)) (tap v L n 2 hn (by decide)) (tap v L n 3 hn (by decide))

/-- The eight stores of the first output, one per head. -/
def headsL : List (View.Piece (Elt F) S1x8x1024x128 .f32) :=
  [⟨Rect.unit ![0, 7, 0, 0] S1x1x1024x128.size inb_S1x8x1024x128_S1x1x1024x128_0_7_0_0, head v L cb cw 7 (by decide)⟩,
   ⟨Rect.unit ![0, 6, 0, 0] S1x1x1024x128.size inb_S1x8x1024x128_S1x1x1024x128_0_6_0_0, head v L cb cw 6 (by decide)⟩,
   ⟨Rect.unit ![0, 5, 0, 0] S1x1x1024x128.size inb_S1x8x1024x128_S1x1x1024x128_0_5_0_0, head v L cb cw 5 (by decide)⟩,
   ⟨Rect.unit ![0, 4, 0, 0] S1x1x1024x128.size inb_S1x8x1024x128_S1x1x1024x128_0_4_0_0, head v L cb cw 4 (by decide)⟩,
   ⟨Rect.unit ![0, 3, 0, 0] S1x1x1024x128.size inb_S1x8x1024x128_S1x1x1024x128_0_3_0_0, head v L cb cw 3 (by decide)⟩,
   ⟨Rect.unit ![0, 2, 0, 0] S1x1x1024x128.size inb_S1x8x1024x128_S1x1x1024x128_0_2_0_0, head v L cb cw 2 (by decide)⟩,
   ⟨Rect.unit ![0, 1, 0, 0] S1x1x1024x128.size inb_S1x8x1024x128_S1x1x1024x128_0_1_0_0, head v L cb cw 1 (by decide)⟩,
   ⟨Rect.unit ![0, 0, 0, 0] S1x1x1024x128.size inb_S1x8x1024x128_S1x1x1024x128_0_0_0_0, head v L cb cw 0 (by decide)⟩]
end

/-- One group's product with the cosines and sines. -/
def group (xb : FVec F S1024x512 .bf16) (dft : Vec F S128x256 .bf16) (o : ℕ) (h : S1024x512.Slices ![0, o] S1024x128) : FVec F S1024x256 .f32 :=
  matmul dot_S1024x128_S128x256_S1024x256_1_0_0_1_n_n none (extractStridedSlice S1024x128 ![0, o] xb h)
    (shapeCast S128x256 dft shapeCasts_S128x256_S128x256) (constant S1024x256 .f32 0x00000000#32)

/-- Its cosine half. -/
def cosOf (u : FVec F S1024x256 .f32) : FVec F S1x1x1024x128 .f32 :=
  shapeCast S1x1x1024x128 (extractStridedSlice S1024x128 ![0, 0] u slices_S1024x256_o0_0_S1024x128) shapeCasts_S1024x128_S1x1x1024x128

/-- Its sine half. -/
def sinOf (u : FVec F S1024x256 .f32) : FVec F S1x1x1024x128 .f32 :=
  shapeCast S1x1x1024x128 (extractStridedSlice S1024x128 ![0, 128] u slices_S1024x256_o0_128_S1024x128) shapeCasts_S1024x128_S1x1x1024x128

/-- The eight stores of the third output: the cosine half of each group, then the sine half. -/
def groupsL (xb : FVec F S1024x512 .bf16) (dft : Vec F S128x256 .bf16) : List (View.Piece (Elt F) S1x8x1024x128 .f32) :=
  [⟨Rect.unit ![0, 7, 0, 0] S1x1x1024x128.size inb_S1x8x1024x128_S1x1x1024x128_0_7_0_0, sinOf (group xb dft 384 slices_S1024x512_o0_384_S1024x128)⟩,
   ⟨Rect.unit ![0, 3, 0, 0] S1x1x1024x128.size inb_S1x8x1024x128_S1x1x1024x128_0_3_0_0, cosOf (group xb dft 384 slices_S1024x512_o0_384_S1024x128)⟩,
   ⟨Rect.unit ![0, 6, 0, 0] S1x1x1024x128.size inb_S1x8x1024x128_S1x1x1024x128_0_6_0_0, sinOf (group xb dft 256 slices_S1024x512_o0_256_S1024x128)⟩,
   ⟨Rect.unit ![0, 2, 0, 0] S1x1x1024x128.size inb_S1x8x1024x128_S1x1x1024x128_0_2_0_0, cosOf (group xb dft 256 slices_S1024x512_o0_256_S1024x128)⟩,
   ⟨Rect.unit ![0, 5, 0, 0] S1x1x1024x128.size inb_S1x8x1024x128_S1x1x1024x128_0_5_0_0, sinOf (group xb dft 128 slices_S1024x512_o0_128_S1024x128)⟩,
   ⟨Rect.unit ![0, 1, 0, 0] S1x1x1024x128.size inb_S1x8x1024x128_S1x1x1024x128_0_1_0_0, cosOf (group xb dft 128 slices_S1024x512_o0_128_S1024x128)⟩,
   ⟨Rect.unit ![0, 4, 0, 0] S1x1x1024x128.size inb_S1x8x1024x128_S1x1x1024x128_0_4_0_0, sinOf (group xb dft 0 slices_S1024x512_o0_0_S1024x128)⟩,
   ⟨Rect.unit ![0, 0, 0, 0] S1x1x1024x128.size inb_S1x8x1024x128_S1x1x1024x128_0_0_0_0, cosOf (group xb dft 0 slices_S1024x512_o0_0_S1024x128)⟩]

section
variable (c : Dev nD) (i : grid0.Coords)
    (arg2 : Memref sig .tc .vmem S1x1024x1024 .f32) (harg2 : arg2.IsWhole) (arg3 : Memref sig .tc .vmem S1x16x1024 .f32) (harg3 : arg3.IsWhole)
    (arg4 : Memref sig .tc .vmem S1x16x1024 .f32) (harg4 : arg4.IsWhole) (arg5 : Memref sig .tc .vmem S1x6x1024 .f32) (harg5 : arg5.IsWhole)
    (arg6 : Memref sig .tc .vmem S1x1024 .f32) (harg6 : arg6.IsWhole) (arg7 : Memref sig .tc .vmem S1024x4608 .bf16) (harg7 : arg7.IsWhole)
    (arg8 : Memref sig .tc .vmem S128x256 .bf16) (harg8 : arg8.IsWhole) (arg9 : Memref sig .tc .vmem S4x1024 .f32) (harg9 : arg9.IsWhole)
    (arg10 : Memref sig .tc .vmem S1x1024 .f32) (harg10 : arg10.IsWhole) (arg11 : Memref sig .tc .vmem S1x8x1024x128 .f32) (harg11 : arg11.IsWhole)
    (arg12 : Memref sig .tc .vmem S1x1024x3072 .bf16) (harg12 : arg12.IsWhole) (arg13 : Memref sig .tc .vmem S1x8x1024x128 .f32) (harg13 : arg13.IsWhole)
    (arg14 : Memref sig .tc .vmem S1056x1024 .bf16) (harg14 : arg14.IsWhole) (arg15 : Memref sig .tc .vmem S8x1056x128 .f32) (harg15 : arg15.IsWhole)
    (x0 : Vec F S1x1024x1024 .f32) (x1 : Vec F S1x16x1024 .f32) (x2 : Vec F S1x16x1024 .f32) (x3 : Vec F S1x6x1024 .f32)
    (x4 : Vec F S1x1024 .f32) (x5 : Vec F S1024x4608 .bf16) (x6 : Vec F S128x256 .bf16) (x7 : Vec F S4x1024 .f32) (x8 : Vec F S1x1024 .f32)

/-- The stores of the block with its halo, from the buffers the body loads. -/
def rowsOf : List (View.Piece (Elt F) S1056x1024 .bf16) :=
  rowsL i (View.readAt (Elt F) arg2.view (Rect.unit ![0, 0, 0] S1x1024x1024.size inb_S1x1024x1024_S1x1024x1024_0_0_0).toLoadRect (harg2.unread x0))
    (View.readAt (Elt F) arg3.view (Rect.unit ![0, 0, 0] S1x16x1024.size inb_S1x16x1024_S1x16x1024_0_0_0).toLoadRect (harg3.unread x1))
    (View.readAt (Elt F) arg4.view (Rect.unit ![0, 0, 0] S1x16x1024.size inb_S1x16x1024_S1x16x1024_0_0_0).toLoadRect (harg4.unread x2))
    (View.readAt (Elt F) arg5.view (Rect.unit ![0, 0, 0] S1x6x1024.size inb_S1x6x1024_S1x6x1024_0_0_0).toLoadRect (harg5.unread x3))
    (View.readAt (Elt F) arg6.view (Rect.unit ![0, 0] S1x1024.size inb_S1x1024_S1x1024_0_0).toLoadRect (harg6.unread x4))

/-- The first output block: the eight convolved heads. -/
theorem out9_eq :
    out0_A_9 c i arg2 harg2 arg3 harg3 arg4 harg4 arg5 harg5 arg6 harg6 arg7 harg7 arg8 harg8 arg9 harg9 arg10 harg10
      arg11 harg11 arg12 harg12 arg13 harg13 arg14 harg14 arg15 harg15 x0 x1 x2 x3 x4 x5 x6 x7 x8 =
    View.canon (headsL arg15.view
      (slabsL (k0_pay11 (hcat arg14.view (rowsOf i arg2 harg2 arg3 harg3 arg4 harg4 arg5 harg5 arg6 harg6 x0 x1 x2 x3 x4))
        (View.readAt (Elt F) arg7.view (Rect.unit (s := S1024x4608) ![0, 0] S1024x1024.size inb_S1024x4608_S1024x1024_0_0).toLoadRect (harg7.unread x5))))
      (fun o h => View.readAt (Elt F) arg10.view (Rect.unit (s := S1x1024) ![0, o] S1x128.size h).toLoadRect (harg10.unread x8))
      (fun k o h => View.readAt (Elt F) arg9.view (Rect.unit (s := S4x1024) ![k, o] S1x128.size h).toLoadRect (harg9.unread x7))) := by
  unfold out0_A_9
  rw [View.read_writes_junk_eq_canon]
  rfl

/-- The second output block: the product with the 3072 gate columns. -/
theorem out10_eq :
    out0_A_10 c i arg2 harg2 arg3 harg3 arg4 harg4 arg5 harg5 arg6 harg6 arg7 harg7 arg8 harg8 arg9 harg9 arg10 harg10
      arg11 harg11 arg12 harg12 arg13 harg13 arg14 harg14 arg15 harg15 x0 x1 x2 x3 x4 x5 x6 x7 x8 =
    k0_pay45 (hmid arg14.view (rowsOf i arg2 harg2 arg3 harg3 arg4 harg4 arg5 harg5 arg6 harg6 x0 x1 x2 x3 x4))
      (View.readAt (Elt F) arg7.view (Rect.unit (s := S1024x4608) ![0, 1024] S1024x3072.size inb_S1024x4608_S1024x3072_0_1024).toLoadRect (harg7.unread x5)) := by
  unfold out0_A_10
  rw [View.read_writes_junk_eq_canon]
  refine (View.canon_unit_zero (S := S1x1024x3072) (by decide) inb_S1x1024x3072_S1x1024x3072_0_0_0 _).trans ?_
  rfl

/-- The third output block: the four groups' cosine and sine products. -/
theorem out11_eq :
    out0_A_11 c i arg2 harg2 arg3 harg3 arg4 harg4 arg5 harg5 arg6 harg6 arg7 harg7 arg8 harg8 arg9 harg9 arg10 harg10
      arg11 harg11 arg12 harg12 arg13 harg13 arg14 harg14 arg15 harg15 x0 x1 x2 x3 x4 x5 x6 x7 x8 =
    View.canon (groupsL
      (k0_pay46 (hmid arg14.view (rowsOf i arg2 harg2 arg3 harg3 arg4 harg4 arg5 harg5 arg6 harg6 x0 x1 x2 x3 x4))
        (View.readAt (Elt F) arg7.view (Rect.unit (s := S1024x4608) ![0, 4096] S1024x512.size inb_S1024x4608_S1024x512_0_4096).toLoadRect (harg7.unread x5)))
      (View.readAt (Elt F) arg8.view (Rect.unit (s := S128x256) ![0, 0] S128x256.size inb_S128x256_S128x256_0_0).toLoadRect (harg8.unread x6))) := by
  unfold out0_A_11
  rw [View.read_writes_junk_eq_canon]
  rfl
end

end Cert.InprojIdeal.Block
end
end
-- ==== Proof.InprojBlockAt.lean ====
/- One block of the input-projection kernel read at an index, over the extended reals. -/
module

public import proofs.«01_k».proof.Proof.InprojBlock
public import Idealize.ShloMosaic.Lib.Pointwise
public import Idealize.ShloMosaic.Lib.WholeRead

@[expose] public section

set_option maxRecDepth 16384

noncomputable section

namespace Cert.InprojIdeal.Block

open Idealize.ShloMosaic Idealize.ShloMosaic.TcCoe Idealize.SL.Sem Cert.InprojIdeal Cert.InprojIdeal.Gen

/-! ## Stores and loads at an index -/

/-- An index inside the newest store reads its payload. -/
theorem canon_hit {S : Shape} {e : EltTy} {off size : Fin S.rank → ℕ} (inb : ∀ a, off a + size a ≤ S.size a)
    (w : (Rect.unit off size inb).shape.Idx → Elt Ideal e) (L : List (View.Piece (Elt Ideal) S e)) (y : S.Idx)
    (x : (Rect.unit off size inb).shape.Idx) (h : ∀ a, (y a).val = off a + (x a).val) :
    View.canon ((⟨Rect.unit off size inb, w⟩ : View.Piece (Elt Ideal) S e) :: L) y = w x := by
  have : y = (Rect.unit off size inb).emb x := by
    funext a; apply Fin.ext; rw [h a]; simp [Rect.emb, Rect.unit]
  rw [this]; exact View.canon_cons_emb _ w L x

/-- An index outside it reads the older stores. -/
theorem canon_miss {S : Shape} {e : EltTy} {off size : Fin S.rank → ℕ} (inb : ∀ a, off a + size a ≤ S.size a)
    (w : (Rect.unit off size inb).shape.Idx → Elt Ideal e) (L : List (View.Piece (Elt Ideal) S e)) (y : S.Idx)
    (a : Fin S.rank) (h : (y a).val < off a ∨ off a + size a ≤ (y a).val) :
    View.canon ((⟨Rect.unit off size inb, w⟩ : View.Piece (Elt Ideal) S e) :: L) y = View.canon L y := by
  refine View.canon_cons_of_not_mem _ L ?_
  rw [Rect.mem_set_unit]; intro hm; have := hm a; omega

/-- A load at an index is the stores' contents at its place. -/
theorem readCov_at {S : Shape} {e : EltTy} (v : View sig .tc .vmem S e) (L : List (View.Piece (Elt Ideal) S e))
    {off size : Fin S.rank → ℕ} (inb : ∀ a, off a + size a ≤ S.size a) (x : (Rect.unit off size inb).shape.Idx) (y : S.Idx)
    (h : ∀ a, (y a).val = off a + (x a).val) :
    v.readCov L (Rect.unit off size inb).toLoadRect x = View.canon L y := by
  rw [View.readCov_eq_canon']
  have : (Rect.unit off size inb).toLoadRect.idx x = y := by
    funext a; apply Fin.ext; rw [h a]; simp [Rect.unit, LoadRect.idx, Rect.toLoadRect]
  exact congrArg _ this

/-- A load of a whole buffer from its corner is what the buffer holds. -/
theorem read_whole {S : Shape} {e : EltTy} {m : Memref sig .tc .vmem S e} (h : m.IsWhole) (X : Vec Ideal S e)
    {off : Fin S.rank → ℕ} (h0 : ∀ a, off a = 0) (inb : ∀ a, off a + S.size a ≤ S.size a) :
    View.readAt (Elt Ideal) m.view (Rect.unit (s := S) off S.size inb).toLoadRect (h.unread X) = X := by
  funext x
  refine (h.readAt_unread X _ x).trans (congrArg X ?_)
  funext a; apply Fin.ext; simp [Rect.unit, LoadRect.idx, Rect.toLoadRect, h0 a]

/-- A load of a part of a buffer reads the buffer at the shifted index. -/
theorem read_part {S : Shape} {e : EltTy} {m : Memref sig .tc .vmem S e} (h : m.IsWhole) (X : Vec Ideal S e)
    {off size : Fin S.rank → ℕ} (inb : ∀ a, off a + size a ≤ S.size a) (x : (Rect.unit (s := S) off size inb).shape.Idx) (y : S.Idx)
    (hy : ∀ a, (y a).val = off a + (x a).val) :
    View.readAt (Elt Ideal) m.view (Rect.unit (s := S) off size inb).toLoadRect (h.unread X) x = X y := by
  refine (h.readAt_unread X _ x).trans (congrArg X ?_)
  funext a; apply Fin.ext; rw [hy a]; simp [Rect.unit, LoadRect.idx, Rect.toLoadRect]

/-- The newest of the slab stores: its slab, or the older stores. -/
theorem slab_step (k : ℕ) (inb) (w : Vec Ideal S1x1056x128 .f32) (L : List (View.Piece (Elt Ideal) S8x1056x128 .f32))
    (n : Fin 8) (r : Fin 1056) (l : Fin 128) :
    View.canon ((⟨Rect.unit (s := S8x1056x128) ![k, 0, 0] S1x1056x128.size inb, w⟩ : View.Piece (Elt Ideal) S8x1056x128 .f32) :: L) (ix3 n r l)
      = if n.val = k then w (ix3 0 r l) else View.canon L (ix3 n r l) := by
  by_cases h : n.val = k
  · rw [if_pos h]
    exact canon_hit (S := S8x1056x128) (e := .f32) inb w L (ix3 n r l) (ix3 0 r l) (by intro a; fin_cases a <;> simp [ix3, h])
  · rw [if_neg h]
    refine canon_miss (S := S8x1056x128) (e := .f32) inb w L (ix3 n r l) 0 ?_
    have : n.val < k ∨ k + 1 ≤ n.val := by omega
    simpa [ix3, S1x1056x128] using this

/-- The newest of an output's stores: its head, or the older stores. -/
theorem head_step (k : ℕ) (inb) (w : Vec Ideal S1x1x1024x128 .f32) (L : List (View.Piece (Elt Ideal) S1x8x1024x128 .f32))
    (n : Fin 8) (r : Fin 1024) (l : Fin 128) :
    View.canon ((⟨Rect.unit (s := S1x8x1024x128) ![0, k, 0, 0] S1x1x1024x128.size inb, w⟩ : View.Piece (Elt Ideal) S1x8x1024x128 .f32) :: L) (ix4 0 n r l)
      = if n.val = k then w (ix4 0 0 r l) else View.canon L (ix4 0 n r l) := by
  by_cases h : n.val = k
  · rw [if_pos h]
    exact canon_hit (S := S1x8x1024x128) (e := .f32) inb w L (ix4 0 n r l) (ix4 0 0 r l) (by intro a; fin_cases a <;> simp [ix4, h])
  · rw [if_neg h]
    refine canon_miss (S := S1x8x1024x128) (e := .f32) inb w L (ix4 0 n r l) 1 ?_
    have : n.val < k ∨ k + 1 ≤ n.val := by omega
    simpa [ix4, S1x1x1024x128] using this

/-! ## The recurrence branch -/

theorem slab_at (u : FVec Ideal S1056x1024 .f32) (o : ℕ) (h) (ho : o + 128 ≤ 1024) (r : Fin 1056) (l : Fin 128) :
    slab u o h (ix3 0 r l) = u (ix2 r ⟨o + l.val, by omega⟩) := by
  pointwise [slab]

theorem slabs_at (u : FVec Ideal S1056x1024 .f32) (n : Fin 8) (r : Fin 1056) (l : Fin 128) :
    View.canon (slabsL u) (ix3 n r l) = u (ix2 r ⟨n.val * 128 + l.val, by omega⟩) := by
  have e : ∀ (o : ℕ) h (ho : o + 128 ≤ 1024), o = n.val * 128 →
      slab u o h (ix3 0 r l) = u (ix2 r ⟨n.val * 128 + l.val, by omega⟩) := by
    intro o h ho hn
    subst hn
    exact slab_at u _ h ho r l
  unfold slabsL
  rw [slab_step, slab_step, slab_step, slab_step, slab_step, slab_step, slab_step, slab_step]
  split_ifs with h7 h6 h5 h4 h3 h2 h1 h0
  · exact e _ _ (by decide) (by omega)
  · exact e _ _ (by decide) (by omega)
  · exact e _ _ (by decide) (by omega)
  · exact e _ _ (by decide) (by omega)
  · exact e _ _ (by decide) (by omega)
  · exact e _ _ (by decide) (by omega)
  · exact e _ _ (by decide) (by omega)
  · exact e _ _ (by decide) (by omega)
  · omega

theorem conv_at (b w0 w1 w2 w3 : Vec Ideal S1x128 .f32) (p q s t : Vec Ideal S1x1024x128 .f32) (r : Fin 1024) (l : Fin 128) :
    conv b w0 w1 w2 w3 p q s t (ix4 0 0 r l) = b (ix2 0 l) + w0 (ix2 0 l) * p (ix3 0 r l) + w1 (ix2 0 l) * q (ix3 0 r l)
      + w2 (ix2 0 l) * s (ix3 0 r l) + w3 (ix2 0 l) * t (ix3 0 r l) := by
  pointwise [conv]

theorem tap_at (v : View sig .tc .vmem S8x1056x128 .f32) (u : FVec Ideal S1056x1024 .f32) (n k : ℕ) (hn : n < 8) (hk : k < 4)
    (r : Fin 1024) (l : Fin 128) :
    tap v (slabsL u) n k hn hk (ix3 0 r l) = u (ix2 ⟨14 + k + r.val, by omega⟩ ⟨n * 128 + l.val, by omega⟩) := by
  unfold tap
  refine (readCov_at v _ _ (ix3 0 r l) (ix3 ⟨n, hn⟩ ⟨14 + k + r.val, by omega⟩ l) (by intro a; fin_cases a <;> simp [ix3])).trans ?_
  exact slabs_at u ⟨n, hn⟩ _ l

/-- The convolved head at a row and lane, over the whole bias and weight rows. -/
theorem head_at (v : View sig .tc .vmem S8x1056x128 .f32) (u : FVec Ideal S1056x1024 .f32) (cb) (cw)
    (B : Vec Ideal S1x1024 .f32) (W : Vec Ideal S4x1024 .f32)
    (hB : ∀ o h (l : Fin 128) (ho : o + 128 ≤ 1024), cb o h (ix2 0 l) = B (ix2 0 ⟨o + l.val, by omega⟩))
    (hW : ∀ k o h (l : Fin 128) (hk : k < 4) (ho : o + 128 ≤ 1024), cw k o h (ix2 0 l) = W (ix2 ⟨k, hk⟩ ⟨o + l.val, by omega⟩))
    (n : ℕ) (hn : n < 8) (r : Fin 1024) (l : Fin 128) :
    head v (slabsL u) cb cw n hn (ix4 0 0 r l) = B (ix2 0 ⟨n * 128 + l.val, by omega⟩)
      + W (ix2 0 ⟨n * 128 + l.val, by omega⟩) * u (ix2 ⟨14 + r.val, by omega⟩ ⟨n * 128 + l.val, by omega⟩)
      + W (ix2 1 ⟨n * 128 + l.val, by omega⟩) * u (ix2 ⟨15 + r.val, by omega⟩ ⟨n * 128 + l.val, by omega⟩)
      + W (ix2 2 ⟨n * 128 + l.val, by omega⟩) * u (ix2 ⟨16 + r.val, by omega⟩ ⟨n * 128 + l.val, by omega⟩)
      + W (ix2 3 ⟨n * 128 + l.val, by omega⟩) * u (ix2 ⟨17 + r.val, by omega⟩ ⟨n * 128 + l.val, by omega⟩) := by
  unfold head
  rw [conv_at, tap_at, tap_at, tap_at, tap_at, hB _ _ _ (by omega), hW 0 _ _ _ (by decide) (by omega),
    hW 1 _ _ _ (by decide) (by omega), hW 2 _ _ _ (by decide) (by omega), hW 3 _ _ _ (by decide) (by omega)]
  rfl

theorem heads_at (v : View sig .tc .vmem S8x1056x128 .f32) (L : List (View.Piece (Elt Ideal) S8x1056x128 .f32)) (cb) (cw)
    (n : Fin 8) (r : Fin 1024) (l : Fin 128) :
    View.canon (headsL v L cb cw) (ix4 0 n r l) = head v L cb cw n.val n.isLt (ix4 0 0 r l) := by
  have e : ∀ (k : ℕ) (hk : k < 8), n.val = k → head v L cb cw k hk (ix4 0 0 r l) = head v L cb cw n.val n.isLt (ix4 0 0 r l) := by
    intro k hk h
    subst h
    rfl
  unfold headsL
  rw [head_step, head_step, head_step, head_step, head_step, head_step, head_step, head_step]
  split_ifs with h7 h6 h5 h4 h3 h2 h1 h0
  · exact e _ _ h7
  · exact e _ _ h6
  · exact e _ _ h5
  · exact e _ _ h4
  · exact e _ _ h3
  · exact e _ _ h2
  · exact e _ _ h1
  · exact e _ _ h0
  · omega

/-! ## The Fourier branch -/

theorem group_at (xb : FVec Ideal S1024x512 .bf16) (dft : Vec Ideal S128x256 .bf16) (o : ℕ) (h) (ho : o + 128 ≤ 512)
    (r : Fin 1024) (k : Fin 256) :
    group xb dft o h (ix2 r k) = ∑ l : Fin 128, xb (ix2 r ⟨o + l.val, by omega⟩) * dft (ix2 l k) := by
  pointwise [group]

theorem cos_at (u : FVec Ideal S1024x256 .f32) (r : Fin 1024) (k : Fin 128) :
    cosOf u (ix4 0 0 r k) = u (ix2 r ⟨k.val, by omega⟩) := by
  pointwise [cosOf]

theorem sin_at (u : FVec Ideal S1024x256 .f32) (r : Fin 1024) (k : Fin 128) :
    sinOf u (ix4 0 0 r k) = u (ix2 r ⟨128 + k.val, by omega⟩) := by
  pointwise [sinOf]

theorem groups_at (xb : FVec Ideal S1024x512 .bf16) (dft : Vec Ideal S128x256 .bf16) (n : Fin 8) (r : Fin 1024) (k : Fin 128) :
    View.canon (groupsL xb dft) (ix4 0 n r k)
      = ∑ l : Fin 128, xb (ix2 r ⟨n.val % 4 * 128 + l.val, by omega⟩) * dft (ix2 l ⟨n.val / 4 * 128 + k.val, by omega⟩) := by
  have ec : ∀ (o : ℕ) h (ho : o + 128 ≤ 512), o = n.val % 4 * 128 → n.val / 4 = 0 → cosOf (group xb dft o h) (ix4 0 0 r k)
      = ∑ l : Fin 128, xb (ix2 r ⟨n.val % 4 * 128 + l.val, by omega⟩) * dft (ix2 l ⟨n.val / 4 * 128 + k.val, by omega⟩) := by
    intro o h ho hn hz
    subst hn
    rw [cos_at, group_at _ _ _ _ ho]
    refine Finset.sum_congr rfl fun l _ => congrArg (fun q => _ * dft (ix2 l q)) ?_
    apply Fin.ext; simp only; omega
  have es : ∀ (o : ℕ) h (ho : o + 128 ≤ 512), o = n.val % 4 * 128 → n.val / 4 = 1 → sinOf (group xb dft o h) (ix4 0 0 r k)
      = ∑ l : Fin 128, xb (ix2 r ⟨n.val % 4 * 128 + l.val, by omega⟩) * dft (ix2 l ⟨n.val / 4 * 128 + k.val, by omega⟩) := by
    intro o h ho hn hz
    subst hn
    rw [sin_at, group_at _ _ _ _ ho]
    refine Finset.sum_congr rfl fun l _ => congrArg (fun q => _ * dft (ix2 l q)) ?_
    apply Fin.ext; simp only; omega
  unfold groupsL
  rw [head_step, head_step, head_step, head_step, head_step, head_step, head_step, head_step]
  split_ifs with h7 h3 h6 h2 h5 h1 h4 h0
  · exact es _ _ (by decide) (by omega) (by omega)
  · exact ec _ _ (by decide) (by omega) (by omega)
  · exact es _ _ (by decide) (by omega) (by omega)
  · exact ec _ _ (by decide) (by omega) (by omega)
  · exact es _ _ (by decide) (by omega) (by omega)
  · exact ec _ _ (by decide) (by omega) (by omega)
  · exact es _ _ (by decide) (by omega) (by omega)
  · exact ec _ _ (by decide) (by omega) (by omega)
  · omega

/-! ## The products -/

theorem xa_at (hc : Vec Ideal S1056x1024 .bf16) (w : Vec Ideal S1024x1024 .bf16) (r : Fin 1056) (k : Fin 1024) :
    k0_pay11 hc w (ix2 r k) = ∑ j : Fin 1024, hc (ix2 r j) * w (ix2 j k) := by
  pointwise [k0_pay11]

theorem yag_at (hm : Vec Ideal S1024x1024 .bf16) (w : Vec Ideal S1024x3072 .bf16) (r : Fin 1024) (k : Fin 3072) :
    k0_pay45 hm w (ix3 0 r k) = ∑ j : Fin 1024, hm (ix2 r j) * w (ix2 j k) := by
  pointwise [k0_pay45]

theorem xb_at (hm : Vec Ideal S1024x1024 .bf16) (w : Vec Ideal S1024x512 .bf16) (r : Fin 1024) (k : Fin 512) :
    k0_pay46 hm w (ix2 r k) = ∑ j : Fin 1024, hm (ix2 r j) * w (ix2 j k) := by
  pointwise [k0_pay46]

end Cert.InprojIdeal.Block
end
end
-- ==== Proof.InprojArray.lean ====
/- The three output blocks of the input-projection kernel at an index, over its input blocks. -/
module

public import proofs.«01_k».proof.Proof.InprojBlockAt

@[expose] public section

set_option maxRecDepth 16384

noncomputable section

namespace Cert.InprojIdeal.Block

open Idealize.ShloMosaic Idealize.ShloMosaic.TcCoe Idealize.SL.Sem Cert.InprojIdeal Cert.InprojIdeal.Gen

/-- Column `j` of a row normalised, scaled by the gain and the modulation, and shifted. -/
def nrm (f : Fin 1024 → EReal) (g s h : EReal) (j : Fin 1024) : EReal :=
  f j * Ideal.rsqrt (Ideal.div (∑ k : Fin 1024, f k * f k) (Ideal.ofBits .f32 0x44800000#32) + Ideal.ofBits .f32 0x358637BD#32)
    * (g * (Ideal.ofBits .f32 0x3F800000#32 + s)) + h

theorem inside_at (x : Vec Ideal S1x1024x1024 .f32) (md : Vec Ideal S1x6x1024 .f32) (g : Vec Ideal S1x1024 .f32) (r j : Fin 1024) :
    inside x md g (ix2 r j) = nrm (fun k => x (ix3 0 r k)) (g (ix2 0 j)) (md (ix3 0 1 j)) (md (ix3 0 0 j)) j := by
  unfold nrm
  pointwise [inside, k0_pay9, k0_pay4, k0_pay5]

theorem sgt_of (n : ℕ) (h : n < 4) : Scalar.cmpi .sgt (BitVec.ofNat 32 n) 0#32 = if 0 < n then 1#1 else 0#1 := by
  interval_cases n <;> decide

theorem slt_of (n : ℕ) (h : n < 4) : Scalar.cmpi .slt (BitVec.ofNat 32 n) 3#32 = if n < 3 then 1#1 else 0#1 := by
  interval_cases n <;> decide

theorem above_at (i : grid0.Coords) (xp : Vec Ideal S1x16x1024 .f32) (md : Vec Ideal S1x6x1024 .f32) (g : Vec Ideal S1x1024 .f32)
    (r : Fin 16) (j : Fin 1024) :
    above i xp md g (ix2 r j) = if 0 < (i 1).val then nrm (fun k => xp (ix3 0 r k)) (g (ix2 0 j)) (md (ix3 0 1 j)) (md (ix3 0 0 j)) j else 0 := by
  have h4 : (i 1).val < 4 := (i 1).isLt
  unfold nrm above
  pointwise [k0_pay8]
  rw [sgt_of _ h4]
  by_cases h : 0 < (i 1).val
  · rw [if_pos h, if_pos h, Scalar.select, if_pos (show (1#1 : BitVec 1) = 1 by decide)]
    pointwise [k0_pay6, k0_pay4, k0_pay5]
  · rw [if_neg h, if_neg h, Scalar.select, if_neg (by decide)]

theorem below_at (i : grid0.Coords) (xn : Vec Ideal S1x16x1024 .f32) (md : Vec Ideal S1x6x1024 .f32) (g : Vec Ideal S1x1024 .f32)
    (r : Fin 16) (j : Fin 1024) :
    below i xn md g (ix2 r j) = if (i 1).val < 3 then nrm (fun k => xn (ix3 0 r k)) (g (ix2 0 j)) (md (ix3 0 1 j)) (md (ix3 0 0 j)) j else 0 := by
  have h4 : (i 1).val < 4 := (i 1).isLt
  unfold nrm below
  pointwise [k0_pay10, k0_pay7, k0_pay4, k0_pay5]
  rw [slt_of _ h4]
  by_cases h : (i 1).val < 3
  · rw [if_pos h, if_pos h, Scalar.select, if_pos (show (1#1 : BitVec 1) = 1 by decide)]
  · rw [if_neg h, if_neg h, Scalar.select, if_neg (by decide)]

/-- The normalised block with its halo at row `r`. -/
def rowAt (i : grid0.Coords) (x : Vec Ideal S1x1024x1024 .f32) (xp xn : Vec Ideal S1x16x1024 .f32) (md : Vec Ideal S1x6x1024 .f32)
    (g : Vec Ideal S1x1024 .f32) (r : Fin 1056) (j : Fin 1024) : EReal :=
  if h : r.val < 16 then
    if 0 < (i 1).val then nrm (fun k => xp (ix3 0 ⟨r.val, h⟩ k)) (g (ix2 0 j)) (md (ix3 0 1 j)) (md (ix3 0 0 j)) j else 0
  else if h2 : r.val < 1040 then nrm (fun k => x (ix3 0 ⟨r.val - 16, by omega⟩ k)) (g (ix2 0 j)) (md (ix3 0 1 j)) (md (ix3 0 0 j)) j
  else if (i 1).val < 3 then nrm (fun k => xn (ix3 0 ⟨r.val - 1040, by omega⟩ k)) (g (ix2 0 j)) (md (ix3 0 1 j)) (md (ix3 0 0 j)) j else 0

theorem rows_at (i : grid0.Coords) (x : Vec Ideal S1x1024x1024 .f32) (xp xn : Vec Ideal S1x16x1024 .f32) (md : Vec Ideal S1x6x1024 .f32)
    (g : Vec Ideal S1x1024 .f32) (r : Fin 1056) (j : Fin 1024) :
    View.canon (rowsL i x xp xn md g) (ix2 r j) = rowAt i x xp xn md g r j := by
  unfold rowsL rowAt
  by_cases h : r.val < 16
  · rw [dif_pos h]
    refine (canon_miss _ _ _ _ 0 (by left; simp [ix2]; omega)).trans ?_
    refine (canon_miss _ _ _ _ 0 (by left; simp [ix2]; omega)).trans ?_
    refine (canon_hit (S := S1056x1024) (e := .bf16) (off := ![0, 0]) (size := S16x1024.size) inb_S1056x1024_S16x1024_0_0 (above i xp md g) [] (ix2 r j) (ix2 ⟨r.val, h⟩ j) (by intro a; fin_cases a <;> simp [ix2])).trans ?_
    exact above_at i xp md g ⟨r.val, h⟩ j
  · rw [dif_neg h]
    by_cases h2 : r.val < 1040
    · rw [dif_pos h2]
      refine (canon_miss _ _ _ _ 0 (by left; simp [ix2]; omega)).trans ?_
      refine (canon_hit (S := S1056x1024) (e := .bf16) (off := ![16, 0]) (size := S1024x1024.size) inb_S1056x1024_S1024x1024_16_0 (inside x md g) _ (ix2 r j) (ix2 ⟨r.val - 16, by omega⟩ j) (by intro a; fin_cases a <;> simp [ix2]; omega)).trans ?_
      exact inside_at x md g ⟨r.val - 16, by omega⟩ j
    · rw [dif_neg h2]
      refine (canon_hit (S := S1056x1024) (e := .bf16) (off := ![1040, 0]) (size := S16x1024.size) inb_S1056x1024_S16x1024_1040_0 (below i xn md g) _ (ix2 r j) (ix2 ⟨r.val - 1040, by omega⟩ j) (by intro a; fin_cases a <;> simp [ix2]; omega)).trans ?_
      exact below_at i xn md g ⟨r.val - 1040, by omega⟩ j

theorem hcat_at (v : View sig .tc .vmem S1056x1024 .bf16) (L : List (View.Piece (Elt Ideal) S1056x1024 .bf16)) (r : Fin 1056) (j : Fin 1024) :
    hcat v L (ix2 r j) = View.canon L (ix2 r j) :=
  readCov_at v _ _ (ix2 r j) (ix2 r j) (by intro a; fin_cases a <;> simp [ix2])

theorem hmid_at (v : View sig .tc .vmem S1056x1024 .bf16) (L : List (View.Piece (Elt Ideal) S1056x1024 .bf16)) (r j : Fin 1024) :
    hmid v L (ix2 r j) = View.canon L (ix2 ⟨16 + r.val, by omega⟩ j) :=
  readCov_at v _ _ (ix2 r j) (ix2 ⟨16 + r.val, by omega⟩ j) (by intro a; fin_cases a <;> simp [ix2])

/-- Column `q` of the input projection of a row. -/
def proj (h : Fin 1024 → EReal) (w : Vec Ideal S1024x4608 .bf16) (q : Fin 4608) : EReal := ∑ j : Fin 1024, h j * w (ix2 j q)

section
variable (c : Dev nD) (i : grid0.Coords)
    (arg2 : Memref sig .tc .vmem S1x1024x1024 .f32) (harg2 : arg2.IsWhole) (arg3 : Memref sig .tc .vmem S1x16x1024 .f32) (harg3 : arg3.IsWhole)
    (arg4 : Memref sig .tc .vmem S1x16x1024 .f32) (harg4 : arg4.IsWhole) (arg5 : Memref sig .tc .vmem S1x6x1024 .f32) (harg5 : arg5.IsWhole)
    (arg6 : Memref sig .tc .vmem S1x1024 .f32) (harg6 : arg6.IsWhole) (arg7 : Memref sig .tc .vmem S1024x4608 .bf16) (harg7 : arg7.IsWhole)
    (arg8 : Memref sig .tc .vmem S128x256 .bf16) (harg8 : arg8.IsWhole) (arg9 : Memref sig .tc .vmem S4x1024 .f32) (harg9 : arg9.IsWhole)
    (arg10 : Memref sig .tc .vmem S1x1024 .f32) (harg10 : arg10.IsWhole) (arg11 : Memref sig .tc .vmem S1x8x1024x128 .f32) (harg11 : arg11.IsWhole)
    (arg12 : Memref sig .tc .vmem S1x1024x3072 .bf16) (harg12 : arg12.IsWhole) (arg13 : Memref sig .tc .vmem S1x8x1024x128 .f32) (harg13 : arg13.IsWhole)
    (arg14 : Memref sig .tc .vmem S1056x1024 .bf16) (harg14 : arg14.IsWhole) (arg15 : Memref sig .tc .vmem S8x1056x128 .f32) (harg15 : arg15.IsWhole)
    (x0 : Vec Ideal S1x1024x1024 .f32) (x1 : Vec Ideal S1x16x1024 .f32) (x2 : Vec Ideal S1x16x1024 .f32) (x3 : Vec Ideal S1x6x1024 .f32)
    (x4 : Vec Ideal S1x1024 .f32) (x5 : Vec Ideal S1024x4608 .bf16) (x6 : Vec Ideal S128x256 .bf16) (x7 : Vec Ideal S4x1024 .f32) (x8 : Vec Ideal S1x1024 .f32)

theorem rowsOf_eq : rowsOf i arg2 harg2 arg3 harg3 arg4 harg4 arg5 harg5 arg6 harg6 x0 x1 x2 x3 x4 = rowsL i x0 x1 x2 x3 x4 := by
  unfold rowsOf
  rw [read_whole harg2 x0 (by decide), read_whole harg3 x1 (by decide), read_whole harg4 x2 (by decide),
    read_whole harg5 x3 (by decide), read_whole harg6 x4 (by decide)]

theorem xa_of (r : Fin 1056) (k : Fin 1024) :
    k0_pay11 (hcat arg14.view (rowsOf i arg2 harg2 arg3 harg3 arg4 harg4 arg5 harg5 arg6 harg6 x0 x1 x2 x3 x4))
      (View.readAt (Elt Ideal) arg7.view (Rect.unit (s := S1024x4608) ![0, 0] S1024x1024.size inb_S1024x4608_S1024x1024_0_0).toLoadRect (harg7.unread x5)) (ix2 r k)
      = proj (rowAt i x0 x1 x2 x3 x4 r) x5 ⟨k.val, by omega⟩ := by
  rw [xa_at, rowsOf_eq]
  refine Finset.sum_congr rfl fun j _ => ?_
  rw [hcat_at, rows_at]
  exact congrArg (_ * ·) (read_part harg7 x5 inb_S1024x4608_S1024x1024_0_0 (ix2 j k) (ix2 j ⟨k.val, by omega⟩)
    (by intro a; fin_cases a <;> simp [ix2]))

theorem out9_at (n : Fin 8) (r : Fin 1024) (l : Fin 128) :
    out0_A_9 c i arg2 harg2 arg3 harg3 arg4 harg4 arg5 harg5 arg6 harg6 arg7 harg7 arg8 harg8 arg9 harg9 arg10 harg10
      arg11 harg11 arg12 harg12 arg13 harg13 arg14 harg14 arg15 harg15 x0 x1 x2 x3 x4 x5 x6 x7 x8 (ix4 0 n r l)
    = x8 (ix2 0 ⟨n.val * 128 + l.val, by omega⟩)
      + x7 (ix2 0 ⟨n.val * 128 + l.val, by omega⟩) * proj (rowAt i x0 x1 x2 x3 x4 ⟨14 + r.val, by omega⟩) x5 ⟨n.val * 128 + l.val, by omega⟩
      + x7 (ix2 1 ⟨n.val * 128 + l.val, by omega⟩) * proj (rowAt i x0 x1 x2 x3 x4 ⟨15 + r.val, by omega⟩) x5 ⟨n.val * 128 + l.val, by omega⟩
      + x7 (ix2 2 ⟨n.val * 128 + l.val, by omega⟩) * proj (rowAt i x0 x1 x2 x3 x4 ⟨16 + r.val, by omega⟩) x5 ⟨n.val * 128 + l.val, by omega⟩
      + x7 (ix2 3 ⟨n.val * 128 + l.val, by omega⟩) * proj (rowAt i x0 x1 x2 x3 x4 ⟨17 + r.val, by omega⟩) x5 ⟨n.val * 128 + l.val, by omega⟩ := by
  rw [out9_eq, heads_at]
  refine (head_at arg15.view _ _ _ x8 x7
    (fun o h l ho => read_part harg10 x8 h (ix2 0 l) _ (by intro a; fin_cases a <;> simp [ix2]))
    (fun k o h l hk ho => read_part harg9 x7 h (ix2 0 l) _ (by intro a; fin_cases a <;> simp [ix2])) n.val n.isLt r l).trans ?_
  rw [xa_of, xa_of, xa_of, xa_of]

theorem out10_at (r : Fin 1024) (k : Fin 3072) :
    out0_A_10 c i arg2 harg2 arg3 harg3 arg4 harg4 arg5 harg5 arg6 harg6 arg7 harg7 arg8 harg8 arg9 harg9 arg10 harg10
      arg11 harg11 arg12 harg12 arg13 harg13 arg14 harg14 arg15 harg15 x0 x1 x2 x3 x4 x5 x6 x7 x8 (ix3 0 r k)
    = proj (rowAt i x0 x1 x2 x3 x4 ⟨16 + r.val, by omega⟩) x5 ⟨1024 + k.val, by omega⟩ := by
  rw [out10_eq, yag_at, rowsOf_eq]
  refine Finset.sum_congr rfl fun j _ => ?_
  rw [hmid_at, rows_at]
  exact congrArg (_ * ·) (read_part harg7 x5 inb_S1024x4608_S1024x3072_0_1024 (ix2 j k) (ix2 j ⟨1024 + k.val, by omega⟩)
    (by intro a; fin_cases a <;> simp [ix2]))

theorem out11_at (n : Fin 8) (r : Fin 1024) (k : Fin 128) :
    out0_A_11 c i arg2 harg2 arg3 harg3 arg4 harg4 arg5 harg5 arg6 harg6 arg7 harg7 arg8 harg8 arg9 harg9 arg10 harg10
      arg11 harg11 arg12 harg12 arg13 harg13 arg14 harg14 arg15 harg15 x0 x1 x2 x3 x4 x5 x6 x7 x8 (ix4 0 n r k)
    = ∑ l : Fin 128, proj (rowAt i x0 x1 x2 x3 x4 ⟨16 + r.val, by omega⟩) x5 ⟨4096 + (n.val % 4 * 128 + l.val), by omega⟩
        * x6 (ix2 l ⟨n.val / 4 * 128 + k.val, by omega⟩) := by
  rw [out11_eq, groups_at, rowsOf_eq, read_whole harg8 x6 (by decide)]
  refine Finset.sum_congr rfl fun l _ => congrArg (· * _) ?_
  rw [xb_at]
  refine Finset.sum_congr rfl fun j _ => ?_
  rw [hmid_at, rows_at]
  exact congrArg (_ * ·) (read_part harg7 x5 inb_S1024x4608_S1024x512_0_4096 (ix2 j ⟨n.val % 4 * 128 + l.val, by omega⟩)
    (ix2 j ⟨4096 + (n.val % 4 * 128 + l.val), by omega⟩) (by intro a; fin_cases a <;> simp [ix2]))
end

end Cert.InprojIdeal.Block
end
end
-- ==== Proof.InprojEntry.lean ====
/- What the input-projection kernel is handed: the argument arrays as the lines before the call prepare them. -/
module

public import proofs.«01_k».proof.Proof.InprojArray
public import Idealize.ShloMosaic.Lib.Pipeline.ValueKit

@[expose] public section

set_option maxRecDepth 16384

noncomputable section

namespace Cert.InprojIdeal.Result

open Idealize.ShloMosaic Idealize.ShloMosaic.TcCoe Idealize.SL.Sem Cert.InprojIdeal Cert.InprojIdeal.Gen

variable (m : (ℓ : Loc nD τ sig) → Buf (Elt Ideal) ℓ)

theorem V_eq (c : Dev nD) (b : Ref sig .tc) :
    V m c b = StableHlo.after hostOps0_2 (StableHlo.after hostOps0_1 (StableHlo.after hostOps0 (fun b => m (c, b)))) b := rfl

theorem V_v22 (c : Dev nD) : V m c main_v22 = shapeCast S16x6x1024 (m ((c : Thread nD τ).loc main_arg1)) shapeCasts_S16x6144_S16x6x1024 := by
  rw [V_eq]
  after_results_simp
  rfl

theorem V_v23 (c : Dev nD) : V m c main_v23 = shapeCast S1x1024 (m ((c : Thread nD τ).loc main_arg2)) shapeCasts_S1024_S1x1024 := by
  rw [V_eq]
  after_results_simp
  rfl

theorem V_v25 (c : Dev nD) : V m c main_v25
    = mulf (broadcastInDim S4x1024 ![] bcast_S_S4x1024 (constant (F := Ideal) S_ .f32 0x3F000000#32)) (m ((c : Thread nD τ).loc main_arg4)) := by
  rw [V_eq]
  after_results_simp

theorem V_v28 (c : Dev nD) : V m c main_v28
    = mulf (broadcastInDim S1x1024 ![] bcast_S_S1x1024 (constant (F := Ideal) S_ .f32 0x3F000000#32))
        (shapeCast S1x1024 (m ((c : Thread nD τ).loc main_arg5)) shapeCasts_S1024_S1x1024) := by
  rw [V_eq]
  after_results_simp
  rfl

/-- Three groups of columns side by side. -/
def catT (a b : FVec Ideal S1024x2048 .f32) (d : FVec Ideal S1024x512 .f32) : FVec Ideal S1024x4608 .bf16 :=
  truncf .bf16 (concatenate S1024x4608 1 [⟨S1024x2048, a⟩, ⟨S1024x2048, b⟩, ⟨S1024x512, d⟩]
    concatenates_S1024x2048_S1024x2048_S1024x512_S1024x4608_d1 : FVec Ideal S1024x4608 .f32) bitsLt_bf16_f32

/-- The weights as the kernel takes them. -/
def wT (w : FVec Ideal S1024x4608 .f32) : FVec Ideal S1024x4608 .bf16 :=
  catT (extractStridedSlice S1024x2048 ![0, 0] w slices_S1024x4608_S1024x2048_0_0)
    (mulf (broadcastInDim S1024x2048 ![] bcast_S_S1024x2048 (constant (F := Ideal) S_ .f32 0x3F000000#32))
      (extractStridedSlice S1024x2048 ![0, 2560] w slices_S1024x4608_S1024x2048_0_2560))
    (extractStridedSlice S1024x512 ![0, 2048] w slices_S1024x4608_S1024x512_0_2048)

/-- The lines before the call that write neither the weights nor what they are made of. -/
theorem later_v6 (F : Valuation τ sig (Elt Ideal)) :
    StableHlo.after (List.flatten [hostOps0.drop 8, hostOps0_1, hostOps0_2]) F (Proc.devRef .tc main_v6) = F (Proc.devRef .tc main_v6) :=
  StableHlo.after_of_forall_not_mem (b := Proc.devRef .tc main_v6) _ _ (List.forall_iff_forall_mem.mp (by
    simp only [hostOps0, hostOps0_1, hostOps0_2, List.drop_succ_cons, List.drop_zero, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem joined (F : Valuation τ sig (Elt Ideal)) :
    StableHlo.after ((hostOps0.drop 6).take 2) F (Proc.devRef .tc main_v6)
      = catT (F (Proc.devRef .tc main_v0)) (F (Proc.devRef .tc main_v3)) (F (Proc.devRef .tc main_v4)) := by
  simp only [hostOps0, List.take_succ_cons, List.take_zero, List.drop_succ_cons, List.drop_zero, StableHlo.after_cons, StableHlo.after_nil]
  refine (StableHlo.unary_result _ _ _ _ _ _).trans ?_
  exact congrArg (fun v => truncf .bf16 (v : FVec Ideal S1024x4608 .f32) bitsLt_bf16_f32) (StableHlo.nary_result _ _ _ _ _ _)

theorem v0_of (F : Valuation τ sig (Elt Ideal)) : StableHlo.after (hostOps0.take 6) F (Proc.devRef .tc main_v0)
    = extractStridedSlice S1024x2048 ![0, 0] (F (Proc.devRef .tc main_arg3)) slices_S1024x4608_S1024x2048_0_0 := by
  simp only [hostOps0, List.take_succ_cons, List.take_zero]
  after_results_simp

theorem v3_of (F : Valuation τ sig (Elt Ideal)) : StableHlo.after (hostOps0.take 6) F (Proc.devRef .tc main_v3)
    = mulf (broadcastInDim S1024x2048 ![] bcast_S_S1024x2048 (constant (F := Ideal) S_ .f32 0x3F000000#32))
      (extractStridedSlice S1024x2048 ![0, 2560] (F (Proc.devRef .tc main_arg3)) slices_S1024x4608_S1024x2048_0_2560) := by
  simp only [hostOps0, List.take_succ_cons, List.take_zero]
  after_results_simp

theorem v4_of (F : Valuation τ sig (Elt Ideal)) : StableHlo.after (hostOps0.take 6) F (Proc.devRef .tc main_v4)
    = extractStridedSlice S1024x512 ![0, 2048] (F (Proc.devRef .tc main_arg3)) slices_S1024x4608_S1024x512_0_2048 := by
  simp only [hostOps0, List.take_succ_cons, List.take_zero]
  after_results_simp

theorem V_v6 (c : Dev nD) : V m c main_v6 = wT (m ((c : Thread nD τ).loc main_arg3)) := by
  refine (later_v6 (StableHlo.after ((hostOps0.drop 6).take 2) (StableHlo.after (hostOps0.take 6) (fun b => m (c, b))))).trans ?_
  rw [joined, v0_of, v3_of, v4_of]
  rfl

/-- The divisor of the remainder: 128. -/
def modT : IVec S_ 32 := select (cmpi .eq (constantI S_ 32 128#32) (constantI S_ 32 0#32)) (constantI S_ 32 1#32) (constantI S_ 32 128#32)

/-- The product of row and column number. -/
def prodT : IVec S128x128 32 :=
  muli (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))

/-- The product's truncated remainder. -/
def remT : IVec S128x128 32 := Host.remsi prodT (broadcastInDim S128x128 ![] bcast_S_S128x128 modT)

/-- The product's remainder, made to have the divisor's sign. -/
def floorT : IVec S128x128 32 :=
  select (andi (cmpi .ne (cmpi .slt remT (broadcastInDim S128x128 ![] bcast_S_S128x128 (constantI S_ 32 0#32)))
      (broadcastInDim S128x128 ![] bcast_S_S128x128 (cmpi .slt modT (constantI S_ 32 0#32))))
    (cmpi .ne remT (broadcastInDim S128x128 ![] bcast_S_S128x128 (constantI S_ 32 0#32))))
    (addi remT (broadcastInDim S128x128 ![] bcast_S_S128x128 modT)) remT

/-- The angles of the transform over 128 values. -/
def angT : FVec Ideal S128x128 .f32 :=
  mulf (broadcastInDim S128x128 ![] bcast_S_S128x128 (constant S_ .f32 0x3D490FDB#32)) (sitofp .f32 floorT)

/-- Cosines, then sines, as the kernel takes them. -/
def trigT : FVec Ideal S128x256 .bf16 :=
  truncf .bf16 (concatenate S128x256 1 [⟨S128x128, Host.cos angT⟩, ⟨S128x128, Host.sin angT⟩]
    concatenates_S128x128_S128x128_S128x256_d1 : FVec Ideal S128x256 .f32) bitsLt_bf16_f32

set_option maxHeartbeats 1600000 in
theorem V_v21 (c : Dev nD) : V m c main_v21 = trigT := by
  rw [V_eq]
  after_results_simp
  after_results_loop
  rfl
end Cert.InprojIdeal.Result
end
end
-- ==== Proof.InprojReads.lean ====
/- The input blocks of the input-projection kernel at an index, over the argument arrays. -/
module

public import proofs.«01_k».proof.Proof.InprojEntry
public import Idealize.ShloMosaic.Lib.Pipeline.ValueKit

@[expose] public section

set_option maxRecDepth 16384

noncomputable section

namespace Cert.InprojIdeal.Result

open Idealize.ShloMosaic Idealize.ShloMosaic.TcCoe Idealize.SL.Sem Cert.InprojIdeal Cert.InprojIdeal.Gen Cert.InprojIdeal.Block

theorem idx : ∀ t : Fin cfg0.N, win0_0.index t = ![t.val / 4, t.val % 4, 0]
    ∧ win0_1.index t = ![t.val / 4, t.val % 4 * 64 - 1, 0]
    ∧ win0_2.index t = ![t.val / 4, min (t.val % 4 * 64 + 64) 255, 0]
    ∧ win0_3.index t = ![t.val / 4, 0, 0]
    ∧ win0_4.index t = ![0, 0] ∧ win0_5.index t = ![0, 0] ∧ win0_6.index t = ![0, 0] ∧ win0_7.index t = ![0, 0]
    ∧ win0_8.index t = ![0, 0] ∧ win0_9.index t = ![t.val / 4, 0, t.val % 4, 0]
    ∧ win0_10.index t = ![t.val / 4, t.val % 4, 0] ∧ win0_11.index t = ![t.val / 4, 0, t.val % 4, 0] :=
  (by decide +kernel : ∀ t : Fin grid0.N, _)

theorem crd : ∀ t : Fin cfg0.N, (grid0.coords t 1).val = t.val % 4 :=
  (by decide +kernel : ∀ t : Fin grid0.N, _)

variable (m : (ℓ : Loc nD τ sig) → Buf (Elt Ideal) ℓ)

/-- The sequence of a grid point. -/
def bOf (t : Fin cfg0.N) : Fin 16 := ⟨t.val / 4, by have h : t.val < 64 := t.isLt; omega⟩

theorem x0_at (c : Dev nD) (t : Fin cfg0.N) (r j : Fin 1024) :
    iblk m c 0 t (ix3 0 r j) = m ((c : Thread nD τ).loc main_arg0) (ix3 (bOf t) ⟨t.val % 4 * 1024 + r.val, by omega⟩ j) := by
  blk_ext [iblk, V, idx t, bOf]

theorem x1_at (c : Dev nD) (t : Fin cfg0.N) (h : 0 < t.val % 4) (r : Fin 16) (j : Fin 1024) :
    iblk m c 1 t (ix3 0 r j) = m ((c : Thread nD τ).loc main_arg0) (ix3 (bOf t) ⟨t.val % 4 * 1024 - 16 + r.val, by omega⟩ j) := by
  blk_ext [iblk, V, idx t, bOf]

theorem x2_at (c : Dev nD) (t : Fin cfg0.N) (h : t.val % 4 < 3) (r : Fin 16) (j : Fin 1024) :
    iblk m c 2 t (ix3 0 r j) = m ((c : Thread nD τ).loc main_arg0) (ix3 (bOf t) ⟨t.val % 4 * 1024 + 1024 + r.val, by omega⟩ j) := by
  blk_ext [iblk, V, idx t, bOf]

theorem x3_at (c : Dev nD) (t : Fin cfg0.N) (r : Fin 6) (j : Fin 1024) :
    iblk m c 3 t (ix3 0 r j) = m ((c : Thread nD τ).loc main_arg1) (ix2 (bOf t) ⟨1024 * r.val + j.val, by omega⟩) := by
  blk_simp [iblk, idx t]
  rw [V_v22]
  pointwise
  blk_ext [idx t, bOf]

theorem x4_at (c : Dev nD) (t : Fin cfg0.N) (j : Fin 1024) :
    iblk m c 4 t (ix2 0 j) = m ((c : Thread nD τ).loc main_arg2) (ix1 j) := by
  blk_simp [iblk, idx t]
  rw [V_v23]
  pointwise
  blk_ext [idx t, bOf]

/-- The prepared weights: the first 2048 columns, then half of the last 2048, then the 512 between. -/
def wz (w : Vec Ideal S1024x4608 .f32) (j : Fin 1024) (q : Fin 4608) : EReal :=
  if h : q.val < 2048 then w (ix2 j q)
  else if h2 : q.val < 4096 then Ideal.ofBits .f32 0x3F000000#32 * w (ix2 j ⟨q.val + 512, by omega⟩)
  else w (ix2 j ⟨q.val - 2048, by omega⟩)

theorem w_at (w : Vec Ideal S1024x4608 .f32) (j : Fin 1024) (q : Fin 4608) : wT w (ix2 j q) = wz w j q := by
  unfold wz
  pointwise [wT, catT]
  by_cases h : q.val < 2048
  · rw [dif_pos h, dif_pos h]
  · rw [dif_neg h, dif_neg h]
    by_cases h2 : q.val < 4096
    · rw [dif_pos h2, dif_pos (show q.val - 2048 < 2048 by omega)]
      exact congrArg (fun z => _ * w (ix2 j z)) (Fin.ext (by simp only; omega))
    · rw [dif_neg h2, dif_neg (show ¬ q.val - 2048 < 2048 by omega)]
      exact congrArg (fun z => w (ix2 j z)) (Fin.ext (by simp only; omega))

theorem x5_at (c : Dev nD) (t : Fin cfg0.N) (j : Fin 1024) (q : Fin 4608) :
    iblk m c 5 t (ix2 j q) = wz (m ((c : Thread nD τ).loc main_arg3)) j q := by
  rw [← w_at]
  blk_simp [iblk, idx t]
  rw [V_v6]
  blk_ext [idx t]

theorem x7_at (c : Dev nD) (t : Fin cfg0.N) (a : Fin 4) (q : Fin 1024) :
    iblk m c 7 t (ix2 a q) = Ideal.ofBits .f32 0x3F000000#32 * m ((c : Thread nD τ).loc main_arg4) (ix2 a q) := by
  blk_simp [iblk, idx t]
  rw [V_v25]
  pointwise
  blk_point [idx t]

theorem x8_at (c : Dev nD) (t : Fin cfg0.N) (q : Fin 1024) :
    iblk m c 8 t (ix2 0 q) = Ideal.ofBits .f32 0x3F000000#32 * m ((c : Thread nD τ).loc main_arg5) (ix1 q) := by
  blk_simp [iblk, idx t]
  rw [V_v28]
  pointwise
  blk_point [idx t]

/-- The angle of row `l` and column `k`. -/
def ang (l k : Fin 128) : EReal := angT (ix2 l k)

theorem trig_at (l k : Fin 128) : trigT (ix2 l ⟨k.val, by omega⟩) = Ideal.cos (ang l k)
    ∧ trigT (ix2 l ⟨128 + k.val, by omega⟩) = Ideal.sin (ang l k) := by
  unfold ang trigT
  generalize angT = a
  constructor
  · pointwise
  · pointwise

theorem x6_at (c : Dev nD) (t : Fin cfg0.N) (l : Fin 128) (k : Fin 256) : iblk m c 6 t (ix2 l k) = trigT (ix2 l k) := by
  blk_simp [iblk, idx t]
  rw [V_v21]
  generalize trigT = a
  blk_ext [idx t]

end Cert.InprojIdeal.Result
end
end
-- ==== Proof.InprojResult.lean ====
/- What the input-projection kernel's three result arrays hold: at every index, the value over the argument arrays. -/
module

public import proofs.«01_k».proof.Proof.InprojReads

@[expose] public section

set_option maxRecDepth 16384

noncomputable section

namespace Cert.InprojIdeal.Result

open Idealize.ShloMosaic Idealize.ShloMosaic.TcCoe Idealize.SL.Sem Cert.InprojIdeal Cert.InprojIdeal.Gen Cert.InprojIdeal.Block

/-- The normalised and modulated sequence shifted by two: row `n` is token `n - 2`, and zero before the first and after the last token. -/
def hz (x : Vec Ideal S16x4096x1024 .f32) (md : Vec Ideal S16x6144 .f32) (g : Vec Ideal S1024 .f32) (b : Fin 16) (n : ℕ) (j : Fin 1024) : EReal :=
  if hn : 2 ≤ n ∧ n < 4098 then nrm (fun k => x (ix3 b ⟨n - 2, by omega⟩ k)) (g (ix1 j)) (md (ix2 b ⟨1024 + j.val, by omega⟩)) (md (ix2 b ⟨j.val, by omega⟩)) j else 0

/-- Column `q` of the projection of shifted row `n`, with the prepared weights. -/
def pz (x : Vec Ideal S16x4096x1024 .f32) (md : Vec Ideal S16x6144 .f32) (g : Vec Ideal S1024 .f32) (w : Vec Ideal S1024x4608 .f32)
    (b : Fin 16) (n : ℕ) (q : Fin 4608) : EReal := ∑ j : Fin 1024, hz x md g b n j * wz w j q

/-- The first result at token `s`, column `q`: four taps with half weights. -/
def xaZ (x : Vec Ideal S16x4096x1024 .f32) (md : Vec Ideal S16x6144 .f32) (g : Vec Ideal S1024 .f32) (w : Vec Ideal S1024x4608 .f32)
    (cw : Vec Ideal S4x1024 .f32) (cb : Vec Ideal S1024 .f32) (b : Fin 16) (s : ℕ) (q : Fin 1024) : EReal :=
  Ideal.ofBits .f32 0x3F000000#32 * cb (ix1 q)
    + Ideal.ofBits .f32 0x3F000000#32 * cw (ix2 0 q) * pz x md g w b s ⟨q.val, by omega⟩
    + Ideal.ofBits .f32 0x3F000000#32 * cw (ix2 1 q) * pz x md g w b (s + 1) ⟨q.val, by omega⟩
    + Ideal.ofBits .f32 0x3F000000#32 * cw (ix2 2 q) * pz x md g w b (s + 2) ⟨q.val, by omega⟩
    + Ideal.ofBits .f32 0x3F000000#32 * cw (ix2 3 q) * pz x md g w b (s + 3) ⟨q.val, by omega⟩

/-- The third result at token `s`: group `n` against the cosines (`n < 4`) or the sines. -/
def pqZ (x : Vec Ideal S16x4096x1024 .f32) (md : Vec Ideal S16x6144 .f32) (g : Vec Ideal S1024 .f32) (w : Vec Ideal S1024x4608 .f32)
    (b : Fin 16) (n : Fin 8) (s : ℕ) (k : Fin 128) : EReal :=
  ∑ l : Fin 128, pz x md g w b (s + 2) ⟨4096 + (n.val % 4 * 128 + l.val), by omega⟩ * trigT (ix2 l ⟨n.val / 4 * 128 + k.val, by omega⟩)

/-- The first result array. -/
def xaA (x : Vec Ideal S16x4096x1024 .f32) (md : Vec Ideal S16x6144 .f32) (g : Vec Ideal S1024 .f32) (w : Vec Ideal S1024x4608 .f32)
    (cw : Vec Ideal S4x1024 .f32) (cb : Vec Ideal S1024 .f32) : Vec Ideal S16x8x4096x128 .f32 := fun i =>
  xaZ x md g w cw cb (i 0) (i 2).val
    ⟨(i 1).val * 128 + (i 3).val, by have h1 : (i 1).val < 8 := (i 1).isLt; have h3 : (i 3).val < 128 := (i 3).isLt; omega⟩

/-- The second result array. -/
def yagA (x : Vec Ideal S16x4096x1024 .f32) (md : Vec Ideal S16x6144 .f32) (g : Vec Ideal S1024 .f32) (w : Vec Ideal S1024x4608 .f32) :
    Vec Ideal S16x4096x3072 .bf16 := fun i =>
  pz x md g w (i 0) ((i 1).val + 2) ⟨1024 + (i 2).val, by have h : (i 2).val < 3072 := (i 2).isLt; omega⟩

/-- The third result array. -/
def pqA (x : Vec Ideal S16x4096x1024 .f32) (md : Vec Ideal S16x6144 .f32) (g : Vec Ideal S1024 .f32) (w : Vec Ideal S1024x4608 .f32) :
    Vec Ideal S16x8x4096x128 .f32 := fun i => pqZ x md g w (i 0) (i 1) (i 2).val (i 3)

variable (m : (ℓ : Loc nD τ sig) → Buf (Elt Ideal) ℓ)

/-- A row of the block with its halo is the shifted row of the sequence. -/
theorem row_at (c : Dev nD) (t : Fin cfg0.N) (r : Fin 1056) (j : Fin 1024) (h1 : 14 ≤ r.val) (h2 : r.val ≤ 1040) :
    rowAt (grid0.coords t) (iblk m c 0 t) (iblk m c 1 t) (iblk m c 2 t) (iblk m c 3 t) (iblk m c 4 t) r j
      = hz (m ((c : Thread nD τ).loc main_arg0)) (m ((c : Thread nD τ).loc main_arg1)) (m ((c : Thread nD τ).loc main_arg2))
          (bOf t) (t.val % 4 * 1024 + r.val - 14) j := by
  unfold rowAt hz
  have hc := crd t
  have h4 : t.val % 4 < 4 := Nat.mod_lt _ (by decide)
  rw [hc, x4_at, x3_at, x3_at]
  by_cases h : r.val < 16
  · rw [dif_pos h]
    by_cases hq : 0 < t.val % 4
    · rw [if_pos hq, dif_pos (by omega)]
      simp only [x1_at m c t hq]
      congr 1
      · funext k
        exact congrArg (fun z => m ((c : Thread nD τ).loc main_arg0) (ix3 (bOf t) z k)) (Fin.ext (by simp only; omega))
      · exact congrArg (fun z => m ((c : Thread nD τ).loc main_arg1) (ix2 (bOf t) z)) (Fin.ext (by simp))
    · rw [if_neg hq, dif_neg (by omega)]
  · rw [dif_neg h]
    by_cases h3 : r.val < 1040
    · rw [dif_pos h3, dif_pos (by omega)]
      simp only [x0_at]
      congr 1
      · funext k
        exact congrArg (fun z => m ((c : Thread nD τ).loc main_arg0) (ix3 (bOf t) z k)) (Fin.ext (by simp only; omega))
      · exact congrArg (fun z => m ((c : Thread nD τ).loc main_arg1) (ix2 (bOf t) z)) (Fin.ext (by simp))
    · rw [dif_neg h3]
      by_cases hq : t.val % 4 < 3
      · rw [if_pos hq, dif_pos (by omega)]
        simp only [x2_at m c t hq]
        congr 1
        · funext k
          exact congrArg (fun z => m ((c : Thread nD τ).loc main_arg0) (ix3 (bOf t) z k)) (Fin.ext (by simp only; omega))
        · exact congrArg (fun z => m ((c : Thread nD τ).loc main_arg1) (ix2 (bOf t) z)) (Fin.ext (by simp))
      · rw [if_neg hq, dif_neg (by omega)]

/-- A row's projection in the block is the shifted row's. -/
theorem proj_of (c : Dev nD) (t : Fin cfg0.N) (r : Fin 1056) (q : Fin 4608) (n : ℕ) (h1 : 14 ≤ r.val) (h2 : r.val ≤ 1040)
    (hn : t.val % 4 * 1024 + r.val - 14 = n) :
    proj (rowAt (grid0.coords t) (iblk m c 0 t) (iblk m c 1 t) (iblk m c 2 t) (iblk m c 3 t) (iblk m c 4 t) r) (iblk m c 5 t) q
      = pz (m ((c : Thread nD τ).loc main_arg0)) (m ((c : Thread nD τ).loc main_arg1)) (m ((c : Thread nD τ).loc main_arg2))
          (m ((c : Thread nD τ).loc main_arg3)) (bOf t) n q := by
  unfold proj pz
  refine Finset.sum_congr rfl fun j _ => ?_
  rw [row_at m c t r j h1 h2, x5_at, hn]

theorem emb9 (t : Fin cfg0.N) (y1 : Fin 8) (y2 : Fin 1024) (y3 : Fin 128) :
    ((View.whole main_v29_0).slice (win0_9.rect t)).emb (ix4 0 y1 y2 y3)
      = ix4 (bOf t) y1 ⟨t.val % 4 * 1024 + y2.val, by omega⟩ y3 := by blk_ext [idx t, bOf]

theorem emb10 (t : Fin cfg0.N) (y1 : Fin 1024) (y2 : Fin 3072) :
    ((View.whole main_v29_1).slice (win0_10.rect t)).emb (ix3 0 y1 y2)
      = ix3 (bOf t) ⟨t.val % 4 * 1024 + y1.val, by omega⟩ y2 := by blk_ext [idx t, bOf]

theorem emb11 (t : Fin cfg0.N) (y1 : Fin 8) (y2 : Fin 1024) (y3 : Fin 128) :
    ((View.whole main_v29_2).slice (win0_11.rect t)).emb (ix4 0 y1 y2 y3)
      = ix4 (bOf t) y1 ⟨t.val % 4 * 1024 + y2.val, by omega⟩ y3 := by blk_ext [idx t, bOf]

set_option maxHeartbeats 1600000 in
/-- The first result array after the run. -/
theorem final9 (c : Dev nD) : (dats m 0 c).arrAt 9 (cfgs 0).N = xaA (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) := by
  refine (dats m 0 c).arrAt_eq_of_covers 9 _ (by decide +kernel) fun t _ y => ?_
  blk_simp
  rw [after0_9]
  unfold outsAt0
  idx_vars y
  obtain rfl : y0 = 0 := Subsingleton.elim _ _
  rw [emb9]
  refine (out9_at c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) scM0_0 (Memref.isWhole_whole _) scM0_1 (Memref.isWhole_whole _)
    (iblk m c 0 t) (iblk m c 1 t) (iblk m c 2 t) (iblk m c 3 t) (iblk m c 4 t) (iblk m c 5 t)
    (iblk m c 6 t) (iblk m c 7 t) (iblk m c 8 t) y1 y2 y3).trans ?_
  rw [x8_at, x7_at, x7_at, x7_at, x7_at,
    proj_of m c t ⟨14 + y2.val, by omega⟩ _ (t.val % 4 * 1024 + y2.val) (by simp only; omega) (by simp only; omega) (by simp only; omega),
    proj_of m c t ⟨15 + y2.val, by omega⟩ _ (t.val % 4 * 1024 + y2.val + 1) (by simp only; omega) (by simp only; omega) (by simp only; omega),
    proj_of m c t ⟨16 + y2.val, by omega⟩ _ (t.val % 4 * 1024 + y2.val + 2) (by simp only; omega) (by simp only; omega) (by simp only; omega),
    proj_of m c t ⟨17 + y2.val, by omega⟩ _ (t.val % 4 * 1024 + y2.val + 3) (by simp only; omega) (by simp only; omega) (by simp only; omega)]
  rfl

set_option maxHeartbeats 1600000 in
/-- The second result array after the run. -/
theorem final10 (c : Dev nD) : (dats m 0 c).arrAt 10 (cfgs 0).N = yagA (m ((c : Thread nD τ).loc main_arg0))
    (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10]
  unfold outsAt0
  idx_vars y
  obtain rfl : y0 = 0 := Subsingleton.elim _ _
  rw [emb10]
  refine (out10_at c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) scM0_0 (Memref.isWhole_whole _) scM0_1 (Memref.isWhole_whole _)
    (iblk m c 0 t) (iblk m c 1 t) (iblk m c 2 t) (iblk m c 3 t) (iblk m c 4 t) (iblk m c 5 t)
    (iblk m c 6 t) (iblk m c 7 t) (iblk m c 8 t) y1 y2).trans ?_
  exact proj_of m c t ⟨16 + y1.val, by omega⟩ _ (t.val % 4 * 1024 + y1.val + 2) (by simp only; omega) (by simp only; omega) (by simp only; omega)

set_option maxHeartbeats 1600000 in
/-- The third result array after the run. -/
theorem final11 (c : Dev nD) : (dats m 0 c).arrAt 11 (cfgs 0).N = pqA (m ((c : Thread nD τ).loc main_arg0))
    (m ((c : Thread nD τ).loc main_arg1)) (m ((c : Thread nD τ).loc main_arg2)) (m ((c : Thread nD τ).loc main_arg3)) := by
  refine (dats m 0 c).arrAt_eq_of_covers 11 _ (by decide +kernel) fun t _ y => ?_
  blk_simp
  rw [after0_11]
  unfold outsAt0
  idx_vars y
  obtain rfl : y0 = 0 := Subsingleton.elim _ _
  rw [emb11]
  refine (out11_at c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) scM0_0 (Memref.isWhole_whole _) scM0_1 (Memref.isWhole_whole _)
    (iblk m c 0 t) (iblk m c 1 t) (iblk m c 2 t) (iblk m c 3 t) (iblk m c 4 t) (iblk m c 5 t)
    (iblk m c 6 t) (iblk m c 7 t) (iblk m c 8 t) y1 y2 y3).trans ?_
  unfold pqA pqZ
  refine Finset.sum_congr rfl fun l _ => ?_
  rw [proj_of m c t ⟨16 + y2.val, by omega⟩ _ (t.val % 4 * 1024 + y2.val + 2) (by simp only; omega) (by simp only; omega) (by simp only; omega), x6_at]
  rfl

end Cert.InprojIdeal.Result
end
end
-- ==== Proof.InprojReference.lean ====
/- What the plain input projection computes at an index. -/
module

public import proofs.«01_k».proof.Proof.Gen.InprojRefIdeal.Run
public import Idealize.ShloMosaic.Lib.Pointwise
public import Idealize.ShloMosaic.Lib.Pipeline.ValueKit

@[expose] public section

set_option maxRecDepth 16384
set_option maxHeartbeats 4000000

noncomputable section

namespace Cert.InprojRefIdeal.Reference

open Idealize.ShloMosaic Idealize.ShloMosaic.TcCoe Idealize.SL.Sem Cert.InprojRefIdeal Cert.InprojRefIdeal.Gen Cert.InprojRefIdeal.Value

/-- The input normalised over its 1024 columns and scaled by the gain. -/
def rmsT (x : FVec Ideal S16x4096x1024 .f32) (g : FVec Ideal S1024 .f32) : FVec Ideal S16x4096x1024 .f32 :=
  mulf (mulf x (broadcastInDim S16x4096x1024 ![0, 1, 2] bcast_S16x4096x1_S16x4096x1024_0_1_2
      (Host.rsqrt (addf (Host.divf (broadcastInDim S16x4096x1 ![0, 1] bcast_S16x4096_S16x4096x1_0_1
          (Host.reduceAdd (mulf x x) (constant S_ .f32 0x00000000#32) reducesTo_S16x4096x1024_S16x4096_d2 h_S_))
        (broadcastInDim S16x4096x1 ![] bcast_S_S16x4096x1 (constant S_ .f32 0x44800000#32)))
        (broadcastInDim S16x4096x1 ![] bcast_S_S16x4096x1 (constant S_ .f32 0x358637BD#32))))))
    (broadcastInDim S16x4096x1024 ![0, 1, 2] bcast_S1x1x1024_S16x4096x1024_0_1_2 (broadcastInDim S1x1x1024 ![2] bcast_S1024_S1x1x1024_2 g))

/-- The modulated input. -/
def hT (x : FVec Ideal S16x4096x1024 .f32) (md : FVec Ideal S16x6144 .f32) (g : FVec Ideal S1024 .f32) : FVec Ideal S16x4096x1024 .f32 :=
  addf (mulf (rmsT x g) (broadcastInDim S16x4096x1024 ![0, 1, 2] bcast_S16x1x1024_S16x4096x1024_0_1_2
      (addf (broadcastInDim S16x1x1024 ![] bcast_S_S16x1x1024 (constant S_ .f32 0x3F800000#32))
        (broadcastInDim S16x1x1024 ![0, 2] bcast_S16x1024_S16x1x1024_0_2 (extractStridedSlice S16x1024 ![0, 1024] md slices_S16x6144_S16x1024_0_1024)))))
    (broadcastInDim S16x4096x1024 ![0, 1, 2] bcast_S16x1x1024_S16x4096x1024_0_1_2
      (broadcastInDim S16x1x1024 ![0, 2] bcast_S16x1024_S16x1x1024_0_2 (extractStridedSlice S16x1024 ![0, 0] md slices_S16x6144_S16x1024_0_0)))

/-- The projection. -/
def uT (h : FVec Ideal S16x4096x1024 .f32) (w : FVec Ideal S1024x4608 .f32) : FVec Ideal S16x4096x4608 .f32 :=
  Host.dotGeneral dot_S16x4096x1024_S1024x4608_S16x4096x4608_2_0_01_1_n_n none h w

/-- A vector of 1024 weights on every token. -/
def spread (v : FVec Ideal S1024 .f32) : FVec Ideal S16x4096x1024 .f32 :=
  broadcastInDim S16x4096x1024 ![0, 1, 2] bcast_S1x1x1024_S16x4096x1024_0_1_2 (broadcastInDim S1x1x1024 ![2] bcast_S1024_S1x1x1024_2 v)

/-- The first 1024 columns with two zero rows before and one after. -/
def padT (u : FVec Ideal S16x4096x4608 .f32) : FVec Ideal S16x4099x1024 .f32 :=
  pad S16x4099x1024 ![0, 2, 0] ![0, 1, 0] ![0, 0, 0] (extractStridedSlice S16x4096x1024 ![0, 0, 0] u slices_S16x4096x4608_S16x4096x1024_0_0_0)
    (sitofp .f32 (constantI S_ 32 0#32)) pads_S16x4096x1024_S16x4099x1024_000_210_000 h_S_

/-- The four-tap convolution along the sequence. -/
def convT (u : FVec Ideal S16x4096x4608 .f32) (cw : FVec Ideal S4x1024 .f32) (cb : FVec Ideal S1024 .f32) : FVec Ideal S16x4096x1024 .f32 :=
  addf (addf (addf (addf (spread cb)
      (mulf (extractStridedSlice S16x4096x1024 ![0, 0, 0] (padT u) slices_S16x4099x1024_S16x4096x1024_0_0_0)
        (spread (shapeCast S1024 (extractStridedSlice S1x1024 ![0, 0] cw slices_S4x1024_S1x1024_0_0) shapeCasts_S1x1024_S1024))))
    (mulf (extractStridedSlice S16x4096x1024 ![0, 1, 0] (padT u) slices_S16x4099x1024_S16x4096x1024_0_1_0)
      (spread (shapeCast S1024 (extractStridedSlice S1x1024 ![1, 0] cw slices_S4x1024_S1x1024_1_0) shapeCasts_S1x1024_S1024))))
    (mulf (extractStridedSlice S16x4096x1024 ![0, 2, 0] (padT u) slices_S16x4099x1024_S16x4096x1024_0_2_0)
      (spread (shapeCast S1024 (extractStridedSlice S1x1024 ![2, 0] cw slices_S4x1024_S1x1024_2_0) shapeCasts_S1x1024_S1024))))
    (mulf (extractStridedSlice S16x4096x1024 ![0, 3, 0] (padT u) slices_S16x4099x1024_S16x4096x1024_0_3_0)
      (spread (shapeCast S1024 (extractStridedSlice S1x1024 ![3, 0] cw slices_S4x1024_S1x1024_3_0) shapeCasts_S1x1024_S1024)))

/-- Half on every token and column. -/
def halfT : FVec Ideal S16x4096x1024 .f32 := broadcastInDim S16x4096x1024 ![] bcast_S_S16x4096x1024 (constant S_ .f32 0x3F000000#32)

/-- The first result: half the convolution, by heads. -/
def xhT (v : FVec Ideal S16x4096x1024 .f32) : FVec Ideal S16x8x4096x128 .f32 :=
  transpose S16x8x4096x128 [0, 2, 1, 3] (shapeCast S16x4096x8x128 (mulf halfT v) shapeCasts_S16x4096x1024_S16x4096x8x128) transposes_S16x4096x8x128_S16x8x4096x128_0_2_1_3

/-- The second result: one branch's columns and the halved gates. -/
def yagT (u : FVec Ideal S16x4096x4608 .f32) : FVec Ideal S16x4096x3072 .bf16 :=
  truncf .bf16 (concatenate S16x4096x3072 2 [⟨S16x4096x1024, extractStridedSlice S16x4096x1024 ![0, 0, 1024] u slices_S16x4096x4608_S16x4096x1024_0_0_1024⟩,
    ⟨S16x4096x1024, mulf halfT (extractStridedSlice S16x4096x1024 ![0, 0, 2560] u slices_S16x4096x4608_S16x4096x1024_0_0_2560)⟩,
    ⟨S16x4096x1024, mulf halfT (extractStridedSlice S16x4096x1024 ![0, 0, 3584] u slices_S16x4096x4608_S16x4096x1024_0_0_3584)⟩]
    concatenates_S16x4096x1024_S16x4096x1024_S16x4096x1024_S16x4096x3072_d2 : FVec Ideal S16x4096x3072 .f32) bitsLt_bf16_f32

/-- The divisor of the remainder: 128. -/
def modT : IVec S_ 32 := select (cmpi .eq (constantI S_ 32 128#32) (constantI S_ 32 0#32)) (constantI S_ 32 1#32) (constantI S_ 32 128#32)

/-- The product of row and column number. -/
def prodT : IVec S128x128 32 :=
  muli (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))

/-- The product's truncated remainder. -/
def remT : IVec S128x128 32 := Host.remsi prodT (broadcastInDim S128x128 ![] bcast_S_S128x128 modT)

/-- The product's remainder, made to have the divisor's sign. -/
def floorT : IVec S128x128 32 :=
  select (andi (cmpi .ne (cmpi .slt remT (broadcastInDim S128x128 ![] bcast_S_S128x128 (constantI S_ 32 0#32)))
      (broadcastInDim S128x128 ![] bcast_S_S128x128 (cmpi .slt modT (constantI S_ 32 0#32))))
    (cmpi .ne remT (broadcastInDim S128x128 ![] bcast_S_S128x128 (constantI S_ 32 0#32))))
    (addi remT (broadcastInDim S128x128 ![] bcast_S_S128x128 modT)) remT

/-- The angles of the transform over 128 values. -/
def angT : FVec Ideal S128x128 .f32 :=
  mulf (broadcastInDim S128x128 ![] bcast_S_S128x128 (constant S_ .f32 0x3D490FDB#32)) (sitofp .f32 floorT)

/-- The groups of 128 columns against a matrix of 128 by 128, by groups. -/
def grpT (u : FVec Ideal S16x4096x4608 .f32) (a : FVec Ideal S128x128 .f32) : FVec Ideal S16x4x4096x128 .f32 :=
  transpose S16x4x4096x128 [0, 2, 1, 3] (Host.dotGeneral dot_S16x4096x4x128_S128x128_S16x4096x4x128_3_0_012_1_n_n none
    (shapeCast S16x4096x4x128 (extractStridedSlice S16x4096x512 ![0, 0, 2048] u slices_S16x4096x4608_S16x4096x512_0_0_2048) shapeCasts_S16x4096x512_S16x4096x4x128) a)
    transposes_S16x4096x4x128_S16x4x4096x128_0_2_1_3

/-- The third result: the groups against the cosines, then against the sines. -/
def pqT (u : FVec Ideal S16x4096x4608 .f32) (a : FVec Ideal S128x128 .f32) : FVec Ideal S16x8x4096x128 .f32 :=
  concatenate S16x8x4096x128 1 [⟨S16x4x4096x128, grpT u (Host.cos a)⟩, ⟨S16x4x4096x128, grpT u (Host.sin a)⟩]
    concatenates_S16x4x4096x128_S16x4x4096x128_S16x8x4096x128_d1

variable (m : (ℓ : Loc nD τ sig) → Buf (Elt Ideal) ℓ)

/-- The projection of the argument arrays. -/
def U (c : Dev nD) : FVec Ideal S16x4096x4608 .f32 :=
  uT (hT (m ((c.tc : Thread nD τ).loc main_arg0)) (m ((c.tc : Thread nD τ).loc main_arg1)) (m ((c.tc : Thread nD τ).loc main_arg2)))
    (m ((c.tc : Thread nD τ).loc main_arg3))

theorem xh_eq (c : Dev nD) : res_main_v71 m c
    = xhT (convT (U m c) (m ((c.tc : Thread nD τ).loc main_arg4)) (m ((c.tc : Thread nD τ).loc main_arg5))) := rfl

theorem yag_eq (c : Dev nD) : res_main_v77 m c = yagT (U m c) := rfl

theorem pq_eq (c : Dev nD) : res_main_v95 m c = pqT (U m c) angT := rfl

theorem h_at (x : FVec Ideal S16x4096x1024 .f32) (md : FVec Ideal S16x6144 .f32) (g : FVec Ideal S1024 .f32)
    (b : Fin 16) (s : Fin 4096) (j : Fin 1024) : hT x md g (ix3 b s j)
      = x (ix3 b s j) * Ideal.rsqrt (Ideal.div (∑ k : Fin 1024, x (ix3 b s k) * x (ix3 b s k)) (Ideal.ofBits .f32 0x44800000#32)
          + Ideal.ofBits .f32 0x358637BD#32) * g (ix1 j) * (Ideal.ofBits .f32 0x3F800000#32 + md (ix2 b ⟨1024 + j.val, by omega⟩))
        + md (ix2 b ⟨j.val, by omega⟩) := by
  pointwise [hT, rmsT]

theorem u_at (h : FVec Ideal S16x4096x1024 .f32) (w : FVec Ideal S1024x4608 .f32) (b : Fin 16) (s : Fin 4096) (q : Fin 4608) :
    uT h w (ix3 b s q) = ∑ j : Fin 1024, h (ix3 b s j) * w (ix2 j q) := by
  pointwise [uT]

theorem pad_at (u : FVec Ideal S16x4096x4608 .f32) (b : Fin 16) (n : Fin 4099) (q : Fin 1024) : padT u (ix3 b n q)
    = if h : 2 ≤ n.val ∧ n.val < 4098 then u (ix3 b ⟨n.val - 2, by omega⟩ ⟨q.val, by omega⟩) else 0 := by
  pointwise [padT]
  have z : (FloatOps.sitofp (F := Ideal) .f32 0#32 : EReal) = 0 := by
    show (((0#32 : BitVec 32).toInt : ℝ) : EReal) = 0
    simp
  rw [z]
  by_cases h : 2 ≤ n.val ∧ n.val < 4098
  · rw [dif_pos h, dif_pos (by omega)]
  · rw [dif_neg h, dif_neg (by omega)]

theorem conv_at (u : FVec Ideal S16x4096x4608 .f32) (cw : FVec Ideal S4x1024 .f32) (cb : FVec Ideal S1024 .f32)
    (b : Fin 16) (s : Fin 4096) (q : Fin 1024) : convT u cw cb (ix3 b s q)
      = cb (ix1 q) + padT u (ix3 b ⟨s.val, by omega⟩ q) * cw (ix2 0 q) + padT u (ix3 b ⟨1 + s.val, by omega⟩ q) * cw (ix2 1 q)
        + padT u (ix3 b ⟨2 + s.val, by omega⟩ q) * cw (ix2 2 q) + padT u (ix3 b ⟨3 + s.val, by omega⟩ q) * cw (ix2 3 q) := by
  unfold convT
  generalize padT u = p
  pointwise [spread]

theorem xh_at (v : FVec Ideal S16x4096x1024 .f32) (b : Fin 16) (n : Fin 8) (s : Fin 4096) (l : Fin 128) :
    xhT v (ix4 b n s l) = Ideal.ofBits .f32 0x3F000000#32 * v (ix3 b s ⟨n.val * 128 + l.val, by omega⟩) := by
  pointwise [xhT, halfT]

theorem yag_at (u : FVec Ideal S16x4096x4608 .f32) (b : Fin 16) (s : Fin 4096) (k : Fin 3072) :
    yagT u (ix3 b s k) = if h : k.val < 1024 then u (ix3 b s ⟨1024 + k.val, by omega⟩)
      else Ideal.ofBits .f32 0x3F000000#32 * u (ix3 b s ⟨1536 + k.val, by omega⟩) := by
  pointwise [yagT, halfT]
  by_cases h : k.val < 1024
  · rw [dif_pos h, dif_pos h]
  · rw [dif_neg h, dif_neg h]
    by_cases h2 : k.val - 1024 < 1024
    · rw [dif_pos h2]
      exact congrArg (fun z => _ * u (ix3 b s z)) (Fin.ext (by simp only; omega))
    · rw [dif_neg h2]
      exact congrArg (fun z => _ * u (ix3 b s z)) (Fin.ext (by simp only; omega))

theorem grp_at (u : FVec Ideal S16x4096x4608 .f32) (a : FVec Ideal S128x128 .f32) (b : Fin 16) (n : Fin 4) (s : Fin 4096) (k : Fin 128) :
    grpT u a (ix4 b n s k) = ∑ l : Fin 128, u (ix3 b s ⟨2048 + (n.val * 128 + l.val), by omega⟩) * a (ix2 l k) := by
  pointwise [grpT]

theorem pq_at (u : FVec Ideal S16x4096x4608 .f32) (a : FVec Ideal S128x128 .f32) (b : Fin 16) (n : Fin 8) (s : Fin 4096) (k : Fin 128) :
    pqT u a (ix4 b n s k) = ∑ l : Fin 128, u (ix3 b s ⟨2048 + (n.val % 4 * 128 + l.val), by omega⟩)
      * (if n.val < 4 then Ideal.cos (a (ix2 l k)) else Ideal.sin (a (ix2 l k))) := by
  unfold pqT
  by_cases h : n.val < 4
  · have e : grpT u (Host.cos a) (ix4 b ⟨n.val, h⟩ s k) = ∑ l : Fin 128, u (ix3 b s ⟨2048 + (n.val % 4 * 128 + l.val), by omega⟩)
        * (if n.val < 4 then Ideal.cos (a (ix2 l k)) else Ideal.sin (a (ix2 l k))) := by
      rw [grp_at]
      refine Finset.sum_congr rfl fun l _ => ?_
      rw [if_pos h]
      exact congrArg (fun z => u (ix3 b s z) * _) (Fin.ext (by simp only; omega))
    rw [← e]
    generalize grpT u (Host.cos a) = p
    generalize grpT u (Host.sin a) = q
    pointwise
    exact dif_pos h
  · have e : grpT u (Host.sin a) (ix4 b ⟨n.val - 4, by omega⟩ s k) = ∑ l : Fin 128, u (ix3 b s ⟨2048 + (n.val % 4 * 128 + l.val), by omega⟩)
        * (if n.val < 4 then Ideal.cos (a (ix2 l k)) else Ideal.sin (a (ix2 l k))) := by
      rw [grp_at]
      refine Finset.sum_congr rfl fun l _ => ?_
      rw [if_neg h]
      exact congrArg (fun z => u (ix3 b s z) * _) (Fin.ext (by simp only; omega))
    rw [← e]
    generalize grpT u (Host.cos a) = p
    generalize grpT u (Host.sin a) = q
    pointwise
    exact dif_neg h

end Cert.InprojRefIdeal.Reference
end
end
-- ==== Proof.InprojEquation.lean ====
/- The input projection's values equal the plain ones: halves folded into the weights and taps, columns in another
   order, and rows of zeros beyond the ends of the sequence. -/
module

public import proofs.«01_k».proof.Proof.InprojResult
public import proofs.«01_k».proof.Proof.InprojReference

@[expose] public section

set_option maxRecDepth 16384

noncomputable section

namespace Cert.InprojEq

open Idealize.ShloMosaic Idealize.ShloMosaic.TcCoe Idealize.SL.Sem Cert.InprojIdeal.Result Cert.InprojIdeal.Block
open Cert.InprojIdeal (S16x4096x1024 S16x6144 S1024 S1024x4608 S4x1024)

/-! ## The half -/

/-- The half of the printed programs. -/
def hf : EReal := Ideal.ofBits .f32 0x3F000000#32

theorem hf_eq : hf = ((1 / 2 : ℝ) : EReal) := by
  unfold hf
  simp [Ideal.ofBits, Ideal.ieee, -EReal.coe_mul]; norm_num

theorem hf_add (x y : EReal) : hf * (x + y) = hf * x + hf * y := by
  refine EReal.left_distrib_of_nonneg_of_ne_top ?_ ?_ x y
  · rw [hf_eq]; exact_mod_cast (by norm_num : (0 : ℝ) ≤ 1 / 2)
  · rw [hf_eq]; exact EReal.coe_ne_top _

theorem hf_sum {ι : Type} (s : Finset ι) (f : ι → EReal) : hf * ∑ i ∈ s, f i = ∑ i ∈ s, hf * f i := by
  classical
  induction s using Finset.induction_on with
  | empty => simp
  | insert a s ha ih => rw [Finset.sum_insert ha, Finset.sum_insert ha, hf_add, ih]

/-! ## The projection -/

variable (x : Vec Ideal S16x4096x1024 .f32) (md : Vec Ideal S16x6144 .f32) (g : Vec Ideal S1024 .f32)
  (w : Vec Ideal S1024x4608 .f32) (cw : Vec Ideal S4x1024 .f32) (cb : Vec Ideal S1024 .f32)

/-- The plain projection. -/
def up : Vec Ideal Cert.InprojRefIdeal.S16x4096x4608 .f32 :=
  Cert.InprojRefIdeal.Reference.uT (Cert.InprojRefIdeal.Reference.hT x md g) w

theorem h_eq (b : Fin 16) (n : ℕ) (hn : 2 ≤ n ∧ n < 4098) (j : Fin 1024) :
    Cert.InprojRefIdeal.Reference.hT x md g (ix3 b ⟨n - 2, by omega⟩ j) = hz x md g b n j := by
  rw [Cert.InprojRefIdeal.Reference.h_at]
  unfold hz nrm
  rw [dif_pos hn, ← mul_assoc]

theorem up_eq (b : Fin 16) (n : ℕ) (hn : 2 ≤ n ∧ n < 4098) (q : Fin 4608) :
    up x md g w (ix3 b ⟨n - 2, by omega⟩ q) = ∑ j : Fin 1024, hz x md g b n j * w (ix2 j q) := by
  unfold up
  rw [Cert.InprojRefIdeal.Reference.u_at]
  exact Finset.sum_congr rfl fun j _ => by rw [h_eq x md g b n hn]

/-- The first 2048 columns are the plain ones. -/
theorem plain_eq (b : Fin 16) (n : ℕ) (hn : 2 ≤ n ∧ n < 4098) (q : Fin 4608) (hq : q.val < 2048) :
    pz x md g w b n q = up x md g w (ix3 b ⟨n - 2, by omega⟩ q) := by
  rw [up_eq x md g w b n hn]
  unfold pz wz
  exact Finset.sum_congr rfl fun j _ => by rw [dif_pos hq]

/-- The next 2048 are half of the plain gates. -/
theorem gates_eq (b : Fin 16) (n : ℕ) (hn : 2 ≤ n ∧ n < 4098) (q : Fin 4608) (hq : ¬ q.val < 2048) (hq2 : q.val < 4096) :
    pz x md g w b n q = hf * up x md g w (ix3 b ⟨n - 2, by omega⟩ ⟨q.val + 512, by omega⟩) := by
  rw [up_eq x md g w b n hn, hf_sum]
  unfold pz wz
  refine Finset.sum_congr rfl fun j _ => ?_
  rw [dif_neg hq, dif_pos hq2]
  exact mul_left_comm _ _ _

/-- The last 512 are the plain columns from 2048. -/
theorem late_eq (b : Fin 16) (n : ℕ) (hn : 2 ≤ n ∧ n < 4098) (q : Fin 4608) (hq : 4096 ≤ q.val) :
    pz x md g w b n q = up x md g w (ix3 b ⟨n - 2, by omega⟩ ⟨q.val - 2048, by omega⟩) := by
  rw [up_eq x md g w b n hn]
  unfold pz wz
  refine Finset.sum_congr rfl fun j _ => ?_
  rw [dif_neg (by omega), dif_neg (by omega)]

/-- Beyond the ends of the sequence the projection is zero. -/
theorem zero_eq (b : Fin 16) (n : ℕ) (hn : ¬ (2 ≤ n ∧ n < 4098)) (q : Fin 4608) : pz x md g w b n q = 0 := by
  unfold pz hz
  exact Finset.sum_eq_zero fun j _ => by rw [dif_neg hn, zero_mul]

theorem pad_eq (b : Fin 16) (n : Fin 4099) (q : Fin 1024) :
    Cert.InprojRefIdeal.Reference.padT (up x md g w) (ix3 b n q) = pz x md g w b n.val ⟨q.val, by omega⟩ := by
  rw [Cert.InprojRefIdeal.Reference.pad_at]
  by_cases h : 2 ≤ n.val ∧ n.val < 4098
  · rw [dif_pos h, plain_eq x md g w b n.val h _ (by show q.val < 2048; omega)]
  · rw [dif_neg h, zero_eq x md g w b n.val h]

/-! ## The three results -/

/-- A tap: the half goes to the weight. -/
theorem tap_eq (p c : EReal) : hf * (p * c) = hf * c * p := by
  rw [mul_comm p c, mul_assoc]

theorem xa_eq (b : Fin 16) (n : Fin 8) (s : Fin 4096) (l : Fin 128) :
    Cert.InprojRefIdeal.Reference.xhT (Cert.InprojRefIdeal.Reference.convT (up x md g w) cw cb) (ix4 b n s l)
      = xaZ x md g w cw cb b s.val ⟨n.val * 128 + l.val, by omega⟩ := by
  rw [Cert.InprojRefIdeal.Reference.xh_at, Cert.InprojRefIdeal.Reference.conv_at, pad_eq, pad_eq, pad_eq, pad_eq]
  show hf * _ = _
  rw [hf_add, hf_add, hf_add, hf_add, tap_eq, tap_eq, tap_eq, tap_eq]
  unfold xaZ
  simp only [Nat.add_comm 1, Nat.add_comm 2, Nat.add_comm 3]
  rfl

theorem yag_eq (b : Fin 16) (s : Fin 4096) (k : Fin 3072) :
    Cert.InprojRefIdeal.Reference.yagT (up x md g w) (ix3 b s k) = pz x md g w b (s.val + 2) ⟨1024 + k.val, by omega⟩ := by
  rw [Cert.InprojRefIdeal.Reference.yag_at]
  by_cases h : k.val < 1024
  · rw [dif_pos h, plain_eq x md g w b (s.val + 2) ⟨by omega, by omega⟩ _ (by show 1024 + k.val < 2048; omega)]
    rfl
  · rw [dif_neg h, gates_eq x md g w b (s.val + 2) ⟨by omega, by omega⟩ _ (by show ¬ 1024 + k.val < 2048; omega) (by show 1024 + k.val < 4096; omega)]
    exact congrArg (fun z => hf * up x md g w (ix3 b s z)) (Fin.ext (by simp only; omega))

/-- The two programs' angles are the same. -/
theorem ang_eq : Cert.InprojRefIdeal.Reference.angT = Cert.InprojIdeal.Result.angT := rfl

/-- The printed matrix at a group: cosines for the first four groups, sines for the last four. -/
theorem trig_eq (n : Fin 8) (l k : Fin 128) :
    (if n.val < 4 then Ideal.cos (Cert.InprojRefIdeal.Reference.angT (ix2 l k)) else Ideal.sin (Cert.InprojRefIdeal.Reference.angT (ix2 l k)))
      = trigT (ix2 l ⟨n.val / 4 * 128 + k.val, by omega⟩) := by
  rw [ang_eq]
  by_cases h : n.val < 4
  · rw [if_pos h]
    refine (trig_at l k).1.symm.trans ?_
    exact congrArg (fun z => trigT (ix2 l z)) (Fin.ext (by simp only; omega))
  · rw [if_neg h]
    refine (trig_at l k).2.symm.trans ?_
    exact congrArg (fun z => trigT (ix2 l z)) (Fin.ext (by simp only; omega))

theorem pq_eq (b : Fin 16) (n : Fin 8) (s : Fin 4096) (k : Fin 128) :
    Cert.InprojRefIdeal.Reference.pqT (up x md g w) Cert.InprojRefIdeal.Reference.angT (ix4 b n s k) = pqZ x md g w b n s.val k := by
  rw [Cert.InprojRefIdeal.Reference.pq_at]
  unfold pqZ
  refine Finset.sum_congr rfl fun l _ => ?_
  rw [trig_eq, late_eq x md g w b (s.val + 2) ⟨by omega, by omega⟩ _ (by show 4096 ≤ 4096 + _; omega)]
  refine congrArg (fun z => up x md g w (ix3 b s z) * _) (Fin.ext ?_)
  simp only
  omega

end Cert.InprojEq
end
end
-- ==== Proof.InprojClaims.lean ====
/- The claims of the input projection. -/
module

public import proofs.«01_k».proof.Defs
public import proofs.«01_k».proof.Proof.Gen.Inproj.Frame
public import proofs.«01_k».proof.Proof.Gen.InprojIdeal.Frame
public import proofs.«01_k».proof.Proof.Gen.InprojIdeal.Value
public import proofs.«01_k».proof.Proof.Gen.InprojRefIdeal.Run
public import proofs.«01_k».proof.Proof.Gen.Inproj
public import proofs.«01_k».proof.Proof.Gen.InprojIdeal
public import proofs.«01_k».proof.Proof.Gen.InprojRefIdeal
public import proofs.«01_k».proof.Proof.InprojEquation
public import Idealize.ShloMosaic.Lib.Quiescent

@[expose] public section

noncomputable section

namespace Cert.InprojClaims

open Idealize.ShloMosaic Idealize.ShloMosaic.TcCoe Idealize.SL.Sem

theorem frame_p : Cert.quiescent_Inproj := fun m ρ _ => Cert.Inproj.Gen.frame m ρ

theorem frame_pi : Cert.quiescent_InprojIdeal := fun m ρ _ => Cert.InprojIdeal.Gen.frame m ρ

theorem frame_ri : Cert.quiescent_InprojRefIdeal := fun m ρ _ =>
  (θ_run Cert.InprojRefIdeal.defs _ _).mono (fun r h => ⟨fun c => (h c).2.2.2, Idealize.ShloMosaic.sem_eq_zero_of_no_sems (by decide) r.2⟩)
    (Cert.InprojRefIdeal.Value.run m ρ)

theorem preserves : Cert.preserves_Inproj_InprojIdeal := True.intro

set_option maxHeartbeats 2000000 in
/-- The reference's arrays are the kernel's. -/
theorem result (m : (ℓ : Loc Cert.InprojIdeal.nD Cert.InprojIdeal.τ Cert.InprojIdeal.sig) → Buf (Elt Ideal) ℓ)
    (m' : (ℓ : Loc Cert.InprojRefIdeal.nD Cert.InprojRefIdeal.τ Cert.InprojRefIdeal.sig) → Buf (Elt Ideal) ℓ)
    (c : Dev Cert.InprojIdeal.nD)
    (h0 : m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0))
    (h1 : m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1))
    (h2 : m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2))
    (h3 : m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3))
    (h4 : m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4))
    (h5 : m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)) :
    Cert.InprojRefIdeal.Value.res_main_v71 m' c = (Cert.InprojIdeal.Gen.dats m 0 c).arrAt 9 (Cert.InprojIdeal.cfgs 0).N
    ∧ Cert.InprojRefIdeal.Value.res_main_v77 m' c = (Cert.InprojIdeal.Gen.dats m 0 c).arrAt 10 (Cert.InprojIdeal.cfgs 0).N
    ∧ Cert.InprojRefIdeal.Value.res_main_v95 m' c = (Cert.InprojIdeal.Gen.dats m 0 c).arrAt 11 (Cert.InprojIdeal.cfgs 0).N := by
  refine ⟨?_, ?_, ?_⟩
  · rw [Cert.InprojRefIdeal.Reference.xh_eq, Cert.InprojIdeal.Result.final9]
    unfold Cert.InprojRefIdeal.Reference.U
    rw [h0, h1, h2, h3, h4, h5]
    funext i
    rw [show i = ix4 (i 0) (i 1) (i 2) (i 3) from by funext a; fin_cases a <;> rfl]
    exact Cert.InprojEq.xa_eq _ _ _ _ _ _ _ _ _ _
  · rw [Cert.InprojRefIdeal.Reference.yag_eq, Cert.InprojIdeal.Result.final10]
    unfold Cert.InprojRefIdeal.Reference.U
    rw [h0, h1, h2, h3]
    funext i
    rw [show i = ix3 (i 0) (i 1) (i 2) from by funext a; fin_cases a <;> rfl]
    exact Cert.InprojEq.yag_eq _ _ _ _ _ _ _
  · rw [Cert.InprojRefIdeal.Reference.pq_eq, Cert.InprojIdeal.Result.final11]
    unfold Cert.InprojRefIdeal.Reference.U
    rw [h0, h1, h2, h3]
    funext i
    rw [show i = ix4 (i 0) (i 1) (i 2) (i 3) from by funext a; fin_cases a <;> rfl]
    exact Cert.InprojEq.pq_eq _ _ _ _ _ _ _ _

theorem algebraic : Cert.algebraic_InprojIdeal_InprojRefIdeal := by
  intro m ρ m' ρ' _ hagree
  refine ⟨fun c => (Cert.InprojIdeal.Gen.dats m 0 c).arrAt 9 (Cert.InprojIdeal.cfgs 0).N, fun c => (Cert.InprojIdeal.Gen.dats m 0 c).arrAt 10 (Cert.InprojIdeal.cfgs 0).N,
    fun c => (Cert.InprojIdeal.Gen.dats m 0 c).arrAt 11 (Cert.InprojIdeal.cfgs 0).N, Cert.InprojIdeal.Value.run_blocks m ρ, ?_⟩
  refine (θ_run Cert.InprojRefIdeal.defs _ _).mono (fun _ h c => ?_) (Cert.InprojRefIdeal.Value.run m' ρ')
  obtain ⟨h0, h1, h2, h3, h4, h5⟩ := hagree c
  have e := result m m' c h0 h1 h2 h3 h4 h5
  exact ⟨(h c).1.trans e.1, (h c).2.1.trans e.2.1, (h c).2.2.1.trans e.2.2, (h c).2.2.2⟩

end Cert.InprojClaims
end
end
-- ==== Proof.ModResult.lean ====
/- What the modulation kernel's result array holds: at every index, the value over the argument arrays. -/
module

public import proofs.«01_k».proof.Proof.Gen.ModIdeal.Value
public import Idealize.ShloMosaic.Lib.Pointwise
public import Idealize.ShloMosaic.Lib.Pipeline.ValueKit

@[expose] public section

set_option maxRecDepth 16384

noncomputable section

namespace Cert.ModIdeal.Result

open Idealize.ShloMosaic Idealize.ShloMosaic.TcCoe Idealize.SL.Sem Cert.ModIdeal Cert.ModIdeal.Gen

/-- The kernel's activation of the conditioning: the logistic function through `tanh`. -/
def act (c : EReal) : EReal :=
  c * (Ideal.ofBits .f32 0x3F000000#32 * (Ideal.ofBits .f32 0x3F800000#32 + Ideal.tanh (Ideal.ofBits .f32 0x3F000000#32 * c)))

/-- The modulation of sequence `b`, column `q`. -/
def modZ (c : Vec Ideal S18x1024 .f32) (w : Vec Ideal S1024x6144 .f32) (v : Vec Ideal S6144 .f32) (b : Fin 18) (q : Fin 6144) : EReal :=
  ∑ j : Fin 1024, act (c (ix2 b j)) * w (ix2 j q) + v (ix1 q)

/-- The result array. -/
def modA (c : Vec Ideal S18x1024 .f32) (w : Vec Ideal S1024x6144 .f32) (v : Vec Ideal S6144 .f32) : Vec Ideal S18x6144 .f32 :=
  fun i => modZ c w v (i 0) (i 1)

theorem out_at (x0 : Vec Ideal S18x1024 .f32) (x1 : Vec Ideal S1024x512 .f32) (x2 : Vec Ideal S1x512 .f32) (b : Fin 18) (q : Fin 512) :
    out0_3 x0 x1 x2 (ix2 b q) = ∑ j : Fin 1024, act (x0 (ix2 b j)) * x1 (ix2 j q) + x2 (ix2 0 q) := by
  frame_out
  pointwise [k0_pay1, act]

theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

theorem lt12 (t : Fin cfg0.N) : t.val < 12 := t.isLt

variable (m : (ℓ : Loc nD τ sig) → Buf (Elt Ideal) ℓ)

theorem x0_at (c : Dev nD) (t : Fin cfg0.N) (b : Fin 18) (j : Fin 1024) :
    iblk m c 0 t (ix2 b j) = m ((c : Thread nD τ).loc main_arg0) (ix2 b j) := by
  blk_simp [iblk, idx t]
  entry_read
  blk_ext [idx t]

theorem x1_at (c : Dev nD) (t : Fin cfg0.N) (j : Fin 1024) (q : Fin 512) :
    iblk m c 1 t (ix2 j q) = m ((c : Thread nD τ).loc main_arg1) (ix2 j ⟨t.val * 512 + q.val, by have := lt12 t; omega⟩) := by
  blk_simp [iblk, idx t]
  entry_read
  blk_ext [idx t]

theorem x2_at (c : Dev nD) (t : Fin cfg0.N) (q : Fin 512) :
    iblk m c 2 t (ix2 0 q) = m ((c : Thread nD τ).loc main_arg2) (ix1 ⟨t.val * 512 + q.val, by have := lt12 t; omega⟩) := by
  blk_simp [iblk, idx t]
  entry_read
  pointwise
  blk_ext [idx t]

theorem emb3 (t : Fin cfg0.N) (b : Fin 18) (q : Fin 512) : ((View.whole main_v1).slice (win0_3.rect t)).emb (ix2 b q)
    = ix2 b ⟨t.val * 512 + q.val, by have := lt12 t; omega⟩ := by
  blk_ext [idx t]

/-- The result array after the run. -/
theorem final (c : Dev nD) : (dats m 0 c).arrAt 3 (cfgs 0).N = modA (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]
  idx_vars y
  rw [emb3]
  refine (out_at (iblk m c 0 t) (iblk m c 1 t) (iblk m c 2 t) y0 y1).trans ?_
  simp only [x0_at, x1_at, x2_at]
  rfl

end Cert.ModIdeal.Result
end
end
-- ==== Proof.ModClaims.lean ====
/- The plain modulation at an index, its equality with the kernel's, and the claims of the modulation call. -/
module

public import proofs.«01_k».proof.Defs
public import proofs.«01_k».proof.Proof.Gen.Mod.Frame
public import proofs.«01_k».proof.Proof.Gen.ModIdeal.Frame
public import proofs.«01_k».proof.Proof.Gen.ModIdeal.Value
public import proofs.«01_k».proof.Proof.Gen.ModRefIdeal.Run
public import proofs.«01_k».proof.Proof.Gen.Mod
public import proofs.«01_k».proof.Proof.Gen.ModIdeal
public import proofs.«01_k».proof.Proof.Gen.ModRefIdeal
public import proofs.«01_k».proof.Proof.MergeEquation
public import proofs.«01_k».proof.Proof.ModResult
public import Idealize.ShloMosaic.Lib.Quiescent

@[expose] public section

noncomputable section

namespace Cert.ModClaims

open Idealize.ShloMosaic Idealize.ShloMosaic.TcCoe Idealize.SL.Sem
open Cert.ModRefIdeal Cert.ModRefIdeal.Gen in
/-- The reference's array as one term of its arguments. -/
def refT (c : FVec Ideal S18x1024 .f32) (w : FVec Ideal S1024x6144 .f32) (v : FVec Ideal S6144 .f32) : FVec Ideal S18x6144 .f32 :=
  addf (Host.dotGeneral dot_S18x1024_S1024x6144_S18x6144_1_0_0_1_n_n none
      (mulf c (Host.divf (broadcastInDim S18x1024 ![] bcast_S_S18x1024 (constant S_ .f32 0x3F800000#32))
        (addf (broadcastInDim S18x1024 ![] bcast_S_S18x1024 (constant S_ .f32 0x3F800000#32)) (Host.exp (Host.negf c))))) w)
    (broadcastInDim S18x6144 ![0, 1] bcast_S1x6144_S18x6144_0_1 (broadcastInDim S1x6144 ![1] bcast_S6144_S1x6144_1 v))

/-- The plain activation of the conditioning. -/
def silu (c : EReal) : EReal := c * Ideal.div (Ideal.ofBits .f32 0x3F800000#32) (Ideal.ofBits .f32 0x3F800000#32 + Ideal.exp (-c))

open Cert.ModRefIdeal in
theorem ref_at (c : FVec Ideal S18x1024 .f32) (w : FVec Ideal S1024x6144 .f32) (v : FVec Ideal S6144 .f32) (b : Fin 18) (q : Fin 6144) :
    refT c w v (ix2 b q) = ∑ j : Fin 1024, silu (c (ix2 b j)) * w (ix2 j q) + v (ix1 q) := by
  pointwise [refT, silu]

/-- The two activations agree, at infinite conditionings too. -/
theorem act_eq (c : EReal) : silu c = Cert.ModIdeal.Result.act c := by
  unfold silu Cert.ModIdeal.Result.act
  rw [Cert.MergeEq.gate_eq]
  unfold Cert.MergeRefIdeal.Reference.sig2
  have h : ∀ z : EReal, Ideal.ofBits .f32 0x3F000000#32 * (((2 : ℝ) : EReal) * z) = z := by
    intro z
    rw [Cert.FfnEq.half_word, ← mul_assoc, ← EReal.coe_mul]
    norm_num
  have h2 : Ideal.ofBits .f32 0x40000000#32 * (Ideal.ofBits .f32 0x3F000000#32 * c) = c := by
    rw [Cert.MergeEq.two_word, Cert.FfnEq.half_word, ← mul_assoc, ← EReal.coe_mul]
    norm_num
  rw [h, h2, Cert.MergeEq.one_word, EReal.coe_one]

theorem frame_p : Cert.quiescent_Mod := fun m ρ _ => Cert.Mod.Gen.frame m ρ

theorem frame_pi : Cert.quiescent_ModIdeal := fun m ρ _ => Cert.ModIdeal.Gen.frame m ρ

theorem frame_ri : Cert.quiescent_ModRefIdeal := fun m ρ _ =>
  (θ_run Cert.ModRefIdeal.defs _ _).mono (fun r h => ⟨fun c => (h c).2, Idealize.ShloMosaic.sem_eq_zero_of_no_sems (by decide) r.2⟩)
    (Cert.ModRefIdeal.Value.run m ρ)

theorem preserves : Cert.preserves_Mod_ModIdeal := True.intro

theorem sum_eq (c : FVec Ideal Cert.ModIdeal.S18x1024 .f32) (w : FVec Ideal Cert.ModIdeal.S1024x6144 .f32)
    (v : FVec Ideal Cert.ModIdeal.S6144 .f32) (b : Fin 18) (q : Fin 6144) :
    ∑ j : Fin 1024, silu (c (ix2 b j)) * w (ix2 j q) + v (ix1 q) = Cert.ModIdeal.Result.modZ c w v b q := by
  simp only [act_eq]
  rfl

theorem ref_eq (c : FVec Ideal Cert.ModIdeal.S18x1024 .f32) (w : FVec Ideal Cert.ModIdeal.S1024x6144 .f32)
    (v : FVec Ideal Cert.ModIdeal.S6144 .f32) : refT c w v = Cert.ModIdeal.Result.modA c w v := by
  funext i
  rw [show i = ix2 (i 0) (i 1) from by funext a; fin_cases a <;> rfl]
  exact (ref_at c w v (i 0) (i 1)).trans (sum_eq c w v (i 0) (i 1))

theorem algebraic : Cert.algebraic_ModIdeal_ModRefIdeal := by
  intro m ρ m' ρ' _ hagree
  refine ⟨fun c => (Cert.ModIdeal.Gen.dats m 0 c).arrAt 3 (Cert.ModIdeal.cfgs 0).N, Cert.ModIdeal.Value.run_blocks m ρ, ?_⟩
  refine (θ_run Cert.ModRefIdeal.defs _ _).mono (fun _ h c => ⟨(h c).1.trans ?_, (h c).2⟩) (Cert.ModRefIdeal.Value.run m' ρ')
  obtain ⟨h0, h1, h2⟩ := hagree c
  rw [h0, h1, h2]
  exact (ref_eq _ _ _).trans (Cert.ModIdeal.Result.final m c).symm

end Cert.ModClaims
end
end
-- ==== Proof.SeqdftBlock.lean ====
/- One block of the sequence-transform kernel, written once over the vector operations: each eighth of the rows against
   the cosine and sine tables, its twiddle, the sixteen stores between, and the eight-point transform of what is read
   back; and that the body's run leaves exactly this in its output block. -/
module

public import proofs.«01_k».proof.Proof.Gen.SeqdftIdeal.Value

@[expose] public section

set_option maxRecDepth 65536
set_option maxHeartbeats 20000000

noncomputable section

namespace Cert.SeqdftIdeal.Block

open Idealize.ShloMosaic Idealize.ShloMosaic.TcCoe Idealize.SL.Sem Cert.SeqdftIdeal Cert.SeqdftIdeal.Gen

variable {F : FTy → Type} [FloatOps F]

/-! ## One eighth of the rows -/

/-- A table against the two halves side by side. -/
def prod (t : Vec F S512x512 .bf16) (p q : Vec F S1x1x512x128 .f32) : FVec F S512x256 .f32 :=
  matmul dot_S512x512_S512x256_S512x256_1_0_0_1_n_n none (shapeCast S512x512 t shapeCasts_S512x512_S512x512)
    (truncf .bf16 (concatenate S512x256 1 [⟨S512x128, shapeCast S512x128 p shapeCasts_S1x1x512x128_S512x128⟩,
      ⟨S512x128, shapeCast S512x128 q shapeCasts_S1x1x512x128_S512x128⟩] concatenates_S512x128_S512x128_S512x256_d1 : FVec F S512x256 .f32) bitsLt_bf16_f32)
    (constant S512x256 .f32 0x00000000#32)

/-- The first half of a product. -/
def fstOf (u : FVec F S512x256 .f32) : FVec F S512x128 .f32 := extractStridedSlice S512x128 ![0, 0] u slices_S512x256_o0_0_S512x128

/-- The second half of a product. -/
def sndOf (u : FVec F S512x256 .f32) : FVec F S512x128 .f32 := extractStridedSlice S512x128 ![0, 128] u slices_S512x256_o0_128_S512x128

/-- The real part of the 512-point transform. -/
def re (c s : Vec F S512x512 .bf16) (p q : Vec F S1x1x512x128 .f32) : FVec F S512x128 .f32 :=
  subf (fstOf (prod c p q)) (sndOf (prod s p q))

/-- Its imaginary part. -/
def im (c s : Vec F S512x512 .bf16) (p q : Vec F S1x1x512x128 .f32) : FVec F S512x128 .f32 :=
  subf (broadcast S512x128 (Scalar.ofBits .f32 0x00000000#32)) (addf (fstOf (prod s p q)) (sndOf (prod c p q)))

def up (v : FVec F S512x128 .f32) : FVec F S1x1x512x128 .f32 := shapeCast S1x1x512x128 v shapeCasts_S512x128_S1x1x512x128

def row (v : Vec F S1x512x128 .f32) : FVec F S512x128 .f32 := shapeCast S512x128 v shapeCasts_S1x512x128_S512x128

/-- The real part after the twiddle. -/
def twRe (ct st : Vec F S1x512x128 .f32) (a b : FVec F S512x128 .f32) : FVec F S512x128 .f32 :=
  addf (mulf (row ct) a) (mulf (row st) b)

/-- The imaginary part after the twiddle. -/
def twIm (ct st : Vec F S1x512x128 .f32) (a b : FVec F S512x128 .f32) : FVec F S512x128 .f32 :=
  subf (mulf (row ct) b) (mulf (row st) a)

/-! ## The stores between -/

section
variable (c s : Vec F S512x512 .bf16) (p q : (r : ℕ) → r < 8 → Vec F S1x1x512x128 .f32) (ct st : (r : ℕ) → r < 8 → Vec F S1x512x128 .f32)

/-- What eighth `r` stores: without a twiddle where `r` is zero. -/
def reAt (r : ℕ) (hr : r < 8) : FVec F S512x128 .f32 :=
  twRe (ct r hr) (st r hr) (re c s (p r hr) (q r hr)) (im c s (p r hr) (q r hr))

def imAt (r : ℕ) (hr : r < 8) : FVec F S512x128 .f32 :=
  twIm (ct r hr) (st r hr) (re c s (p r hr) (q r hr)) (im c s (p r hr) (q r hr))

/-- The sixteen stores, two per eighth. -/
def slabsL : List (View.Piece (Elt F) S8x2x512x128 .f32) :=
  [⟨Rect.unit ![7, 1, 0, 0] S1x1x512x128.size inb_S8x2x512x128_S1x1x512x128_7_1_0_0, up (imAt c s p q ct st 7 (by decide))⟩,
   ⟨Rect.unit ![7, 0, 0, 0] S1x1x512x128.size inb_S8x2x512x128_S1x1x512x128_7_0_0_0, up (reAt c s p q ct st 7 (by decide))⟩,
   ⟨Rect.unit ![6, 1, 0, 0] S1x1x512x128.size inb_S8x2x512x128_S1x1x512x128_6_1_0_0, up (imAt c s p q ct st 6 (by decide))⟩,
   ⟨Rect.unit ![6, 0, 0, 0] S1x1x512x128.size inb_S8x2x512x128_S1x1x512x128_6_0_0_0, up (reAt c s p q ct st 6 (by decide))⟩,
   ⟨Rect.unit ![5, 1, 0, 0] S1x1x512x128.size inb_S8x2x512x128_S1x1x512x128_5_1_0_0, up (imAt c s p q ct st 5 (by decide))⟩,
   ⟨Rect.unit ![5, 0, 0, 0] S1x1x512x128.size inb_S8x2x512x128_S1x1x512x128_5_0_0_0, up (reAt c s p q ct st 5 (by decide))⟩,
   ⟨Rect.unit ![4, 1, 0, 0] S1x1x512x128.size inb_S8x2x512x128_S1x1x512x128_4_1_0_0, up (imAt c s p q ct st 4 (by decide))⟩,
   ⟨Rect.unit ![4, 0, 0, 0] S1x1x512x128.size inb_S8x2x512x128_S1x1x512x128_4_0_0_0, up (reAt c s p q ct st 4 (by decide))⟩,
   ⟨Rect.unit ![3, 1, 0, 0] S1x1x512x128.size inb_S8x2x512x128_S1x1x512x128_3_1_0_0, up (imAt c s p q ct st 3 (by decide))⟩,
   ⟨Rect.unit ![3, 0, 0, 0] S1x1x512x128.size inb_S8x2x512x128_S1x1x512x128_3_0_0_0, up (reAt c s p q ct st 3 (by decide))⟩,
   ⟨Rect.unit ![2, 1, 0, 0] S1x1x512x128.size inb_S8x2x512x128_S1x1x512x128_2_1_0_0, up (imAt c s p q ct st 2 (by decide))⟩,
   ⟨Rect.unit ![2, 0, 0, 0] S1x1x512x128.size inb_S8x2x512x128_S1x1x512x128_2_0_0_0, up (reAt c s p q ct st 2 (by decide))⟩,
   ⟨Rect.unit ![1, 1, 0, 0] S1x1x512x128.size inb_S8x2x512x128_S1x1x512x128_1_1_0_0, up (imAt c s p q ct st 1 (by decide))⟩,
   ⟨Rect.unit ![1, 0, 0, 0] S1x1x512x128.size inb_S8x2x512x128_S1x1x512x128_1_0_0_0, up (reAt c s p q ct st 1 (by decide))⟩,
   ⟨Rect.unit ![0, 1, 0, 0] S1x1x512x128.size inb_S8x2x512x128_S1x1x512x128_0_1_0_0, up (im c s (p 0 (by decide)) (q 0 (by decide)))⟩,
   ⟨Rect.unit ![0, 0, 0, 0] S1x1x512x128.size inb_S8x2x512x128_S1x1x512x128_0_0_0_0, up (re c s (p 0 (by decide)) (q 0 (by decide)))⟩]
end

/-- Part `k` (real, imaginary) of eighth `r`, read back. -/
def back (v : View sig .tc .vmem S8x2x512x128 .f32) (L : List (View.Piece (Elt F) S8x2x512x128 .f32)) (r k : ℕ) (hr : r < 8) (hk : k < 2) :
    FVec F S512x128 .f32 :=
  shapeCast S512x128 (v.readCov L (Rect.unit (s := S8x2x512x128) ![r, k, 0, 0] S1x1x512x128.size
    (by intro a; fin_cases a <;> simp [S1x1x512x128, S8x2x512x128] <;> omega)).toLoadRect) shapeCasts_S1x1x512x128_S512x128

/-! ## The eight-point transform -/

section
variable [Named F] (a b : (r : ℕ) → r < 8 → FVec F S512x128 .f32)

def a04 : FVec F S512x128 .f32 := addf (a 0 (by decide)) (a 4 (by decide))
def d04 : FVec F S512x128 .f32 := subf (a 0 (by decide)) (a 4 (by decide))
def a26 : FVec F S512x128 .f32 := addf (a 2 (by decide)) (a 6 (by decide))
def d26 : FVec F S512x128 .f32 := subf (b 2 (by decide)) (b 6 (by decide))
def e0 : FVec F S512x128 .f32 := addf (a04 a) (a26 a)
def e2 : FVec F S512x128 .f32 := subf (a04 a) (a26 a)
def e1 : FVec F S512x128 .f32 := addf (d04 a) (d26 b)
def e3 : FVec F S512x128 .f32 := subf (d04 a) (d26 b)
def o0 : FVec F S512x128 .f32 := addf (addf (a 1 (by decide)) (a 5 (by decide))) (addf (a 3 (by decide)) (a 7 (by decide)))
def o2 : FVec F S512x128 .f32 := subf (addf (b 1 (by decide)) (b 5 (by decide))) (addf (b 3 (by decide)) (b 7 (by decide)))
def o1r : FVec F S512x128 .f32 := addf (subf (a 1 (by decide)) (a 5 (by decide))) (subf (b 3 (by decide)) (b 7 (by decide)))
def o1i : FVec F S512x128 .f32 := subf (subf (b 1 (by decide)) (b 5 (by decide))) (subf (a 3 (by decide)) (a 7 (by decide)))
def o3r : FVec F S512x128 .f32 := subf (subf (a 1 (by decide)) (a 5 (by decide))) (subf (b 3 (by decide)) (b 7 (by decide)))
def o3i : FVec F S512x128 .f32 := addf (subf (b 1 (by decide)) (b 5 (by decide))) (subf (a 3 (by decide)) (a 7 (by decide)))

/-- The square root of a half over a block. -/
def rt : FVec F S512x128 .f32 := broadcast S512x128 (Named.named κ "root_half" 0x3F3504F3#32)

/-- Its negative. -/
def mrt : FVec F S512x128 .f32 := broadcast S512x128 (Named.named κ "minus_root_half" 0xBF3504F3#32)

def w1 : FVec F S512x128 .f32 := addf (mulf rt (o1r a b)) (mulf rt (o1i a b))
def w3 : FVec F S512x128 .f32 := addf (mulf mrt (o3r a b)) (mulf rt (o3i a b))

/-- A value scaled, as one piece of the output. -/
def fin (v : FVec F S512x128 .f32) : FVec F S1x512x128 .bf16 :=
  shapeCast S1x512x128 (truncf .bf16 (mulf v (broadcast S512x128 (Named.named κ "ortho" 0x3AB504F3#32))) bitsLt_bf16_f32) shapeCasts_S512x128_S1x512x128

/-- The eight stores of the output. -/
def outL : List (View.Piece (Elt F) S1x4096x128 .bf16) :=
  [⟨Rect.unit ![0, 3584, 0] S1x512x128.size inb_S1x4096x128_S1x512x128_0_3584_0, fin (subf (e3 a b) (w3 a b))⟩,
   ⟨Rect.unit ![0, 3072, 0] S1x512x128.size inb_S1x4096x128_S1x512x128_0_3072_0, fin (subf (e2 a) (o2 b))⟩,
   ⟨Rect.unit ![0, 2560, 0] S1x512x128.size inb_S1x4096x128_S1x512x128_0_2560_0, fin (subf (e1 a b) (w1 a b))⟩,
   ⟨Rect.unit ![0, 2048, 0] S1x512x128.size inb_S1x4096x128_S1x512x128_0_2048_0, fin (subf (e0 a) (o0 a))⟩,
   ⟨Rect.unit ![0, 1536, 0] S1x512x128.size inb_S1x4096x128_S1x512x128_0_1536_0, fin (addf (e3 a b) (w3 a b))⟩,
   ⟨Rect.unit ![0, 1024, 0] S1x512x128.size inb_S1x4096x128_S1x512x128_0_1024_0, fin (addf (e2 a) (o2 b))⟩,
   ⟨Rect.unit ![0, 512, 0] S1x512x128.size inb_S1x4096x128_S1x512x128_0_512_0, fin (addf (e1 a b) (w1 a b))⟩,
   ⟨Rect.unit ![0, 0, 0] S1x512x128.size inb_S1x4096x128_S1x512x128_0_0_0, fin (addf (e0 a) (o0 a))⟩]
end

/-! ## The body's run -/

section
variable [Named F] (c : Dev nD) (i : grid0.Coords)
    (arg2 : Memref sig .tc .vmem S1x1x4096x128 .f32) (harg2 : arg2.IsWhole) (arg3 : Memref sig .tc .vmem S1x1x4096x128 .f32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S8x512x128 .f32) (harg6 : arg6.IsWhole) (arg7 : Memref sig .tc .vmem S8x512x128 .f32) (harg7 : arg7.IsWhole)
    (arg8 : Memref sig .tc .vmem S1x4096x128 .bf16) (harg8 : arg8.IsWhole) (arg9 : Memref sig .tc .vmem S8x2x512x128 .f32) (harg9 : arg9.IsWhole)
    (x0 x1 : Vec F S1x1x4096x128 .f32) (x2 x3 : Vec F S512x512 .bf16) (x4 x5 : Vec F S8x512x128 .f32)

/-- Every eighth row of a block from row `r`. -/
def eighth {a : Memref sig .tc .vmem S1x1x4096x128 .f32} (h : a.IsWhole) (x : Vec F S1x1x4096x128 .f32) (r : ℕ) (hr : r < 8) : Vec F S1x1x512x128 .f32 :=
  View.readAt (Elt F) a.view (⟨![0, 0, r, 0], S1x1x512x128.size, ![1, 1, 8, 1],
    by intro a; right; fin_cases a <;> simp [S1x1x512x128, S1x1x4096x128]; omega⟩ : LoadRect S1x1x4096x128) (h.unread x)

/-- Row `r` of a twiddle table. -/
def twiddle {a : Memref sig .tc .vmem S8x512x128 .f32} (h : a.IsWhole) (x : Vec F S8x512x128 .f32) (r : ℕ) (hr : r < 8) : Vec F S1x512x128 .f32 :=
  View.readAt (Elt F) a.view (Rect.unit (s := S8x512x128) ![r, 0, 0] S1x512x128.size
    (by intro a; fin_cases a <;> simp [S1x512x128, S8x512x128]; omega)).toLoadRect (h.unread x)

/-- A whole table. -/
def table {a : Memref sig .tc .vmem S512x512 .bf16} (h : a.IsWhole) (x : Vec F S512x512 .bf16) : Vec F S512x512 .bf16 :=
  View.readAt (Elt F) a.view (Rect.unit (s := S512x512) ![0, 0] S512x512.size inb_S512x512_S512x512_0_0).toLoadRect (h.unread x)

/-- The sixteen stores of the run. -/
def slabsOf : List (View.Piece (Elt F) S8x2x512x128 .f32) :=
  slabsL (table harg4 x2) (table harg5 x3) (eighth harg2 x0) (eighth harg3 x1) (twiddle harg6 x4) (twiddle harg7 x5)

theorem out6_eq :
    out0_A_6 c i arg2 harg2 arg3 harg3 arg4 harg4 arg5 harg5 arg6 harg6 arg7 harg7 arg8 harg8 arg9 harg9 x0 x1 x2 x3 x4 x5 =
    View.canon (outL
      (fun r hr => back arg9.view (slabsOf arg2 harg2 arg3 harg3 arg4 harg4 arg5 harg5 arg6 harg6 arg7 harg7 x0 x1 x2 x3 x4 x5) r 0 hr (by decide))
      (fun r hr => back arg9.view (slabsOf arg2 harg2 arg3 harg3 arg4 harg4 arg5 harg5 arg6 harg6 arg7 harg7 x0 x1 x2 x3 x4 x5) r 1 hr (by decide))) := by
  unfold out0_A_6
  rw [View.read_writes_junk_eq_canon]
  rfl
end

end Cert.SeqdftIdeal.Block
end
end
-- ==== Proof.SeqdftBlockAt.lean ====
/- The output block of the sequence-transform kernel at an index, over its input blocks. -/
module

public import proofs.«01_k».proof.Proof.SeqdftBlock
public import proofs.«01_k».proof.Proof.InprojBlockAt
public import Idealize.ShloMosaic.Lib.Pipeline.ValueKit

@[expose] public section

set_option maxRecDepth 16384

noncomputable section

namespace Cert.SeqdftIdeal.Block

open Idealize.ShloMosaic Idealize.ShloMosaic.TcCoe Idealize.SL.Sem Cert.SeqdftIdeal Cert.SeqdftIdeal.Gen
open Cert.InprojIdeal.Block (canon_hit canon_miss)

/-! ## The loads -/

theorem eighth_at {a : Memref sig .tc .vmem S1x1x4096x128 .f32} (h : a.IsWhole) (x : Vec Ideal S1x1x4096x128 .f32) (r : ℕ) (hr : r < 8)
    (m : Fin 512) (l : Fin 128) : eighth h x r hr (ix4 0 0 m l) = x (ix4 0 0 ⟨8 * m.val + r, by omega⟩ l) := by
  unfold eighth
  refine (h.readAt_unread x _ _).trans (congrArg x ?_)
  funext b; apply Fin.ext
  fin_cases b <;> simp [LoadRect.idx, ix4]
  omega

theorem twiddle_at {a : Memref sig .tc .vmem S8x512x128 .f32} (h : a.IsWhole) (x : Vec Ideal S8x512x128 .f32) (r : ℕ) (hr : r < 8)
    (k : Fin 512) (l : Fin 128) : twiddle h x r hr (ix3 0 k l) = x (ix3 ⟨r, hr⟩ k l) := by
  unfold twiddle
  refine (h.readAt_unread x _ _).trans (congrArg x ?_)
  funext b; apply Fin.ext
  fin_cases b <;> simp [LoadRect.idx, ix3, Rect.unit, Rect.toLoadRect]

theorem table_at {a : Memref sig .tc .vmem S512x512 .bf16} (h : a.IsWhole) (x : Vec Ideal S512x512 .bf16) : table h x = x := by
  unfold table
  funext y
  refine (h.readAt_unread x _ y).trans (congrArg x ?_)
  funext b; apply Fin.ext
  fin_cases b <;> simp [LoadRect.idx, Rect.unit, Rect.toLoadRect]

/-! ## One eighth of the rows -/

section
variable (c s : Vec Ideal S512x512 .bf16) (p q : Vec Ideal S1x1x512x128 .f32) (k : Fin 512) (l : Fin 128)

theorem fst_prod (t : Vec Ideal S512x512 .bf16) : fstOf (prod t p q) (ix2 k l) = ∑ m : Fin 512, t (ix2 k m) * p (ix4 0 0 m l) := by
  pointwise [fstOf, prod]

theorem snd_prod (t : Vec Ideal S512x512 .bf16) : sndOf (prod t p q) (ix2 k l) = ∑ m : Fin 512, t (ix2 k m) * q (ix4 0 0 m l) := by
  pointwise [sndOf, prod]

theorem re_at : re c s p q (ix2 k l)
    = (∑ m : Fin 512, c (ix2 k m) * p (ix4 0 0 m l)) - ∑ m : Fin 512, s (ix2 k m) * q (ix4 0 0 m l) := by
  rw [← fst_prod p q k l c, ← snd_prod p q k l s]
  rfl

theorem im_at : im c s p q (ix2 k l)
    = 0 - ((∑ m : Fin 512, s (ix2 k m) * p (ix4 0 0 m l)) + ∑ m : Fin 512, c (ix2 k m) * q (ix4 0 0 m l)) := by
  rw [← fst_prod p q k l s, ← snd_prod p q k l c, ← show Ideal.ofBits .f32 0x00000000#32 = 0 from by simp [Ideal.ofBits, Ideal.ieee]]
  rfl

theorem twRe_at (ct st : Vec Ideal S1x512x128 .f32) (a b : FVec Ideal S512x128 .f32) :
    twRe ct st a b (ix2 k l) = ct (ix3 0 k l) * a (ix2 k l) + st (ix3 0 k l) * b (ix2 k l) := by
  pointwise [twRe, row]

theorem twIm_at (ct st : Vec Ideal S1x512x128 .f32) (a b : FVec Ideal S512x128 .f32) :
    twIm ct st a b (ix2 k l) = ct (ix3 0 k l) * b (ix2 k l) - st (ix3 0 k l) * a (ix2 k l) := by
  pointwise [twIm, row]

theorem up_at (v : FVec Ideal S512x128 .f32) : up v (ix4 0 0 k l) = v (ix2 k l) := by
  pointwise [up]
end

/-! ## The stores between -/

/-- The newest of the sixteen stores: its slab, or the older stores. -/
theorem slab_step (n i : ℕ) (inb) (w : Vec Ideal S1x1x512x128 .f32) (L : List (View.Piece (Elt Ideal) S8x2x512x128 .f32))
    (r : Fin 8) (b : Fin 2) (k : Fin 512) (l : Fin 128) :
    View.canon ((⟨Rect.unit (s := S8x2x512x128) ![n, i, 0, 0] S1x1x512x128.size inb, w⟩ : View.Piece (Elt Ideal) S8x2x512x128 .f32) :: L) (ix4 r b k l)
      = if r.val = n ∧ b.val = i then w (ix4 0 0 k l) else View.canon L (ix4 r b k l) := by
  by_cases h : r.val = n ∧ b.val = i
  · rw [if_pos h]
    exact canon_hit (S := S8x2x512x128) (e := .f32) inb w L (ix4 r b k l) (ix4 0 0 k l) (by intro a; fin_cases a <;> simp [ix4, h.1, h.2])
  · rw [if_neg h]
    by_cases h1 : r.val = n
    · refine canon_miss (S := S8x2x512x128) (e := .f32) inb w L (ix4 r b k l) 1 ?_
      have : b.val < i ∨ i + 1 ≤ b.val := by omega
      simpa [ix4, S1x1x512x128] using this
    · refine canon_miss (S := S8x2x512x128) (e := .f32) inb w L (ix4 r b k l) 0 ?_
      have : r.val < n ∨ n + 1 ≤ r.val := by omega
      simpa [ix4, S1x1x512x128] using this

/-- A slab read back is the stores' contents. -/
theorem back_at (v : View sig .tc .vmem S8x2x512x128 .f32) (L : List (View.Piece (Elt Ideal) S8x2x512x128 .f32)) (r i : ℕ) (hr : r < 8) (hi : i < 2)
    (k : Fin 512) (l : Fin 128) : back v L r i hr hi (ix2 k l) = View.canon L (ix4 ⟨r, hr⟩ ⟨i, hi⟩ k l) := by
  unfold back
  rw [View.readCov_eq_canon']
  generalize View.canon L = f
  have e : ∀ X : Vec Ideal S1x1x512x128 .f32, shapeCast S512x128 X shapeCasts_S1x1x512x128_S512x128 (ix2 k l) = X (ix4 0 0 k l) := by
    intro X
    pointwise
  rw [e]
  refine congrArg f ?_
  funext b; apply Fin.ext
  fin_cases b <;> simp [LoadRect.idx, ix4, Rect.unit, Rect.toLoadRect]

section
variable (c s : Vec Ideal S512x512 .bf16) (p q : (r : ℕ) → r < 8 → Vec Ideal S1x1x512x128 .f32) (ct st : (r : ℕ) → r < 8 → Vec Ideal S1x512x128 .f32)
  (k : Fin 512) (l : Fin 128)

/-- The real part of eighth `r` as the eight-point transform reads it. -/
theorem slabs_re (r : ℕ) (hr : r < 8) : View.canon (slabsL c s p q ct st) (ix4 ⟨r, hr⟩ 0 k l)
    = if r = 0 then re c s (p r hr) (q r hr) (ix2 k l) else reAt c s p q ct st r hr (ix2 k l) := by
  unfold slabsL
  rw [slab_step 7 1, slab_step 7 0, slab_step 6 1, slab_step 6 0, slab_step 5 1, slab_step 5 0, slab_step 4 1, slab_step 4 0,
    slab_step 3 1, slab_step 3 0, slab_step 2 1, slab_step 2 0, slab_step 1 1, slab_step 1 0, slab_step 0 1, slab_step 0 0]
  simp only [up_at]
  interval_cases r <;> simp

theorem slabs_im (r : ℕ) (hr : r < 8) : View.canon (slabsL c s p q ct st) (ix4 ⟨r, hr⟩ 1 k l)
    = if r = 0 then im c s (p r hr) (q r hr) (ix2 k l) else imAt c s p q ct st r hr (ix2 k l) := by
  unfold slabsL
  rw [slab_step 7 1, slab_step 7 0, slab_step 6 1, slab_step 6 0, slab_step 5 1, slab_step 5 0, slab_step 4 1, slab_step 4 0,
    slab_step 3 1, slab_step 3 0, slab_step 2 1, slab_step 2 0, slab_step 1 1, slab_step 1 0, slab_step 0 1, slab_step 0 0]
  simp only [up_at]
  interval_cases r <;> simp
end

/-! ## The eight-point transform -/

/-- Output `j` of the eight-point transform over values. -/
def eight {α : Type} [Add α] [Sub α] [Mul α] (h g : α) (a b : (r : ℕ) → r < 8 → α) : ℕ → α
  | 0 => (a 0 (by decide) + a 4 (by decide)) + (a 2 (by decide) + a 6 (by decide))
      + ((a 1 (by decide) + a 5 (by decide)) + (a 3 (by decide) + a 7 (by decide)))
  | 1 => (a 0 (by decide) - a 4 (by decide)) + (b 2 (by decide) - b 6 (by decide))
      + (h * ((a 1 (by decide) - a 5 (by decide)) + (b 3 (by decide) - b 7 (by decide)))
        + h * ((b 1 (by decide) - b 5 (by decide)) - (a 3 (by decide) - a 7 (by decide))))
  | 2 => (a 0 (by decide) + a 4 (by decide)) - (a 2 (by decide) + a 6 (by decide))
      + ((b 1 (by decide) + b 5 (by decide)) - (b 3 (by decide) + b 7 (by decide)))
  | 3 => (a 0 (by decide) - a 4 (by decide)) - (b 2 (by decide) - b 6 (by decide))
      + (g * ((a 1 (by decide) - a 5 (by decide)) - (b 3 (by decide) - b 7 (by decide)))
        + h * ((b 1 (by decide) - b 5 (by decide)) + (a 3 (by decide) - a 7 (by decide))))
  | 4 => (a 0 (by decide) + a 4 (by decide)) + (a 2 (by decide) + a 6 (by decide))
      - ((a 1 (by decide) + a 5 (by decide)) + (a 3 (by decide) + a 7 (by decide)))
  | 5 => (a 0 (by decide) - a 4 (by decide)) + (b 2 (by decide) - b 6 (by decide))
      - (h * ((a 1 (by decide) - a 5 (by decide)) + (b 3 (by decide) - b 7 (by decide)))
        + h * ((b 1 (by decide) - b 5 (by decide)) - (a 3 (by decide) - a 7 (by decide))))
  | 6 => (a 0 (by decide) + a 4 (by decide)) - (a 2 (by decide) + a 6 (by decide))
      - ((b 1 (by decide) + b 5 (by decide)) - (b 3 (by decide) + b 7 (by decide)))
  | _ => (a 0 (by decide) - a 4 (by decide)) - (b 2 (by decide) - b 6 (by decide))
      - (g * ((a 1 (by decide) - a 5 (by decide)) - (b 3 (by decide) - b 7 (by decide)))
        + h * ((b 1 (by decide) - b 5 (by decide)) + (a 3 (by decide) - a 7 (by decide))))

/-- The square root of a half, its negative and the scale, as extended reals. -/
def rtZ : EReal := Named.named (F := Ideal) (φ := .f32) κ "root_half" 0x3F3504F3#32
def mrtZ : EReal := Named.named (F := Ideal) (φ := .f32) κ "minus_root_half" 0xBF3504F3#32
def orthoZ : EReal := Named.named (F := Ideal) (φ := .f32) κ "ortho" 0x3AB504F3#32

theorem fin_at (v : FVec Ideal S512x128 .f32) (k : Fin 512) (l : Fin 128) : fin v (ix3 0 k l) = v (ix2 k l) * orthoZ := by
  unfold orthoZ
  pointwise [fin]

/-- The newest of the output's stores: its rows, or the older stores. -/
theorem out_step (n o : ℕ) (ho : o = 512 * n) (inb) (w : Vec Ideal S1x512x128 .bf16) (L : List (View.Piece (Elt Ideal) S1x4096x128 .bf16))
    (j : Fin 8) (k : Fin 512) (l : Fin 128) :
    View.canon ((⟨Rect.unit (s := S1x4096x128) ![0, o, 0] S1x512x128.size inb, w⟩ : View.Piece (Elt Ideal) S1x4096x128 .bf16) :: L)
        (ix3 0 ⟨512 * j.val + k.val, by omega⟩ l)
      = if j.val = n then w (ix3 0 k l) else View.canon L (ix3 0 ⟨512 * j.val + k.val, by omega⟩ l) := by
  subst ho
  by_cases h : j.val = n
  · rw [if_pos h]
    exact canon_hit (S := S1x4096x128) (e := .bf16) inb w L _ (ix3 0 k l) (by intro a; fin_cases a <;> simp [ix3, h])
  · rw [if_neg h]
    refine canon_miss (S := S1x4096x128) (e := .bf16) inb w L _ 1 ?_
    have : 512 * j.val + k.val < 512 * n ∨ 512 * n + 512 ≤ 512 * j.val + k.val := by omega
    simpa [ix3, S1x512x128] using this

set_option maxHeartbeats 1600000 in
theorem outs_at (a b : (r : ℕ) → r < 8 → FVec Ideal S512x128 .f32) (j : Fin 8) (k : Fin 512) (l : Fin 128) :
    View.canon (outL a b) (ix3 0 ⟨512 * j.val + k.val, by omega⟩ l)
      = eight rtZ mrtZ (fun r hr => a r hr (ix2 k l)) (fun r hr => b r hr (ix2 k l)) j.val * orthoZ := by
  unfold outL
  rw [out_step 7 _ (by decide), out_step 6 _ (by decide), out_step 5 _ (by decide), out_step 4 _ (by decide),
    out_step 3 _ (by decide), out_step 2 _ (by decide), out_step 1 _ (by decide), out_step 0 _ (by decide)]
  simp only [fin_at]
  obtain ⟨j, hj⟩ := j
  interval_cases j <;> rfl

/-! ## The block -/

/-- The rows of one eighth against a table's row. -/
def dotZ (t : Vec Ideal S512x512 .bf16) (x : Vec Ideal S1x1x4096x128 .f32) (k : Fin 512) (l : Fin 128) (r : ℕ) (hr : r < 8) : EReal :=
  ∑ m : Fin 512, t (ix2 k m) * x (ix4 0 0 ⟨8 * m.val + r, by omega⟩ l)

section
variable (x0 x1 : Vec Ideal S1x1x4096x128 .f32) (x2 x3 : Vec Ideal S512x512 .bf16) (x4 x5 : Vec Ideal S8x512x128 .f32) (k : Fin 512) (l : Fin 128)

/-- The real part of the 512-point transform of eighth `r`. -/
def reZ (r : ℕ) (hr : r < 8) : EReal := dotZ x2 x0 k l r hr - dotZ x3 x1 k l r hr

def imZ (r : ℕ) (hr : r < 8) : EReal := 0 - (dotZ x3 x0 k l r hr + dotZ x2 x1 k l r hr)

/-- The real part after the twiddle. -/
def aZ (r : ℕ) (hr : r < 8) : EReal := if r = 0 then reZ x0 x1 x2 x3 k l r hr
  else x4 (ix3 ⟨r, hr⟩ k l) * reZ x0 x1 x2 x3 k l r hr + x5 (ix3 ⟨r, hr⟩ k l) * imZ x0 x1 x2 x3 k l r hr

def bZ (r : ℕ) (hr : r < 8) : EReal := if r = 0 then imZ x0 x1 x2 x3 k l r hr
  else x4 (ix3 ⟨r, hr⟩ k l) * imZ x0 x1 x2 x3 k l r hr - x5 (ix3 ⟨r, hr⟩ k l) * reZ x0 x1 x2 x3 k l r hr
end

section
variable (c : Dev nD) (i : grid0.Coords)
    (arg2 : Memref sig .tc .vmem S1x1x4096x128 .f32) (harg2 : arg2.IsWhole) (arg3 : Memref sig .tc .vmem S1x1x4096x128 .f32) (harg3 : arg3.IsWhole)
    (arg4 : Memref sig .tc .vmem S512x512 .bf16) (harg4 : arg4.IsWhole) (arg5 : Memref sig .tc .vmem S512x512 .bf16) (harg5 : arg5.IsWhole)
    (arg6 : Memref sig .tc .vmem S8x512x128 .f32) (harg6 : arg6.IsWhole) (arg7 : Memref sig .tc .vmem S8x512x128 .f32) (harg7 : arg7.IsWhole)
    (arg8 : Memref sig .tc .vmem S1x4096x128 .bf16) (harg8 : arg8.IsWhole) (arg9 : Memref sig .tc .vmem S8x2x512x128 .f32) (harg9 : arg9.IsWhole)
    (x0 x1 : Vec Ideal S1x1x4096x128 .f32) (x2 x3 : Vec Ideal S512x512 .bf16) (x4 x5 : Vec Ideal S8x512x128 .f32)

theorem re_of (k : Fin 512) (l : Fin 128) (r : ℕ) (hr : r < 8) :
    re (table harg4 x2) (table harg5 x3) (eighth harg2 x0 r hr) (eighth harg3 x1 r hr) (ix2 k l) = reZ x0 x1 x2 x3 k l r hr := by
  rw [re_at, table_at, table_at]
  simp only [eighth_at]
  rfl

theorem im_of (k : Fin 512) (l : Fin 128) (r : ℕ) (hr : r < 8) :
    im (table harg4 x2) (table harg5 x3) (eighth harg2 x0 r hr) (eighth harg3 x1 r hr) (ix2 k l) = imZ x0 x1 x2 x3 k l r hr := by
  rw [im_at, table_at, table_at]
  simp only [eighth_at]
  rfl

theorem a_of (k : Fin 512) (l : Fin 128) (r : ℕ) (hr : r < 8) :
    back arg9.view (slabsOf arg2 harg2 arg3 harg3 arg4 harg4 arg5 harg5 arg6 harg6 arg7 harg7 x0 x1 x2 x3 x4 x5) r 0 hr (by decide) (ix2 k l)
      = aZ x0 x1 x2 x3 x4 x5 k l r hr := by
  rw [back_at]
  unfold slabsOf aZ
  refine (slabs_re _ _ _ _ _ _ k l r hr).trans ?_
  unfold reAt
  rw [twRe_at, re_of, im_of, twiddle_at, twiddle_at]

theorem b_of (k : Fin 512) (l : Fin 128) (r : ℕ) (hr : r < 8) :
    back arg9.view (slabsOf arg2 harg2 arg3 harg3 arg4 harg4 arg5 harg5 arg6 harg6 arg7 harg7 x0 x1 x2 x3 x4 x5) r 1 hr (by decide) (ix2 k l)
      = bZ x0 x1 x2 x3 x4 x5 k l r hr := by
  rw [back_at]
  unfold slabsOf bZ
  refine (slabs_im _ _ _ _ _ _ k l r hr).trans ?_
  unfold imAt
  rw [twIm_at, re_of, im_of, twiddle_at, twiddle_at]

/-- The output block at row `512 j + k` and lane `l`. -/
theorem out6_at (j : Fin 8) (k : Fin 512) (l : Fin 128) :
    out0_A_6 c i arg2 harg2 arg3 harg3 arg4 harg4 arg5 harg5 arg6 harg6 arg7 harg7 arg8 harg8 arg9 harg9 x0 x1 x2 x3 x4 x5
        (ix3 0 ⟨512 * j.val + k.val, by omega⟩ l)
      = eight rtZ mrtZ (aZ x0 x1 x2 x3 x4 x5 k l) (bZ x0 x1 x2 x3 x4 x5 k l) j.val * orthoZ := by
  rw [out6_eq, outs_at]
  simp only [a_of, b_of]
end

end Cert.SeqdftIdeal.Block
end
end
-- ==== Proof.SeqdftEntry.lean ====
/- What the sequence-transform kernel is handed: its argument and the tables the lines before the call prepare. -/
module

public import proofs.«01_k».proof.Proof.SeqdftBlockAt
public import Idealize.ShloMosaic.Lib.Pipeline.ValueKit

@[expose] public section

set_option maxRecDepth 16384

noncomputable section

namespace Cert.SeqdftIdeal.Result

open Idealize.ShloMosaic Idealize.ShloMosaic.TcCoe Idealize.SL.Sem Cert.SeqdftIdeal Cert.SeqdftIdeal.Gen

variable (m : (ℓ : Loc nD τ sig) → Buf (Elt Ideal) ℓ)

/-- The divisor of a remainder, one in the place of zero. -/
def modT (n : BitVec 32) : IVec S_ 32 := select (cmpi .eq (constantI S_ 32 n) (constantI S_ 32 0#32)) (constantI S_ 32 1#32) (constantI S_ 32 n)

/-- A remainder made to have the divisor's sign. -/
def floorT {s : Shape} (h : S_.BroadcastsInDim s ![]) (n : BitVec 32) (p : IVec s 32) : IVec s 32 :=
  select (andi (cmpi .ne (cmpi .slt (Host.remsi p (broadcastInDim s ![] h (modT n))) (broadcastInDim s ![] h (constantI S_ 32 0#32)))
      (broadcastInDim s ![] h (cmpi .slt (modT n) (constantI S_ 32 0#32))))
    (cmpi .ne (Host.remsi p (broadcastInDim s ![] h (modT n))) (broadcastInDim s ![] h (constantI S_ 32 0#32))))
    (addi (Host.remsi p (broadcastInDim s ![] h (modT n))) (broadcastInDim s ![] h (modT n))) (Host.remsi p (broadcastInDim s ![] h (modT n)))

/-- Row number times 128 times column number. -/
def prodH : IVec S512x4 32 :=
  muli (broadcastInDim S512x4 ![0, 1] bcast_S512x1_S512x4_0_1 (broadcastInDim S512x1 ![0] bcast_S512_S512x1_0 (iotaInDim S512 32 0)))
    (broadcastInDim S512x4 ![0, 1] bcast_S1x4_S512x4_0_1 (broadcastInDim S1x4 ![1] bcast_S4_S1x4_1
      (muli (iotaInDim S4 32 0) (broadcastInDim S4 ![] bcast_S_S4 (constantI S_ 32 128#32)))))

/-- Row number times column number. -/
def prodL : IVec S512x128 32 :=
  muli (broadcastInDim S512x128 ![0, 1] bcast_S512x1_S512x128_0_1 (broadcastInDim S512x1 ![0] bcast_S512_S512x1_0 (iotaInDim S512 32 0)))
    (broadcastInDim S512x128 ![0, 1] bcast_S1x128_S512x128_0_1 (broadcastInDim S1x128 ![1] bcast_S128_S1x128_1 (iotaInDim S128 32 0)))

def prodW : IVec S8x512 32 :=
  muli (broadcastInDim S8x512 ![0, 1] bcast_S8x1_S8x512_0_1 (broadcastInDim S8x1 ![0] bcast_S8_S8x1_0 (iotaInDim S8 32 0)))
    (broadcastInDim S8x512 ![0, 1] bcast_S1x512_S8x512_0_1 (broadcastInDim S1x512 ![1] bcast_S512_S1x512_1 (iotaInDim S512 32 0)))

/-- A full turn over a word's value. -/
def turnT (w : BitVec 32) : FVec Ideal S_ .f32 := Host.divf (mulf (constant S_ .f32 0x40000000#32) (Host.acos (constant S_ .f32 0xBF800000#32))) (constant S_ .f32 w)

def angH : FVec Ideal S512x4 .f32 :=
  mulf (sitofp .f32 (floorT bcast_S_S512x4 512#32 prodH)) (broadcastInDim S512x4 ![] bcast_S_S512x4 (turnT 0x44000000#32))

def angL : FVec Ideal S512x128 .f32 :=
  mulf (sitofp .f32 (floorT bcast_S_S512x128 512#32 prodL)) (broadcastInDim S512x128 ![] bcast_S_S512x128 (turnT 0x44000000#32))

def angW : FVec Ideal S8x512 .f32 :=
  mulf (sitofp .f32 (floorT bcast_S_S8x512 4096#32 prodW)) (broadcastInDim S8x512 ![] bcast_S_S8x512 (turnT 0x45800000#32))

/-- A table of the column's upper part, spread. -/
def upH (v : FVec Ideal S512x4 .f32) : FVec Ideal S512x4x128 .f32 :=
  broadcastInDim S512x4x128 ![0, 1, 2] bcast_S512x4x1_S512x4x128_0_1_2 (broadcastInDim S512x4x1 ![0, 1] bcast_S512x4_S512x4x1_0_1 v)

def upL (v : FVec Ideal S512x128 .f32) : FVec Ideal S512x4x128 .f32 :=
  broadcastInDim S512x4x128 ![0, 1, 2] bcast_S512x1x128_S512x4x128_0_1_2 (broadcastInDim S512x1x128 ![0, 2] bcast_S512x128_S512x1x128_0_2 v)

def upW (v : FVec Ideal S8x512 .f32) : FVec Ideal S8x512x128 .f32 :=
  broadcastInDim S8x512x128 ![0, 1, 2] bcast_S8x512x1_S8x512x128_0_1_2 (broadcastInDim S8x512x1 ![0, 1] bcast_S8x512_S8x512x1_0_1 v)

/-- The cosine table: of a sum of angles. -/
def cosT (h : FVec Ideal S512x4 .f32) (l : FVec Ideal S512x128 .f32) : FVec Ideal S512x512 .bf16 :=
  truncf .bf16 (shapeCast S512x512 (subf (mulf (upH (Host.cos h)) (upL (Host.cos l))) (mulf (upH (Host.sin h)) (upL (Host.sin l))))
    shapeCasts_S512x4x128_S512x512 : FVec Ideal S512x512 .f32) bitsLt_bf16_f32

def sinT (h : FVec Ideal S512x4 .f32) (l : FVec Ideal S512x128 .f32) : FVec Ideal S512x512 .bf16 :=
  truncf .bf16 (shapeCast S512x512 (addf (mulf (upH (Host.sin h)) (upL (Host.cos l))) (mulf (upH (Host.cos h)) (upL (Host.sin l))))
    shapeCasts_S512x4x128_S512x512 : FVec Ideal S512x512 .f32) bitsLt_bf16_f32

theorem V_eq (c : Dev nD) (b : Ref sig .tc) :
    V m c b = StableHlo.after hostOps0_6 (StableHlo.after hostOps0_5 (StableHlo.after hostOps0_4 (StableHlo.after hostOps0_3 (StableHlo.after hostOps0_2
      (StableHlo.after hostOps0_1 (StableHlo.after hostOps0 (fun b => m (c, b)))))))) b := rfl

set_option maxHeartbeats 3200000 in
theorem V_v42 (c : Dev nD) : V m c main_v42 = cosT angH angL := by
  rw [V_eq]
  after_results_simp
  after_results_loop
  rfl

set_option maxHeartbeats 3200000 in
theorem V_v51 (c : Dev nD) : V m c main_v51 = sinT angH angL := by
  rw [V_eq]
  after_results_simp
  after_results_loop
  rfl

set_option maxHeartbeats 3200000 in
theorem V_v67 (c : Dev nD) : V m c main_v67 = upW (Host.cos angW) := by
  rw [V_eq]
  after_results_simp
  after_results_loop
  rfl

set_option maxHeartbeats 3200000 in
theorem V_v70 (c : Dev nD) : V m c main_v70 = upW (Host.sin angW) := by
  rw [V_eq]
  after_results_simp
  after_results_loop
  rfl
end Cert.SeqdftIdeal.Result
end
end
-- ==== Proof.SeqdftReference.lean ====
/- What the plain sequence transform computes at an index. -/
module

public import proofs.«01_k».proof.Proof.Gen.SeqdftRefIdeal.Run
public import Idealize.ShloMosaic.Lib.Pointwise
public import Idealize.ShloMosaic.Lib.Pipeline.ValueKit

@[expose] public section

set_option maxRecDepth 16384
set_option maxHeartbeats 4000000

noncomputable section

namespace Cert.SeqdftRefIdeal.Reference

open Idealize.ShloMosaic Idealize.ShloMosaic.TcCoe Idealize.SL.Sem Cert.SeqdftRefIdeal Cert.SeqdftRefIdeal.Gen Cert.SeqdftRefIdeal.Value

/-- A 4096th of a full turn. -/
def turnT : FVec Ideal S_ .f32 := Host.divf (mulf (constant S_ .f32 0x40000000#32) (Host.acos (constant S_ .f32 0xBF800000#32))) (constant S_ .f32 0x45800000#32)

/-- Row number times column number. -/
def prodT : IVec S4096x4096 32 :=
  muli (broadcastInDim S4096x4096 ![0, 1] bcast_S4096x1_S4096x4096_0_1 (broadcastInDim S4096x1 ![0] bcast_S4096_S4096x1_0 (iotaInDim S4096 32 0)))
    (broadcastInDim S4096x4096 ![0, 1] bcast_S1x4096_S4096x4096_0_1 (broadcastInDim S1x4096 ![1] bcast_S4096_S1x4096_1 (iotaInDim S4096 32 0)))

def angT : FVec Ideal S4096x4096 .f32 := mulf (broadcastInDim S4096x4096 ![] bcast_S_S4096x4096 turnT) (sitofp .f32 prodT)

/-- Four of the eight slabs against a table. -/
def dotT (x : FVec Ideal S16x4x4096x128 .f32) (t : FVec Ideal S4096x4096 .f32) : FVec Ideal S16x4x4096x128 .f32 :=
  transpose S16x4x4096x128 [0, 1, 3, 2] (Host.dotGeneral dot_S16x4x4096x128_S4096x4096_S16x4x128x4096_2_1_013_0_n_n none x t : FVec Ideal S16x4x128x4096 .f32)
    transposes_S16x4x128x4096_S16x4x4096x128_0_1_3_2

def rootT : FVec Ideal S_ .f32 := Host.sqrt (constant S_ .f32 0x49000000#32)

/-- The transform's real part over the root. -/
def outT (x : FVec Ideal S16x8x4096x128 .f32) : FVec Ideal S16x4x4096x128 .f32 :=
  Host.divf (subf (dotT (extractStridedSlice S16x4x4096x128 ![0, 0, 0, 0] x slices_S16x8x4096x128_S16x4x4096x128_0_0_0_0) (Host.cos angT))
      (dotT (extractStridedSlice S16x4x4096x128 ![0, 4, 0, 0] x slices_S16x8x4096x128_S16x4x4096x128_0_4_0_0) (Host.sin angT)))
    (broadcastInDim S16x4x4096x128 ![] bcast_S_S16x4x4096x128 rootT)

def res (x : FVec Ideal S16x8x4096x128 .f32) : FVec Ideal S16x4096x512 .bf16 :=
  truncf .bf16 (shapeCast S16x4096x512 (transpose S16x4096x4x128 [0, 2, 1, 3] (outT x) transposes_S16x4x4096x128_S16x4096x4x128_0_2_1_3)
    shapeCasts_S16x4096x4x128_S16x4096x512 : FVec Ideal S16x4096x512 .f32) bitsLt_bf16_f32

theorem dot_at (x : FVec Ideal S16x4x4096x128 .f32) (t : FVec Ideal S4096x4096 .f32) (b : Fin 16) (g : Fin 4) (k : Fin 4096) (l : Fin 128) :
    dotT x t (ix4 b g k l) = ∑ s : Fin 4096, x (ix4 b g s l) * t (ix2 k s) := by
  pointwise [dotT]

theorem ang_at (k s : Fin 4096) : angT (ix2 k s) = turnT ix0 * (sitofp (F := Ideal) .f32 prodT) (ix2 k s) := by
  unfold angT
  generalize turnT = t
  pointwise

theorem prod_at (k s : Fin 4096) : prodT (ix2 k s) = BitVec.ofNat 32 k.val * BitVec.ofNat 32 s.val := by
  pointwise [prodT]
  rfl

theorem out_at (x : FVec Ideal S16x8x4096x128 .f32) (b : Fin 16) (g : Fin 4) (k : Fin 4096) (l : Fin 128) :
    outT x (ix4 b g k l) = Ideal.div ((∑ s : Fin 4096, x (ix4 b ⟨g.val, by omega⟩ s l) * Ideal.cos (angT (ix2 k s)))
      - ∑ s : Fin 4096, x (ix4 b ⟨4 + g.val, by omega⟩ s l) * Ideal.sin (angT (ix2 k s))) (rootT ix0) := by
  have e : ∀ y z : FVec Ideal S16x4x4096x128 .f32, ∀ w : FVec Ideal S_ .f32,
      Host.divf (subf y z) (broadcastInDim S16x4x4096x128 ![] bcast_S_S16x4x4096x128 w) (ix4 b g k l)
        = Ideal.div (y (ix4 b g k l) - z (ix4 b g k l)) (w ix0) := by
    intro y z w
    pointwise
  unfold outT
  rw [e, dot_at, dot_at]
  generalize angT = a
  congr 1
  congr 1
  · refine Finset.sum_congr rfl fun s _ => ?_
    congr 1
    pointwise
  · refine Finset.sum_congr rfl fun s _ => ?_
    congr 1
    pointwise

theorem res_at (x : FVec Ideal S16x8x4096x128 .f32) (b : Fin 16) (k : Fin 4096) (g : Fin 4) (l : Fin 128) :
    res x (ix3 b k ⟨128 * g.val + l.val, by omega⟩) = outT x (ix4 b g k l) := by
  unfold res
  generalize outT x = y
  pointwise

end Cert.SeqdftRefIdeal.Reference
end
end
-- ==== Proof.SeqdftNumbers.lean ====
/- The angles of the sequence transform: whole-number products, their remainders and the sines and cosines of their
   multiples of a part of a full turn. -/
module

public import proofs.«01_k».proof.Proof.SeqdftEntry
public import proofs.«01_k».proof.Proof.SeqdftReference
public import Idealize.ShloMosaic.Lib.Pipeline.ValueKit

@[expose] public section

set_option maxRecDepth 16384

noncomputable section

namespace Cert.SeqdftEq

open Idealize.ShloMosaic Idealize.ShloMosaic.TcCoe Cert.SeqdftIdeal Cert.SeqdftIdeal.Gen Cert.SeqdftIdeal.Result

/-! ## Words -/

theorem two_w : Ideal.ofBits .f32 0x40000000#32 = ((2 : ℝ) : EReal) := by
  simp [Ideal.ofBits, Ideal.ieee, -EReal.coe_mul]; norm_num

theorem minus_one_w : Ideal.ofBits .f32 0xBF800000#32 = ((-1 : ℝ) : EReal) := by
  simp [Ideal.ofBits, Ideal.ieee, -EReal.coe_mul, -EReal.coe_neg]; norm_num

theorem w512 : Ideal.ofBits .f32 0x44000000#32 = ((512 : ℝ) : EReal) := by
  simp [Ideal.ofBits, Ideal.ieee, -EReal.coe_mul]; norm_num

theorem w4096 : Ideal.ofBits .f32 0x45800000#32 = ((4096 : ℝ) : EReal) := by
  simp [Ideal.ofBits, Ideal.ieee, -EReal.coe_mul]; norm_num

theorem w524288 : Ideal.ofBits .f32 0x49000000#32 = ((524288 : ℝ) : EReal) := by
  simp [Ideal.ofBits, Ideal.ieee, -EReal.coe_mul]; norm_num

/-! ## A part of a full turn -/

theorem turn_of (N : ℝ) (hN : N ≠ 0) :
    Ideal.div (Ideal.ofBits .f32 0x40000000#32 * Ideal.acos (Ideal.ofBits .f32 0xBF800000#32)) (N : EReal) = ((2 * Real.pi / N : ℝ) : EReal) := by
  rw [two_w, minus_one_w, Ideal.acos_coe, if_pos (by norm_num), Real.arccos_neg_one, Ideal.div_coe hN, ← EReal.coe_mul, ← EReal.coe_mul]
  congr 1
  ring

theorem turn512 : turnT 0x44000000#32 ix0 = ((2 * Real.pi / 512 : ℝ) : EReal) := by
  rw [← turn_of 512 (by norm_num), ← w512]
  rfl

theorem turn4096 : turnT 0x45800000#32 ix0 = ((2 * Real.pi / 4096 : ℝ) : EReal) := by
  rw [← turn_of 4096 (by norm_num), ← w4096]
  rfl

theorem turnR : Cert.SeqdftRefIdeal.Reference.turnT ix0 = ((2 * Real.pi / 4096 : ℝ) : EReal) := by
  rw [← turn_of 4096 (by norm_num), ← w4096]
  rfl

/-! ## Whole numbers -/

theorem toInt_small (a : ℕ) (h : a < 2 ^ 31) : (BitVec.ofNat 32 a).toInt = (a : ℤ) := by
  rw [BitVec.toInt_eq_toNat_cond, BitVec.toNat_ofNat]
  omega

theorem rem_at {a n : ℕ} (ha : a < 2 ^ 31) (hn : 0 < n ∧ n < 2 ^ 31) :
    IntOp.remsi .host (BitVec.ofNat 32 a) (BitVec.ofNat 32 n) = BitVec.ofNat 32 (a % n) := by
  have e1 := toInt_small a ha
  have e2 := toInt_small n hn.2
  have z : BitVec.ofNat 32 n ≠ 0 := by
    intro h; rw [h] at e2; simp at e2; omega
  have y : BitVec.ofNat 32 n ≠ -1 := by
    intro h; rw [h] at e2; simp at e2
  unfold IntOp.remsi
  rw [if_neg (by unfold IntOp.SDivCorner; tauto)]
  apply BitVec.eq_of_toInt_eq
  have hm : a % n < n := Nat.mod_lt _ hn.1
  rw [BitVec.toInt_srem, e1, e2, toInt_small _ (by omega)]
  exact (Int.ofNat_tmod a n).symm ▸ rfl

theorem floor_of {s : Shape} (h : S_.BroadcastsInDim s ![]) (n : ℕ) (hn : 0 < n ∧ n < 2 ^ 31)
    (hm : ∀ j, modT (BitVec.ofNat 32 n) j = BitVec.ofNat 32 n) (p : IVec s 32) (i : s.Idx) (a : ℕ) (ha : a < 2 ^ 31) (hp : p i = BitVec.ofNat 32 a) :
    floorT h (BitVec.ofNat 32 n) p i = BitVec.ofNat 32 (a % n) := by
  have hr : Host.remsi p (broadcastInDim s ![] h (modT (BitVec.ofNat 32 n))) i = BitVec.ofNat 32 (a % n) := by
    show IntOp.remsi .host (p i) (modT (BitVec.ofNat 32 n) _) = _
    rw [hm, hp, rem_at ha hn]
  have hb : a % n < n := Nat.mod_lt _ hn.1
  have neg : ∀ b : ℕ, b < 2 ^ 31 → IntOp.cmpi .slt (BitVec.ofNat 32 b) 0#32 = 0#1 := by
    intro b hb
    show BitVec.ofBool ((BitVec.ofNat 32 b).slt 0#32) = 0#1
    rw [BitVec.slt, toInt_small b hb, decide_eq_false (by simp)]
    rfl
  show Scalar.select (IntOp.andi (IntOp.cmpi .ne (IntOp.cmpi .slt (Host.remsi p (broadcastInDim s ![] h (modT (BitVec.ofNat 32 n))) i) 0#32)
      (IntOp.cmpi .slt (modT (BitVec.ofNat 32 n) _) 0#32)) _) _ (Host.remsi p (broadcastInDim s ![] h (modT (BitVec.ofNat 32 n))) i) = _
  rw [hr, hm, neg _ (by omega), neg _ hn.2]
  show Scalar.select (0#1 &&& _) _ _ = _
  rw [BitVec.zero_and]
  rfl

theorem mod512 (j : S_.Idx) : modT (BitVec.ofNat 32 512) j = BitVec.ofNat 32 512 := rfl
theorem mod4096 (j : S_.Idx) : modT (BitVec.ofNat 32 4096) j = BitVec.ofNat 32 4096 := rfl

/-! ## The kernel's angles -/

theorem prodH_at (k : Fin 512) (a : Fin 4) : prodH (ix2 k a) = BitVec.ofNat 32 (k.val * (a.val * 128)) := by
  have e : prodH (ix2 k a) = BitVec.ofNat 32 k.val * (BitVec.ofNat 32 a.val * BitVec.ofNat 32 128) := by
    pointwise [prodH]
    rfl
  rw [e, ← BitVec.ofNat_mul, ← BitVec.ofNat_mul]

theorem prodL_at (k : Fin 512) (a : Fin 128) : prodL (ix2 k a) = BitVec.ofNat 32 (k.val * a.val) := by
  have e : prodL (ix2 k a) = BitVec.ofNat 32 k.val * BitVec.ofNat 32 a.val := by
    pointwise [prodL]
    rfl
  rw [e, ← BitVec.ofNat_mul]

theorem prodW_at (r : Fin 8) (k : Fin 512) : prodW (ix2 r k) = BitVec.ofNat 32 (r.val * k.val) := by
  have e : prodW (ix2 r k) = BitVec.ofNat 32 r.val * BitVec.ofNat 32 k.val := by
    pointwise [prodW]
    rfl
  rw [e, ← BitVec.ofNat_mul]

/-- A whole number's angle. -/
theorem ang_of (b : ℕ) (h : b < 2 ^ 31) (y : ℝ) :
    (((BitVec.ofNat 32 b).toInt : ℝ) : EReal) * (y : EReal) = (((b : ℝ) * y : ℝ) : EReal) := by
  rw [toInt_small b h, ← EReal.coe_mul]
  norm_cast

theorem angH_at (k : Fin 512) (a : Fin 4) : angH (ix2 k a) = ((((k.val * (a.val * 128) % 512 : ℕ) : ℝ) * (2 * Real.pi / 512) : ℝ) : EReal) := by
  have hk := k.isLt
  have ha := a.isLt
  have hp : k.val * (a.val * 128) < 2 ^ 31 := by nlinarith
  rw [← ang_of _ (by omega), ← floor_of bcast_S_S512x4 512 (by norm_num) mod512 prodH (ix2 k a) _ hp (prodH_at k a), ← turn512]
  unfold angH
  generalize floorT bcast_S_S512x4 512#32 prodH = f
  generalize turnT 0x44000000#32 = t
  pointwise
  rfl

theorem angL_at (k : Fin 512) (a : Fin 128) : angL (ix2 k a) = ((((k.val * a.val % 512 : ℕ) : ℝ) * (2 * Real.pi / 512) : ℝ) : EReal) := by
  have hk := k.isLt
  have ha := a.isLt
  have hp : k.val * a.val < 2 ^ 31 := by nlinarith
  rw [← ang_of _ (by omega), ← floor_of bcast_S_S512x128 512 (by norm_num) mod512 prodL (ix2 k a) _ hp (prodL_at k a), ← turn512]
  unfold angL
  generalize floorT bcast_S_S512x128 512#32 prodL = f
  generalize turnT 0x44000000#32 = t
  pointwise
  rfl

theorem angW_at (r : Fin 8) (k : Fin 512) : angW (ix2 r k) = ((((r.val * k.val % 4096 : ℕ) : ℝ) * (2 * Real.pi / 4096) : ℝ) : EReal) := by
  have hk := k.isLt
  have hr := r.isLt
  have hp : r.val * k.val < 2 ^ 31 := by nlinarith
  rw [← ang_of _ (by omega), ← floor_of bcast_S_S8x512 4096 (by norm_num) mod4096 prodW (ix2 r k) _ hp (prodW_at r k), ← turn4096]
  unfold angW
  generalize floorT bcast_S_S8x512 4096#32 prodW = f
  generalize turnT 0x45800000#32 = t
  pointwise
  rfl

theorem angR_at (k s : Fin 4096) :
    Cert.SeqdftRefIdeal.Reference.angT (ix2 k s) = ((((k.val * s.val : ℕ) : ℝ) * (2 * Real.pi / 4096) : ℝ) : EReal) := by
  have hk := k.isLt
  have hs := s.isLt
  have hp : k.val * s.val < 2 ^ 31 := by nlinarith
  rw [Cert.SeqdftRefIdeal.Reference.ang_at, turnR, mul_comm, ← ang_of _ hp]
  congr 1
  show (((Cert.SeqdftRefIdeal.Reference.prodT (ix2 k s)).toInt : ℝ) : EReal) = _
  rw [Cert.SeqdftRefIdeal.Reference.prod_at, ← BitVec.ofNat_mul]

/-! ## The tables -/

/-- The cosine and sine of `n` parts in `N` of a full turn. -/
def cs (N n : ℕ) : ℝ := Real.cos ((n : ℝ) * (2 * Real.pi / N))
def sn (N n : ℕ) : ℝ := Real.sin ((n : ℝ) * (2 * Real.pi / N))

theorem whole (N n : ℕ) (hN : 0 < N) : (n : ℝ) * (2 * Real.pi / N) = ((n % N : ℕ) : ℝ) * (2 * Real.pi / N) + ((n / N : ℕ) : ℝ) * (2 * Real.pi) := by
  have h : (n : ℝ) = ((n % N : ℕ) : ℝ) + (N : ℝ) * ((n / N : ℕ) : ℝ) := by
    exact_mod_cast (Nat.mod_add_div n N).symm
  have hN' : (N : ℝ) ≠ 0 := by exact_mod_cast hN.ne'
  rw [h]
  field_simp

theorem cs_mod (N n : ℕ) (hN : 0 < N) : cs N (n % N) = cs N n := by
  unfold cs
  rw [whole N n hN, Real.cos_add_nat_mul_two_pi]

theorem sn_mod (N n : ℕ) (hN : 0 < N) : sn N (n % N) = sn N n := by
  unfold sn
  rw [whole N n hN, Real.sin_add_nat_mul_two_pi]

theorem cs_add (N a b : ℕ) : cs N (a + b) = cs N a * cs N b - sn N a * sn N b := by
  unfold cs sn
  rw [Nat.cast_add, add_mul, Real.cos_add]

theorem sn_add (N a b : ℕ) : sn N (a + b) = sn N a * cs N b + cs N a * sn N b := by
  unfold cs sn
  rw [Nat.cast_add, add_mul, Real.sin_add]

theorem cosH (k : Fin 512) (a : Fin 4) : Ideal.cos (angH (ix2 k a)) = ((cs 512 (k.val * (a.val * 128)) : ℝ) : EReal) := by
  rw [angH_at, Ideal.cos_coe, ← cs_mod 512 _ (by norm_num)]; rfl
theorem sinH (k : Fin 512) (a : Fin 4) : Ideal.sin (angH (ix2 k a)) = ((sn 512 (k.val * (a.val * 128)) : ℝ) : EReal) := by
  rw [angH_at, Ideal.sin_coe, ← sn_mod 512 _ (by norm_num)]; rfl
theorem cosL (k : Fin 512) (a : Fin 128) : Ideal.cos (angL (ix2 k a)) = ((cs 512 (k.val * a.val) : ℝ) : EReal) := by
  rw [angL_at, Ideal.cos_coe, ← cs_mod 512 _ (by norm_num)]; rfl
theorem sinL (k : Fin 512) (a : Fin 128) : Ideal.sin (angL (ix2 k a)) = ((sn 512 (k.val * a.val) : ℝ) : EReal) := by
  rw [angL_at, Ideal.sin_coe, ← sn_mod 512 _ (by norm_num)]; rfl
theorem cosW (r : Fin 8) (k : Fin 512) : Ideal.cos (angW (ix2 r k)) = ((cs 4096 (r.val * k.val) : ℝ) : EReal) := by
  rw [angW_at, Ideal.cos_coe, ← cs_mod 4096 _ (by norm_num)]; rfl
theorem sinW (r : Fin 8) (k : Fin 512) : Ideal.sin (angW (ix2 r k)) = ((sn 4096 (r.val * k.val) : ℝ) : EReal) := by
  rw [angW_at, Ideal.sin_coe, ← sn_mod 4096 _ (by norm_num)]; rfl
theorem cosR (k s : Fin 4096) : Ideal.cos (Cert.SeqdftRefIdeal.Reference.angT (ix2 k s)) = ((cs 4096 (k.val * s.val) : ℝ) : EReal) := by
  rw [angR_at, Ideal.cos_coe]; rfl
theorem sinR (k s : Fin 4096) : Ideal.sin (Cert.SeqdftRefIdeal.Reference.angT (ix2 k s)) = ((sn 4096 (k.val * s.val) : ℝ) : EReal) := by
  rw [angR_at, Ideal.sin_coe]; rfl

theorem cosT_of (h : FVec Ideal S512x4 .f32) (l : FVec Ideal S512x128 .f32) (k : Fin 512) (a : Fin 4) (c : Fin 128) :
    cosT h l (ix2 k ⟨128 * a.val + c.val, by omega⟩)
      = Ideal.cos (h (ix2 k a)) * Ideal.cos (l (ix2 k c)) - Ideal.sin (h (ix2 k a)) * Ideal.sin (l (ix2 k c)) := by
  pointwise [cosT, upH, upL]

theorem sinT_of (h : FVec Ideal S512x4 .f32) (l : FVec Ideal S512x128 .f32) (k : Fin 512) (a : Fin 4) (c : Fin 128) :
    sinT h l (ix2 k ⟨128 * a.val + c.val, by omega⟩)
      = Ideal.sin (h (ix2 k a)) * Ideal.cos (l (ix2 k c)) + Ideal.cos (h (ix2 k a)) * Ideal.sin (l (ix2 k c)) := by
  pointwise [sinT, upH, upL]

theorem upW_of (v : FVec Ideal S8x512 .f32) (r : Fin 8) (k : Fin 512) (l : Fin 128) : upW v (ix3 r k l) = v (ix2 r k) := by
  pointwise [upW]

/-- The cosine table at row `k` and column `m`. -/
theorem cos_table (k m : Fin 512) : cosT angH angL (ix2 k m) = ((cs 512 (k.val * m.val) : ℝ) : EReal) := by
  have hm := m.isLt
  have e : m = ⟨128 * (⟨m.val / 128, by omega⟩ : Fin 4).val + (⟨m.val % 128, by omega⟩ : Fin 128).val, by simp only; omega⟩ := Fin.ext (by simp only; omega)
  have s : k.val * m.val = k.val * (m.val / 128 * 128) + k.val * (m.val % 128) := by
    rw [← mul_add]; congr 1; omega
  refine (congrArg (fun z => cosT angH angL (ix2 k z)) e).trans ?_
  refine (cosT_of angH angL k _ _).trans ?_
  rw [cosH, sinH, cosL, sinL, s, cs_add]
  push_cast; rfl

theorem sin_table (k m : Fin 512) : sinT angH angL (ix2 k m) = ((sn 512 (k.val * m.val) : ℝ) : EReal) := by
  have hm := m.isLt
  have e : m = ⟨128 * (⟨m.val / 128, by omega⟩ : Fin 4).val + (⟨m.val % 128, by omega⟩ : Fin 128).val, by simp only; omega⟩ := Fin.ext (by simp only; omega)
  have s : k.val * m.val = k.val * (m.val / 128 * 128) + k.val * (m.val % 128) := by
    rw [← mul_add]; congr 1; omega
  refine (congrArg (fun z => sinT angH angL (ix2 k z)) e).trans ?_
  refine (sinT_of angH angL k _ _).trans ?_
  rw [cosH, sinH, cosL, sinL, s, sn_add]
  push_cast; rfl

theorem cos_twiddle (r : Fin 8) (k : Fin 512) (l : Fin 128) : upW (Host.cos angW) (ix3 r k l) = ((cs 4096 (r.val * k.val) : ℝ) : EReal) := by
  rw [upW_of, ← cosW]; rfl

theorem sin_twiddle (r : Fin 8) (k : Fin 512) (l : Fin 128) : upW (Host.sin angW) (ix3 r k l) = ((sn 4096 (r.val * k.val) : ℝ) : EReal) := by
  rw [upW_of, ← sinW]; rfl

end Cert.SeqdftEq
end
end
-- ==== Proof.SeqdftResult.lean ====
/- The sequence-transform kernel's result array at an index, over its argument. -/
module

public import proofs.«01_k».proof.Proof.SeqdftEntry
public import Idealize.ShloMosaic.Lib.Pipeline.ValueKit

@[expose] public section

set_option maxRecDepth 16384

noncomputable section

namespace Cert.SeqdftIdeal.Result

open Idealize.ShloMosaic Idealize.ShloMosaic.TcCoe Idealize.SL.Sem Cert.SeqdftIdeal Cert.SeqdftIdeal.Gen Cert.SeqdftIdeal.Block

theorem idx : ∀ t : Fin cfg0.N, win0_0.index t = ![t.val / 4, t.val % 4, 0, 0]
    ∧ win0_1.index t = ![t.val / 4, 4 + t.val % 4, 0, 0]
    ∧ win0_2.index t = ![0, 0] ∧ win0_3.index t = ![0, 0] ∧ win0_4.index t = ![0, 0, 0] ∧ win0_5.index t = ![0, 0, 0]
    ∧ win0_6.index t = ![t.val / 4, 0, t.val % 4] :=
  (by decide +kernel : ∀ t : Fin grid0.N, _)

variable (m : (ℓ : Loc nD τ sig) → Buf (Elt Ideal) ℓ)

/-- The sequence of a grid point and its pair of slabs. -/
def bOf (t : Fin cfg0.N) : Fin 16 := ⟨t.val / 4, by have h : t.val < 64 := t.isLt; omega⟩
def gOf (t : Fin cfg0.N) : Fin 4 := ⟨t.val % 4, by omega⟩

theorem x0_at (c : Dev nD) (t : Fin cfg0.N) (s : Fin 4096) (l : Fin 128) :
    iblk m c 0 t (ix4 0 0 s l) = m ((c : Thread nD τ).loc main_arg0) (ix4 (bOf t) ⟨(gOf t).val, by omega⟩ s l) := by
  blk_ext [iblk, V, idx t, bOf, gOf]

theorem x1_at (c : Dev nD) (t : Fin cfg0.N) (s : Fin 4096) (l : Fin 128) :
    iblk m c 1 t (ix4 0 0 s l) = m ((c : Thread nD τ).loc main_arg0) (ix4 (bOf t) ⟨4 + (gOf t).val, by omega⟩ s l) := by
  blk_ext [iblk, V, idx t, bOf, gOf]

theorem x2_at (c : Dev nD) (t : Fin cfg0.N) (k j : Fin 512) : iblk m c 2 t (ix2 k j) = cosT angH angL (ix2 k j) := by
  blk_simp [iblk, idx t]
  rw [V_v42]
  generalize cosT angH angL = a
  blk_ext [idx t]

theorem x3_at (c : Dev nD) (t : Fin cfg0.N) (k j : Fin 512) : iblk m c 3 t (ix2 k j) = sinT angH angL (ix2 k j) := by
  blk_simp [iblk, idx t]
  rw [V_v51]
  generalize sinT angH angL = a
  blk_ext [idx t]

theorem x4_at (c : Dev nD) (t : Fin cfg0.N) (r : Fin 8) (k : Fin 512) (l : Fin 128) :
    iblk m c 4 t (ix3 r k l) = upW (Host.cos angW) (ix3 r k l) := by
  blk_simp [iblk, idx t]
  rw [V_v67]
  generalize upW (Host.cos angW) = a
  blk_ext [idx t]

theorem x5_at (c : Dev nD) (t : Fin cfg0.N) (r : Fin 8) (k : Fin 512) (l : Fin 128) :
    iblk m c 5 t (ix3 r k l) = upW (Host.sin angW) (ix3 r k l) := by
  blk_simp [iblk, idx t]
  rw [V_v70]
  generalize upW (Host.sin angW) = a
  blk_ext [idx t]

/-- One slab of one sequence. -/
def slab (x : Vec Ideal S16x8x4096x128 .f32) (b : Fin 16) (n : Fin 8) : Vec Ideal S1x1x4096x128 .f32 := fun i => x (ix4 b n (i 2) (i 3))

/-- The kernel's result at sequence `b`, pair `g` of slabs, row `512 j + k` and lane `l`. -/
def outZ (x : Vec Ideal S16x8x4096x128 .f32) (b : Fin 16) (g : Fin 4) (j : ℕ) (k : Fin 512) (l : Fin 128) : EReal :=
  eight rtZ mrtZ
    (aZ (slab x b ⟨g.val, by omega⟩) (slab x b ⟨4 + g.val, by omega⟩) (cosT angH angL) (sinT angH angL) (upW (Host.cos angW)) (upW (Host.sin angW)) k l)
    (bZ (slab x b ⟨g.val, by omega⟩) (slab x b ⟨4 + g.val, by omega⟩) (cosT angH angL) (sinT angH angL) (upW (Host.cos angW)) (upW (Host.sin angW)) k l)
    j * orthoZ

/-- The whole result array. -/
def outA (x : Vec Ideal S16x8x4096x128 .f32) : Vec Ideal S16x4096x512 .bf16 := fun i =>
  outZ x (i 0) ⟨(i 2).val / 128, by have h : (i 2).val < 512 := (i 2).isLt; omega⟩ ((i 1).val / 512) ⟨(i 1).val % 512, by omega⟩
    ⟨(i 2).val % 128, by omega⟩

theorem emb6 (t : Fin cfg0.N) (s : Fin 4096) (l : Fin 128) :
    ((View.whole main_v71).slice (win0_6.rect t)).emb (ix3 0 s l) = ix3 (bOf t) s ⟨128 * (gOf t).val + l.val, by omega⟩ := by
  blk_ext [idx t, bOf, gOf]

theorem outA_at (x : Vec Ideal S16x8x4096x128 .f32) (b : Fin 16) (g : Fin 4) (s : Fin 4096) (l : Fin 128) :
    outA x (ix3 b s ⟨128 * g.val + l.val, by omega⟩) = outZ x b g (s.val / 512) ⟨s.val % 512, by omega⟩ l := by
  show outZ x b ⟨(128 * g.val + l.val) / 128, _⟩ (s.val / 512) ⟨s.val % 512, _⟩ ⟨(128 * g.val + l.val) % 128, _⟩ = _
  congr 1
  · exact Fin.ext (by simp only; omega)
  · exact Fin.ext (by simp only; omega)

theorem eq2 {s0 s1 : ℕ} {e : Type} (f g : (⟨2, ![s0, s1]⟩ : Shape).Idx → e) (h : ∀ a b, f (ix2 a b) = g (ix2 a b)) : f = g := by
  funext i
  have e : i = ix2 (i 0) (i 1) := by funext a; fin_cases a <;> rfl
  rw [e]; exact h _ _

theorem eq3 {s0 s1 s2 : ℕ} {e : Type} (f g : (⟨3, ![s0, s1, s2]⟩ : Shape).Idx → e) (h : ∀ a b d, f (ix3 a b d) = g (ix3 a b d)) : f = g := by
  funext i
  have e : i = ix3 (i 0) (i 1) (i 2) := by funext a; fin_cases a <;> rfl
  rw [e]; exact h _ _ _

theorem eq4 {s2 s3 : ℕ} {e : Type} (f g : (⟨4, ![1, 1, s2, s3]⟩ : Shape).Idx → e) (h : ∀ a b, f (ix4 0 0 a b) = g (ix4 0 0 a b)) : f = g := by
  funext i
  have e : i = ix4 0 0 (i 2) (i 3) := by
    funext a
    fin_cases a
    · exact Subsingleton.elim (α := Fin 1) _ _
    · exact Subsingleton.elim (α := Fin 1) _ _
    · rfl
    · rfl
  rw [e]; exact h _ _

theorem x0_eq (c : Dev nD) (t : Fin cfg0.N) : iblk m c 0 t = slab (m ((c : Thread nD τ).loc main_arg0)) (bOf t) ⟨(gOf t).val, by omega⟩ :=
  eq4 (s2 := 4096) (s3 := 128) _ _ fun a b => x0_at m c t a b
theorem x1_eq (c : Dev nD) (t : Fin cfg0.N) : iblk m c 1 t = slab (m ((c : Thread nD τ).loc main_arg0)) (bOf t) ⟨4 + (gOf t).val, by omega⟩ :=
  eq4 (s2 := 4096) (s3 := 128) _ _ fun a b => x1_at m c t a b
theorem x2_eq (c : Dev nD) (t : Fin cfg0.N) : iblk m c 2 t = cosT angH angL := eq2 (s0 := 512) (s1 := 512) _ _ (x2_at m c t)
theorem x3_eq (c : Dev nD) (t : Fin cfg0.N) : iblk m c 3 t = sinT angH angL := eq2 (s0 := 512) (s1 := 512) _ _ (x3_at m c t)
theorem x4_eq (c : Dev nD) (t : Fin cfg0.N) : iblk m c 4 t = upW (Host.cos angW) := eq3 (s0 := 8) (s1 := 512) (s2 := 128) _ _ (x4_at m c t)
theorem x5_eq (c : Dev nD) (t : Fin cfg0.N) : iblk m c 5 t = upW (Host.sin angW) := eq3 (s0 := 8) (s1 := 512) (s2 := 128) _ _ (x5_at m c t)

theorem row_split (s : Fin 4096) : s = ⟨512 * (⟨s.val / 512, by omega⟩ : Fin 8).val + (⟨s.val % 512, by omega⟩ : Fin 512).val, by simp only; omega⟩ :=
  Fin.ext (by simp only; omega)

set_option maxHeartbeats 1600000 in
/-- The result array after the run. -/
theorem final (c : Dev nD) : (dats m 0 c).arrAt 6 (cfgs 0).N = outA (m ((c : Thread nD τ).loc main_arg0)) := by
  refine (dats m 0 c).arrAt_eq_of_covers 6 _ (by decide +kernel) fun t _ y => ?_
  blk_simp
  rw [after0_6]
  unfold outsAt0
  idx_vars y
  obtain rfl : y0 = 0 := Subsingleton.elim _ _
  rw [emb6]
  refine Eq.trans ?_ (outA_at (m ((c : Thread nD τ).loc main_arg0)) (bOf t) (gOf t) y1 y2).symm
  rw [x0_eq, x1_eq, x2_eq, x3_eq, x4_eq, x5_eq]
  refine (congrArg (fun z => out0_A_6 c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) _ _ _ _ _ _ (ix3 0 z y2)) (row_split y1)).trans ?_
  exact out6_at c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) _ _ _ _ _ _ _ _ y2

end Cert.SeqdftIdeal.Result
end
end
-- ==== Proof.SeqdftEquation.lean ====
/- The sequence transform in three steps of eight, 512 and eight points equals the plain one over 4096. -/
module

public import proofs.«01_k».proof.Proof.SeqdftNumbers
public import proofs.«01_k».proof.Proof.SeqdftResult
public import proofs.«01_k».proof.Proof.FfnPlain
public import proofs.«01_k».proof.Proof.Gen.Pre_finite_pq

@[expose] public section

set_option maxRecDepth 16384

noncomputable section

namespace Cert.SeqdftEq

open Idealize.ShloMosaic Idealize.ShloMosaic.TcCoe Cert.SeqdftIdeal Cert.SeqdftIdeal.Gen Cert.SeqdftIdeal.Result Cert.SeqdftIdeal.Block
open Cert.FfnEq (IsR isR_of_cmp)

/-! ## Eight points -/

theorem eight_coe (h g : ℝ) (a b : (r : ℕ) → r < 8 → ℝ) (j : ℕ) :
    eight (h : EReal) (g : EReal) (fun r hr => (a r hr : EReal)) (fun r hr => (b r hr : EReal)) j = ((eight h g a b j : ℝ) : EReal) := by
  unfold eight
  split <;> push_cast <;> rfl

theorem half_turn_root : Real.cos (Real.pi / 4) = (Real.sqrt 2)⁻¹ := by
  rw [Real.cos_pi_div_four, Real.sqrt_div_self', one_div]

theorem cs8 (n : ℕ) (y : ℝ) (h : (n : ℝ) * (2 * Real.pi / (8 : ℕ)) = y) : cs 8 n = Real.cos y := by rw [← h]; rfl
theorem sn8 (n : ℕ) (y : ℝ) (h : (n : ℝ) * (2 * Real.pi / (8 : ℕ)) = y) : sn 8 n = Real.sin y := by rw [← h]; rfl

theorem c0 : cs 8 0 = 1 := by rw [cs8 0 0 (by simp), Real.cos_zero]
theorem c1 : cs 8 1 = (Real.sqrt 2)⁻¹ := by rw [cs8 1 (Real.pi / 4) (by push_cast; ring), half_turn_root]
theorem c2 : cs 8 2 = 0 := by rw [cs8 2 (Real.pi / 2) (by push_cast; ring), Real.cos_pi_div_two]
theorem s0 : sn 8 0 = 0 := by rw [sn8 0 0 (by simp), Real.sin_zero]
theorem s1 : sn 8 1 = (Real.sqrt 2)⁻¹ := by
  rw [sn8 1 (Real.pi / 4) (by push_cast; ring), Real.sin_pi_div_four, Real.sqrt_div_self', one_div]
theorem s2 : sn 8 2 = 1 := by rw [sn8 2 (Real.pi / 2) (by push_cast; ring), Real.sin_pi_div_two]
theorem c3 : cs 8 3 = -(Real.sqrt 2)⁻¹ := by rw [cs_add 8 2 1, c2, s2, c1, s1]; ring
theorem s3 : sn 8 3 = (Real.sqrt 2)⁻¹ := by rw [sn_add 8 2 1, c2, s2, c1, s1]; ring
theorem c4 : cs 8 4 = -1 := by rw [cs_add 8 2 2, c2, s2]; ring
theorem s4 : sn 8 4 = 0 := by rw [sn_add 8 2 2, c2, s2]; ring
theorem c5 : cs 8 5 = -(Real.sqrt 2)⁻¹ := by rw [cs_add 8 4 1, c4, s4, c1, s1]; ring
theorem s5 : sn 8 5 = -(Real.sqrt 2)⁻¹ := by rw [sn_add 8 4 1, c4, s4, c1, s1]; ring
theorem c6 : cs 8 6 = 0 := by rw [cs_add 8 4 2, c4, s4, c2, s2]; ring
theorem s6 : sn 8 6 = -1 := by rw [sn_add 8 4 2, c4, s4, c2, s2]; ring
theorem c7 : cs 8 7 = (Real.sqrt 2)⁻¹ := by rw [cs_add 8 4 3, c4, s4, c3, s3]; ring
theorem s7 : sn 8 7 = -(Real.sqrt 2)⁻¹ := by rw [sn_add 8 4 3, c4, s4, c3, s3]; ring

/-- The eight-point transform is a sum of cosines and sines. -/
theorem eight_sum (a b : (r : ℕ) → r < 8 → ℝ) (j : ℕ) (hj : j < 8) :
    eight (Real.sqrt 2)⁻¹ (-(Real.sqrt 2)⁻¹) a b j
      = ∑ r : Fin 8, (a r.val r.isLt * cs 8 (j * r.val) + b r.val r.isLt * sn 8 (j * r.val)) := by
  have e : ∀ r : Fin 8, a r.val r.isLt * cs 8 (j * r.val) + b r.val r.isLt * sn 8 (j * r.val)
      = a r.val r.isLt * cs 8 (j * r.val % 8) + b r.val r.isLt * sn 8 (j * r.val % 8) := by
    intro r; rw [cs_mod 8 _ (by norm_num), sn_mod 8 _ (by norm_num)]
  rw [Finset.sum_congr rfl fun r _ => e r, Fin.sum_univ_eight]
  interval_cases j <;>
    simp [eight, c0, c1, c2, c3, c4, c5, c6, c7, s0, s1, s2, s3, s4, s5, s6, s7] <;> ring

/-! ## The whole transform over the reals -/

theorem cs_scale (n : ℕ) : cs 512 n = cs 4096 (8 * n) := by
  unfold cs; congr 1; push_cast; ring
theorem sn_scale (n : ℕ) : sn 512 n = sn 4096 (8 * n) := by
  unfold sn; congr 1; push_cast; ring
theorem cs_scale8 (n : ℕ) : cs 8 n = cs 4096 (512 * n) := by
  unfold cs; congr 1; push_cast; ring
theorem sn_scale8 (n : ℕ) : sn 8 n = sn 4096 (512 * n) := by
  unfold sn; congr 1; push_cast; ring

section
variable (P Q : Fin 4096 → ℝ) (k : Fin 512)

/-- Every eighth row from row `r`, against a row of cosines or sines. -/
def dotR (f : ℕ → ℝ) (X : Fin 4096 → ℝ) (r : ℕ) (hr : r < 8) : ℝ := ∑ m : Fin 512, f (k.val * m.val) * X ⟨8 * m.val + r, by omega⟩

def reR (r : ℕ) (hr : r < 8) : ℝ := dotR k (cs 512) P r hr - dotR k (sn 512) Q r hr
def imR (r : ℕ) (hr : r < 8) : ℝ := 0 - (dotR k (sn 512) P r hr + dotR k (cs 512) Q r hr)
def aR (r : ℕ) (hr : r < 8) : ℝ := cs 4096 (r * k.val) * reR P Q k r hr + sn 4096 (r * k.val) * imR P Q k r hr
def bR (r : ℕ) (hr : r < 8) : ℝ := cs 4096 (r * k.val) * imR P Q k r hr - sn 4096 (r * k.val) * reR P Q k r hr

theorem part_angle (m : Fin 512) (r : ℕ) : r * k.val + 8 * (k.val * m.val) = k.val * (8 * m.val + r) := by ring

theorem aR_eq (r : ℕ) (hr : r < 8) : aR P Q k r hr = ∑ m : Fin 512, (cs 4096 (k.val * (8 * m.val + r)) * P ⟨8 * m.val + r, by omega⟩
    - sn 4096 (k.val * (8 * m.val + r)) * Q ⟨8 * m.val + r, by omega⟩) := by
  unfold aR reR imR dotR
  rw [← Finset.sum_sub_distrib, ← Finset.sum_add_distrib, mul_sub, Finset.mul_sum, Finset.mul_sum, mul_zero, zero_sub, ← sub_eq_add_neg,
    ← Finset.sum_sub_distrib]
  refine Finset.sum_congr rfl fun m _ => ?_
  rw [← part_angle, cs_add, sn_add, cs_scale, sn_scale]
  ring

theorem bR_eq (r : ℕ) (hr : r < 8) : bR P Q k r hr = ∑ m : Fin 512, (-(sn 4096 (k.val * (8 * m.val + r)) * P ⟨8 * m.val + r, by omega⟩)
    - cs 4096 (k.val * (8 * m.val + r)) * Q ⟨8 * m.val + r, by omega⟩) := by
  unfold bR reR imR dotR
  rw [← Finset.sum_sub_distrib, ← Finset.sum_add_distrib, mul_sub, Finset.mul_sum, Finset.mul_sum, mul_zero, zero_sub, ← neg_add',
    ← Finset.sum_add_distrib, ← Finset.sum_neg_distrib]
  refine Finset.sum_congr rfl fun m _ => ?_
  rw [← part_angle, cs_add, sn_add, cs_scale, sn_scale]
  ring

/-- A turn more of the angle. -/
theorem row_angle (j m r : ℕ) : (512 * j + k.val) * (8 * m + r) % 4096 = (k.val * (8 * m + r) + 512 * (j * r)) % 4096 := by
  rw [show (512 * j + k.val) * (8 * m + r) = (k.val * (8 * m + r) + 512 * (j * r)) + 4096 * (j * m) by ring, Nat.add_mul_mod_self_left]

theorem split_sum (f : Fin 4096 → ℝ) : ∑ s : Fin 4096, f s = ∑ r : Fin 8, ∑ m : Fin 512, f ⟨8 * m.val + r.val, by omega⟩ := by
  rw [Finset.sum_comm, ← Fintype.sum_prod_type' (f := fun (m : Fin 512) (r : Fin 8) => f ⟨8 * m.val + r.val, by omega⟩)]
  refine (Fintype.sum_equiv (finProdFinEquiv (m := 512) (n := 8)) _ _ fun y => ?_).symm
  exact congrArg f (Fin.ext (by simp [finProdFinEquiv, add_comm]))

theorem whole_eq (j : ℕ) (hj : j < 8) : eight (Real.sqrt 2)⁻¹ (-(Real.sqrt 2)⁻¹) (aR P Q k) (bR P Q k) j
    = (∑ s : Fin 4096, P s * cs 4096 ((512 * j + k.val) * s.val)) - ∑ s : Fin 4096, Q s * sn 4096 ((512 * j + k.val) * s.val) := by
  rw [eight_sum _ _ j hj, ← Finset.sum_sub_distrib, split_sum]
  refine Finset.sum_congr rfl fun r _ => ?_
  rw [aR_eq, bR_eq, Finset.sum_mul, Finset.sum_mul, ← Finset.sum_add_distrib]
  refine Finset.sum_congr rfl fun m _ => ?_
  rw [← cs_mod 4096 ((512 * j + k.val) * _) (by norm_num), ← sn_mod 4096 ((512 * j + k.val) * _) (by norm_num), row_angle,
    cs_mod 4096 _ (by norm_num), sn_mod 4096 _ (by norm_num), cs_add, sn_add, cs_scale8, sn_scale8]
  ring
end

/-! ## The constants -/

theorem rt_name : rtZ = (((Real.sqrt 2)⁻¹ : ℝ) : EReal) := IdealRules.named_const.ideal_named_scalar _ _ _ _ rfl
theorem mrt_name : mrtZ = ((-(Real.sqrt 2)⁻¹ : ℝ) : EReal) := IdealRules.named_const.ideal_named_scalar _ _ _ _ rfl
theorem ortho_name : orthoZ = (((Real.sqrt 524288)⁻¹ : ℝ) : EReal) := IdealRules.named_const.ideal_named_scalar _ _ _ _ rfl

theorem root_value : Cert.SeqdftRefIdeal.Reference.rootT ix0 = ((Real.sqrt 524288 : ℝ) : EReal) := by
  show Ideal.sqrt (Ideal.ofBits .f32 0x49000000#32) = _
  rw [w524288, Ideal.sqrt_coe, if_neg (by norm_num)]

/-! ## The kernel's value over the reals -/

section
variable (x0 x1 : Vec Ideal S1x1x4096x128 .f32) (P Q : Fin 4096 → ℝ) (k : Fin 512) (l : Fin 128)
  (hP : ∀ s, x0 (ix4 0 0 s l) = (P s : EReal)) (hQ : ∀ s, x1 (ix4 0 0 s l) = (Q s : EReal))

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem dot_coe (t : Vec Ideal S512x512 .bf16) (f : ℕ → ℝ) (ht : ∀ a b : Fin 512, t (ix2 a b) = ((f (a.val * b.val) : ℝ) : EReal))
    (x : Vec Ideal S1x1x4096x128 .f32) (X : Fin 4096 → ℝ) (hX : ∀ s, x (ix4 0 0 s l) = (X s : EReal)) (r : ℕ) (hr : r < 8) :
    dotZ t x k l r hr = ((dotR k f X r hr : ℝ) : EReal) := by
  unfold dotZ dotR
  rw [coe_sum]
  refine Finset.sum_congr rfl fun m _ => ?_
  rw [ht, hX, EReal.coe_mul]

include hP hQ in
theorem re_coe (r : ℕ) (hr : r < 8) : reZ x0 x1 (cosT angH angL) (sinT angH angL) k l r hr = ((reR P Q k r hr : ℝ) : EReal) := by
  unfold reZ reR
  rw [dot_coe k l _ (cs 512) cos_table x0 P hP, dot_coe k l _ (sn 512) sin_table x1 Q hQ, EReal.coe_sub]

include hP hQ in
theorem im_coe (r : ℕ) (hr : r < 8) : imZ x0 x1 (cosT angH angL) (sinT angH angL) k l r hr = ((imR P Q k r hr : ℝ) : EReal) := by
  unfold imZ imR
  rw [dot_coe k l _ (sn 512) sin_table x0 P hP, dot_coe k l _ (cs 512) cos_table x1 Q hQ, EReal.coe_sub, EReal.coe_add, EReal.coe_zero]

include hP hQ in
theorem a_coe (r : ℕ) (hr : r < 8) :
    aZ x0 x1 (cosT angH angL) (sinT angH angL) (upW (Host.cos angW)) (upW (Host.sin angW)) k l r hr = ((aR P Q k r hr : ℝ) : EReal) := by
  unfold aZ aR
  rw [re_coe x0 x1 P Q k l hP hQ, im_coe x0 x1 P Q k l hP hQ, cos_twiddle, sin_twiddle]
  by_cases h : r = 0
  · subst h
    rw [if_pos rfl]
    congr 1
    simp [cs, sn]
  · rw [if_neg h]
    push_cast; rfl

include hP hQ in
theorem b_coe (r : ℕ) (hr : r < 8) :
    bZ x0 x1 (cosT angH angL) (sinT angH angL) (upW (Host.cos angW)) (upW (Host.sin angW)) k l r hr = ((bR P Q k r hr : ℝ) : EReal) := by
  unfold bZ bR
  rw [re_coe x0 x1 P Q k l hP hQ, im_coe x0 x1 P Q k l hP hQ, cos_twiddle, sin_twiddle]
  by_cases h : r = 0
  · subst h
    rw [if_pos rfl]
    congr 1
    simp [cs, sn]
  · rw [if_neg h]
    push_cast; rfl
end

/-! ## The two values -/

variable (x : Vec Ideal S16x8x4096x128 .f32) (hx : ∀ i, IsR (x i))

include hx in
theorem out_eq (b : Fin 16) (g : Fin 4) (s : Fin 4096) (l : Fin 128) :
    outZ x b g (s.val / 512) ⟨s.val % 512, by omega⟩ l = Cert.SeqdftRefIdeal.Reference.outT x (ix4 b g s l) := by
  choose X hX using hx
  have hs := s.isLt
  have hj : s.val / 512 < 8 := by omega
  have hP : ∀ n, slab x b ⟨g.val, by omega⟩ (ix4 0 0 n l) = ((X (ix4 b ⟨g.val, by omega⟩ n l) : ℝ) : EReal) := fun n => hX _
  have hQ : ∀ n, slab x b ⟨4 + g.val, by omega⟩ (ix4 0 0 n l) = ((X (ix4 b ⟨4 + g.val, by omega⟩ n l) : ℝ) : EReal) := fun n => hX _
  rw [Cert.SeqdftRefIdeal.Reference.out_at, root_value, Ideal.div_coe (by positivity)]
  unfold outZ
  rw [rt_name, mrt_name, ortho_name,
    show aZ (slab x b ⟨g.val, by omega⟩) (slab x b ⟨4 + g.val, by omega⟩) (cosT angH angL) (sinT angH angL) (upW (Host.cos angW))
        (upW (Host.sin angW)) ⟨s.val % 512, by omega⟩ l = fun r hr => ((aR _ _ ⟨s.val % 512, by omega⟩ r hr : ℝ) : EReal) from
      funext fun r => funext fun hr => a_coe _ _ _ _ _ l hP hQ r hr,
    show bZ (slab x b ⟨g.val, by omega⟩) (slab x b ⟨4 + g.val, by omega⟩) (cosT angH angL) (sinT angH angL) (upW (Host.cos angW))
        (upW (Host.sin angW)) ⟨s.val % 512, by omega⟩ l = fun r hr => ((bR _ _ ⟨s.val % 512, by omega⟩ r hr : ℝ) : EReal) from
      funext fun r => funext fun hr => b_coe _ _ _ _ _ l hP hQ r hr,
    eight_coe, one_div]
  refine (congrArg (fun z : ℝ => (z : EReal) * (((Real.sqrt 524288)⁻¹ : ℝ) : EReal)) (whole_eq _ _ ⟨s.val % 512, by omega⟩ _ hj)).trans ?_
  rw [EReal.coe_sub, coe_sum, coe_sum]
  refine congrArg (fun z => z * (((Real.sqrt 524288)⁻¹ : ℝ) : EReal)) ?_
  have e : 512 * (s.val / 512) + s.val % 512 = s.val := Nat.div_add_mod _ _
  refine congrArg₂ (fun y z : EReal => y - z) ?_ ?_
  · refine Finset.sum_congr rfl fun n _ => ?_
    rw [EReal.coe_mul, cosR, hX]
    simp only [e]
  · refine Finset.sum_congr rfl fun n _ => ?_
    rw [EReal.coe_mul, sinR, hX]
    simp only [e]

include hx in
theorem result_eq : outA x = Cert.SeqdftRefIdeal.Reference.res x := by
  refine eq3 (s0 := 16) (s1 := 4096) (s2 := 512) _ _ fun b s d => ?_
  have hd := d.isLt
  have e : d = ⟨128 * (⟨d.val / 128, by omega⟩ : Fin 4).val + (⟨d.val % 128, by omega⟩ : Fin 128).val, by simp only; omega⟩ := Fin.ext (by simp only; omega)
  refine (congrArg (fun z => outA x (ix3 b s z)) e).trans ?_
  refine Eq.trans ?_ (congrArg (fun z => Cert.SeqdftRefIdeal.Reference.res x (ix3 b s z)) e).symm
  exact (outA_at x b _ s _).trans ((out_eq x hx b _ s _).trans (Cert.SeqdftRefIdeal.Reference.res_at x b s _ _).symm)

end Cert.SeqdftEq
end
end
-- ==== Proof.SeqdftClaims.lean ====
/- The claims of the sequence-transform call. -/
module

public import proofs.«01_k».proof.Defs
public import proofs.«01_k».proof.Proof.Gen.Seqdft.Frame
public import proofs.«01_k».proof.Proof.Gen.SeqdftIdeal.Frame
public import proofs.«01_k».proof.Proof.Gen.SeqdftIdeal.Value
public import proofs.«01_k».proof.Proof.Gen.SeqdftRefIdeal.Run
public import proofs.«01_k».proof.Proof.Gen.Seqdft
public import proofs.«01_k».proof.Proof.Gen.SeqdftIdeal
public import proofs.«01_k».proof.Proof.Gen.SeqdftRefIdeal
public import proofs.«01_k».proof.Proof.SeqdftEquation
public import Idealize.ShloMosaic.Lib.Quiescent

@[expose] public section

noncomputable section

namespace Cert.SeqdftClaims

open Idealize.ShloMosaic Idealize.ShloMosaic.TcCoe Idealize.SL.Sem

theorem frame_p : Cert.quiescent_Seqdft := fun m ρ _ => Cert.Seqdft.Gen.frame m ρ

theorem frame_pi : Cert.quiescent_SeqdftIdeal := fun m ρ _ => Cert.SeqdftIdeal.Gen.frame m ρ

theorem frame_pi_pre : Cert.quiescent_SeqdftIdeal_pre_finite_pq := fun m ρ _ => Cert.SeqdftIdeal.Gen.frame m ρ

theorem frame_ri : Cert.quiescent_SeqdftRefIdeal := fun m ρ _ =>
  (θ_run Cert.SeqdftRefIdeal.defs _ _).mono (fun r h => ⟨fun c => (h c).2, Idealize.ShloMosaic.sem_eq_zero_of_no_sems (by decide) r.2⟩)
    (Cert.SeqdftRefIdeal.Value.run m ρ)

theorem frame_ri_pre : Cert.quiescent_SeqdftRefIdeal_pre_finite_pq := fun m ρ _ =>
  (θ_run Cert.SeqdftRefIdeal.defs _ _).mono (fun r h => ⟨fun c => (h c).2, Idealize.ShloMosaic.sem_eq_zero_of_no_sems (by decide) r.2⟩)
    (Cert.SeqdftRefIdeal.Value.run m ρ)

theorem preserves : Cert.preserves_Seqdft_SeqdftIdeal :=
  ⟨IdealRules.named_const.statement Cert.SeqdftIdeal.κ "root_half" .f32 0x3F3504F3#32 _ rfl,
    IdealRules.named_const.statement Cert.SeqdftIdeal.κ "minus_root_half" .f32 0xBF3504F3#32 _ rfl,
    IdealRules.named_const.statement Cert.SeqdftIdeal.κ "ortho" .f32 0x3AB504F3#32 _ rfl⟩

/-- Under the precondition the plain array is the kernel's. -/
theorem result (m : (ℓ : Loc Cert.SeqdftIdeal.nD Cert.SeqdftIdeal.τ Cert.SeqdftIdeal.sig) → Buf (Elt Ideal) ℓ)
    (hpre : Cert.Pre_SeqdftIdeal_finite_pq m) (c : Dev Cert.SeqdftIdeal.nD) :
    Cert.SeqdftRefIdeal.Reference.res (m ((c.tc : Thread Cert.SeqdftIdeal.nD Cert.SeqdftIdeal.τ).loc Cert.SeqdftIdeal.main_arg0))
      = (Cert.SeqdftIdeal.Gen.dats m 0 c).arrAt 6 (Cert.SeqdftIdeal.cfgs 0).N := by
  rw [Cert.SeqdftIdeal.Result.final]
  exact (Cert.SeqdftEq.result_eq _ fun i => Cert.FfnEq.isR_of_cmp (congrFun (hpre c) i)).symm

theorem algebraic : Cert.algebraic_SeqdftIdeal_SeqdftRefIdeal_pre_finite_pq := by
  intro m ρ m' ρ' hpre hagree
  refine ⟨fun c => (Cert.SeqdftIdeal.Gen.dats m 0 c).arrAt 6 (Cert.SeqdftIdeal.cfgs 0).N, Cert.SeqdftIdeal.Value.run_blocks m ρ, ?_⟩
  refine (θ_run Cert.SeqdftRefIdeal.defs _ _).mono (fun _ h c => ⟨?_, (h c).2⟩) (Cert.SeqdftRefIdeal.Value.run m' ρ')
  refine (h c).1.trans ?_
  rw [hagree c]
  exact result m hpre c

end Cert.SeqdftClaims
end
end
-- ==== Proof.FfnSecondBlock.lean ====
/- One block of the feed-forward kernel at the second batch's shapes: the body's run leaves the same value of its input
   blocks as at the first batch's. -/
module

public import proofs.«01_k».proof.Proof.Gen.FfnSecondIdeal.Value
public import proofs.«01_k».proof.Proof.FfnBlock

@[expose] public section

set_option maxRecDepth 65536
set_option maxHeartbeats 20000000

noncomputable section

namespace Cert.FfnSecondIdeal.Block

open Idealize.ShloMosaic Idealize.ShloMosaic.TcCoe Idealize.SL.Sem Cert.FfnSecondIdeal Cert.FfnSecondIdeal.Gen
open Cert.FfnIdeal.Block (bodyOut)

variable {F : FTy → Type} [FloatOps F] [Named F]

/-- The body's run leaves what the first batch's does, its halo's rows read by this grid. -/
theorem out_eq (c : Dev nD) (i : grid0.Coords)
    (arg2 : Memref sig .tc .vmem S1x1024x1024 .bf16) (harg2 : arg2.IsWhole)
    (arg3 : Memref sig .tc .vmem S1x16x1024 .bf16) (harg3 : arg3.IsWhole)
    (arg4 : Memref sig .tc .vmem S1x16x1024 .bf16) (harg4 : arg4.IsWhole)
    (arg5 : Memref sig .tc .vmem S1x1024x1024 .f32) (harg5 : arg5.IsWhole)
    (arg6 : Memref sig .tc .vmem S1x6x1024 .f32) (harg6 : arg6.IsWhole)
    (arg7 : Memref sig .tc .vmem S1x1024 .f32) (harg7 : arg7.IsWhole)
    (arg8 : Memref sig .tc .vmem S1024x5632 .bf16) (harg8 : arg8.IsWhole)
    (arg9 : Memref sig .tc .vmem S11x3x512 .f32) (harg9 : arg9.IsWhole)
    (arg10 : Memref sig .tc .vmem S11x1x512 .f32) (harg10 : arg10.IsWhole)
    (arg11 : Memref sig .tc .vmem S11x256x1024 .bf16) (harg11 : arg11.IsWhole)
    (arg12 : Memref sig .tc .vmem S1x1024x1024 .f32) (harg12 : arg12.IsWhole)
    (arg13 : Memref sig .tc .vmem S1056x1024 .bf16) (harg13 : arg13.IsWhole)
    (arg14 : Memref sig .tc .vmem S4x1056x128 .f32) (harg14 : arg14.IsWhole)
    (arg15 : Memref sig .tc .vmem S4x1056x128 .f32) (harg15 : arg15.IsWhole)
    (arg16 : Memref sig .tc .vmem S1024x1024 .f32) (harg16 : arg16.IsWhole)
    (x0 : Vec F S1x1024x1024 .bf16) (x1 : Vec F S1x16x1024 .bf16) (x2 : Vec F S1x16x1024 .bf16)
    (x3 : Vec F S1x1024x1024 .f32) (x4 : Vec F S1x6x1024 .f32) (x5 : Vec F S1x1024 .f32)
    (x6 : Vec F S1024x5632 .bf16) (x7 : Vec F S11x3x512 .f32) (x8 : Vec F S11x1x512 .f32) (x9 : Vec F S11x256x1024 .bf16) :
    out0_A_10 c i arg2 harg2 arg3 harg3 arg4 harg4 arg5 harg5 arg6 harg6 arg7 harg7 arg8 harg8 arg9 harg9 arg10 harg10
      arg11 harg11 arg12 harg12 arg13 harg13 arg14 harg14 arg15 harg15 arg16 harg16 x0 x1 x2 x3 x4 x5 x6 x7 x8 x9 =
    bodyOut (k0_pay2 i) (k0_pay4 i) arg2 harg2 arg3 harg3 arg4 harg4 arg5 harg5 arg6 harg6 arg7 harg7 arg8 harg8 arg9 harg9 arg10 harg10
      arg11 harg11
      arg13 arg14 arg15 arg16 x0 x1 x2 x3 x4 x5 x6 x7 x8 x9 := by
  unfold out0_A_10
  rw [View.read_writes_junk_eq_canon]
  refine (View.canon_unit_zero (S := S1x1024x1024) (by decide) inb_S1x1024x1024_S1x1024x1024_0_0_0 _).trans ?_
  rfl

end Cert.FfnSecondIdeal.Block
end
end
-- ==== Proof.FfnSecondResult.lean ====
/- What the feed-forward kernel's result array holds at the second batch's shapes: at every index, the value over the argument arrays. -/
module

public import proofs.«01_k».proof.Proof.FfnSecondBlock
public import proofs.«01_k».proof.Proof.FfnPlain
public import Idealize.ShloMosaic.Lib.Pipeline.ValueKit

@[expose] public section

set_option maxRecDepth 16384

noncomputable section

namespace Cert.FfnSecondIdeal.Result

open Idealize.ShloMosaic Idealize.ShloMosaic.TcCoe Idealize.SL.Sem Cert.FfnSecondIdeal Cert.FfnSecondIdeal.Gen Cert.FfnSecondIdeal.Block
open Cert.FfnIdeal.Block (bodyOut_at rowAt upAt sumAt partAt cvAt)
open Cert.FfnEq (hz upZ cvZ fZ outZ)

theorem idx : ∀ t : Fin cfg0.N, win0_0.index t = ![t.val / 8, t.val % 8, 0]
    ∧ win0_1.index t = ![t.val / 8, t.val % 8 * 64 - 1, 0]
    ∧ win0_2.index t = ![t.val / 8, min (t.val % 8 * 64 + 64) 511, 0]
    ∧ win0_3.index t = ![t.val / 8, t.val % 8, 0]
    ∧ win0_4.index t = ![t.val / 8, 0, 0]
    ∧ win0_5.index t = ![0, 0] ∧ win0_6.index t = ![0, 0] ∧ win0_7.index t = ![0, 0, 0]
    ∧ win0_8.index t = ![0, 0, 0] ∧ win0_9.index t = ![0, 0, 0]
    ∧ win0_10.index t = ![t.val / 8, t.val % 8, 0] :=
  (by decide +kernel : ∀ t : Fin grid0.N, _)

theorem crd : ∀ t : Fin cfg0.N, (grid0.coords t 1).val = t.val % 8 :=
  (by decide +kernel : ∀ t : Fin grid0.N, _)

variable (m : (ℓ : Loc nD τ sig) → Buf (Elt Ideal) ℓ)

/-- The sequence of a grid point. -/
def bOf (t : Fin cfg0.N) : Fin 2 := ⟨t.val / 8, by have h : t.val < 16 := t.isLt; omega⟩

theorem x0_at (c : Dev nD) (t : Fin cfg0.N) (r j : Fin 1024) :
    iblk m c 0 t (ix3 0 r j) = m ((c : Thread nD τ).loc main_arg0) (ix3 (bOf t) ⟨t.val % 8 * 1024 + r.val, by omega⟩ j) := by
  blk_ext [iblk, V, idx t, bOf]

theorem x3_at (c : Dev nD) (t : Fin cfg0.N) (r j : Fin 1024) :
    iblk m c 3 t (ix3 0 r j) = m ((c : Thread nD τ).loc main_arg1) (ix3 (bOf t) ⟨t.val % 8 * 1024 + r.val, by omega⟩ j) := by
  blk_ext [iblk, V, idx t, bOf]

theorem x4_at (c : Dev nD) (t : Fin cfg0.N) (d : Fin 1024) :
    iblk m c 4 t (ix3 0 5 d) = m ((c : Thread nD τ).loc main_arg2) (ix2 (bOf t) ⟨5120 + d.val, by omega⟩) := by
  blk_simp [iblk, idx t]
  entry_read
  pointwise
  blk_ext [idx t, bOf]

theorem x5_at (c : Dev nD) (t : Fin cfg0.N) (d : Fin 1024) :
    iblk m c 5 t (ix2 0 d) = m ((c : Thread nD τ).loc main_arg3) (ix1 d) := by
  blk_simp [iblk, idx t]
  entry_read
  pointwise
  blk_ext [idx t, bOf]

theorem x6_at (c : Dev nD) (t : Fin cfg0.N) (j : Fin 1024) (k : Fin 5632) :
    iblk m c 6 t (ix2 j k) = m ((c : Thread nD τ).loc main_arg4) (ix2 j k) := by
  blk_simp [iblk, idx t]
  entry_read
  pointwise
  blk_ext [idx t, bOf]

set_option maxHeartbeats 1600000 in
theorem x7_at (c : Dev nD) (t : Fin cfg0.N) (q : Fin 11) (a : Fin 3) (k : Fin 256) :
    iblk m c 7 t (ix3 q a ⟨k.val, by omega⟩) = m ((c : Thread nD τ).loc main_arg5) (ix2 a ⟨q.val * 256 + k.val, by omega⟩)
    ∧ iblk m c 7 t (ix3 q a ⟨256 + k.val, by omega⟩) = m ((c : Thread nD τ).loc main_arg5) (ix2 a ⟨2816 + q.val * 256 + k.val, by omega⟩) := by
  constructor
  · blk_simp [iblk, idx t]
    entry_read
    pointwise
    refine (dif_pos ?_).trans ?_
    · blk_simp [idx t]; show k.val < 256; omega
    · blk_ext [idx t]
  · blk_simp [iblk, idx t]
    entry_read
    pointwise
    refine (dif_neg ?_).trans ?_
    · blk_simp [idx t]; show ¬ 256 + k.val < 256; omega
    · blk_ext [idx t]

theorem x8_at (c : Dev nD) (t : Fin cfg0.N) (q : Fin 11) (k : Fin 256) :
    iblk m c 8 t (ix3 q 0 ⟨k.val, by omega⟩) = m ((c : Thread nD τ).loc main_arg6) (ix1 ⟨q.val * 256 + k.val, by omega⟩)
    ∧ iblk m c 8 t (ix3 q 0 ⟨256 + k.val, by omega⟩) = m ((c : Thread nD τ).loc main_arg6) (ix1 ⟨2816 + q.val * 256 + k.val, by omega⟩) := by
  constructor
  · blk_simp [iblk, idx t]
    entry_read
    pointwise
    refine (dif_pos ?_).trans ?_
    · blk_simp [idx t]; show k.val < 256; omega
    · blk_ext [idx t]
  · blk_simp [iblk, idx t]
    entry_read
    pointwise
    refine (dif_neg ?_).trans ?_
    · blk_simp [idx t]; show ¬ 256 + k.val < 256; omega
    · blk_ext [idx t]

theorem x9_at (c : Dev nD) (t : Fin cfg0.N) (q : Fin 11) (k : Fin 256) (d : Fin 1024) :
    iblk m c 9 t (ix3 q k d) = Ideal.ofBits .f32 0x3F000000#32 * m ((c : Thread nD τ).loc main_arg7) (ix2 ⟨q.val * 256 + k.val, by omega⟩ d) := by
  blk_simp [iblk, idx t]
  entry_read
  pointwise
  blk_point [idx t]

theorem sgt_of (n : ℕ) (h : n < 8) : Scalar.cmpi .sgt (BitVec.ofNat 32 n) 0#32 = if 0 < n then 1#1 else 0#1 := by
  interval_cases n <;> decide

theorem slt_of (n : ℕ) (h : n < 8) : Scalar.cmpi .slt (BitVec.ofNat 32 n) 7#32 = if n < 7 then 1#1 else 0#1 := by
  interval_cases n <;> decide

/-- A row of the block with its halo is the shifted row of the sequence. -/
theorem row_at (c : Dev nD) (t : Fin cfg0.N) (r : Fin 1056) (j : Fin 1024) (h1 : 15 ≤ r.val) (h2 : r.val ≤ 1040) :
    rowAt (k0_pay2 (grid0.coords t) (iblk m c 1 t)) (iblk m c 0 t) (k0_pay4 (grid0.coords t) (iblk m c 2 t)) r j
      = hz (fun s j => m ((c : Thread nD τ).loc main_arg0) (ix3 (bOf t) s j)) (t.val % 8 * 1024 + r.val - 15) j := by
  unfold rowAt hz
  have hc := crd t
  have h8 : t.val % 8 < 8 := Nat.mod_lt _ (by decide)
  by_cases h : r.val < 16
  · rw [dif_pos h]
    have hr : r.val = 15 := by omega
    pointwise [k0_pay2]
    rw [hc, sgt_of _ h8]
    by_cases hq : 0 < t.val % 8
    · rw [if_pos hq, dif_pos (by omega), Scalar.select, if_pos (show (1#1 : BitVec 1) = 1 by decide)]
      blk_ext [iblk, V, idx t, bOf]
    · rw [if_neg hq, dif_neg (by omega), Scalar.select, if_neg (by decide)]
  · rw [dif_neg h]
    by_cases h3 : r.val < 1040
    · rw [dif_pos h3, x0_at, dif_pos (by omega)]
      blk_ext [idx t]
    · rw [dif_neg h3]
      have hr : r.val = 1040 := by omega
      pointwise [k0_pay4]
      rw [hc, slt_of _ h8]
      by_cases hq : t.val % 8 < 7
      · rw [if_pos hq, dif_pos (by omega), Scalar.select, if_pos (show (1#1 : BitVec 1) = 1 by decide)]
        blk_ext [iblk, V, idx t, bOf]
      · rw [if_neg hq, dif_neg (by omega), Scalar.select, if_neg (by decide)]

/-- A row's up projection in the block is the shifted row's. -/
theorem up_of (c : Dev nD) (t : Fin cfg0.N) (r : Fin 1056) (k : Fin 5632) (h1 : 15 ≤ r.val) (h2 : r.val ≤ 1040) :
    upAt (rowAt (k0_pay2 (grid0.coords t) (iblk m c 1 t)) (iblk m c 0 t) (k0_pay4 (grid0.coords t) (iblk m c 2 t))) (iblk m c 6 t) r k
      = upZ (fun s j => m ((c : Thread nD τ).loc main_arg0) (ix3 (bOf t) s j)) (m ((c : Thread nD τ).loc main_arg4)) (t.val % 8 * 1024 + r.val - 15) k := by
  unfold upAt upZ
  refine Finset.sum_congr rfl fun j _ => ?_
  rw [row_at m c t r j h1 h2, x6_at]

/-- The block's sum at row `r` is the token's. -/
theorem sum_of (c : Dev nD) (t : Fin cfg0.N) (r d : Fin 1024) :
    sumAt (rowAt (k0_pay2 (grid0.coords t) (iblk m c 1 t)) (iblk m c 0 t) (k0_pay4 (grid0.coords t) (iblk m c 2 t))) (iblk m c 6 t) (iblk m c 7 t) (iblk m c 8 t)
        (iblk m c 9 t) r d
      = fZ (fun s j => m ((c : Thread nD τ).loc main_arg0) (ix3 (bOf t) s j)) (m ((c : Thread nD τ).loc main_arg4)) (m ((c : Thread nD τ).loc main_arg5))
          (m ((c : Thread nD τ).loc main_arg6)) (m ((c : Thread nD τ).loc main_arg7)) (t.val % 8 * 1024 + r.val) d := by
  unfold sumAt partAt fZ
  refine Finset.sum_congr rfl fun q _ => Finset.sum_congr rfl fun k _ => ?_
  unfold cvAt cvZ
  rw [x9_at, (x8_at m c t q k).1, (x8_at m c t q k).2, (x7_at m c t q 0 k).1, (x7_at m c t q 0 k).2,
    (x7_at m c t q 1 k).1, (x7_at m c t q 1 k).2, (x7_at m c t q 2 k).1, (x7_at m c t q 2 k).2]
  simp only [up_of m c t ⟨15 + r.val, by omega⟩ _ (by simp only; omega) (by simp only; omega),
    up_of m c t ⟨16 + r.val, by omega⟩ _ (by simp only; omega) (by simp only; omega),
    up_of m c t ⟨17 + r.val, by omega⟩ _ (by simp only; omega) (by simp only; omega)]
  rw [show t.val % 8 * 1024 + (15 + r.val) - 15 = t.val % 8 * 1024 + r.val by omega,
    show t.val % 8 * 1024 + (16 + r.val) - 15 = t.val % 8 * 1024 + r.val + 1 by omega,
    show t.val % 8 * 1024 + (17 + r.val) - 15 = t.val % 8 * 1024 + r.val + 2 by omega]

/-- The result at token `s` of sequence `b`, column `d`. -/
def resAt (c : Dev nD) (b : Fin 2) (s : Fin 8192) (d : Fin 1024) : EReal :=
  outZ (fun s j => m ((c : Thread nD τ).loc main_arg0) (ix3 b s j)) (m ((c : Thread nD τ).loc main_arg4))
    (m ((c : Thread nD τ).loc main_arg5)) (m ((c : Thread nD τ).loc main_arg6)) (m ((c : Thread nD τ).loc main_arg7))
    (m ((c : Thread nD τ).loc main_arg1) (ix3 b s d)) (m ((c : Thread nD τ).loc main_arg3) (ix1 d))
    (m ((c : Thread nD τ).loc main_arg2) (ix2 b ⟨5120 + d.val, by omega⟩)) s d

/-- The result array after the run. -/
theorem final (c : Dev nD) : (dats m 0 c).arrAt 10 (cfgs 0).N = fun i => resAt m c (i 0) (i 1) (i 2) := by
  refine (dats m 0 c).arrAt_eq_of_covers 10 _ (by decide +kernel) fun t _ y => ?_
  blk_simp
  rw [after0_10]
  unfold outsAt0
  idx_vars y
  obtain rfl : y0 = 0 := Subsingleton.elim _ _
  have e : ((View.whole main_v18).slice (win0_10.rect t)).emb (ix3 0 y1 y2)
      = ix3 (bOf t) ⟨t.val % 8 * 1024 + y1.val, by omega⟩ y2 := by blk_ext [idx t, bOf]
  rw [e]
  rw [out_eq]
  refine (bodyOut_at (k0_pay2 (grid0.coords t)) (k0_pay4 (grid0.coords t)) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) (ms0_8 t) (hs0_8 t)
    (ms0_9 t) (hs0_9 t) scM0_0 scM0_1 scM0_2 scM0_3
    (iblk m c 0 t) (iblk m c 1 t) (iblk m c 2 t) (iblk m c 3 t) (iblk m c 4 t) (iblk m c 5 t)
    (iblk m c 6 t) (iblk m c 7 t) (iblk m c 8 t) (iblk m c 9 t) y1 y2).trans ?_
  rw [x3_at, x5_at, x4_at]
  simp only [sum_of]
  rfl

end Cert.FfnSecondIdeal.Result
end
end
-- ==== Proof.FfnSecondReference.lean ====
/- What the plain feed-forward part computes at an index, at the second batch's shapes. -/
module

public import proofs.«01_k».proof.Proof.Gen.FfnSecondRefIdeal.Run
public import Idealize.ShloMosaic.Lib.Pointwise
public import Idealize.ShloMosaic.Lib.Pipeline.ValueKit
public import proofs.«01_k».proof.Proof.FfnPlain

@[expose] public section

set_option maxRecDepth 16384
set_option maxHeartbeats 4000000

noncomputable section

namespace Cert.FfnSecondRefIdeal.Reference

open Idealize.ShloMosaic Idealize.ShloMosaic.TcCoe Idealize.SL.Sem Cert.FfnSecondRefIdeal Cert.FfnSecondRefIdeal.Gen Cert.FfnSecondRefIdeal.Value
open Cert.FfnEq (gelu upP convP downP outP)

/-- The up projection. -/
def upT (h : FVec Ideal S2x8192x1024 .bf16) (w : FVec Ideal S1024x5632 .f32) : FVec Ideal S2x8192x5632 .f32 :=
  Host.dotGeneral dot_S2x8192x1024_S1024x5632_S2x8192x5632_2_0_01_1_n_n none (extf .f32 h bitsLt_bf16_f32) w

/-- A vector of 5632 weights on every token. -/
def spread (v : FVec Ideal S5632 .f32) : FVec Ideal S2x8192x5632 .f32 :=
  broadcastInDim S2x8192x5632 ![0, 1, 2] bcast_S1x1x5632_S2x8192x5632_0_1_2 (broadcastInDim S1x1x5632 ![2] bcast_S5632_S1x1x5632_2 v)

/-- The up projection with a zero row before and after. -/
def padT (u : FVec Ideal S2x8192x5632 .f32) : FVec Ideal S2x8194x5632 .f32 :=
  pad S2x8194x5632 ![0, 1, 0] ![0, 1, 0] ![0, 0, 0] u (sitofp .f32 (constantI S_ 32 0#32)) pads_S2x8192x5632_S2x8194x5632_000_110_000

/-- The three-tap convolution along the sequence. -/
def convT (u : FVec Ideal S2x8192x5632 .f32) (cw : FVec Ideal S3x5632 .f32) (cb : FVec Ideal S5632 .f32) : FVec Ideal S2x8192x5632 .f32 :=
  addf (addf (addf (spread cb)
      (mulf (extractStridedSlice S2x8192x5632 ![0, 0, 0] (padT u) slices_S2x8194x5632_S2x8192x5632_0_0_0)
        (spread (shapeCast S5632 (extractStridedSlice S1x5632 ![0, 0] cw slices_S3x5632_S1x5632_0_0) shapeCasts_S1x5632_S5632))))
    (mulf (extractStridedSlice S2x8192x5632 ![0, 1, 0] (padT u) slices_S2x8194x5632_S2x8192x5632_0_1_0)
      (spread (shapeCast S5632 (extractStridedSlice S1x5632 ![1, 0] cw slices_S3x5632_S1x5632_1_0) shapeCasts_S1x5632_S5632))))
    (mulf (extractStridedSlice S2x8192x5632 ![0, 2, 0] (padT u) slices_S2x8194x5632_S2x8192x5632_0_2_0)
      (spread (shapeCast S5632 (extractStridedSlice S1x5632 ![2, 0] cw slices_S3x5632_S1x5632_2_0) shapeCasts_S1x5632_S5632)))

/-- A constant on every token and column. -/
def lit (b : BitVec 32) : FVec Ideal S2x8192x2816 .f32 :=
  broadcastInDim S2x8192x2816 ![] bcast_S_S2x8192x2816 (constant S_ .f32 b)

/-- The gated activation of a gate and a value. -/
def geluT (g v : FVec Ideal S2x8192x2816 .f32) : FVec Ideal S2x8192x2816 .f32 :=
  mulf (mulf g (mulf (lit 0x3F000000#32) (addf (lit 0x3F800000#32) (Host.tanh (mulf (lit 0x3F4C422A#32)
    (addf g (mulf (lit 0x3D372713#32) (mulf (mulf g g) g)))))))) v

/-- The gated columns. -/
def actT (u : FVec Ideal S2x8192x5632 .f32) : FVec Ideal S2x8192x2816 .f32 :=
  geluT (extractStridedSlice S2x8192x2816 ![0, 0, 2816] u slices_S2x8192x5632_S2x8192x2816_0_0_2816)
    (extractStridedSlice S2x8192x2816 ![0, 0, 0] u slices_S2x8192x5632_S2x8192x2816_0_0_0)

/-- The down projection. -/
def downT (a : FVec Ideal S2x8192x2816 .f32) (wd : FVec Ideal S2816x1024 .f32) : FVec Ideal S2x8192x1024 .f32 :=
  Host.dotGeneral dot_S2x8192x2816_S2816x1024_S2x8192x1024_2_0_01_1_n_n none a wd

/-- The normalised, scaled and gated addition to the input. -/
def finT (x : FVec Ideal S2x8192x1024 .f32) (md : FVec Ideal S2x6144 .f32) (g : FVec Ideal S1024 .f32)
    (f : FVec Ideal S2x8192x1024 .f32) : FVec Ideal S2x8192x1024 .f32 :=
  addf x (mulf (broadcastInDim S2x8192x1024 ![0, 1, 2] bcast_S2x1x1024_S2x8192x1024_0_1_2
      (broadcastInDim S2x1x1024 ![0, 2] bcast_S2x1024_S2x1x1024_0_2 (extractStridedSlice S2x1024 ![0, 5120] md slices_S2x6144_S2x1024_0_5120)))
    (mulf (mulf f (broadcastInDim S2x8192x1024 ![0, 1, 2] bcast_S2x8192x1_S2x8192x1024_0_1_2
        (Host.rsqrt (addf (Host.divf (broadcastInDim S2x8192x1 ![0, 1] bcast_S2x8192_S2x8192x1_0_1
            (Host.reduceAdd (mulf f f) (constant S_ .f32 0x00000000#32) reducesTo_S2x8192x1024_S2x8192_d2 h_S_))
          (broadcastInDim S2x8192x1 ![] bcast_S_S2x8192x1 (constant S_ .f32 0x44800000#32)))
          (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 g))))

variable (m : (ℓ : Loc nD τ sig) → Buf (Elt Ideal) ℓ)

/-- The reference's result, stage by stage. -/
theorem result_eq (c : Dev nD) : res_main_v65 m c
    = finT (m ((c.tc : Thread nD τ).loc main_arg1)) (m ((c.tc : Thread nD τ).loc main_arg2)) (m ((c.tc : Thread nD τ).loc main_arg3))
        (downT (actT (convT (upT (m ((c.tc : Thread nD τ).loc main_arg0)) (m ((c.tc : Thread nD τ).loc main_arg4)))
          (m ((c.tc : Thread nD τ).loc main_arg5)) (m ((c.tc : Thread nD τ).loc main_arg6)))) (m ((c.tc : Thread nD τ).loc main_arg7))) := rfl

theorem fin_at (x : FVec Ideal S2x8192x1024 .f32) (md : FVec Ideal S2x6144 .f32) (g : FVec Ideal S1024 .f32)
    (f : FVec Ideal S2x8192x1024 .f32) (b : Fin 2) (s : Fin 8192) (d : Fin 1024) : finT x md g f (ix3 b s d)
      = x (ix3 b s d) + md (ix2 b ⟨5120 + d.val, by omega⟩) * (f (ix3 b s d)
        * Ideal.rsqrt (Ideal.div (∑ k : Fin 1024, f (ix3 b s k) * f (ix3 b s k)) (Ideal.ofBits .f32 0x44800000#32)
          + Ideal.ofBits .f32 0x358637BD#32) * g (ix1 d)) := by
  pointwise [finT]

theorem down_at (a : FVec Ideal S2x8192x2816 .f32) (wd : FVec Ideal S2816x1024 .f32) (b : Fin 2) (s : Fin 8192) (d : Fin 1024) :
    downT a wd (ix3 b s d) = ∑ k : Fin 2816, a (ix3 b s k) * wd (ix2 k d) := by
  pointwise [downT]

theorem act_at (u : FVec Ideal S2x8192x5632 .f32) (b : Fin 2) (s : Fin 8192) (k : Fin 2816) :
    actT u (ix3 b s k) = gelu (u (ix3 b s ⟨2816 + k.val, by omega⟩)) (u (ix3 b s ⟨k.val, by omega⟩)) := by
  pointwise [actT, geluT, lit, gelu]

theorem conv_at (u : FVec Ideal S2x8192x5632 .f32) (cw : FVec Ideal S3x5632 .f32) (cb : FVec Ideal S5632 .f32)
    (b : Fin 2) (s : Fin 8192) (k : Fin 5632) : convT u cw cb (ix3 b s k) = convP cw cb (fun s k => u (ix3 b s k)) s k := by
  unfold convP
  pointwise [convT, spread, padT]
  have z : (FloatOps.sitofp (F := Ideal) .f32 0#32 : EReal) = 0 := by
    show (((0#32 : BitVec 32).toInt : ℝ) : EReal) = 0
    simp
  rw [z]
  congr 2
  · congr 2
    by_cases h : 1 ≤ s.val
    · rw [dif_pos h, dif_pos ⟨h, by omega⟩]
    · rw [dif_neg h, dif_neg (by omega)]
  · by_cases h : s.val + 1 < 8192
    · rw [dif_pos h, dif_pos (by omega)]
      congr 2
      apply Fin.ext; simp only; omega
    · rw [dif_neg h, dif_neg (by omega)]

theorem up_at (h : FVec Ideal S2x8192x1024 .bf16) (w : FVec Ideal S1024x5632 .f32) (b : Fin 2) (s : Fin 8192) (k : Fin 5632) :
    upT h w (ix3 b s k) = ∑ j : Fin 1024, h (ix3 b s j) * w (ix2 j k) := by
  pointwise [upT]

/-- The reference's result at an index is the plain form. -/
theorem result_at (c : Dev nD) (b : Fin 2) (s : Fin 8192) (d : Fin 1024) : res_main_v65 m c (ix3 b s d)
    = outP (fun s j => m ((c.tc : Thread nD τ).loc main_arg0) (ix3 b s j)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg1) (ix3 b s d)) (m ((c.tc : Thread nD τ).loc main_arg3) (ix1 d))
        (m ((c.tc : Thread nD τ).loc main_arg2) (ix2 b ⟨5120 + d.val, by omega⟩)) s d := by
  rw [result_eq, fin_at]
  unfold outP downP upP
  simp only [down_at, act_at, conv_at, up_at]

end Cert.FfnSecondRefIdeal.Reference
end
end
-- ==== Proof.FfnSecondClaims.lean ====
/- The claims of the feed-forward call at the second batch's shapes. -/
module

public import proofs.«01_k».proof.Defs
public import proofs.«01_k».proof.Proof.Gen.FfnSecond.Frame
public import proofs.«01_k».proof.Proof.Gen.FfnSecondIdeal.Frame
public import proofs.«01_k».proof.Proof.Gen.FfnSecondIdeal.Value
public import proofs.«01_k».proof.Proof.Gen.FfnSecondRefIdeal.Run
public import proofs.«01_k».proof.Proof.Gen.FfnSecond
public import proofs.«01_k».proof.Proof.Gen.FfnSecondIdeal
public import proofs.«01_k».proof.Proof.Gen.FfnSecondRefIdeal
public import proofs.«01_k».proof.Proof.FfnSecondResult
public import proofs.«01_k».proof.Proof.FfnSecondReference
public import proofs.«01_k».proof.Proof.Gen.Pre_finite_up_second
public import Idealize.ShloMosaic.Lib.Quiescent

@[expose] public section

noncomputable section

namespace Cert.FfnSecondClaims

open Idealize.ShloMosaic Idealize.ShloMosaic.TcCoe Idealize.SL.Sem

theorem frame_p : Cert.quiescent_FfnSecond := fun m ρ _ => Cert.FfnSecond.Gen.frame m ρ

theorem frame_pi : Cert.quiescent_FfnSecondIdeal := fun m ρ _ => Cert.FfnSecondIdeal.Gen.frame m ρ

theorem frame_pi_pre : Cert.quiescent_FfnSecondIdeal_pre_finite_up_second := fun m ρ _ => Cert.FfnSecondIdeal.Gen.frame m ρ

theorem frame_ri : Cert.quiescent_FfnSecondRefIdeal := fun m ρ _ =>
  (θ_run Cert.FfnSecondRefIdeal.defs _ _).mono (fun r h => ⟨fun c => (h c).2, Idealize.ShloMosaic.sem_eq_zero_of_no_sems (by decide) r.2⟩)
    (Cert.FfnSecondRefIdeal.Value.run m ρ)

theorem frame_ri_pre : Cert.quiescent_FfnSecondRefIdeal_pre_finite_up_second := fun m ρ _ =>
  (θ_run Cert.FfnSecondRefIdeal.defs _ _).mono (fun r h => ⟨fun c => (h c).2, Idealize.ShloMosaic.sem_eq_zero_of_no_sems (by decide) r.2⟩)
    (Cert.FfnSecondRefIdeal.Value.run m ρ)

theorem preserves : Cert.preserves_FfnSecond_FfnSecondIdeal :=
  IdealRules.named_const.statement Cert.FfnSecondIdeal.κ "gelu_kc" .f32 0x3D122279#32 _ rfl

/-- What the precondition says. -/
theorem finite_of_pre (a0 : FVec Ideal Cert.FfnSecondIdeal.S2x8192x1024 .bf16) (a1 : FVec Ideal Cert.FfnSecondIdeal.S2x8192x1024 .f32)
    (a2 : FVec Ideal Cert.FfnSecondIdeal.S2x6144 .f32) (a3 : FVec Ideal Cert.FfnSecondIdeal.S1024 .f32)
    (a4 : FVec Ideal Cert.FfnSecondIdeal.S1024x5632 .f32) (a5 : FVec Ideal Cert.FfnSecondIdeal.S3x5632 .f32)
    (a6 : FVec Ideal Cert.FfnSecondIdeal.S5632 .f32) (a7 : FVec Ideal Cert.FfnSecondIdeal.S2816x1024 .f32)
    (h0 : (Cert.Pre_finite_up_second.fn (F := Ideal) a0 a1 a2 a3 a4 a5 a6 a7).1 = fun _ => 1)
    (h4 : (Cert.Pre_finite_up_second.fn (F := Ideal) a0 a1 a2 a3 a4 a5 a6 a7).2.1 = fun _ => 1)
    (h5 : (Cert.Pre_finite_up_second.fn (F := Ideal) a0 a1 a2 a3 a4 a5 a6 a7).2.2.1 = fun _ => 1)
    (h6 : (Cert.Pre_finite_up_second.fn (F := Ideal) a0 a1 a2 a3 a4 a5 a6 a7).2.2.2 = fun _ => 1) :
    (∀ i, Cert.FfnEq.IsR (a0 i)) ∧ (∀ i, Cert.FfnEq.IsR (a4 i)) ∧ (∀ i, Cert.FfnEq.IsR (a5 i)) ∧ (∀ i, Cert.FfnEq.IsR (a6 i)) :=
  ⟨fun i => Cert.FfnEq.isR_of_cmp (congrFun h0 i), fun i => Cert.FfnEq.isR_of_cmp (congrFun h4 i), fun i => Cert.FfnEq.isR_of_cmp (congrFun h5 i),
    fun i => Cert.FfnEq.isR_of_cmp (congrFun h6 i)⟩

/-- Under the precondition the reference's array is the kernel's. -/
theorem result (m : (ℓ : Loc Cert.FfnSecondIdeal.nD Cert.FfnSecondIdeal.τ Cert.FfnSecondIdeal.sig) → Buf (Elt Ideal) ℓ)
    (m' : (ℓ : Loc Cert.FfnSecondRefIdeal.nD Cert.FfnSecondRefIdeal.τ Cert.FfnSecondRefIdeal.sig) → Buf (Elt Ideal) ℓ)
    (hpre : Cert.Pre_FfnSecondIdeal_finite_up_second m) (c : Dev Cert.FfnSecondIdeal.nD)
    (h0 : m' ((c.tc : Thread Cert.FfnSecondRefIdeal.nD Cert.FfnSecondRefIdeal.τ).loc Cert.FfnSecondRefIdeal.main_arg0) = m ((c.tc : Thread Cert.FfnSecondIdeal.nD Cert.FfnSecondIdeal.τ).loc Cert.FfnSecondIdeal.main_arg0))
    (h1 : m' ((c.tc : Thread Cert.FfnSecondRefIdeal.nD Cert.FfnSecondRefIdeal.τ).loc Cert.FfnSecondRefIdeal.main_arg1) = m ((c.tc : Thread Cert.FfnSecondIdeal.nD Cert.FfnSecondIdeal.τ).loc Cert.FfnSecondIdeal.main_arg1))
    (h2 : m' ((c.tc : Thread Cert.FfnSecondRefIdeal.nD Cert.FfnSecondRefIdeal.τ).loc Cert.FfnSecondRefIdeal.main_arg2) = m ((c.tc : Thread Cert.FfnSecondIdeal.nD Cert.FfnSecondIdeal.τ).loc Cert.FfnSecondIdeal.main_arg2))
    (h3 : m' ((c.tc : Thread Cert.FfnSecondRefIdeal.nD Cert.FfnSecondRefIdeal.τ).loc Cert.FfnSecondRefIdeal.main_arg3) = m ((c.tc : Thread Cert.FfnSecondIdeal.nD Cert.FfnSecondIdeal.τ).loc Cert.FfnSecondIdeal.main_arg3))
    (h4 : m' ((c.tc : Thread Cert.FfnSecondRefIdeal.nD Cert.FfnSecondRefIdeal.τ).loc Cert.FfnSecondRefIdeal.main_arg4) = m ((c.tc : Thread Cert.FfnSecondIdeal.nD Cert.FfnSecondIdeal.τ).loc Cert.FfnSecondIdeal.main_arg4))
    (h5 : m' ((c.tc : Thread Cert.FfnSecondRefIdeal.nD Cert.FfnSecondRefIdeal.τ).loc Cert.FfnSecondRefIdeal.main_arg5) = m ((c.tc : Thread Cert.FfnSecondIdeal.nD Cert.FfnSecondIdeal.τ).loc Cert.FfnSecondIdeal.main_arg5))
    (h6 : m' ((c.tc : Thread Cert.FfnSecondRefIdeal.nD Cert.FfnSecondRefIdeal.τ).loc Cert.FfnSecondRefIdeal.main_arg6) = m ((c.tc : Thread Cert.FfnSecondIdeal.nD Cert.FfnSecondIdeal.τ).loc Cert.FfnSecondIdeal.main_arg6))
    (h7 : m' ((c.tc : Thread Cert.FfnSecondRefIdeal.nD Cert.FfnSecondRefIdeal.τ).loc Cert.FfnSecondRefIdeal.main_arg7) = m ((c.tc : Thread Cert.FfnSecondIdeal.nD Cert.FfnSecondIdeal.τ).loc Cert.FfnSecondIdeal.main_arg7)) :
    Cert.FfnSecondRefIdeal.Value.res_main_v65 m' c = (Cert.FfnSecondIdeal.Gen.dats m 0 c).arrAt 10 (Cert.FfnSecondIdeal.cfgs 0).N := by
  obtain ⟨p0, p4, p5, p6⟩ := hpre c
  obtain ⟨f0, f4, f5, f6⟩ := finite_of_pre _ _ _ _ _ _ _ _ p0 p4 p5 p6
  rw [Cert.FfnSecondIdeal.Result.final]
  funext i
  rw [show i = ix3 (i 0) (i 1) (i 2) from by funext a; fin_cases a <;> rfl]
  refine (Cert.FfnSecondRefIdeal.Reference.result_at m' c (i 0) (i 1) (i 2)).trans ?_
  rw [h0, h1, h2, h3, h4, h5, h6, h7]
  exact Cert.FfnEq.out_eq _ _ _ _ _ (fun s j => f0 _) f4 f5 f6 _ _ _ _ _

theorem algebraic : Cert.algebraic_FfnSecondIdeal_FfnSecondRefIdeal_pre_finite_up_second := by
  intro m ρ m' ρ' hpre hagree
  refine ⟨fun c => (Cert.FfnSecondIdeal.Gen.dats m 0 c).arrAt 10 (Cert.FfnSecondIdeal.cfgs 0).N, Cert.FfnSecondIdeal.Value.run_blocks m ρ, ?_⟩
  refine (θ_run Cert.FfnSecondRefIdeal.defs _ _).mono (fun _ h c => ⟨(h c).1.trans ?_, (h c).2⟩) (Cert.FfnSecondRefIdeal.Value.run m' ρ')
  obtain ⟨h0, h1, h2, h3, h4, h5, h6, h7⟩ := hagree c
  exact result m m' hpre c h0 h1 h2 h3 h4 h5 h6 h7

end Cert.FfnSecondClaims
end
end
-- ==== Proof.lean ====
module

public import proofs.«01_k».proof.Defs
public import proofs.«01_k».proof.Proof.FfnClaims
public import proofs.«01_k».proof.Proof.Gen.Pre_finite_up
public import proofs.«01_k».proof.Proof.MergeClaims
public import proofs.«01_k».proof.Proof.Gen.Pre_finite_gates
public import proofs.«01_k».proof.Proof.InprojClaims
public import proofs.«01_k».proof.Proof.ModClaims
public import proofs.«01_k».proof.Proof.SeqdftClaims
public import proofs.«01_k».proof.Proof.Gen.Pre_finite_pq
public import proofs.«01_k».proof.Proof.FfnSecondClaims
public import proofs.«01_k».proof.Proof.Gen.Pre_finite_up_second
public import Idealize.ShloMosaic.Adequacy
public import Idealize.ShloMosaic.Init

@[expose] public section

noncomputable section

namespace Cert.Proof

open Idealize.ShloMosaic Idealize.SL.Sem

theorem claim : Cert.Claim :=
  ⟨Cert.Ffn.Gen.facts, Cert.FfnIdeal.Gen.facts, Cert.FfnRefIdeal.Gen.facts,
    Cert.Merge.Gen.facts, Cert.MergeIdeal.Gen.facts, Cert.MergeRefIdeal.Gen.facts,
    Cert.Inproj.Gen.facts, Cert.InprojIdeal.Gen.facts, Cert.InprojRefIdeal.Gen.facts,
    Cert.Mod.Gen.facts, Cert.ModIdeal.Gen.facts, Cert.ModRefIdeal.Gen.facts,
    Cert.Seqdft.Gen.facts, Cert.SeqdftIdeal.Gen.facts, Cert.SeqdftRefIdeal.Gen.facts,
    Cert.FfnSecond.Gen.facts, Cert.FfnSecondIdeal.Gen.facts, Cert.FfnSecondRefIdeal.Gen.facts,
    Cert.Pre_finite_up.Gen.facts, Cert.Pre_finite_gates.Gen.facts, Cert.Pre_finite_pq.Gen.facts, Cert.Pre_finite_up_second.Gen.facts,
    FfnClaims.frame_p, FfnClaims.frame_pi, FfnClaims.frame_pi_pre, FfnClaims.frame_ri, FfnClaims.frame_ri_pre,
    MergeClaims.frame_p, MergeClaims.frame_pi, MergeClaims.frame_pi_pre, MergeClaims.frame_ri, MergeClaims.frame_ri_pre,
    InprojClaims.frame_p, InprojClaims.frame_pi, InprojClaims.frame_ri,
    ModClaims.frame_p, ModClaims.frame_pi, ModClaims.frame_ri,
    SeqdftClaims.frame_p, SeqdftClaims.frame_pi, SeqdftClaims.frame_pi_pre, SeqdftClaims.frame_ri, SeqdftClaims.frame_ri_pre,
    FfnSecondClaims.frame_p, FfnSecondClaims.frame_pi, FfnSecondClaims.frame_pi_pre, FfnSecondClaims.frame_ri,
    FfnSecondClaims.frame_ri_pre,
    FfnClaims.preserves, FfnClaims.algebraic, MergeClaims.preserves, MergeClaims.algebraic,
    InprojClaims.preserves, InprojClaims.algebraic, ModClaims.preserves, ModClaims.algebraic,
    SeqdftClaims.preserves, SeqdftClaims.algebraic,
    FfnSecondClaims.preserves, FfnSecondClaims.algebraic⟩

end Cert.Proof

end
